-- ==== Defs.lean ====
def Pre_Regroup (m : (ℓ : Loc Cert.Regroup.nD Cert.Regroup.τ Cert.Regroup.sig) → Buf (Elt Bits) ℓ) : Prop :=
  True

def Pre_RegroupIdeal (m : (ℓ : Loc Cert.RegroupIdeal.nD Cert.RegroupIdeal.τ Cert.RegroupIdeal.sig) → Buf (Elt Ideal) ℓ) : Prop :=
  True

def Pre_RegroupReferenceIdeal (m : (ℓ : Loc Cert.RegroupReferenceIdeal.nD Cert.RegroupReferenceIdeal.τ Cert.RegroupReferenceIdeal.sig) → Buf (Elt Ideal) ℓ) : Prop :=
  True

def Pre_RegroupReference (m : (ℓ : Loc Cert.RegroupReference.nD Cert.RegroupReference.τ Cert.RegroupReference.sig) → Buf (Elt Bits) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleReferenceIdeal (m : (ℓ : Loc Cert.SampleReferenceIdeal.nD Cert.SampleReferenceIdeal.τ Cert.SampleReferenceIdeal.sig) → Buf (Elt Ideal) ℓ) : Prop :=
  True

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptReferenceIdeal (m : (ℓ : Loc Cert.PromptReferenceIdeal.nD Cert.PromptReferenceIdeal.τ Cert.PromptReferenceIdeal.sig) → Buf (Elt Ideal) ℓ) : Prop :=
  True

def Pre_MergePrompt (m : (ℓ : Loc Cert.MergePrompt.nD Cert.MergePrompt.τ Cert.MergePrompt.sig) → Buf (Elt Bits) ℓ) : Prop :=
  True

def Pre_MergePromptIdeal (m : (ℓ : Loc Cert.MergePromptIdeal.nD Cert.MergePromptIdeal.τ Cert.MergePromptIdeal.sig) → Buf (Elt Ideal) ℓ) : Prop :=
  True

def Pre_MergePromptReferenceIdeal (m : (ℓ : Loc Cert.MergePromptReferenceIdeal.nD Cert.MergePromptReferenceIdeal.τ Cert.MergePromptReferenceIdeal.sig) → Buf (Elt Ideal) ℓ) : Prop :=
  True

def Pre_MergeSample (m : (ℓ : Loc Cert.MergeSample.nD Cert.MergeSample.τ Cert.MergeSample.sig) → Buf (Elt Bits) ℓ) : Prop :=
  True

def Pre_MergeSampleIdeal (m : (ℓ : Loc Cert.MergeSampleIdeal.nD Cert.MergeSampleIdeal.τ Cert.MergeSampleIdeal.sig) → Buf (Elt Ideal) ℓ) : Prop :=
  True

def Pre_MergeSampleReferenceIdeal (m : (ℓ : Loc Cert.MergeSampleReferenceIdeal.nD Cert.MergeSampleReferenceIdeal.τ Cert.MergeSampleReferenceIdeal.sig) → Buf (Elt Ideal) ℓ) : Prop :=
  True

def Pre_KeyValue (m : (ℓ : Loc Cert.KeyValue.nD Cert.KeyValue.τ Cert.KeyValue.sig) → Buf (Elt Bits) ℓ) : Prop :=
  True

def Pre_KeyValueIdeal (m : (ℓ : Loc Cert.KeyValueIdeal.nD Cert.KeyValueIdeal.τ Cert.KeyValueIdeal.sig) → Buf (Elt Ideal) ℓ) : Prop :=
  True

def Pre_KeyValueReferenceIdeal (m : (ℓ : Loc Cert.KeyValueReferenceIdeal.nD Cert.KeyValueReferenceIdeal.τ Cert.KeyValueReferenceIdeal.sig) → Buf (Elt Ideal) ℓ) : Prop :=
  True

def Pre_Cumsum (m : (ℓ : Loc Cert.Cumsum.nD Cert.Cumsum.τ Cert.Cumsum.sig) → Buf (Elt Bits) ℓ) : Prop :=
  True

def Pre_CumsumIdeal (m : (ℓ : Loc Cert.CumsumIdeal.nD Cert.CumsumIdeal.τ Cert.CumsumIdeal.sig) → Buf (Elt Ideal) ℓ) : Prop :=
  True

def Pre_CumsumReferenceIdeal (m : (ℓ : Loc Cert.CumsumReferenceIdeal.nD Cert.CumsumReferenceIdeal.τ Cert.CumsumReferenceIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressReferenceIdeal (m : (ℓ : Loc Cert.CompressReferenceIdeal.nD Cert.CompressReferenceIdeal.τ Cert.CompressReferenceIdeal.sig) → Buf (Elt Ideal) ℓ) : Prop :=
  True

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite_forget [hPre_finite_forget : Cert.Pre_finite_forget.Facts] (m : (ℓ : Loc Cert.FoxIdeal.nD Cert.FoxIdeal.τ Cert.FoxIdeal.sig) → Buf (Elt Ideal) ℓ) : Prop :=
  ∀ c : Dev Cert.FoxIdeal.nD,
    (Cert.Pre_finite_forget.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))) = (fun _ => 1#1)

def Pre_FoxReferenceIdeal (m : (ℓ : Loc Cert.FoxReferenceIdeal.nD Cert.FoxReferenceIdeal.τ Cert.FoxReferenceIdeal.sig) → Buf (Elt Ideal) ℓ) : Prop :=
  True

def Pre_FoxReferenceIdeal_finite_forget [hPre_finite_forget : Cert.Pre_finite_forget.Facts] (m : (ℓ : Loc Cert.FoxReferenceIdeal.nD Cert.FoxReferenceIdeal.τ Cert.FoxReferenceIdeal.sig) → Buf (Elt Ideal) ℓ) : Prop :=
  ∀ c : Dev Cert.FoxReferenceIdeal.nD,
    (Cert.Pre_finite_forget.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3))) = (fun _ => 1#1)

def quiescent_Regroup [hRegroup : Cert.Regroup.Facts] : Prop :=
  ∀ (m : (ℓ : Loc Cert.Regroup.nD Cert.Regroup.τ Cert.Regroup.sig) → Buf (Elt Bits) ℓ) (g : Dev Cert.Regroup.nD → PrngReg), Pre_Regroup m →
    θ_run (Cert.Regroup.defs (F := Bits)) (onTc (τ := Cert.Regroup.τ) (Cert.Regroup.main (F := Bits))) ⟨m, fun _ => 0, g⟩ (fun r => (∀ c : Dev Cert.Regroup.nD,
      r.2.mem ((c.tc : Thread Cert.Regroup.nD Cert.Regroup.τ).loc Cert.Regroup.main_arg0) = m ((c.tc : Thread Cert.Regroup.nD Cert.Regroup.τ).loc Cert.Regroup.main_arg0))
      ∧ r.2.sem = fun _ => 0)

def quiescent_RegroupIdeal [hRegroupIdeal : Cert.RegroupIdeal.Facts] : Prop :=
  ∀ (m : (ℓ : Loc Cert.RegroupIdeal.nD Cert.RegroupIdeal.τ Cert.RegroupIdeal.sig) → Buf (Elt Ideal) ℓ) (g : Dev Cert.RegroupIdeal.nD → PrngReg), Pre_RegroupIdeal m →
    θ_run (Cert.RegroupIdeal.defs (F := Ideal)) (onTc (τ := Cert.RegroupIdeal.τ) (Cert.RegroupIdeal.main (F := Ideal))) ⟨m, fun _ => 0, g⟩ (fun r => (∀ c : Dev Cert.RegroupIdeal.nD,
      r.2.mem ((c.tc : Thread Cert.RegroupIdeal.nD Cert.RegroupIdeal.τ).loc Cert.RegroupIdeal.main_arg0) = m ((c.tc : Thread Cert.RegroupIdeal.nD Cert.RegroupIdeal.τ).loc Cert.RegroupIdeal.main_arg0))
      ∧ r.2.sem = fun _ => 0)

def quiescent_RegroupReferenceIdeal [hRegroupReferenceIdeal : Cert.RegroupReferenceIdeal.Facts] : Prop :=
  ∀ (m : (ℓ : Loc Cert.RegroupReferenceIdeal.nD Cert.RegroupReferenceIdeal.τ Cert.RegroupReferenceIdeal.sig) → Buf (Elt Ideal) ℓ) (g : Dev Cert.RegroupReferenceIdeal.nD → PrngReg), Pre_RegroupReferenceIdeal m →
    θ_run (Cert.RegroupReferenceIdeal.defs (F := Ideal)) (onTc (τ := Cert.RegroupReferenceIdeal.τ) (Cert.RegroupReferenceIdeal.main (F := Ideal))) ⟨m, fun _ => 0, g⟩ (fun r => (∀ c : Dev Cert.RegroupReferenceIdeal.nD,
      r.2.mem ((c.tc : Thread Cert.RegroupReferenceIdeal.nD Cert.RegroupReferenceIdeal.τ).loc Cert.RegroupReferenceIdeal.main_arg0) = m ((c.tc : Thread Cert.RegroupReferenceIdeal.nD Cert.RegroupReferenceIdeal.τ).loc Cert.RegroupReferenceIdeal.main_arg0))
      ∧ r.2.sem = fun _ => 0)

def quiescent_RegroupReference [hRegroupReference : Cert.RegroupReference.Facts] : Prop :=
  ∀ (m : (ℓ : Loc Cert.RegroupReference.nD Cert.RegroupReference.τ Cert.RegroupReference.sig) → Buf (Elt Bits) ℓ) (g : Dev Cert.RegroupReference.nD → PrngReg), Pre_RegroupReference m →
    θ_run (Cert.RegroupReference.defs (F := Bits)) (onTc (τ := Cert.RegroupReference.τ) (Cert.RegroupReference.main (F := Bits))) ⟨m, fun _ => 0, g⟩ (fun r => (∀ c : Dev Cert.RegroupReference.nD,
      r.2.mem ((c.tc : Thread Cert.RegroupReference.nD Cert.RegroupReference.τ).loc Cert.RegroupReference.main_arg0) = m ((c.tc : Thread Cert.RegroupReference.nD Cert.RegroupReference.τ).loc Cert.RegroupReference.main_arg0))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3)
      ∧ r.2.mem ((c.tc : Thread Cert.SampleReferenceIdeal.nD Cert.SampleReferenceIdeal.τ).loc Cert.SampleReferenceIdeal.main_arg4) = m ((c.tc : Thread Cert.SampleReferenceIdeal.nD Cert.SampleReferenceIdeal.τ).loc Cert.SampleReferenceIdeal.main_arg4)
      ∧ r.2.mem ((c.tc : Thread Cert.SampleReferenceIdeal.nD Cert.SampleReferenceIdeal.τ).loc Cert.SampleReferenceIdeal.main_arg5) = m ((c.tc : Thread Cert.SampleReferenceIdeal.nD Cert.SampleReferenceIdeal.τ).loc Cert.SampleReferenceIdeal.main_arg5))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4))
      ∧ r.2.sem = fun _ => 0)

def quiescent_PromptReferenceIdeal [hPromptReferenceIdeal : Cert.PromptReferenceIdeal.Facts] : Prop :=
  ∀ (m : (ℓ : Loc Cert.PromptReferenceIdeal.nD Cert.PromptReferenceIdeal.τ Cert.PromptReferenceIdeal.sig) → Buf (Elt Ideal) ℓ) (g : Dev Cert.PromptReferenceIdeal.nD → PrngReg), Pre_PromptReferenceIdeal m →
    θ_run (Cert.PromptReferenceIdeal.defs (F := Ideal)) (onTc (τ := Cert.PromptReferenceIdeal.τ) (Cert.PromptReferenceIdeal.main (F := Ideal))) ⟨m, fun _ => 0, g⟩ (fun r => (∀ c : Dev Cert.PromptReferenceIdeal.nD,
      r.2.mem ((c.tc : Thread Cert.PromptReferenceIdeal.nD Cert.PromptReferenceIdeal.τ).loc Cert.PromptReferenceIdeal.main_arg0) = m ((c.tc : Thread Cert.PromptReferenceIdeal.nD Cert.PromptReferenceIdeal.τ).loc Cert.PromptReferenceIdeal.main_arg0)
      ∧ r.2.mem ((c.tc : Thread Cert.PromptReferenceIdeal.nD Cert.PromptReferenceIdeal.τ).loc Cert.PromptReferenceIdeal.main_arg1) = m ((c.tc : Thread Cert.PromptReferenceIdeal.nD Cert.PromptReferenceIdeal.τ).loc Cert.PromptReferenceIdeal.main_arg1)
      ∧ r.2.mem ((c.tc : Thread Cert.PromptReferenceIdeal.nD Cert.PromptReferenceIdeal.τ).loc Cert.PromptReferenceIdeal.main_arg2) = m ((c.tc : Thread Cert.PromptReferenceIdeal.nD Cert.PromptReferenceIdeal.τ).loc Cert.PromptReferenceIdeal.main_arg2)
      ∧ r.2.mem ((c.tc : Thread Cert.PromptReferenceIdeal.nD Cert.PromptReferenceIdeal.τ).loc Cert.PromptReferenceIdeal.main_arg3) = m ((c.tc : Thread Cert.PromptReferenceIdeal.nD Cert.PromptReferenceIdeal.τ).loc Cert.PromptReferenceIdeal.main_arg3)
      ∧ r.2.mem ((c.tc : Thread Cert.PromptReferenceIdeal.nD Cert.PromptReferenceIdeal.τ).loc Cert.PromptReferenceIdeal.main_arg4) = m ((c.tc : Thread Cert.PromptReferenceIdeal.nD Cert.PromptReferenceIdeal.τ).loc Cert.PromptReferenceIdeal.main_arg4))
      ∧ r.2.sem = fun _ => 0)

def quiescent_MergePrompt [hMergePrompt : Cert.MergePrompt.Facts] : Prop :=
  ∀ (m : (ℓ : Loc Cert.MergePrompt.nD Cert.MergePrompt.τ Cert.MergePrompt.sig) → Buf (Elt Bits) ℓ) (g : Dev Cert.MergePrompt.nD → PrngReg), Pre_MergePrompt m →
    θ_run (Cert.MergePrompt.defs (F := Bits)) (onTc (τ := Cert.MergePrompt.τ) (Cert.MergePrompt.main (F := Bits))) ⟨m, fun _ => 0, g⟩ (fun r => (∀ c : Dev Cert.MergePrompt.nD,
      r.2.mem ((c.tc : Thread Cert.MergePrompt.nD Cert.MergePrompt.τ).loc Cert.MergePrompt.main_arg0) = m ((c.tc : Thread Cert.MergePrompt.nD Cert.MergePrompt.τ).loc Cert.MergePrompt.main_arg0)
      ∧ r.2.mem ((c.tc : Thread Cert.MergePrompt.nD Cert.MergePrompt.τ).loc Cert.MergePrompt.main_arg1) = m ((c.tc : Thread Cert.MergePrompt.nD Cert.MergePrompt.τ).loc Cert.MergePrompt.main_arg1)
      ∧ r.2.mem ((c.tc : Thread Cert.MergePrompt.nD Cert.MergePrompt.τ).loc Cert.MergePrompt.main_arg2) = m ((c.tc : Thread Cert.MergePrompt.nD Cert.MergePrompt.τ).loc Cert.MergePrompt.main_arg2)
      ∧ r.2.mem ((c.tc : Thread Cert.MergePrompt.nD Cert.MergePrompt.τ).loc Cert.MergePrompt.main_arg3) = m ((c.tc : Thread Cert.MergePrompt.nD Cert.MergePrompt.τ).loc Cert.MergePrompt.main_arg3)
      ∧ r.2.mem ((c.tc : Thread Cert.MergePrompt.nD Cert.MergePrompt.τ).loc Cert.MergePrompt.main_arg4) = m ((c.tc : Thread Cert.MergePrompt.nD Cert.MergePrompt.τ).loc Cert.MergePrompt.main_arg4))
      ∧ r.2.sem = fun _ => 0)

def quiescent_MergePromptIdeal [hMergePromptIdeal : Cert.MergePromptIdeal.Facts] : Prop :=
  ∀ (m : (ℓ : Loc Cert.MergePromptIdeal.nD Cert.MergePromptIdeal.τ Cert.MergePromptIdeal.sig) → Buf (Elt Ideal) ℓ) (g : Dev Cert.MergePromptIdeal.nD → PrngReg), Pre_MergePromptIdeal m →
    θ_run (Cert.MergePromptIdeal.defs (F := Ideal)) (onTc (τ := Cert.MergePromptIdeal.τ) (Cert.MergePromptIdeal.main (F := Ideal))) ⟨m, fun _ => 0, g⟩ (fun r => (∀ c : Dev Cert.MergePromptIdeal.nD,
      r.2.mem ((c.tc : Thread Cert.MergePromptIdeal.nD Cert.MergePromptIdeal.τ).loc Cert.MergePromptIdeal.main_arg0) = m ((c.tc : Thread Cert.MergePromptIdeal.nD Cert.MergePromptIdeal.τ).loc Cert.MergePromptIdeal.main_arg0)
      ∧ r.2.mem ((c.tc : Thread Cert.MergePromptIdeal.nD Cert.MergePromptIdeal.τ).loc Cert.MergePromptIdeal.main_arg1) = m ((c.tc : Thread Cert.MergePromptIdeal.nD Cert.MergePromptIdeal.τ).loc Cert.MergePromptIdeal.main_arg1)
      ∧ r.2.mem ((c.tc : Thread Cert.MergePromptIdeal.nD Cert.MergePromptIdeal.τ).loc Cert.MergePromptIdeal.main_arg2) = m ((c.tc : Thread Cert.MergePromptIdeal.nD Cert.MergePromptIdeal.τ).loc Cert.MergePromptIdeal.main_arg2)
      ∧ r.2.mem ((c.tc : Thread Cert.MergePromptIdeal.nD Cert.MergePromptIdeal.τ).loc Cert.MergePromptIdeal.main_arg3) = m ((c.tc : Thread Cert.MergePromptIdeal.nD Cert.MergePromptIdeal.τ).loc Cert.MergePromptIdeal.main_arg3)
      ∧ r.2.mem ((c.tc : Thread Cert.MergePromptIdeal.nD Cert.MergePromptIdeal.τ).loc Cert.MergePromptIdeal.main_arg4) = m ((c.tc : Thread Cert.MergePromptIdeal.nD Cert.MergePromptIdeal.τ).loc Cert.MergePromptIdeal.main_arg4))
      ∧ r.2.sem = fun _ => 0)

def quiescent_MergePromptReferenceIdeal [hMergePromptReferenceIdeal : Cert.MergePromptReferenceIdeal.Facts] : Prop :=
  ∀ (m : (ℓ : Loc Cert.MergePromptReferenceIdeal.nD Cert.MergePromptReferenceIdeal.τ Cert.MergePromptReferenceIdeal.sig) → Buf (Elt Ideal) ℓ) (g : Dev Cert.MergePromptReferenceIdeal.nD → PrngReg), Pre_MergePromptReferenceIdeal m →
    θ_run (Cert.MergePromptReferenceIdeal.defs (F := Ideal)) (onTc (τ := Cert.MergePromptReferenceIdeal.τ) (Cert.MergePromptReferenceIdeal.main (F := Ideal))) ⟨m, fun _ => 0, g⟩ (fun r => (∀ c : Dev Cert.MergePromptReferenceIdeal.nD,
      r.2.mem ((c.tc : Thread Cert.MergePromptReferenceIdeal.nD Cert.MergePromptReferenceIdeal.τ).loc Cert.MergePromptReferenceIdeal.main_arg0) = m ((c.tc : Thread Cert.MergePromptReferenceIdeal.nD Cert.MergePromptReferenceIdeal.τ).loc Cert.MergePromptReferenceIdeal.main_arg0)
      ∧ r.2.mem ((c.tc : Thread Cert.MergePromptReferenceIdeal.nD Cert.MergePromptReferenceIdeal.τ).loc Cert.MergePromptReferenceIdeal.main_arg1) = m ((c.tc : Thread Cert.MergePromptReferenceIdeal.nD Cert.MergePromptReferenceIdeal.τ).loc Cert.MergePromptReferenceIdeal.main_arg1)
      ∧ r.2.mem ((c.tc : Thread Cert.MergePromptReferenceIdeal.nD Cert.MergePromptReferenceIdeal.τ).loc Cert.MergePromptReferenceIdeal.main_arg2) = m ((c.tc : Thread Cert.MergePromptReferenceIdeal.nD Cert.MergePromptReferenceIdeal.τ).loc Cert.MergePromptReferenceIdeal.main_arg2)
      ∧ r.2.mem ((c.tc : Thread Cert.MergePromptReferenceIdeal.nD Cert.MergePromptReferenceIdeal.τ).loc Cert.MergePromptReferenceIdeal.main_arg3) = m ((c.tc : Thread Cert.MergePromptReferenceIdeal.nD Cert.MergePromptReferenceIdeal.τ).loc Cert.MergePromptReferenceIdeal.main_arg3)
      ∧ r.2.mem ((c.tc : Thread Cert.MergePromptReferenceIdeal.nD Cert.MergePromptReferenceIdeal.τ).loc Cert.MergePromptReferenceIdeal.main_arg4) = m ((c.tc : Thread Cert.MergePromptReferenceIdeal.nD Cert.MergePromptReferenceIdeal.τ).loc Cert.MergePromptReferenceIdeal.main_arg4))
      ∧ r.2.sem = fun _ => 0)

def quiescent_MergeSample [hMergeSample : Cert.MergeSample.Facts] : Prop :=
  ∀ (m : (ℓ : Loc Cert.MergeSample.nD Cert.MergeSample.τ Cert.MergeSample.sig) → Buf (Elt Bits) ℓ) (g : Dev Cert.MergeSample.nD → PrngReg), Pre_MergeSample m →
    θ_run (Cert.MergeSample.defs (F := Bits)) (onTc (τ := Cert.MergeSample.τ) (Cert.MergeSample.main (F := Bits))) ⟨m, fun _ => 0, g⟩ (fun r => (∀ c : Dev Cert.MergeSample.nD,
      r.2.mem ((c.tc : Thread Cert.MergeSample.nD Cert.MergeSample.τ).loc Cert.MergeSample.main_arg0) = m ((c.tc : Thread Cert.MergeSample.nD Cert.MergeSample.τ).loc Cert.MergeSample.main_arg0)
      ∧ r.2.mem ((c.tc : Thread Cert.MergeSample.nD Cert.MergeSample.τ).loc Cert.MergeSample.main_arg1) = m ((c.tc : Thread Cert.MergeSample.nD Cert.MergeSample.τ).loc Cert.MergeSample.main_arg1)
      ∧ r.2.mem ((c.tc : Thread Cert.MergeSample.nD Cert.MergeSample.τ).loc Cert.MergeSample.main_arg2) = m ((c.tc : Thread Cert.MergeSample.nD Cert.MergeSample.τ).loc Cert.MergeSample.main_arg2)
      ∧ r.2.mem ((c.tc : Thread Cert.MergeSample.nD Cert.MergeSample.τ).loc Cert.MergeSample.main_arg3) = m ((c.tc : Thread Cert.MergeSample.nD Cert.MergeSample.τ).loc Cert.MergeSample.main_arg3)
      ∧ r.2.mem ((c.tc : Thread Cert.MergeSample.nD Cert.MergeSample.τ).loc Cert.MergeSample.main_arg4) = m ((c.tc : Thread Cert.MergeSample.nD Cert.MergeSample.τ).loc Cert.MergeSample.main_arg4))
      ∧ r.2.sem = fun _ => 0)

def quiescent_MergeSampleIdeal [hMergeSampleIdeal : Cert.MergeSampleIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg), Pre_MergeSampleIdeal m →
    θ_run (Cert.MergeSampleIdeal.defs (F := Ideal)) (onTc (τ := Cert.MergeSampleIdeal.τ) (Cert.MergeSampleIdeal.main (F := Ideal))) ⟨m, fun _ => 0, g⟩ (fun r => (∀ c : Dev Cert.MergeSampleIdeal.nD,
      r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
      ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
      ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
      ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
      ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4))
      ∧ r.2.sem = fun _ => 0)

def quiescent_MergeSampleReferenceIdeal [hMergeSampleReferenceIdeal : Cert.MergeSampleReferenceIdeal.Facts] : Prop :=
  ∀ (m : (ℓ : Loc Cert.MergeSampleReferenceIdeal.nD Cert.MergeSampleReferenceIdeal.τ Cert.MergeSampleReferenceIdeal.sig) → Buf (Elt Ideal) ℓ) (g : Dev Cert.MergeSampleReferenceIdeal.nD → PrngReg), Pre_MergeSampleReferenceIdeal m →
    θ_run (Cert.MergeSampleReferenceIdeal.defs (F := Ideal)) (onTc (τ := Cert.MergeSampleReferenceIdeal.τ) (Cert.MergeSampleReferenceIdeal.main (F := Ideal))) ⟨m, fun _ => 0, g⟩ (fun r => (∀ c : Dev Cert.MergeSampleReferenceIdeal.nD,
      r.2.mem ((c.tc : Thread Cert.MergeSampleReferenceIdeal.nD Cert.MergeSampleReferenceIdeal.τ).loc Cert.MergeSampleReferenceIdeal.main_arg0) = m ((c.tc : Thread Cert.MergeSampleReferenceIdeal.nD Cert.MergeSampleReferenceIdeal.τ).loc Cert.MergeSampleReferenceIdeal.main_arg0)
      ∧ r.2.mem ((c.tc : Thread Cert.MergeSampleReferenceIdeal.nD Cert.MergeSampleReferenceIdeal.τ).loc Cert.MergeSampleReferenceIdeal.main_arg1) = m ((c.tc : Thread Cert.MergeSampleReferenceIdeal.nD Cert.MergeSampleReferenceIdeal.τ).loc Cert.MergeSampleReferenceIdeal.main_arg1)
      ∧ r.2.mem ((c.tc : Thread Cert.MergeSampleReferenceIdeal.nD Cert.MergeSampleReferenceIdeal.τ).loc Cert.MergeSampleReferenceIdeal.main_arg2) = m ((c.tc : Thread Cert.MergeSampleReferenceIdeal.nD Cert.MergeSampleReferenceIdeal.τ).loc Cert.MergeSampleReferenceIdeal.main_arg2)
      ∧ r.2.mem ((c.tc : Thread Cert.MergeSampleReferenceIdeal.nD Cert.MergeSampleReferenceIdeal.τ).loc Cert.MergeSampleReferenceIdeal.main_arg3) = m ((c.tc : Thread Cert.MergeSampleReferenceIdeal.nD Cert.MergeSampleReferenceIdeal.τ).loc Cert.MergeSampleReferenceIdeal.main_arg3)
      ∧ r.2.mem ((c.tc : Thread Cert.MergeSampleReferenceIdeal.nD Cert.MergeSampleReferenceIdeal.τ).loc Cert.MergeSampleReferenceIdeal.main_arg4) = m ((c.tc : Thread Cert.MergeSampleReferenceIdeal.nD Cert.MergeSampleReferenceIdeal.τ).loc Cert.MergeSampleReferenceIdeal.main_arg4))
      ∧ r.2.sem = fun _ => 0)

def quiescent_KeyValue [hKeyValue : Cert.KeyValue.Facts] : Prop :=
  ∀ (m : (ℓ : Loc Cert.KeyValue.nD Cert.KeyValue.τ Cert.KeyValue.sig) → Buf (Elt Bits) ℓ) (g : Dev Cert.KeyValue.nD → PrngReg), Pre_KeyValue m →
    θ_run (Cert.KeyValue.defs (F := Bits)) (onTc (τ := Cert.KeyValue.τ) (Cert.KeyValue.main (F := Bits))) ⟨m, fun _ => 0, g⟩ (fun r => (∀ c : Dev Cert.KeyValue.nD,
      r.2.mem ((c.tc : Thread Cert.KeyValue.nD Cert.KeyValue.τ).loc Cert.KeyValue.main_arg0) = m ((c.tc : Thread Cert.KeyValue.nD Cert.KeyValue.τ).loc Cert.KeyValue.main_arg0)
      ∧ r.2.mem ((c.tc : Thread Cert.KeyValue.nD Cert.KeyValue.τ).loc Cert.KeyValue.main_arg1) = m ((c.tc : Thread Cert.KeyValue.nD Cert.KeyValue.τ).loc Cert.KeyValue.main_arg1))
      ∧ r.2.sem = fun _ => 0)

def quiescent_KeyValueIdeal [hKeyValueIdeal : Cert.KeyValueIdeal.Facts] : Prop :=
  ∀ (m : (ℓ : Loc Cert.KeyValueIdeal.nD Cert.KeyValueIdeal.τ Cert.KeyValueIdeal.sig) → Buf (Elt Ideal) ℓ) (g : Dev Cert.KeyValueIdeal.nD → PrngReg), Pre_KeyValueIdeal m →
    θ_run (Cert.KeyValueIdeal.defs (F := Ideal)) (onTc (τ := Cert.KeyValueIdeal.τ) (Cert.KeyValueIdeal.main (F := Ideal))) ⟨m, fun _ => 0, g⟩ (fun r => (∀ c : Dev Cert.KeyValueIdeal.nD,
      r.2.mem ((c.tc : Thread Cert.KeyValueIdeal.nD Cert.KeyValueIdeal.τ).loc Cert.KeyValueIdeal.main_arg0) = m ((c.tc : Thread Cert.KeyValueIdeal.nD Cert.KeyValueIdeal.τ).loc Cert.KeyValueIdeal.main_arg0)
      ∧ r.2.mem ((c.tc : Thread Cert.KeyValueIdeal.nD Cert.KeyValueIdeal.τ).loc Cert.KeyValueIdeal.main_arg1) = m ((c.tc : Thread Cert.KeyValueIdeal.nD Cert.KeyValueIdeal.τ).loc Cert.KeyValueIdeal.main_arg1))
      ∧ r.2.sem = fun _ => 0)

def quiescent_KeyValueReferenceIdeal [hKeyValueReferenceIdeal : Cert.KeyValueReferenceIdeal.Facts] : Prop :=
  ∀ (m : (ℓ : Loc Cert.KeyValueReferenceIdeal.nD Cert.KeyValueReferenceIdeal.τ Cert.KeyValueReferenceIdeal.sig) → Buf (Elt Ideal) ℓ) (g : Dev Cert.KeyValueReferenceIdeal.nD → PrngReg), Pre_KeyValueReferenceIdeal m →
    θ_run (Cert.KeyValueReferenceIdeal.defs (F := Ideal)) (onTc (τ := Cert.KeyValueReferenceIdeal.τ) (Cert.KeyValueReferenceIdeal.main (F := Ideal))) ⟨m, fun _ => 0, g⟩ (fun r => (∀ c : Dev Cert.KeyValueReferenceIdeal.nD,
      r.2.mem ((c.tc : Thread Cert.KeyValueReferenceIdeal.nD Cert.KeyValueReferenceIdeal.τ).loc Cert.KeyValueReferenceIdeal.main_arg0) = m ((c.tc : Thread Cert.KeyValueReferenceIdeal.nD Cert.KeyValueReferenceIdeal.τ).loc Cert.KeyValueReferenceIdeal.main_arg0)
      ∧ r.2.mem ((c.tc : Thread Cert.KeyValueReferenceIdeal.nD Cert.KeyValueReferenceIdeal.τ).loc Cert.KeyValueReferenceIdeal.main_arg1) = m ((c.tc : Thread Cert.KeyValueReferenceIdeal.nD Cert.KeyValueReferenceIdeal.τ).loc Cert.KeyValueReferenceIdeal.main_arg1))
      ∧ r.2.sem = fun _ => 0)

def quiescent_Cumsum [hCumsum : Cert.Cumsum.Facts] : Prop :=
  ∀ (m : (ℓ : Loc Cert.Cumsum.nD Cert.Cumsum.τ Cert.Cumsum.sig) → Buf (Elt Bits) ℓ) (g : Dev Cert.Cumsum.nD → PrngReg), Pre_Cumsum m →
    θ_run (Cert.Cumsum.defs (F := Bits)) (onTc (τ := Cert.Cumsum.τ) (Cert.Cumsum.main (F := Bits))) ⟨m, fun _ => 0, g⟩ (fun r => (∀ c : Dev Cert.Cumsum.nD,
      r.2.mem ((c.tc : Thread Cert.Cumsum.nD Cert.Cumsum.τ).loc Cert.Cumsum.main_arg0) = m ((c.tc : Thread Cert.Cumsum.nD Cert.Cumsum.τ).loc Cert.Cumsum.main_arg0))
      ∧ r.2.sem = fun _ => 0)

def quiescent_CumsumIdeal [hCumsumIdeal : Cert.CumsumIdeal.Facts] : Prop :=
  ∀ (m : (ℓ : Loc Cert.CumsumIdeal.nD Cert.CumsumIdeal.τ Cert.CumsumIdeal.sig) → Buf (Elt Ideal) ℓ) (g : Dev Cert.CumsumIdeal.nD → PrngReg), Pre_CumsumIdeal m →
    θ_run (Cert.CumsumIdeal.defs (F := Ideal)) (onTc (τ := Cert.CumsumIdeal.τ) (Cert.CumsumIdeal.main (F := Ideal))) ⟨m, fun _ => 0, g⟩ (fun r => (∀ c : Dev Cert.CumsumIdeal.nD,
      r.2.mem ((c.tc : Thread Cert.CumsumIdeal.nD Cert.CumsumIdeal.τ).loc Cert.CumsumIdeal.main_arg0) = m ((c.tc : Thread Cert.CumsumIdeal.nD Cert.CumsumIdeal.τ).loc Cert.CumsumIdeal.main_arg0))
      ∧ r.2.sem = fun _ => 0)

def quiescent_CumsumReferenceIdeal [hCumsumReferenceIdeal : Cert.CumsumReferenceIdeal.Facts] : Prop :=
  ∀ (m : (ℓ : Loc Cert.CumsumReferenceIdeal.nD Cert.CumsumReferenceIdeal.τ Cert.CumsumReferenceIdeal.sig) → Buf (Elt Ideal) ℓ) (g : Dev Cert.CumsumReferenceIdeal.nD → PrngReg), Pre_CumsumReferenceIdeal m →
    θ_run (Cert.CumsumReferenceIdeal.defs (F := Ideal)) (onTc (τ := Cert.CumsumReferenceIdeal.τ) (Cert.CumsumReferenceIdeal.main (F := Ideal))) ⟨m, fun _ => 0, g⟩ (fun r => (∀ c : Dev Cert.CumsumReferenceIdeal.nD,
      r.2.mem ((c.tc : Thread Cert.CumsumReferenceIdeal.nD Cert.CumsumReferenceIdeal.τ).loc Cert.CumsumReferenceIdeal.main_arg0) = m ((c.tc : Thread Cert.CumsumReferenceIdeal.nD Cert.CumsumReferenceIdeal.τ).loc Cert.CumsumReferenceIdeal.main_arg0))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2))
      ∧ r.2.sem = fun _ => 0)

def quiescent_CompressReferenceIdeal [hCompressReferenceIdeal : Cert.CompressReferenceIdeal.Facts] : Prop :=
  ∀ (m : (ℓ : Loc Cert.CompressReferenceIdeal.nD Cert.CompressReferenceIdeal.τ Cert.CompressReferenceIdeal.sig) → Buf (Elt Ideal) ℓ) (g : Dev Cert.CompressReferenceIdeal.nD → PrngReg), Pre_CompressReferenceIdeal m →
    θ_run (Cert.CompressReferenceIdeal.defs (F := Ideal)) (onTc (τ := Cert.CompressReferenceIdeal.τ) (Cert.CompressReferenceIdeal.main (F := Ideal))) ⟨m, fun _ => 0, g⟩ (fun r => (∀ c : Dev Cert.CompressReferenceIdeal.nD,
      r.2.mem ((c.tc : Thread Cert.CompressReferenceIdeal.nD Cert.CompressReferenceIdeal.τ).loc Cert.CompressReferenceIdeal.main_arg0) = m ((c.tc : Thread Cert.CompressReferenceIdeal.nD Cert.CompressReferenceIdeal.τ).loc Cert.CompressReferenceIdeal.main_arg0)
      ∧ r.2.mem ((c.tc : Thread Cert.CompressReferenceIdeal.nD Cert.CompressReferenceIdeal.τ).loc Cert.CompressReferenceIdeal.main_arg1) = m ((c.tc : Thread Cert.CompressReferenceIdeal.nD Cert.CompressReferenceIdeal.τ).loc Cert.CompressReferenceIdeal.main_arg1)
      ∧ r.2.mem ((c.tc : Thread Cert.CompressReferenceIdeal.nD Cert.CompressReferenceIdeal.τ).loc Cert.CompressReferenceIdeal.main_arg2) = m ((c.tc : Thread Cert.CompressReferenceIdeal.nD Cert.CompressReferenceIdeal.τ).loc Cert.CompressReferenceIdeal.main_arg2))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxIdeal_pre_finite_forget [hFoxIdeal : Cert.FoxIdeal.Facts] [hPre_finite_forget : Cert.Pre_finite_forget.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite_forget m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxReferenceIdeal [hFoxReferenceIdeal : Cert.FoxReferenceIdeal.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3))
      ∧ r.2.sem = fun _ => 0)

def quiescent_FoxReferenceIdeal_pre_finite_forget [hFoxReferenceIdeal : Cert.FoxReferenceIdeal.Facts] [hPre_finite_forget : Cert.Pre_finite_forget.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal_finite_forget m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3))
      ∧ r.2.sem = fun _ => 0)

def preserves_Regroup_RegroupIdeal : Prop :=
  True

def algebraic_RegroupIdeal_RegroupReferenceIdeal [hRegroupIdeal : Cert.RegroupIdeal.Facts] [hRegroupReferenceIdeal : Cert.RegroupReferenceIdeal.Facts] : Prop :=
  ∀ (m : (ℓ : Loc Cert.RegroupIdeal.nD Cert.RegroupIdeal.τ Cert.RegroupIdeal.sig) → Buf (Elt Ideal) ℓ) (g : Dev Cert.RegroupIdeal.nD → PrngReg)
    (m' : (ℓ : Loc Cert.RegroupReferenceIdeal.nD Cert.RegroupReferenceIdeal.τ Cert.RegroupReferenceIdeal.sig) → Buf (Elt Ideal) ℓ) (g' : Dev Cert.RegroupReferenceIdeal.nD → PrngReg), Pre_RegroupIdeal m →
    (∀ c : Dev Cert.RegroupIdeal.nD,
      m' ((c.tc : Thread Cert.RegroupReferenceIdeal.nD Cert.RegroupReferenceIdeal.τ).loc Cert.RegroupReferenceIdeal.main_arg0) = m ((c.tc : Thread Cert.RegroupIdeal.nD Cert.RegroupIdeal.τ).loc Cert.RegroupIdeal.main_arg0)) →
    ∃ (v0 : (c : Dev Cert.RegroupIdeal.nD) → Buf (Elt Ideal) ((c.tc : Thread Cert.RegroupIdeal.nD Cert.RegroupIdeal.τ).loc Cert.RegroupIdeal.main_v2)),
      θ_run (Cert.RegroupIdeal.defs (F := Ideal)) (onTc (τ := Cert.RegroupIdeal.τ) (Cert.RegroupIdeal.main (F := Ideal))) ⟨m, fun _ => 0, g⟩ (fun r => ∀ c : Dev Cert.RegroupIdeal.nD,
          r.2.mem ((c.tc : Thread Cert.RegroupIdeal.nD Cert.RegroupIdeal.τ).loc Cert.RegroupIdeal.main_v2) = v0 c
          ∧ r.2.mem ((c.tc : Thread Cert.RegroupIdeal.nD Cert.RegroupIdeal.τ).loc Cert.RegroupIdeal.main_arg0) = m ((c.tc : Thread Cert.RegroupIdeal.nD Cert.RegroupIdeal.τ).loc Cert.RegroupIdeal.main_arg0))
      ∧ θ_run (Cert.RegroupReferenceIdeal.defs (F := Ideal)) (onTc (τ := Cert.RegroupReferenceIdeal.τ) (Cert.RegroupReferenceIdeal.main (F := Ideal))) ⟨m', fun _ => 0, g'⟩ (fun r => ∀ c : Dev Cert.RegroupReferenceIdeal.nD,
          r.2.mem ((c.tc : Thread Cert.RegroupReferenceIdeal.nD Cert.RegroupReferenceIdeal.τ).loc Cert.RegroupReferenceIdeal.main_v11) = v0 c
          ∧ r.2.mem ((c.tc : Thread Cert.RegroupReferenceIdeal.nD Cert.RegroupReferenceIdeal.τ).loc Cert.RegroupReferenceIdeal.main_arg0) = m' ((c.tc : Thread Cert.RegroupReferenceIdeal.nD Cert.RegroupReferenceIdeal.τ).loc Cert.RegroupReferenceIdeal.main_arg0))

def bitexact_Regroup_RegroupReference [hRegroup : Cert.Regroup.Facts] [hRegroupReference : Cert.RegroupReference.Facts] : Prop :=
  ∀ (m : (ℓ : Loc Cert.Regroup.nD Cert.Regroup.τ Cert.Regroup.sig) → Buf (Elt Bits) ℓ) (g : Dev Cert.Regroup.nD → PrngReg)
    (m' : (ℓ : Loc Cert.RegroupReference.nD Cert.RegroupReference.τ Cert.RegroupReference.sig) → Buf (Elt Bits) ℓ) (g' : Dev Cert.RegroupReference.nD → PrngReg), Pre_Regroup m →
    (∀ c : Dev Cert.Regroup.nD,
      m' ((c.tc : Thread Cert.RegroupReference.nD Cert.RegroupReference.τ).loc Cert.RegroupReference.main_arg0) = m ((c.tc : Thread Cert.Regroup.nD Cert.Regroup.τ).loc Cert.Regroup.main_arg0)) →
    ∃ (v0 : (c : Dev Cert.Regroup.nD) → Buf (Elt Bits) ((c.tc : Thread Cert.Regroup.nD Cert.Regroup.τ).loc Cert.Regroup.main_v2)),
      θ_run (Cert.Regroup.defs (F := Bits)) (onTc (τ := Cert.Regroup.τ) (Cert.Regroup.main (F := Bits))) ⟨m, fun _ => 0, g⟩ (fun r => ∀ c : Dev Cert.Regroup.nD,
          r.2.mem ((c.tc : Thread Cert.Regroup.nD Cert.Regroup.τ).loc Cert.Regroup.main_v2) = v0 c
          ∧ r.2.mem ((c.tc : Thread Cert.Regroup.nD Cert.Regroup.τ).loc Cert.Regroup.main_arg0) = m ((c.tc : Thread Cert.Regroup.nD Cert.Regroup.τ).loc Cert.Regroup.main_arg0))
      ∧ θ_run (Cert.RegroupReference.defs (F := Bits)) (onTc (τ := Cert.RegroupReference.τ) (Cert.RegroupReference.main (F := Bits))) ⟨m', fun _ => 0, g'⟩ (fun r => ∀ c : Dev Cert.RegroupReference.nD,
          r.2.mem ((c.tc : Thread Cert.RegroupReference.nD Cert.RegroupReference.τ).loc Cert.RegroupReference.main_v11) = v0 c
          ∧ r.2.mem ((c.tc : Thread Cert.RegroupReference.nD Cert.RegroupReference.τ).loc Cert.RegroupReference.main_arg0) = m' ((c.tc : Thread Cert.RegroupReference.nD Cert.RegroupReference.τ).loc Cert.RegroupReference.main_arg0))

def preserves_Sample_SampleIdeal : Prop :=
  True

def algebraic_SampleIdeal_SampleReferenceIdeal [hSampleIdeal : Cert.SampleIdeal.Facts] [hSampleReferenceIdeal : Cert.SampleReferenceIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleIdeal m →
    (∀ c : Dev Cert.SampleIdeal.nD,
      m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)
      ∧ m' ((c.tc : Thread Cert.SampleReferenceIdeal.nD Cert.SampleReferenceIdeal.τ).loc Cert.SampleReferenceIdeal.main_arg1) = m ((c.tc : Thread Cert.SampleIdeal.nD Cert.SampleIdeal.τ).loc Cert.SampleIdeal.main_arg1)
      ∧ m' ((c.tc : Thread Cert.SampleReferenceIdeal.nD Cert.SampleReferenceIdeal.τ).loc Cert.SampleReferenceIdeal.main_arg2) = m ((c.tc : Thread Cert.SampleIdeal.nD Cert.SampleIdeal.τ).loc Cert.SampleIdeal.main_arg2)
      ∧ m' ((c.tc : Thread Cert.SampleReferenceIdeal.nD Cert.SampleReferenceIdeal.τ).loc Cert.SampleReferenceIdeal.main_arg3) = m ((c.tc : Thread Cert.SampleIdeal.nD Cert.SampleIdeal.τ).loc Cert.SampleIdeal.main_arg3)
      ∧ m' ((c.tc : Thread Cert.SampleReferenceIdeal.nD Cert.SampleReferenceIdeal.τ).loc Cert.SampleReferenceIdeal.main_arg4) = m ((c.tc : Thread Cert.SampleIdeal.nD Cert.SampleIdeal.τ).loc Cert.SampleIdeal.main_arg4)
      ∧ m' ((c.tc : Thread Cert.SampleReferenceIdeal.nD Cert.SampleReferenceIdeal.τ).loc Cert.SampleReferenceIdeal.main_arg5) = m ((c.tc : Thread Cert.SampleIdeal.nD Cert.SampleIdeal.τ).loc Cert.SampleIdeal.main_arg5)) →
    ∃ (v0 : (c : Dev Cert.SampleIdeal.nD) → Buf (Elt Ideal) ((c.tc : Thread Cert.SampleIdeal.nD Cert.SampleIdeal.τ).loc Cert.SampleIdeal.main_v36)) (v1 : (c : Dev Cert.SampleIdeal.nD) → Buf (Elt Ideal) ((c.tc : Thread Cert.SampleIdeal.nD Cert.SampleIdeal.τ).loc Cert.SampleIdeal.main_v37)) (v2 : (c : Dev Cert.SampleIdeal.nD) → Buf (Elt Ideal) ((c.tc : Thread Cert.SampleIdeal.nD Cert.SampleIdeal.τ).loc Cert.SampleIdeal.main_v38)) (v3 : (c : Dev Cert.SampleIdeal.nD) → Buf (Elt Ideal) ((c.tc : Thread Cert.SampleIdeal.nD Cert.SampleIdeal.τ).loc Cert.SampleIdeal.main_v39)) (v4 : (c : Dev Cert.SampleIdeal.nD) → Buf (Elt Ideal) ((c.tc : Thread Cert.SampleIdeal.nD Cert.SampleIdeal.τ).loc Cert.SampleIdeal.main_v18)) (v5 : (c : Dev Cert.SampleIdeal.nD) → Buf (Elt Ideal) ((c.tc : Thread Cert.SampleIdeal.nD Cert.SampleIdeal.τ).loc Cert.SampleIdeal.main_v29)) (v6 : (c : Dev Cert.SampleIdeal.nD) → Buf (Elt Ideal) ((c.tc : Thread Cert.SampleIdeal.nD Cert.SampleIdeal.τ).loc Cert.SampleIdeal.main_v21)) (v7 : (c : Dev Cert.SampleIdeal.nD) → Buf (Elt Ideal) ((c.tc : Thread Cert.SampleIdeal.nD Cert.SampleIdeal.τ).loc Cert.SampleIdeal.main_v22)) (v8 : (c : Dev Cert.SampleIdeal.nD) → Buf (Elt Ideal) ((c.tc : Thread Cert.SampleIdeal.nD Cert.SampleIdeal.τ).loc Cert.SampleIdeal.main_v24)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v36) = v0 c
          ∧ r.2.mem ((c.tc : Thread Cert.SampleIdeal.nD Cert.SampleIdeal.τ).loc Cert.SampleIdeal.main_v37) = v1 c
          ∧ r.2.mem ((c.tc : Thread Cert.SampleIdeal.nD Cert.SampleIdeal.τ).loc Cert.SampleIdeal.main_v38) = v2 c
          ∧ r.2.mem ((c.tc : Thread Cert.SampleIdeal.nD Cert.SampleIdeal.τ).loc Cert.SampleIdeal.main_v39) = v3 c
          ∧ r.2.mem ((c.tc : Thread Cert.SampleIdeal.nD Cert.SampleIdeal.τ).loc Cert.SampleIdeal.main_v18) = v4 c
          ∧ r.2.mem ((c.tc : Thread Cert.SampleIdeal.nD Cert.SampleIdeal.τ).loc Cert.SampleIdeal.main_v29) = v5 c
          ∧ r.2.mem ((c.tc : Thread Cert.SampleIdeal.nD Cert.SampleIdeal.τ).loc Cert.SampleIdeal.main_v21) = v6 c
          ∧ r.2.mem ((c.tc : Thread Cert.SampleIdeal.nD Cert.SampleIdeal.τ).loc Cert.SampleIdeal.main_v22) = v7 c
          ∧ r.2.mem ((c.tc : Thread Cert.SampleIdeal.nD Cert.SampleIdeal.τ).loc Cert.SampleIdeal.main_v24) = v8 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v49) = v0 c
          ∧ r.2.mem ((c.tc : Thread Cert.SampleReferenceIdeal.nD Cert.SampleReferenceIdeal.τ).loc Cert.SampleReferenceIdeal.main_v53) = v1 c
          ∧ r.2.mem ((c.tc : Thread Cert.SampleReferenceIdeal.nD Cert.SampleReferenceIdeal.τ).loc Cert.SampleReferenceIdeal.main_v54) = v2 c
          ∧ r.2.mem ((c.tc : Thread Cert.SampleReferenceIdeal.nD Cert.SampleReferenceIdeal.τ).loc Cert.SampleReferenceIdeal.main_v55) = v3 c
          ∧ r.2.mem ((c.tc : Thread Cert.SampleReferenceIdeal.nD Cert.SampleReferenceIdeal.τ).loc Cert.SampleReferenceIdeal.main_v56) = v4 c
          ∧ r.2.mem ((c.tc : Thread Cert.SampleReferenceIdeal.nD Cert.SampleReferenceIdeal.τ).loc Cert.SampleReferenceIdeal.main_v37) = v5 c
          ∧ r.2.mem ((c.tc : Thread Cert.SampleReferenceIdeal.nD Cert.SampleReferenceIdeal.τ).loc Cert.SampleReferenceIdeal.main_v57) = v6 c
          ∧ r.2.mem ((c.tc : Thread Cert.SampleReferenceIdeal.nD Cert.SampleReferenceIdeal.τ).loc Cert.SampleReferenceIdeal.main_v58) = v7 c
          ∧ r.2.mem ((c.tc : Thread Cert.SampleReferenceIdeal.nD Cert.SampleReferenceIdeal.τ).loc Cert.SampleReferenceIdeal.main_v59) = v8 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1)
          ∧ r.2.mem ((c.tc : Thread Cert.SampleReferenceIdeal.nD Cert.SampleReferenceIdeal.τ).loc Cert.SampleReferenceIdeal.main_arg2) = m' ((c.tc : Thread Cert.SampleReferenceIdeal.nD Cert.SampleReferenceIdeal.τ).loc Cert.SampleReferenceIdeal.main_arg2)
          ∧ r.2.mem ((c.tc : Thread Cert.SampleReferenceIdeal.nD Cert.SampleReferenceIdeal.τ).loc Cert.SampleReferenceIdeal.main_arg3) = m' ((c.tc : Thread Cert.SampleReferenceIdeal.nD Cert.SampleReferenceIdeal.τ).loc Cert.SampleReferenceIdeal.main_arg3)
          ∧ r.2.mem ((c.tc : Thread Cert.SampleReferenceIdeal.nD Cert.SampleReferenceIdeal.τ).loc Cert.SampleReferenceIdeal.main_arg4) = m' ((c.tc : Thread Cert.SampleReferenceIdeal.nD Cert.SampleReferenceIdeal.τ).loc Cert.SampleReferenceIdeal.main_arg4)
          ∧ r.2.mem ((c.tc : Thread Cert.SampleReferenceIdeal.nD Cert.SampleReferenceIdeal.τ).loc Cert.SampleReferenceIdeal.main_arg5) = m' ((c.tc : Thread Cert.SampleReferenceIdeal.nD Cert.SampleReferenceIdeal.τ).loc Cert.SampleReferenceIdeal.main_arg5))

def preserves_Prompt_PromptIdeal : Prop :=
  True

def algebraic_PromptIdeal_PromptReferenceIdeal [hPromptIdeal : Cert.PromptIdeal.Facts] [hPromptReferenceIdeal : Cert.PromptReferenceIdeal.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptReferenceIdeal.nD Cert.PromptReferenceIdeal.τ Cert.PromptReferenceIdeal.sig) → Buf (Elt Ideal) ℓ) (g' : Dev Cert.PromptReferenceIdeal.nD → PrngReg), Pre_PromptIdeal m →
    (∀ c : Dev Cert.PromptIdeal.nD,
      m' ((c.tc : Thread Cert.PromptReferenceIdeal.nD Cert.PromptReferenceIdeal.τ).loc Cert.PromptReferenceIdeal.main_arg0) = m ((c.tc : Thread Cert.PromptIdeal.nD Cert.PromptIdeal.τ).loc Cert.PromptIdeal.main_arg0)
      ∧ m' ((c.tc : Thread Cert.PromptReferenceIdeal.nD Cert.PromptReferenceIdeal.τ).loc Cert.PromptReferenceIdeal.main_arg1) = m ((c.tc : Thread Cert.PromptIdeal.nD Cert.PromptIdeal.τ).loc Cert.PromptIdeal.main_arg1)
      ∧ m' ((c.tc : Thread Cert.PromptReferenceIdeal.nD Cert.PromptReferenceIdeal.τ).loc Cert.PromptReferenceIdeal.main_arg2) = m ((c.tc : Thread Cert.PromptIdeal.nD Cert.PromptIdeal.τ).loc Cert.PromptIdeal.main_arg2)
      ∧ m' ((c.tc : Thread Cert.PromptReferenceIdeal.nD Cert.PromptReferenceIdeal.τ).loc Cert.PromptReferenceIdeal.main_arg3) = m ((c.tc : Thread Cert.PromptIdeal.nD Cert.PromptIdeal.τ).loc Cert.PromptIdeal.main_arg3)
      ∧ m' ((c.tc : Thread Cert.PromptReferenceIdeal.nD Cert.PromptReferenceIdeal.τ).loc Cert.PromptReferenceIdeal.main_arg4) = m ((c.tc : Thread Cert.PromptIdeal.nD Cert.PromptIdeal.τ).loc Cert.PromptIdeal.main_arg4)) →
    ∃ (v0 : (c : Dev Cert.PromptIdeal.nD) → Buf (Elt Ideal) ((c.tc : Thread Cert.PromptIdeal.nD Cert.PromptIdeal.τ).loc Cert.PromptIdeal.main_v32)) (v1 : (c : Dev Cert.PromptIdeal.nD) → Buf (Elt Ideal) ((c.tc : Thread Cert.PromptIdeal.nD Cert.PromptIdeal.τ).loc Cert.PromptIdeal.main_v33)) (v2 : (c : Dev Cert.PromptIdeal.nD) → Buf (Elt Ideal) ((c.tc : Thread Cert.PromptIdeal.nD Cert.PromptIdeal.τ).loc Cert.PromptIdeal.main_v34)) (v3 : (c : Dev Cert.PromptIdeal.nD) → Buf (Elt Ideal) ((c.tc : Thread Cert.PromptIdeal.nD Cert.PromptIdeal.τ).loc Cert.PromptIdeal.main_v35)) (v4 : (c : Dev Cert.PromptIdeal.nD) → Buf (Elt Ideal) ((c.tc : Thread Cert.PromptIdeal.nD Cert.PromptIdeal.τ).loc Cert.PromptIdeal.main_v27)) (v5 : (c : Dev Cert.PromptIdeal.nD) → Buf (Elt Ideal) ((c.tc : Thread Cert.PromptIdeal.nD Cert.PromptIdeal.τ).loc Cert.PromptIdeal.main_v19)) (v6 : (c : Dev Cert.PromptIdeal.nD) → Buf (Elt Ideal) ((c.tc : Thread Cert.PromptIdeal.nD Cert.PromptIdeal.τ).loc Cert.PromptIdeal.main_v36)) (v7 : (c : Dev Cert.PromptIdeal.nD) → Buf (Elt Ideal) ((c.tc : Thread Cert.PromptIdeal.nD Cert.PromptIdeal.τ).loc Cert.PromptIdeal.main_v22)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v32) = v0 c
          ∧ r.2.mem ((c.tc : Thread Cert.PromptIdeal.nD Cert.PromptIdeal.τ).loc Cert.PromptIdeal.main_v33) = v1 c
          ∧ r.2.mem ((c.tc : Thread Cert.PromptIdeal.nD Cert.PromptIdeal.τ).loc Cert.PromptIdeal.main_v34) = v2 c
          ∧ r.2.mem ((c.tc : Thread Cert.PromptIdeal.nD Cert.PromptIdeal.τ).loc Cert.PromptIdeal.main_v35) = v3 c
          ∧ r.2.mem ((c.tc : Thread Cert.PromptIdeal.nD Cert.PromptIdeal.τ).loc Cert.PromptIdeal.main_v27) = v4 c
          ∧ r.2.mem ((c.tc : Thread Cert.PromptIdeal.nD Cert.PromptIdeal.τ).loc Cert.PromptIdeal.main_v19) = v5 c
          ∧ r.2.mem ((c.tc : Thread Cert.PromptIdeal.nD Cert.PromptIdeal.τ).loc Cert.PromptIdeal.main_v36) = v6 c
          ∧ r.2.mem ((c.tc : Thread Cert.PromptIdeal.nD Cert.PromptIdeal.τ).loc Cert.PromptIdeal.main_v22) = v7 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
          ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4))
      ∧ θ_run (Cert.PromptReferenceIdeal.defs (F := Ideal)) (onTc (τ := Cert.PromptReferenceIdeal.τ) (Cert.PromptReferenceIdeal.main (F := Ideal))) ⟨m', fun _ => 0, g'⟩ (fun r => ∀ c : Dev Cert.PromptReferenceIdeal.nD,
          r.2.mem ((c.tc : Thread Cert.PromptReferenceIdeal.nD Cert.PromptReferenceIdeal.τ).loc Cert.PromptReferenceIdeal.main_v47) = v0 c
          ∧ r.2.mem ((c.tc : Thread Cert.PromptReferenceIdeal.nD Cert.PromptReferenceIdeal.τ).loc Cert.PromptReferenceIdeal.main_v48) = v1 c
          ∧ r.2.mem ((c.tc : Thread Cert.PromptReferenceIdeal.nD Cert.PromptReferenceIdeal.τ).loc Cert.PromptReferenceIdeal.main_v50) = v2 c
          ∧ r.2.mem ((c.tc : Thread Cert.PromptReferenceIdeal.nD Cert.PromptReferenceIdeal.τ).loc Cert.PromptReferenceIdeal.main_v51) = v3 c
          ∧ r.2.mem ((c.tc : Thread Cert.PromptReferenceIdeal.nD Cert.PromptReferenceIdeal.τ).loc Cert.PromptReferenceIdeal.main_v37) = v4 c
          ∧ r.2.mem ((c.tc : Thread Cert.PromptReferenceIdeal.nD Cert.PromptReferenceIdeal.τ).loc Cert.PromptReferenceIdeal.main_v52) = v5 c
          ∧ r.2.mem ((c.tc : Thread Cert.PromptReferenceIdeal.nD Cert.PromptReferenceIdeal.τ).loc Cert.PromptReferenceIdeal.main_v53) = v6 c
          ∧ r.2.mem ((c.tc : Thread Cert.PromptReferenceIdeal.nD Cert.PromptReferenceIdeal.τ).loc Cert.PromptReferenceIdeal.main_v54) = v7 c
          ∧ r.2.mem ((c.tc : Thread Cert.PromptReferenceIdeal.nD Cert.PromptReferenceIdeal.τ).loc Cert.PromptReferenceIdeal.main_arg0) = m' ((c.tc : Thread Cert.PromptReferenceIdeal.nD Cert.PromptReferenceIdeal.τ).loc Cert.PromptReferenceIdeal.main_arg0)
          ∧ r.2.mem ((c.tc : Thread Cert.PromptReferenceIdeal.nD Cert.PromptReferenceIdeal.τ).loc Cert.PromptReferenceIdeal.main_arg1) = m' ((c.tc : Thread Cert.PromptReferenceIdeal.nD Cert.PromptReferenceIdeal.τ).loc Cert.PromptReferenceIdeal.main_arg1)
          ∧ r.2.mem ((c.tc : Thread Cert.PromptReferenceIdeal.nD Cert.PromptReferenceIdeal.τ).loc Cert.PromptReferenceIdeal.main_arg2) = m' ((c.tc : Thread Cert.PromptReferenceIdeal.nD Cert.PromptReferenceIdeal.τ).loc Cert.PromptReferenceIdeal.main_arg2)
          ∧ r.2.mem ((c.tc : Thread Cert.PromptReferenceIdeal.nD Cert.PromptReferenceIdeal.τ).loc Cert.PromptReferenceIdeal.main_arg3) = m' ((c.tc : Thread Cert.PromptReferenceIdeal.nD Cert.PromptReferenceIdeal.τ).loc Cert.PromptReferenceIdeal.main_arg3)
          ∧ r.2.mem ((c.tc : Thread Cert.PromptReferenceIdeal.nD Cert.PromptReferenceIdeal.τ).loc Cert.PromptReferenceIdeal.main_arg4) = m' ((c.tc : Thread Cert.PromptReferenceIdeal.nD Cert.PromptReferenceIdeal.τ).loc Cert.PromptReferenceIdeal.main_arg4))

def preserves_MergePrompt_MergePromptIdeal : Prop :=
  True

def algebraic_MergePromptIdeal_MergePromptReferenceIdeal [hMergePromptIdeal : Cert.MergePromptIdeal.Facts] [hMergePromptReferenceIdeal : Cert.MergePromptReferenceIdeal.Facts] : Prop :=
  ∀ (m : (ℓ : Loc Cert.MergePromptIdeal.nD Cert.MergePromptIdeal.τ Cert.MergePromptIdeal.sig) → Buf (Elt Ideal) ℓ) (g : Dev Cert.MergePromptIdeal.nD → PrngReg)
    (m' : (ℓ : Loc Cert.MergePromptReferenceIdeal.nD Cert.MergePromptReferenceIdeal.τ Cert.MergePromptReferenceIdeal.sig) → Buf (Elt Ideal) ℓ) (g' : Dev Cert.MergePromptReferenceIdeal.nD → PrngReg), Pre_MergePromptIdeal m →
    (∀ c : Dev Cert.MergePromptIdeal.nD,
      m' ((c.tc : Thread Cert.MergePromptReferenceIdeal.nD Cert.MergePromptReferenceIdeal.τ).loc Cert.MergePromptReferenceIdeal.main_arg0) = m ((c.tc : Thread Cert.MergePromptIdeal.nD Cert.MergePromptIdeal.τ).loc Cert.MergePromptIdeal.main_arg0)
      ∧ m' ((c.tc : Thread Cert.MergePromptReferenceIdeal.nD Cert.MergePromptReferenceIdeal.τ).loc Cert.MergePromptReferenceIdeal.main_arg1) = m ((c.tc : Thread Cert.MergePromptIdeal.nD Cert.MergePromptIdeal.τ).loc Cert.MergePromptIdeal.main_arg1)
      ∧ m' ((c.tc : Thread Cert.MergePromptReferenceIdeal.nD Cert.MergePromptReferenceIdeal.τ).loc Cert.MergePromptReferenceIdeal.main_arg2) = m ((c.tc : Thread Cert.MergePromptIdeal.nD Cert.MergePromptIdeal.τ).loc Cert.MergePromptIdeal.main_arg2)
      ∧ m' ((c.tc : Thread Cert.MergePromptReferenceIdeal.nD Cert.MergePromptReferenceIdeal.τ).loc Cert.MergePromptReferenceIdeal.main_arg3) = m ((c.tc : Thread Cert.MergePromptIdeal.nD Cert.MergePromptIdeal.τ).loc Cert.MergePromptIdeal.main_arg3)
      ∧ m' ((c.tc : Thread Cert.MergePromptReferenceIdeal.nD Cert.MergePromptReferenceIdeal.τ).loc Cert.MergePromptReferenceIdeal.main_arg4) = m ((c.tc : Thread Cert.MergePromptIdeal.nD Cert.MergePromptIdeal.τ).loc Cert.MergePromptIdeal.main_arg4)) →
    ∃ (v0 : (c : Dev Cert.MergePromptIdeal.nD) → Buf (Elt Ideal) ((c.tc : Thread Cert.MergePromptIdeal.nD Cert.MergePromptIdeal.τ).loc Cert.MergePromptIdeal.main_v4)),
      θ_run (Cert.MergePromptIdeal.defs (F := Ideal)) (onTc (τ := Cert.MergePromptIdeal.τ) (Cert.MergePromptIdeal.main (F := Ideal))) ⟨m, fun _ => 0, g⟩ (fun r => ∀ c : Dev Cert.MergePromptIdeal.nD,
          r.2.mem ((c.tc : Thread Cert.MergePromptIdeal.nD Cert.MergePromptIdeal.τ).loc Cert.MergePromptIdeal.main_v4) = v0 c
          ∧ r.2.mem ((c.tc : Thread Cert.MergePromptIdeal.nD Cert.MergePromptIdeal.τ).loc Cert.MergePromptIdeal.main_arg0) = m ((c.tc : Thread Cert.MergePromptIdeal.nD Cert.MergePromptIdeal.τ).loc Cert.MergePromptIdeal.main_arg0)
          ∧ r.2.mem ((c.tc : Thread Cert.MergePromptIdeal.nD Cert.MergePromptIdeal.τ).loc Cert.MergePromptIdeal.main_arg1) = m ((c.tc : Thread Cert.MergePromptIdeal.nD Cert.MergePromptIdeal.τ).loc Cert.MergePromptIdeal.main_arg1)
          ∧ r.2.mem ((c.tc : Thread Cert.MergePromptIdeal.nD Cert.MergePromptIdeal.τ).loc Cert.MergePromptIdeal.main_arg2) = m ((c.tc : Thread Cert.MergePromptIdeal.nD Cert.MergePromptIdeal.τ).loc Cert.MergePromptIdeal.main_arg2)
          ∧ r.2.mem ((c.tc : Thread Cert.MergePromptIdeal.nD Cert.MergePromptIdeal.τ).loc Cert.MergePromptIdeal.main_arg3) = m ((c.tc : Thread Cert.MergePromptIdeal.nD Cert.MergePromptIdeal.τ).loc Cert.MergePromptIdeal.main_arg3)
          ∧ r.2.mem ((c.tc : Thread Cert.MergePromptIdeal.nD Cert.MergePromptIdeal.τ).loc Cert.MergePromptIdeal.main_arg4) = m ((c.tc : Thread Cert.MergePromptIdeal.nD Cert.MergePromptIdeal.τ).loc Cert.MergePromptIdeal.main_arg4))
      ∧ θ_run (Cert.MergePromptReferenceIdeal.defs (F := Ideal)) (onTc (τ := Cert.MergePromptReferenceIdeal.τ) (Cert.MergePromptReferenceIdeal.main (F := Ideal))) ⟨m', fun _ => 0, g'⟩ (fun r => ∀ c : Dev Cert.MergePromptReferenceIdeal.nD,
          r.2.mem ((c.tc : Thread Cert.MergePromptReferenceIdeal.nD Cert.MergePromptReferenceIdeal.τ).loc Cert.MergePromptReferenceIdeal.main_v21) = v0 c
          ∧ r.2.mem ((c.tc : Thread Cert.MergePromptReferenceIdeal.nD Cert.MergePromptReferenceIdeal.τ).loc Cert.MergePromptReferenceIdeal.main_arg0) = m' ((c.tc : Thread Cert.MergePromptReferenceIdeal.nD Cert.MergePromptReferenceIdeal.τ).loc Cert.MergePromptReferenceIdeal.main_arg0)
          ∧ r.2.mem ((c.tc : Thread Cert.MergePromptReferenceIdeal.nD Cert.MergePromptReferenceIdeal.τ).loc Cert.MergePromptReferenceIdeal.main_arg1) = m' ((c.tc : Thread Cert.MergePromptReferenceIdeal.nD Cert.MergePromptReferenceIdeal.τ).loc Cert.MergePromptReferenceIdeal.main_arg1)
          ∧ r.2.mem ((c.tc : Thread Cert.MergePromptReferenceIdeal.nD Cert.MergePromptReferenceIdeal.τ).loc Cert.MergePromptReferenceIdeal.main_arg2) = m' ((c.tc : Thread Cert.MergePromptReferenceIdeal.nD Cert.MergePromptReferenceIdeal.τ).loc Cert.MergePromptReferenceIdeal.main_arg2)
          ∧ r.2.mem ((c.tc : Thread Cert.MergePromptReferenceIdeal.nD Cert.MergePromptReferenceIdeal.τ).loc Cert.MergePromptReferenceIdeal.main_arg3) = m' ((c.tc : Thread Cert.MergePromptReferenceIdeal.nD Cert.MergePromptReferenceIdeal.τ).loc Cert.MergePromptReferenceIdeal.main_arg3)
          ∧ r.2.mem ((c.tc : Thread Cert.MergePromptReferenceIdeal.nD Cert.MergePromptReferenceIdeal.τ).loc Cert.MergePromptReferenceIdeal.main_arg4) = m' ((c.tc : Thread Cert.MergePromptReferenceIdeal.nD Cert.MergePromptReferenceIdeal.τ).loc Cert.MergePromptReferenceIdeal.main_arg4))

def preserves_MergeSample_MergeSampleIdeal : Prop :=
  True

def algebraic_MergeSampleIdeal_MergeSampleReferenceIdeal [hMergeSampleIdeal : Cert.MergeSampleIdeal.Facts] [hMergeSampleReferenceIdeal : Cert.MergeSampleReferenceIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg)
    (m' : (ℓ : Loc Cert.MergeSampleReferenceIdeal.nD Cert.MergeSampleReferenceIdeal.τ Cert.MergeSampleReferenceIdeal.sig) → Buf (Elt Ideal) ℓ) (g' : Dev Cert.MergeSampleReferenceIdeal.nD → PrngReg), Pre_MergeSampleIdeal m →
    (∀ c : Dev Cert.MergeSampleIdeal.nD,
      m' ((c.tc : Thread Cert.MergeSampleReferenceIdeal.nD Cert.MergeSampleReferenceIdeal.τ).loc Cert.MergeSampleReferenceIdeal.main_arg0) = m ((c.tc : Thread Cert.MergeSampleIdeal.nD Cert.MergeSampleIdeal.τ).loc Cert.MergeSampleIdeal.main_arg0)
      ∧ m' ((c.tc : Thread Cert.MergeSampleReferenceIdeal.nD Cert.MergeSampleReferenceIdeal.τ).loc Cert.MergeSampleReferenceIdeal.main_arg1) = m ((c.tc : Thread Cert.MergeSampleIdeal.nD Cert.MergeSampleIdeal.τ).loc Cert.MergeSampleIdeal.main_arg1)
      ∧ m' ((c.tc : Thread Cert.MergeSampleReferenceIdeal.nD Cert.MergeSampleReferenceIdeal.τ).loc Cert.MergeSampleReferenceIdeal.main_arg2) = m ((c.tc : Thread Cert.MergeSampleIdeal.nD Cert.MergeSampleIdeal.τ).loc Cert.MergeSampleIdeal.main_arg2)
      ∧ m' ((c.tc : Thread Cert.MergeSampleReferenceIdeal.nD Cert.MergeSampleReferenceIdeal.τ).loc Cert.MergeSampleReferenceIdeal.main_arg3) = m ((c.tc : Thread Cert.MergeSampleIdeal.nD Cert.MergeSampleIdeal.τ).loc Cert.MergeSampleIdeal.main_arg3)
      ∧ m' ((c.tc : Thread Cert.MergeSampleReferenceIdeal.nD Cert.MergeSampleReferenceIdeal.τ).loc Cert.MergeSampleReferenceIdeal.main_arg4) = m ((c.tc : Thread Cert.MergeSampleIdeal.nD Cert.MergeSampleIdeal.τ).loc Cert.MergeSampleIdeal.main_arg4)) →
    ∃ (v0 : (c : Dev Cert.MergeSampleIdeal.nD) → Buf (Elt Ideal) ((c.tc : Thread Cert.MergeSampleIdeal.nD Cert.MergeSampleIdeal.τ).loc Cert.MergeSampleIdeal.main_v4)),
      θ_run (Cert.MergeSampleIdeal.defs (F := Ideal)) (onTc (τ := Cert.MergeSampleIdeal.τ) (Cert.MergeSampleIdeal.main (F := Ideal))) ⟨m, fun _ => 0, g⟩ (fun r => ∀ c : Dev Cert.MergeSampleIdeal.nD,
          r.2.mem ((c.tc : Thread Cert.MergeSampleIdeal.nD Cert.MergeSampleIdeal.τ).loc Cert.MergeSampleIdeal.main_v4) = v0 c
          ∧ r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
          ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
          ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
          ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
          ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4))
      ∧ θ_run (Cert.MergeSampleReferenceIdeal.defs (F := Ideal)) (onTc (τ := Cert.MergeSampleReferenceIdeal.τ) (Cert.MergeSampleReferenceIdeal.main (F := Ideal))) ⟨m', fun _ => 0, g'⟩ (fun r => ∀ c : Dev Cert.MergeSampleReferenceIdeal.nD,
          r.2.mem ((c.tc : Thread Cert.MergeSampleReferenceIdeal.nD Cert.MergeSampleReferenceIdeal.τ).loc Cert.MergeSampleReferenceIdeal.main_v21) = v0 c
          ∧ r.2.mem ((c.tc : Thread Cert.MergeSampleReferenceIdeal.nD Cert.MergeSampleReferenceIdeal.τ).loc Cert.MergeSampleReferenceIdeal.main_arg0) = m' ((c.tc : Thread Cert.MergeSampleReferenceIdeal.nD Cert.MergeSampleReferenceIdeal.τ).loc Cert.MergeSampleReferenceIdeal.main_arg0)
          ∧ r.2.mem ((c.tc : Thread Cert.MergeSampleReferenceIdeal.nD Cert.MergeSampleReferenceIdeal.τ).loc Cert.MergeSampleReferenceIdeal.main_arg1) = m' ((c.tc : Thread Cert.MergeSampleReferenceIdeal.nD Cert.MergeSampleReferenceIdeal.τ).loc Cert.MergeSampleReferenceIdeal.main_arg1)
          ∧ r.2.mem ((c.tc : Thread Cert.MergeSampleReferenceIdeal.nD Cert.MergeSampleReferenceIdeal.τ).loc Cert.MergeSampleReferenceIdeal.main_arg2) = m' ((c.tc : Thread Cert.MergeSampleReferenceIdeal.nD Cert.MergeSampleReferenceIdeal.τ).loc Cert.MergeSampleReferenceIdeal.main_arg2)
          ∧ r.2.mem ((c.tc : Thread Cert.MergeSampleReferenceIdeal.nD Cert.MergeSampleReferenceIdeal.τ).loc Cert.MergeSampleReferenceIdeal.main_arg3) = m' ((c.tc : Thread Cert.MergeSampleReferenceIdeal.nD Cert.MergeSampleReferenceIdeal.τ).loc Cert.MergeSampleReferenceIdeal.main_arg3)
          ∧ r.2.mem ((c.tc : Thread Cert.MergeSampleReferenceIdeal.nD Cert.MergeSampleReferenceIdeal.τ).loc Cert.MergeSampleReferenceIdeal.main_arg4) = m' ((c.tc : Thread Cert.MergeSampleReferenceIdeal.nD Cert.MergeSampleReferenceIdeal.τ).loc Cert.MergeSampleReferenceIdeal.main_arg4))

def preserves_KeyValue_KeyValueIdeal : Prop :=
  True

def algebraic_KeyValueIdeal_KeyValueReferenceIdeal [hKeyValueIdeal : Cert.KeyValueIdeal.Facts] [hKeyValueReferenceIdeal : Cert.KeyValueReferenceIdeal.Facts] : Prop :=
  ∀ (m : (ℓ : Loc Cert.KeyValueIdeal.nD Cert.KeyValueIdeal.τ Cert.KeyValueIdeal.sig) → Buf (Elt Ideal) ℓ) (g : Dev Cert.KeyValueIdeal.nD → PrngReg)
    (m' : (ℓ : Loc Cert.KeyValueReferenceIdeal.nD Cert.KeyValueReferenceIdeal.τ Cert.KeyValueReferenceIdeal.sig) → Buf (Elt Ideal) ℓ) (g' : Dev Cert.KeyValueReferenceIdeal.nD → PrngReg), Pre_KeyValueIdeal m →
    (∀ c : Dev Cert.KeyValueIdeal.nD,
      m' ((c.tc : Thread Cert.KeyValueReferenceIdeal.nD Cert.KeyValueReferenceIdeal.τ).loc Cert.KeyValueReferenceIdeal.main_arg0) = m ((c.tc : Thread Cert.KeyValueIdeal.nD Cert.KeyValueIdeal.τ).loc Cert.KeyValueIdeal.main_arg0)
      ∧ m' ((c.tc : Thread Cert.KeyValueReferenceIdeal.nD Cert.KeyValueReferenceIdeal.τ).loc Cert.KeyValueReferenceIdeal.main_arg1) = m ((c.tc : Thread Cert.KeyValueIdeal.nD Cert.KeyValueIdeal.τ).loc Cert.KeyValueIdeal.main_arg1)) →
    ∃ (v0 : (c : Dev Cert.KeyValueIdeal.nD) → Buf (Elt Ideal) ((c.tc : Thread Cert.KeyValueIdeal.nD Cert.KeyValueIdeal.τ).loc Cert.KeyValueIdeal.main_v0_0)) (v1 : (c : Dev Cert.KeyValueIdeal.nD) → Buf (Elt Ideal) ((c.tc : Thread Cert.KeyValueIdeal.nD Cert.KeyValueIdeal.τ).loc Cert.KeyValueIdeal.main_v0_1)) (v2 : (c : Dev Cert.KeyValueIdeal.nD) → Buf (Elt Ideal) ((c.tc : Thread Cert.KeyValueIdeal.nD Cert.KeyValueIdeal.τ).loc Cert.KeyValueIdeal.main_v0_2)),
      θ_run (Cert.KeyValueIdeal.defs (F := Ideal)) (onTc (τ := Cert.KeyValueIdeal.τ) (Cert.KeyValueIdeal.main (F := Ideal))) ⟨m, fun _ => 0, g⟩ (fun r => ∀ c : Dev Cert.KeyValueIdeal.nD,
          r.2.mem ((c.tc : Thread Cert.KeyValueIdeal.nD Cert.KeyValueIdeal.τ).loc Cert.KeyValueIdeal.main_v0_0) = v0 c
          ∧ r.2.mem ((c.tc : Thread Cert.KeyValueIdeal.nD Cert.KeyValueIdeal.τ).loc Cert.KeyValueIdeal.main_v0_1) = v1 c
          ∧ r.2.mem ((c.tc : Thread Cert.KeyValueIdeal.nD Cert.KeyValueIdeal.τ).loc Cert.KeyValueIdeal.main_v0_2) = v2 c
          ∧ r.2.mem ((c.tc : Thread Cert.KeyValueIdeal.nD Cert.KeyValueIdeal.τ).loc Cert.KeyValueIdeal.main_arg0) = m ((c.tc : Thread Cert.KeyValueIdeal.nD Cert.KeyValueIdeal.τ).loc Cert.KeyValueIdeal.main_arg0)
          ∧ r.2.mem ((c.tc : Thread Cert.KeyValueIdeal.nD Cert.KeyValueIdeal.τ).loc Cert.KeyValueIdeal.main_arg1) = m ((c.tc : Thread Cert.KeyValueIdeal.nD Cert.KeyValueIdeal.τ).loc Cert.KeyValueIdeal.main_arg1))
      ∧ θ_run (Cert.KeyValueReferenceIdeal.defs (F := Ideal)) (onTc (τ := Cert.KeyValueReferenceIdeal.τ) (Cert.KeyValueReferenceIdeal.main (F := Ideal))) ⟨m', fun _ => 0, g'⟩ (fun r => ∀ c : Dev Cert.KeyValueReferenceIdeal.nD,
          r.2.mem ((c.tc : Thread Cert.KeyValueReferenceIdeal.nD Cert.KeyValueReferenceIdeal.τ).loc Cert.KeyValueReferenceIdeal.main_v4) = v0 c
          ∧ r.2.mem ((c.tc : Thread Cert.KeyValueReferenceIdeal.nD Cert.KeyValueReferenceIdeal.τ).loc Cert.KeyValueReferenceIdeal.main_v5) = v1 c
          ∧ r.2.mem ((c.tc : Thread Cert.KeyValueReferenceIdeal.nD Cert.KeyValueReferenceIdeal.τ).loc Cert.KeyValueReferenceIdeal.main_v6) = v2 c
          ∧ r.2.mem ((c.tc : Thread Cert.KeyValueReferenceIdeal.nD Cert.KeyValueReferenceIdeal.τ).loc Cert.KeyValueReferenceIdeal.main_arg0) = m' ((c.tc : Thread Cert.KeyValueReferenceIdeal.nD Cert.KeyValueReferenceIdeal.τ).loc Cert.KeyValueReferenceIdeal.main_arg0)
          ∧ r.2.mem ((c.tc : Thread Cert.KeyValueReferenceIdeal.nD Cert.KeyValueReferenceIdeal.τ).loc Cert.KeyValueReferenceIdeal.main_arg1) = m' ((c.tc : Thread Cert.KeyValueReferenceIdeal.nD Cert.KeyValueReferenceIdeal.τ).loc Cert.KeyValueReferenceIdeal.main_arg1))

def preserves_Cumsum_CumsumIdeal : Prop :=
  True

def algebraic_CumsumIdeal_CumsumReferenceIdeal [hCumsumIdeal : Cert.CumsumIdeal.Facts] [hCumsumReferenceIdeal : Cert.CumsumReferenceIdeal.Facts] : Prop :=
  ∀ (m : (ℓ : Loc Cert.CumsumIdeal.nD Cert.CumsumIdeal.τ Cert.CumsumIdeal.sig) → Buf (Elt Ideal) ℓ) (g : Dev Cert.CumsumIdeal.nD → PrngReg)
    (m' : (ℓ : Loc Cert.CumsumReferenceIdeal.nD Cert.CumsumReferenceIdeal.τ Cert.CumsumReferenceIdeal.sig) → Buf (Elt Ideal) ℓ) (g' : Dev Cert.CumsumReferenceIdeal.nD → PrngReg), Pre_CumsumIdeal m →
    (∀ c : Dev Cert.CumsumIdeal.nD,
      m' ((c.tc : Thread Cert.CumsumReferenceIdeal.nD Cert.CumsumReferenceIdeal.τ).loc Cert.CumsumReferenceIdeal.main_arg0) = m ((c.tc : Thread Cert.CumsumIdeal.nD Cert.CumsumIdeal.τ).loc Cert.CumsumIdeal.main_arg0)) →
    ∃ (v0 : (c : Dev Cert.CumsumIdeal.nD) → Buf (Elt Ideal) ((c.tc : Thread Cert.CumsumIdeal.nD Cert.CumsumIdeal.τ).loc Cert.CumsumIdeal.main_v2)),
      θ_run (Cert.CumsumIdeal.defs (F := Ideal)) (onTc (τ := Cert.CumsumIdeal.τ) (Cert.CumsumIdeal.main (F := Ideal))) ⟨m, fun _ => 0, g⟩ (fun r => ∀ c : Dev Cert.CumsumIdeal.nD,
          r.2.mem ((c.tc : Thread Cert.CumsumIdeal.nD Cert.CumsumIdeal.τ).loc Cert.CumsumIdeal.main_v2) = v0 c
          ∧ r.2.mem ((c.tc : Thread Cert.CumsumIdeal.nD Cert.CumsumIdeal.τ).loc Cert.CumsumIdeal.main_arg0) = m ((c.tc : Thread Cert.CumsumIdeal.nD Cert.CumsumIdeal.τ).loc Cert.CumsumIdeal.main_arg0))
      ∧ θ_run (Cert.CumsumReferenceIdeal.defs (F := Ideal)) (onTc (τ := Cert.CumsumReferenceIdeal.τ) (Cert.CumsumReferenceIdeal.main (F := Ideal))) ⟨m', fun _ => 0, g'⟩ (fun r => ∀ c : Dev Cert.CumsumReferenceIdeal.nD,
          r.2.mem ((c.tc : Thread Cert.CumsumReferenceIdeal.nD Cert.CumsumReferenceIdeal.τ).loc Cert.CumsumReferenceIdeal.main_v2) = v0 c
          ∧ r.2.mem ((c.tc : Thread Cert.CumsumReferenceIdeal.nD Cert.CumsumReferenceIdeal.τ).loc Cert.CumsumReferenceIdeal.main_arg0) = m' ((c.tc : Thread Cert.CumsumReferenceIdeal.nD Cert.CumsumReferenceIdeal.τ).loc Cert.CumsumReferenceIdeal.main_arg0))

def preserves_Compress_CompressIdeal : Prop :=
  True

def algebraic_CompressIdeal_CompressReferenceIdeal [hCompressIdeal : Cert.CompressIdeal.Facts] [hCompressReferenceIdeal : Cert.CompressReferenceIdeal.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressReferenceIdeal.nD Cert.CompressReferenceIdeal.τ Cert.CompressReferenceIdeal.sig) → Buf (Elt Ideal) ℓ) (g' : Dev Cert.CompressReferenceIdeal.nD → PrngReg), Pre_CompressIdeal m →
    (∀ c : Dev Cert.CompressIdeal.nD,
      m' ((c.tc : Thread Cert.CompressReferenceIdeal.nD Cert.CompressReferenceIdeal.τ).loc Cert.CompressReferenceIdeal.main_arg0) = m ((c.tc : Thread Cert.CompressIdeal.nD Cert.CompressIdeal.τ).loc Cert.CompressIdeal.main_arg0)
      ∧ m' ((c.tc : Thread Cert.CompressReferenceIdeal.nD Cert.CompressReferenceIdeal.τ).loc Cert.CompressReferenceIdeal.main_arg1) = m ((c.tc : Thread Cert.CompressIdeal.nD Cert.CompressIdeal.τ).loc Cert.CompressIdeal.main_arg1)
      ∧ m' ((c.tc : Thread Cert.CompressReferenceIdeal.nD Cert.CompressReferenceIdeal.τ).loc Cert.CompressReferenceIdeal.main_arg2) = m ((c.tc : Thread Cert.CompressIdeal.nD Cert.CompressIdeal.τ).loc Cert.CompressIdeal.main_arg2)) →
    ∃ (v0 : (c : Dev Cert.CompressIdeal.nD) → Buf (Elt Ideal) ((c.tc : Thread Cert.CompressIdeal.nD Cert.CompressIdeal.τ).loc Cert.CompressIdeal.main_v4)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v4) = v0 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2))
      ∧ θ_run (Cert.CompressReferenceIdeal.defs (F := Ideal)) (onTc (τ := Cert.CompressReferenceIdeal.τ) (Cert.CompressReferenceIdeal.main (F := Ideal))) ⟨m', fun _ => 0, g'⟩ (fun r => ∀ c : Dev Cert.CompressReferenceIdeal.nD,
          r.2.mem ((c.tc : Thread Cert.CompressReferenceIdeal.nD Cert.CompressReferenceIdeal.τ).loc Cert.CompressReferenceIdeal.main_v33) = v0 c
          ∧ r.2.mem ((c.tc : Thread Cert.CompressReferenceIdeal.nD Cert.CompressReferenceIdeal.τ).loc Cert.CompressReferenceIdeal.main_arg0) = m' ((c.tc : Thread Cert.CompressReferenceIdeal.nD Cert.CompressReferenceIdeal.τ).loc Cert.CompressReferenceIdeal.main_arg0)
          ∧ r.2.mem ((c.tc : Thread Cert.CompressReferenceIdeal.nD Cert.CompressReferenceIdeal.τ).loc Cert.CompressReferenceIdeal.main_arg1) = m' ((c.tc : Thread Cert.CompressReferenceIdeal.nD Cert.CompressReferenceIdeal.τ).loc Cert.CompressReferenceIdeal.main_arg1)
          ∧ r.2.mem ((c.tc : Thread Cert.CompressReferenceIdeal.nD Cert.CompressReferenceIdeal.τ).loc Cert.CompressReferenceIdeal.main_arg2) = m' ((c.tc : Thread Cert.CompressReferenceIdeal.nD Cert.CompressReferenceIdeal.τ).loc Cert.CompressReferenceIdeal.main_arg2))

def preserves_Fox_FoxIdeal : Prop :=
  True

def algebraic_FoxIdeal_FoxReferenceIdeal_pre_finite_forget [hFoxIdeal : Cert.FoxIdeal.Facts] [hFoxReferenceIdeal : Cert.FoxReferenceIdeal.Facts] [hPre_finite_forget : Cert.Pre_finite_forget.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxReferenceIdeal.nD Cert.FoxReferenceIdeal.τ Cert.FoxReferenceIdeal.sig) → Buf (Elt Ideal) ℓ) (g' : Dev Cert.FoxReferenceIdeal.nD → PrngReg), Pre_FoxIdeal_finite_forget m →
    (∀ c : Dev Cert.FoxIdeal.nD,
      m' ((c.tc : Thread Cert.FoxReferenceIdeal.nD Cert.FoxReferenceIdeal.τ).loc Cert.FoxReferenceIdeal.main_arg0) = m ((c.tc : Thread Cert.FoxIdeal.nD Cert.FoxIdeal.τ).loc Cert.FoxIdeal.main_arg0)
      ∧ m' ((c.tc : Thread Cert.FoxReferenceIdeal.nD Cert.FoxReferenceIdeal.τ).loc Cert.FoxReferenceIdeal.main_arg1) = m ((c.tc : Thread Cert.FoxIdeal.nD Cert.FoxIdeal.τ).loc Cert.FoxIdeal.main_arg1)
      ∧ m' ((c.tc : Thread Cert.FoxReferenceIdeal.nD Cert.FoxReferenceIdeal.τ).loc Cert.FoxReferenceIdeal.main_arg2) = m ((c.tc : Thread Cert.FoxIdeal.nD Cert.FoxIdeal.τ).loc Cert.FoxIdeal.main_arg2)
      ∧ m' ((c.tc : Thread Cert.FoxReferenceIdeal.nD Cert.FoxReferenceIdeal.τ).loc Cert.FoxReferenceIdeal.main_arg3) = m ((c.tc : Thread Cert.FoxIdeal.nD Cert.FoxIdeal.τ).loc Cert.FoxIdeal.main_arg3)) →
    ∃ (v0 : (c : Dev Cert.FoxIdeal.nD) → Buf (Elt Ideal) ((c.tc : Thread Cert.FoxIdeal.nD Cert.FoxIdeal.τ).loc Cert.FoxIdeal.main_v0)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v0) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ θ_run (Cert.FoxReferenceIdeal.defs (F := Ideal)) (onTc (τ := Cert.FoxReferenceIdeal.τ) (Cert.FoxReferenceIdeal.main (F := Ideal))) ⟨m', fun _ => 0, g'⟩ (fun r => ∀ c : Dev Cert.FoxReferenceIdeal.nD,
          r.2.mem ((c.tc : Thread Cert.FoxReferenceIdeal.nD Cert.FoxReferenceIdeal.τ).loc Cert.FoxReferenceIdeal.main_v45) = v0 c
          ∧ r.2.mem ((c.tc : Thread Cert.FoxReferenceIdeal.nD Cert.FoxReferenceIdeal.τ).loc Cert.FoxReferenceIdeal.main_arg0) = m' ((c.tc : Thread Cert.FoxReferenceIdeal.nD Cert.FoxReferenceIdeal.τ).loc Cert.FoxReferenceIdeal.main_arg0)
          ∧ r.2.mem ((c.tc : Thread Cert.FoxReferenceIdeal.nD Cert.FoxReferenceIdeal.τ).loc Cert.FoxReferenceIdeal.main_arg1) = m' ((c.tc : Thread Cert.FoxReferenceIdeal.nD Cert.FoxReferenceIdeal.τ).loc Cert.FoxReferenceIdeal.main_arg1)
          ∧ r.2.mem ((c.tc : Thread Cert.FoxReferenceIdeal.nD Cert.FoxReferenceIdeal.τ).loc Cert.FoxReferenceIdeal.main_arg2) = m' ((c.tc : Thread Cert.FoxReferenceIdeal.nD Cert.FoxReferenceIdeal.τ).loc Cert.FoxReferenceIdeal.main_arg2)
          ∧ r.2.mem ((c.tc : Thread Cert.FoxReferenceIdeal.nD Cert.FoxReferenceIdeal.τ).loc Cert.FoxReferenceIdeal.main_arg3) = m' ((c.tc : Thread Cert.FoxReferenceIdeal.nD Cert.FoxReferenceIdeal.τ).loc Cert.FoxReferenceIdeal.main_arg3))

def Claim : Prop :=
  ∃ (hRegroup : Cert.Regroup.Facts) (hRegroupIdeal : Cert.RegroupIdeal.Facts) (hRegroupReferenceIdeal : Cert.RegroupReferenceIdeal.Facts) (hRegroupReference : Cert.RegroupReference.Facts) (hSample : Cert.Sample.Facts) (hSampleIdeal : Cert.SampleIdeal.Facts) (hSampleReferenceIdeal : Cert.SampleReferenceIdeal.Facts) (hPrompt : Cert.Prompt.Facts) (hPromptIdeal : Cert.PromptIdeal.Facts) (hPromptReferenceIdeal : Cert.PromptReferenceIdeal.Facts) (hMergePrompt : Cert.MergePrompt.Facts) (hMergePromptIdeal : Cert.MergePromptIdeal.Facts) (hMergePromptReferenceIdeal : Cert.MergePromptReferenceIdeal.Facts) (hMergeSample : Cert.MergeSample.Facts) (hMergeSampleIdeal : Cert.MergeSampleIdeal.Facts) (hMergeSampleReferenceIdeal : Cert.MergeSampleReferenceIdeal.Facts) (hKeyValue : Cert.KeyValue.Facts) (hKeyValueIdeal : Cert.KeyValueIdeal.Facts) (hKeyValueReferenceIdeal : Cert.KeyValueReferenceIdeal.Facts) (hCumsum : Cert.Cumsum.Facts) (hCumsumIdeal : Cert.CumsumIdeal.Facts) (hCumsumReferenceIdeal : Cert.CumsumReferenceIdeal.Facts) (hCompress : Cert.Compress.Facts) (hCompressIdeal : Cert.CompressIdeal.Facts) (hCompressReferenceIdeal : Cert.CompressReferenceIdeal.Facts) (hFox : Cert.Fox.Facts) (hFoxIdeal : Cert.FoxIdeal.Facts) (hFoxReferenceIdeal : Cert.FoxReferenceIdeal.Facts) (hPre_finite_forget : Cert.Pre_finite_forget.Facts),
    quiescent_Regroup (hRegroup := hRegroup)
    ∧ quiescent_RegroupIdeal (hRegroupIdeal := hRegroupIdeal)
    ∧ quiescent_RegroupReferenceIdeal (hRegroupReferenceIdeal := hRegroupReferenceIdeal)
    ∧ quiescent_RegroupReference (hRegroupReference := hRegroupReference)
    ∧ quiescent_Sample (hSample := hSample)
    ∧ quiescent_SampleIdeal (hSampleIdeal := hSampleIdeal)
    ∧ quiescent_SampleReferenceIdeal (hSampleReferenceIdeal := hSampleReferenceIdeal)
    ∧ quiescent_Prompt (hPrompt := hPrompt)
    ∧ quiescent_PromptIdeal (hPromptIdeal := hPromptIdeal)
    ∧ quiescent_PromptReferenceIdeal (hPromptReferenceIdeal := hPromptReferenceIdeal)
    ∧ quiescent_MergePrompt (hMergePrompt := hMergePrompt)
    ∧ quiescent_MergePromptIdeal (hMergePromptIdeal := hMergePromptIdeal)
    ∧ quiescent_MergePromptReferenceIdeal (hMergePromptReferenceIdeal := hMergePromptReferenceIdeal)
    ∧ quiescent_MergeSample (hMergeSample := hMergeSample)
    ∧ quiescent_MergeSampleIdeal (hMergeSampleIdeal := hMergeSampleIdeal)
    ∧ quiescent_MergeSampleReferenceIdeal (hMergeSampleReferenceIdeal := hMergeSampleReferenceIdeal)
    ∧ quiescent_KeyValue (hKeyValue := hKeyValue)
    ∧ quiescent_KeyValueIdeal (hKeyValueIdeal := hKeyValueIdeal)
    ∧ quiescent_KeyValueReferenceIdeal (hKeyValueReferenceIdeal := hKeyValueReferenceIdeal)
    ∧ quiescent_Cumsum (hCumsum := hCumsum)
    ∧ quiescent_CumsumIdeal (hCumsumIdeal := hCumsumIdeal)
    ∧ quiescent_CumsumReferenceIdeal (hCumsumReferenceIdeal := hCumsumReferenceIdeal)
    ∧ quiescent_Compress (hCompress := hCompress)
    ∧ quiescent_CompressIdeal (hCompressIdeal := hCompressIdeal)
    ∧ quiescent_CompressReferenceIdeal (hCompressReferenceIdeal := hCompressReferenceIdeal)
    ∧ quiescent_Fox (hFox := hFox)
    ∧ quiescent_FoxIdeal (hFoxIdeal := hFoxIdeal)
    ∧ quiescent_FoxIdeal_pre_finite_forget (hFoxIdeal := hFoxIdeal) (hPre_finite_forget := hPre_finite_forget)
    ∧ quiescent_FoxReferenceIdeal (hFoxReferenceIdeal := hFoxReferenceIdeal)
    ∧ quiescent_FoxReferenceIdeal_pre_finite_forget (hFoxReferenceIdeal := hFoxReferenceIdeal) (hPre_finite_forget := hPre_finite_forget)
    ∧ preserves_Regroup_RegroupIdeal
    ∧ algebraic_RegroupIdeal_RegroupReferenceIdeal (hRegroupIdeal := hRegroupIdeal) (hRegroupReferenceIdeal := hRegroupReferenceIdeal)
    ∧ bitexact_Regroup_RegroupReference (hRegroup := hRegroup) (hRegroupReference := hRegroupReference)
    ∧ preserves_Sample_SampleIdeal
    ∧ algebraic_SampleIdeal_SampleReferenceIdeal (hSampleIdeal := hSampleIdeal) (hSampleReferenceIdeal := hSampleReferenceIdeal)
    ∧ preserves_Prompt_PromptIdeal
    ∧ algebraic_PromptIdeal_PromptReferenceIdeal (hPromptIdeal := hPromptIdeal) (hPromptReferenceIdeal := hPromptReferenceIdeal)
    ∧ preserves_MergePrompt_MergePromptIdeal
    ∧ algebraic_MergePromptIdeal_MergePromptReferenceIdeal (hMergePromptIdeal := hMergePromptIdeal) (hMergePromptReferenceIdeal := hMergePromptReferenceIdeal)
    ∧ preserves_MergeSample_MergeSampleIdeal
    ∧ algebraic_MergeSampleIdeal_MergeSampleReferenceIdeal (hMergeSampleIdeal := hMergeSampleIdeal) (hMergeSampleReferenceIdeal := hMergeSampleReferenceIdeal)
    ∧ preserves_KeyValue_KeyValueIdeal
    ∧ algebraic_KeyValueIdeal_KeyValueReferenceIdeal (hKeyValueIdeal := hKeyValueIdeal) (hKeyValueReferenceIdeal := hKeyValueReferenceIdeal)
    ∧ preserves_Cumsum_CumsumIdeal
    ∧ algebraic_CumsumIdeal_CumsumReferenceIdeal (hCumsumIdeal := hCumsumIdeal) (hCumsumReferenceIdeal := hCumsumReferenceIdeal)
    ∧ preserves_Compress_CompressIdeal
    ∧ algebraic_CompressIdeal_CompressReferenceIdeal (hCompressIdeal := hCompressIdeal) (hCompressReferenceIdeal := hCompressReferenceIdeal)
    ∧ preserves_Fox_FoxIdeal
    ∧ algebraic_FoxIdeal_FoxReferenceIdeal_pre_finite_forget (hFoxIdeal := hFoxIdeal) (hFoxReferenceIdeal := hFoxReferenceIdeal) (hPre_finite_forget := hPre_finite_forget)
-- ==== Pre_finite_forget.lean ====
abbrev S8192x1024 : Shape := ⟨2, ![8192, 1024]⟩
abbrev S8192x2048 : Shape := ⟨2, ![8192, 2048]⟩
abbrev S16x1x4096 : Shape := ⟨3, ![16, 1, 4096]⟩
abbrev S_ : Shape := ⟨0, ![]⟩

class Facts : Prop where
  bcast_S_S16x1x4096 : S_.BroadcastsInDim S16x1x4096 (![] : Fin 0 → Fin S16x1x4096.rank)

variable [Facts]

def fn {F : FTy → Type} [FloatOps F] (main_arg0 : FVec F S8192x1024 .bf16) (main_arg1 : FVec F S8192x2048 .bf16) (main_arg2 : FVec F S16x1x4096 .f32) (main_arg3 : FVec F S8192x1024 .f32) : IVec S16x1x4096 1 :=
  let main_v0 : FVec F S16x1x4096 .f32 := Host.absf main_arg2
  let main_cst : FVec F S_ .f32 := constant S_ .f32 0x7F800000#32
  let main_v1 : FVec F S16x1x4096 .f32 := broadcastInDim S16x1x4096 ![] bcast_S_S16x1x4096 main_cst
  let main_v2 : IVec S16x1x4096 1 := cmpf .olt main_v0 main_v1
  main_v2
-- ==== Regroup.lean ====
abbrev S1x2048x7712 : Shape := ⟨3, ![1, 2048, 7712]⟩
abbrev S2048x7712 : Shape := ⟨2, ![2048, 7712]⟩
abbrev S7712x2048 : Shape := ⟨2, ![7712, 2048]⟩
abbrev S2048x7680 : Shape := ⟨2, ![2048, 7680]⟩
abbrev S512x2048 : Shape := ⟨2, ![512, 2048]⟩
abbrev S2048x512 : Shape := ⟨2, ![2048, 512]⟩

abbrev nBuf : Space → Nat
  | .hbm => 4
  | .vmem => 4
  | .smem => 0
  | _ => 0

abbrev bufTy : (tb : Table) → Fin (tcTables nBuf tb) → BufTy
  | .hbm, ⟨0, _⟩ => ⟨S1x2048x7712, .f32⟩
  | .hbm, ⟨1, _⟩ => ⟨S2048x7712, .f32⟩
  | .hbm, ⟨2, _⟩ => ⟨S7712x2048, .f32⟩
  | .hbm, ⟨3, _⟩ => ⟨S2048x7680, .bf16⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | _, _ => ⟨S1x2048x7712, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c64_i32 : BitVec 32 := 64#32
  let v0 : BitVec 32 := Scalar.muli arg0 c64_i32
  let c0_i32 : BitVec 32 := 0#32
  let v1 : BitVec 32 := Scalar.addi v0 c0_i32
  let c15_i32 : BitVec 32 := 15#32
  let v2 : BitVec 32 := Scalar.addi arg0 c15_i32
  let c5_i32 : BitVec 32 := 5#32
  let v3 : BitVec 32 := Scalar.subi v2 c5_i32
  let c15_i32_0 : BitVec 32 := 15#32
  let v4 : BitVec 32 := Scalar.divsi v3 c15_i32_0
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c15_i32_0 c0_i32_3
  let v11 : BitVec 32 := Scalar.extui v10
  let c0_i32_4 : BitVec 32 := 0#32
  let v12 : BitVec 1 := Scalar.cmpi .slt c15_i32_0 c0_i32_4
  let v13 : BitVec 32 := Scalar.extui v12
  let v14 : BitVec 32 := Scalar.subi v11 v13
  let v15 : BitVec 1 := Scalar.cmpi .ne v9 v14
  let v16 : BitVec 32 := Scalar.remsi v3 c15_i32_0
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c3_i32 : BitVec 32 := 3#32
  let v21 : BitVec 32 := Scalar.muli v20 c3_i32
  let v22 : BitVec 32 := Scalar.addi v1 v21
  let c15_i32_6 : BitVec 32 := 15#32
  let v23 : BitVec 32 := Scalar.addi arg0 c15_i32_6
  let c13_i32 : BitVec 32 := 13#32
  let v24 : BitVec 32 := Scalar.subi v23 c13_i32
  let c15_i32_7 : BitVec 32 := 15#32
  let v25 : BitVec 32 := Scalar.divsi v24 c15_i32_7
  let c0_i32_8 : BitVec 32 := 0#32
  let v26 : BitVec 1 := Scalar.cmpi .sgt v24 c0_i32_8
  let v27 : BitVec 32 := Scalar.extui v26
  let c0_i32_9 : BitVec 32 := 0#32
  let v28 : BitVec 1 := Scalar.cmpi .slt v24 c0_i32_9
  let v29 : BitVec 32 := Scalar.extui v28
  let v30 : BitVec 32 := Scalar.subi v27 v29
  let c0_i32_10 : BitVec 32 := 0#32
  let v31 : BitVec 1 := Scalar.cmpi .sgt c15_i32_7 c0_i32_10
  let v32 : BitVec 32 := Scalar.extui v31
  let c0_i32_11 : BitVec 32 := 0#32
  let v33 : BitVec 1 := Scalar.cmpi .slt c15_i32_7 c0_i32_11
  let v34 : BitVec 32 := Scalar.extui v33
  let v35 : BitVec 32 := Scalar.subi v32 v34
  let v36 : BitVec 1 := Scalar.cmpi .ne v30 v35
  let v37 : BitVec 32 := Scalar.remsi v24 c15_i32_7
  let c0_i32_12 : BitVec 32 := 0#32
  let v38 : BitVec 1 := Scalar.cmpi .ne v37 c0_i32_12
  let v39 : BitVec 1 := Scalar.andi v36 v38
  let c1_i32_13 : BitVec 32 := 1#32
  let v40 : BitVec 32 := Scalar.subi v25 c1_i32_13
  let v41 : BitVec 32 := Scalar.select v39 v40 v25
  let c1_i32_14 : BitVec 32 := 1#32
  let v42 : BitVec 32 := Scalar.muli v41 c1_i32_14
  let v43 : BitVec 32 := Scalar.addi v22 v42
  let c8_i32 : BitVec 32 := 8#32
  let v44 : BitVec 32 := Scalar.muli v43 c8_i32
  let c0_i32_15 : BitVec 32 := 0#32
  let c0_i32_16 : BitVec 32 := 0#32
  ![v44.toNat, c0_i32_15.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RegroupReference.lean ====
abbrev S1x2048x7712 : Shape := ⟨3, ![1, 2048, 7712]⟩
abbrev S2048x7712 : Shape := ⟨2, ![2048, 7712]⟩
abbrev S2048x1024 : Shape := ⟨2, ![2048, 1024]⟩
abbrev S2048x1536 : Shape := ⟨2, ![2048, 1536]⟩
abbrev S2048x24 : Shape := ⟨2, ![2048, 24]⟩
abbrev S2048x8 : Shape := ⟨2, ![2048, 8]⟩
abbrev S2048x7680 : Shape := ⟨2, ![2048, 7680]⟩

abbrev nBuf : Space → Nat
  | .hbm => 13
  | .vmem => 0
  | .smem => 0
  | _ => 0

abbrev bufTy : (tb : Table) → Fin (tcTables nBuf tb) → BufTy
  | .hbm, ⟨0, _⟩ => ⟨S1x2048x7712, .f32⟩
  | .hbm, ⟨1, _⟩ => ⟨S2048x7712, .f32⟩
  | .hbm, ⟨2, _⟩ => ⟨S2048x1024, .f32⟩
  | .hbm, ⟨3, _⟩ => ⟨S2048x1536, .f32⟩
  | .hbm, ⟨4, _⟩ => ⟨S2048x24, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x8, .f32⟩
  | .hbm, ⟨10, _⟩ => ⟨S2048x1024, .f32⟩
  | .hbm, ⟨11, _⟩ => ⟨S2048x7680, .f32⟩
  | .hbm, ⟨12, _⟩ => ⟨S2048x7680, .bf16⟩
  | _, _ => ⟨S1x2048x7712, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩

abbrev nD : Nat := 1
abbrev τ : Topo := Topo.v7x

variable {F : FTy → Type} [FloatOps F]
-- ==== Sample.lean ====
abbrev S32x4x2048 : Shape := ⟨3, ![32, 4, 2048]⟩
abbrev S1x32x512x2x2x128 : Shape := ⟨6, ![1, 32, 512, 2, 2, 128]⟩
abbrev S1x2048 : Shape := ⟨2, ![1, 2048]⟩
abbrev S1x2048x7712 : Shape := ⟨3, ![1, 2048, 7712]⟩
abbrev S1x24 : Shape := ⟨2, ![1, 24]⟩
abbrev S1x8 : Shape := ⟨2, ![1, 8]⟩
abbrev S2048x7712 : Shape := ⟨2, ![2048, 7712]⟩
abbrev S24 : Shape := ⟨1, ![24]⟩
abbrev S8 : Shape := ⟨1, ![8]⟩
abbrev S7712x2048 : Shape := ⟨2, ![7712, 2048]⟩
abbrev S2048x7680 : Shape := ⟨2, ![2048, 7680]⟩
abbrev S512x2048 : Shape := ⟨2, ![512, 2048]⟩
abbrev S2048x512 : Shape := ⟨2, ![2048, 512]⟩
abbrev S24x2048 : Shape := ⟨2, ![24, 2048]⟩
abbrev S8x2048 : Shape := ⟨2, ![8, 2048]⟩
abbrev S32x2048 : Shape := ⟨2, ![32, 2048]⟩
abbrev S2048x32 : Shape := ⟨2, ![2048, 32]⟩
abbrev S_ : Shape := ⟨0, ![]⟩
abbrev S2048x128 : Shape := ⟨2, ![2048, 128]⟩
abbrev S32 : Shape := ⟨1, ![32]⟩
abbrev S128 : Shape := ⟨1, ![128]⟩
abbrev S1x128 : Shape := ⟨2, ![1, 128]⟩
abbrev S128x2048 : Shape := ⟨2, ![128, 2048]⟩
abbrev S2048 : Shape := ⟨1, ![2048]⟩
abbrev S128x1 : Shape := ⟨2, ![128, 1]⟩
abbrev S128x7680 : Shape := ⟨2, ![128, 7680]⟩
abbrev S128x512 : Shape := ⟨2, ![128, 512]⟩
abbrev S128x1024 : Shape := ⟨2, ![128, 1024]⟩
abbrev S128x128 : Shape := ⟨2, ![128, 128]⟩
abbrev S128x8 : Shape := ⟨2, ![128, 8]⟩
abbrev S32x4x8 : Shape := ⟨3, ![32, 4, 8]⟩
abbrev S128x24 : Shape := ⟨2, ![128, 24]⟩
abbrev S32x4x8x3 : Shape := ⟨4, ![32, 4, 8, 3]⟩
abbrev S32x4x2x8x128 : Shape := ⟨5, ![32, 4, 2, 8, 128]⟩
abbrev S32x4x4x2x128 : Shape := ⟨5, ![32, 4, 4, 2, 128]⟩
abbrev S32x4x2x2x128 : Shape := ⟨5, ![32, 4, 2, 2, 128]⟩
abbrev S32x512x2x2x128 : Shape := ⟨5, ![32, 512, 2, 2, 128]⟩
abbrev S32x516x2x2x128 : Shape := ⟨5, ![32, 516, 2, 2, 128]⟩
abbrev S1x32x4x4x2x128 : Shape := ⟨6, ![1, 32, 4, 4, 2, 128]⟩
abbrev S1x32x4x2x8x128 : Shape := ⟨6, ![1, 32, 4, 2, 8, 128]⟩
abbrev S1x32x4x8 : Shape := ⟨4, ![1, 32, 4, 8]⟩

abbrev nBuf : Space → Nat
  | .hbm => 50
  | .vmem => 16
  | .smem => 0
  | _ => 0

abbrev bufTy : (tb : Table) → Fin (tcTables nBuf tb) → BufTy
  | .hbm, ⟨0, _⟩ => ⟨S32x4x2048, .f32⟩
  | .hbm, ⟨1, _⟩ => ⟨S1x32x512x2x2x128, .f32⟩
  | .hbm, ⟨2, _⟩ => ⟨S1x2048, .f32⟩
  | .hbm, ⟨3, _⟩ => ⟨S1x2048x7712, .f32⟩
  | .hbm, ⟨4, _⟩ => ⟨S1x24, .f32⟩
  | .hbm, ⟨5, _⟩ => ⟨S1x8, .f32⟩
  | .hbm, ⟨6, _⟩ => ⟨S2048x7712, .f32⟩
  | .hbm, ⟨7, _⟩ => ⟨S24, .f32⟩
  | .hbm, ⟨8, _⟩ => ⟨S8, .f32⟩
  | .hbm, ⟨9, _⟩ => ⟨S7712x2048, .f32⟩
  | .hbm, ⟨10, _⟩ => ⟨S2048x7680, .bf16⟩
  | .hbm, ⟨11, _⟩ => ⟨S24x2048, .f32⟩
  | .hbm, ⟨12, _⟩ => ⟨S8x2048, .f32⟩
  | .hbm, ⟨13, _⟩ => ⟨S32x2048, .f32⟩
  | .hbm, ⟨14, _⟩ => ⟨S2048x32, .f32⟩
  | .hbm, ⟨15, _⟩ => ⟨S_, .i32⟩
  | .hbm, ⟨16, _⟩ => ⟨S_, .f32⟩
  | .hbm, ⟨17, _⟩ => ⟨S2048x128, .f32⟩
  | .hbm, ⟨18, _⟩ => ⟨S32, .f32⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S128x2048, .f32⟩
  | .hbm, ⟨24, _⟩ => ⟨S2048, .f32⟩
  | .hbm, ⟨25, _⟩ => ⟨S1x2048, .f32⟩
  | .hbm, ⟨26, _⟩ => ⟨S128x2048, .bf16⟩
  | .hbm, ⟨27, _⟩ => ⟨S128x7680, .f32⟩
  | .hbm, ⟨28, _⟩ => ⟨S128x1024, .f32⟩
  | .hbm, ⟨29, _⟩ => ⟨S128x1024, .f32⟩
  | .hbm, ⟨30, _⟩ => ⟨S128x512, .f32⟩
  | .hbm, ⟨31, _⟩ => ⟨S128x1024, .f32⟩
  | .hbm, ⟨32, _⟩ => ⟨S128x1024, .f32⟩
  | .hbm, ⟨33, _⟩ => ⟨S128x2048, .f32⟩
  | .hbm, ⟨34, _⟩ => ⟨S128x1024, .f32⟩
  | .hbm, ⟨35, _⟩ => ⟨S128x128, .f32⟩
  | .hbm, ⟨36, _⟩ => ⟨S128x8, .f32⟩
  | .hbm, ⟨37, _⟩ => ⟨S32x4x8, .f32⟩
  | .hbm, ⟨38, _⟩ => ⟨S128x24, .f32⟩
  | .hbm, ⟨39, _⟩ => ⟨S32x4x8x3, .f32⟩
  | .hbm, ⟨40, _⟩ => ⟨S32x4x2x8x128, .f32⟩
  | .hbm, ⟨41, _⟩ => ⟨S32x4x4x2x128, .f32⟩
  | .hbm, ⟨42, _⟩ => ⟨S32x4x2x2x128, .f32⟩
  | .hbm, ⟨43, _⟩ => ⟨S32x512x2x2x128, .f32⟩
  | .hbm, ⟨44, _⟩ => ⟨S32x516x2x2x128, .f32⟩
  | .hbm, ⟨45, _⟩ => ⟨S32x512x2x2x128, .f32⟩
  | .hbm, ⟨46, _⟩ => ⟨S1x32x4x4x2x128, .f32⟩
  | .hbm, ⟨47, _⟩ => ⟨S1x32x4x2x8x128, .f32⟩
  | .hbm, ⟨48, _⟩ => ⟨S1x32x4x8, .f32⟩
  | .hbm, ⟨49, _⟩ => ⟨S1x32x512x2x2x128, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S128x2048, .f32⟩
  | .local _ .vmem, ⟨5, _⟩ => ⟨S1x2048, .f32⟩
  | .local _ .vmem, ⟨6, _⟩ => ⟨S128x2048, .bf16⟩
  | .local _ .vmem, ⟨7, _⟩ => ⟨S128x2048, .bf16⟩
  | .local _ .vmem, ⟨8, _⟩ => ⟨S2048x512, .bf16⟩
  | .local _ .vmem, ⟨9, _⟩ => ⟨S2048x512, .bf16⟩
  | .local _ .vmem, ⟨10, _⟩ => ⟨S128x512, .f32⟩
  | .local _ .vmem, ⟨11, _⟩ => ⟨S128x512, .f32⟩
  | .local _ .vmem, ⟨12, _⟩ => ⟨S128x2048, .bf16⟩
  | .local _ .vmem, ⟨13, _⟩ => ⟨S2048x128, .f32⟩
  | .local _ .vmem, ⟨14, _⟩ => ⟨S1x128, .f32⟩
  | .local _ .vmem, ⟨15, _⟩ => ⟨S128x128, .f32⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_call1_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc2_stg0_0 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg2_1 : Ref sig .tc := ⟨.vmem, 11, rfl⟩
abbrev cc3_stg0_0 : Ref sig .tc := ⟨.vmem, 12, rfl⟩
abbrev cc3_stg1_0 : Ref sig .tc := ⟨.vmem, 13, rfl⟩
abbrev cc3_stg2_0 : Ref sig .tc := ⟨.vmem, 14, rfl⟩
abbrev cc3_stg3_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc2_sem0_0 : DmaSem sig := 7
abbrev cc2_sem1_0 : DmaSem sig := 8
abbrev cc2_sem1_1 : DmaSem sig := 9
abbrev cc2_sem2_0 : DmaSem sig := 10
abbrev cc2_sem2_1 : DmaSem sig := 11
abbrev cc3_sem0_0 : DmaSem sig := 12
abbrev cc3_sem1_0 : DmaSem sig := 13
abbrev cc3_sem2_0 : DmaSem sig := 14
abbrev cc3_sem3_0 : DmaSem sig := 15

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c64_i32 : BitVec 32 := 64#32
  let v0 : BitVec 32 := Scalar.muli arg0 c64_i32
  let c0_i32 : BitVec 32 := 0#32
  let v1 : BitVec 32 := Scalar.addi v0 c0_i32
  let c15_i32 : BitVec 32 := 15#32
  let v2 : BitVec 32 := Scalar.addi arg0 c15_i32
  let c5_i32 : BitVec 32 := 5#32
  let v3 : BitVec 32 := Scalar.subi v2 c5_i32
  let c15_i32_0 : BitVec 32 := 15#32
  let v4 : BitVec 32 := Scalar.divsi v3 c15_i32_0
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c15_i32_0 c0_i32_3
  let v11 : BitVec 32 := Scalar.extui v10
  let c0_i32_4 : BitVec 32 := 0#32
  let v12 : BitVec 1 := Scalar.cmpi .slt c15_i32_0 c0_i32_4
  let v13 : BitVec 32 := Scalar.extui v12
  let v14 : BitVec 32 := Scalar.subi v11 v13
  let v15 : BitVec 1 := Scalar.cmpi .ne v9 v14
  let v16 : BitVec 32 := Scalar.remsi v3 c15_i32_0
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c3_i32 : BitVec 32 := 3#32
  let v21 : BitVec 32 := Scalar.muli v20 c3_i32
  let v22 : BitVec 32 := Scalar.addi v1 v21
  let c15_i32_6 : BitVec 32 := 15#32
  let v23 : BitVec 32 := Scalar.addi arg0 c15_i32_6
  let c13_i32 : BitVec 32 := 13#32
  let v24 : BitVec 32 := Scalar.subi v23 c13_i32
  let c15_i32_7 : BitVec 32 := 15#32
  let v25 : BitVec 32 := Scalar.divsi v24 c15_i32_7
  let c0_i32_8 : BitVec 32 := 0#32
  let v26 : BitVec 1 := Scalar.cmpi .sgt v24 c0_i32_8
  let v27 : BitVec 32 := Scalar.extui v26
  let c0_i32_9 : BitVec 32 := 0#32
  let v28 : BitVec 1 := Scalar.cmpi .slt v24 c0_i32_9
  let v29 : BitVec 32 := Scalar.extui v28
  let v30 : BitVec 32 := Scalar.subi v27 v29
  let c0_i32_10 : BitVec 32 := 0#32
  let v31 : BitVec 1 := Scalar.cmpi .sgt c15_i32_7 c0_i32_10
  let v32 : BitVec 32 := Scalar.extui v31
  let c0_i32_11 : BitVec 32 := 0#32
  let v33 : BitVec 1 := Scalar.cmpi .slt c15_i32_7 c0_i32_11
  let v34 : BitVec 32 := Scalar.extui v33
  let v35 : BitVec 32 := Scalar.subi v32 v34
  let v36 : BitVec 1 := Scalar.cmpi .ne v30 v35
  let v37 : BitVec 32 := Scalar.remsi v24 c15_i32_7
  let c0_i32_12 : BitVec 32 := 0#32
  let v38 : BitVec 1 := Scalar.cmpi .ne v37 c0_i32_12
  let v39 : BitVec 1 := Scalar.andi v36 v38
  let c1_i32_13 : BitVec 32 := 1#32
  let v40 : BitVec 32 := Scalar.subi v25 c1_i32_13
  let v41 : BitVec 32 := Scalar.select v39 v40 v25
  let c1_i32_14 : BitVec 32 := 1#32
  let v42 : BitVec 32 := Scalar.muli v41 c1_i32_14
  let v43 : BitVec 32 := Scalar.addi v22 v42
  let c8_i32 : BitVec 32 := 8#32
  let v44 : BitVec 32 := Scalar.muli v43 c8_i32
  let c0_i32_15 : BitVec 32 := 0#32
  let c0_i32_16 : BitVec 32 := 0#32
  ![v44.toNat, c0_i32_15.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S128x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev grid2 : Pipeline.Grid := ⟨2, ![1, 15], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S128x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S128x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S128x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S2048x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]
-- ==== SampleReferenceIdeal.lean ====
abbrev S32x4x2048 : Shape := ⟨3, ![32, 4, 2048]⟩
abbrev S1x32x512x2x2x128 : Shape := ⟨6, ![1, 32, 512, 2, 2, 128]⟩
abbrev S1x2048 : Shape := ⟨2, ![1, 2048]⟩
abbrev S1x2048x7712 : Shape := ⟨3, ![1, 2048, 7712]⟩
abbrev S1x24 : Shape := ⟨2, ![1, 24]⟩
abbrev S1x8 : Shape := ⟨2, ![1, 8]⟩
abbrev S2048 : Shape := ⟨1, ![2048]⟩
abbrev S2048x7712 : Shape := ⟨2, ![2048, 7712]⟩
abbrev S24 : Shape := ⟨1, ![24]⟩
abbrev S8 : Shape := ⟨1, ![8]⟩
abbrev S_ : Shape := ⟨0, ![]⟩
abbrev S32x4 : Shape := ⟨2, ![32, 4]⟩
abbrev S32x4x1 : Shape := ⟨3, ![32, 4, 1]⟩
abbrev S1x1x2048 : Shape := ⟨3, ![1, 1, 2048]⟩
abbrev S32x4x7712 : Shape := ⟨3, ![32, 4, 7712]⟩
abbrev S32x4x1024 : Shape := ⟨3, ![32, 4, 1024]⟩
abbrev S32x4x1536 : Shape := ⟨3, ![32, 4, 1536]⟩
abbrev S32x4x24 : Shape := ⟨3, ![32, 4, 24]⟩
abbrev S32x4x8 : Shape := ⟨3, ![32, 4, 8]⟩
abbrev S32x4x6x2x128 : Shape := ⟨5, ![32, 4, 6, 2, 128]⟩
abbrev S1x1x24 : Shape := ⟨3, ![1, 1, 24]⟩
abbrev S32x4x8x3 : Shape := ⟨4, ![32, 4, 8, 3]⟩
abbrev S32x4x8x128 : Shape := ⟨4, ![32, 4, 8, 128]⟩
abbrev S1x1x8 : Shape := ⟨3, ![1, 1, 8]⟩
abbrev S32x512x2x2x128 : Shape := ⟨5, ![32, 512, 2, 2, 128]⟩
abbrev S32x4x2x2x128 : Shape := ⟨5, ![32, 4, 2, 2, 128]⟩
abbrev S32x516x2x2x128 : Shape := ⟨5, ![32, 516, 2, 2, 128]⟩
abbrev S32x4x4x2x128 : Shape := ⟨5, ![32, 4, 4, 2, 128]⟩
abbrev S1x32x4x4x2x128 : Shape := ⟨6, ![1, 32, 4, 4, 2, 128]⟩
abbrev S32x4x1x8x128 : Shape := ⟨5, ![32, 4, 1, 8, 128]⟩
abbrev S32x4x2x8x128 : Shape := ⟨5, ![32, 4, 2, 8, 128]⟩
abbrev S1x32x4x2x8x128 : Shape := ⟨6, ![1, 32, 4, 2, 8, 128]⟩
abbrev S1x32x4x8 : Shape := ⟨4, ![1, 32, 4, 8]⟩
abbrev S128x1024 : Shape := ⟨2, ![128, 1024]⟩

abbrev nBuf : Space → Nat
  | .hbm => 86
  | .vmem => 0
  | .smem => 0
  | _ => 0

abbrev bufTy : (tb : Table) → Fin (tcTables nBuf tb) → BufTy
  | .hbm, ⟨0, _⟩ => ⟨S32x4x2048, .f32⟩
  | .hbm, ⟨1, _⟩ => ⟨S1x32x512x2x2x128, .f32⟩
  | .hbm, ⟨2, _⟩ => ⟨S1x2048, .f32⟩
  | .hbm, ⟨3, _⟩ => ⟨S1x2048x7712, .f32⟩
  | .hbm, ⟨4, _⟩ => ⟨S1x24, .f32⟩
  | .hbm, ⟨5, _⟩ => ⟨S1x8, .f32⟩
  | .hbm, ⟨6, _⟩ => ⟨S2048, .f32⟩
  | .hbm, ⟨7, _⟩ => ⟨S2048x7712, .f32⟩
  | .hbm, ⟨8, _⟩ => ⟨S24, .f32⟩
  | .hbm, ⟨9, _⟩ => ⟨S8, .f32⟩
  | .hbm, ⟨10, _⟩ => ⟨S32x4x2048, .f32⟩
  | .hbm, ⟨11, _⟩ => ⟨S_, .f32⟩
  | .hbm, ⟨12, _⟩ => ⟨S32x4, .f32⟩
  | .hbm, ⟨13, _⟩ => ⟨S32x4x1, .f32⟩
  | .hbm, ⟨14, _⟩ => ⟨S_, .f32⟩
  | .hbm, ⟨15, _⟩ => ⟨S32x4x1, .f32⟩
  | .hbm, ⟨16, _⟩ => ⟨S32x4x1, .f32⟩
  | .hbm, ⟨17, _⟩ => ⟨S_, .f32⟩
  | .hbm, ⟨18, _⟩ => ⟨S32x4x1, .f32⟩
  | .hbm, ⟨19, _⟩ => ⟨S32x4x1, .f32⟩
  | .hbm, ⟨20, _⟩ => ⟨S32x4x1, .f32⟩
  | .hbm, ⟨21, _⟩ => ⟨S32x4x2048, .f32⟩
  | .hbm, ⟨22, _⟩ => ⟨S32x4x2048, .f32⟩
  | .hbm, ⟨23, _⟩ => ⟨S1x1x2048, .f32⟩
  | .hbm, ⟨24, _⟩ => ⟨S32x4x2048, .f32⟩
  | .hbm, ⟨25, _⟩ => ⟨S32x4x2048, .f32⟩
  | .hbm, ⟨26, _⟩ => ⟨S32x4x7712, .f32⟩
  | .hbm, ⟨27, _⟩ => ⟨S32x4x1024, .f32⟩
  | .hbm, ⟨28, _⟩ => ⟨S32x4x1536, .f32⟩
  | .hbm, ⟨29, _⟩ => ⟨S32x4x24, .f32⟩
  | .hbm, ⟨30, _⟩ => ⟨S32x4x1024, .f32⟩
  | .hbm, ⟨31, _⟩ => ⟨S32x4x1024, .f32⟩
  | .hbm, ⟨32, _⟩ => ⟨S32x4x1024, .f32⟩
  | .hbm, ⟨33, _⟩ => ⟨S32x4x1024, .f32⟩
  | .hbm, ⟨34, _⟩ => ⟨S32x4x8, .f32⟩
  | .hbm, ⟨35, _⟩ => ⟨S32x4x1024, .f32⟩
  | .hbm, ⟨36, _⟩ => ⟨S32x4x6x2x128, .f32⟩
  | .hbm, ⟨37, _⟩ => ⟨S1x1x24, .f32⟩
  | .hbm, ⟨38, _⟩ => ⟨S32x4x24, .f32⟩
  | .hbm, ⟨39, _⟩ => ⟨S32x4x24, .f32⟩
  | .hbm, ⟨40, _⟩ => ⟨S32x4x24, .f32⟩
  | .hbm, ⟨41, _⟩ => ⟨S32x4x24, .f32⟩
  | .hbm, ⟨42, _⟩ => ⟨S_, .f32⟩
  | .hbm, ⟨43, _⟩ => ⟨S32x4x24, .f32⟩
  | .hbm, ⟨44, _⟩ => ⟨S32x4x24, .f32⟩
  | .hbm, ⟨45, _⟩ => ⟨S_, .f32⟩
  | .hbm, ⟨46, _⟩ => ⟨S32x4x24, .f32⟩
  | .hbm, ⟨47, _⟩ => ⟨S32x4x24, .f32⟩
  | .hbm, ⟨48, _⟩ => ⟨S32x4x8x3, .f32⟩
  | .hbm, ⟨49, _⟩ => ⟨S32x4x8x128, .f32⟩
  | .hbm, ⟨50, _⟩ => ⟨S32x4x8x128, .f32⟩
  | .hbm, ⟨51, _⟩ => ⟨S1x1x8, .f32⟩
  | .hbm, ⟨52, _⟩ => ⟨S32x4x8, .f32⟩
  | .hbm, ⟨53, _⟩ => ⟨S32x4x8, .f32⟩
  | .hbm, ⟨54, _⟩ => ⟨S32x4x8, .f32⟩
  | .hbm, ⟨55, _⟩ => ⟨S_, .f32⟩
  | .hbm, ⟨56, _⟩ => ⟨S32x4x8, .f32⟩
  | .hbm, ⟨57, _⟩ => ⟨S32x4x8, .f32⟩
  | .hbm, ⟨58, _⟩ => ⟨S32x4x8, .f32⟩
  | .hbm, ⟨59, _⟩ => ⟨S32x4x8, .f32⟩
  | .hbm, ⟨60, _⟩ => ⟨S32x4x8, .i1⟩
  | .hbm, ⟨61, _⟩ => ⟨S32x4x8, .f32⟩
  | .hbm, ⟨62, _⟩ => ⟨S32x4x8, .f32⟩
  | .hbm, ⟨63, _⟩ => ⟨S32x4x8, .f32⟩
  | .hbm, ⟨64, _⟩ => ⟨S32x4x8, .f32⟩
  | .hbm, ⟨65, _⟩ => ⟨S32x4x8, .f32⟩
  | .hbm, ⟨66, _⟩ => ⟨S32x4x8, .f32⟩
  | .hbm, ⟨67, _⟩ => ⟨S32x4x8, .f32⟩
  | .hbm, ⟨68, _⟩ => ⟨S32x4x8, .f32⟩
  | .hbm, ⟨69, _⟩ => ⟨S32x4x8, .f32⟩
  | .hbm, ⟨70, _⟩ => ⟨S32x512x2x2x128, .f32⟩
  | .hbm, ⟨71, _⟩ => ⟨S32x4x2x2x128, .f32⟩
  | .hbm, ⟨72, _⟩ => ⟨S32x516x2x2x128, .f32⟩
  | .hbm, ⟨73, _⟩ => ⟨S32x512x2x2x128, .f32⟩
  | .hbm, ⟨74, _⟩ => ⟨S32x4x4x2x128, .f32⟩
  | .hbm, ⟨75, _⟩ => ⟨S1x32x4x4x2x128, .f32⟩
  | .hbm, ⟨76, _⟩ => ⟨S32x4x1x8x128, .f32⟩
  | .hbm, ⟨77, _⟩ => ⟨S32x4x1x8x128, .f32⟩
  | .hbm, ⟨78, _⟩ => ⟨S32x4x2x8x128, .f32⟩
  | .hbm, ⟨79, _⟩ => ⟨S1x32x4x2x8x128, .f32⟩
  | .hbm, ⟨80, _⟩ => ⟨S1x32x4x8, .f32⟩
  | .hbm, ⟨81, _⟩ => ⟨S1x32x512x2x2x128, .f32⟩
  | .hbm, ⟨82, _⟩ => ⟨S128x1024, .f32⟩
  | .hbm, ⟨83, _⟩ => ⟨S128x1024, .f32⟩
  | .hbm, ⟨84, _⟩ => ⟨S128x1024, .f32⟩
  | .hbm, ⟨85, _⟩ => ⟨S128x1024, .f32⟩
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_call0_v0 : Ref sig .tc := ⟨.hbm, 54, rfl⟩
abbrev main_call0_call0_cst : Ref sig .tc := ⟨.hbm, 55, rfl⟩
abbrev main_call0_call0_v0 : Ref sig .tc := ⟨.hbm, 56, rfl⟩
abbrev main_call0_call0_v1 : Ref sig .tc := ⟨.hbm, 57, rfl⟩
abbrev main_call0_call0_v2 : Ref sig .tc := ⟨.hbm, 58, rfl⟩
abbrev main_call0_call0_v3 : Ref sig .tc := ⟨.hbm, 59, rfl⟩
abbrev main_call0_call0_v4 : Ref sig .tc := ⟨.hbm, 60, rfl⟩
abbrev main_call0_call0_v5 : Ref sig .tc := ⟨.hbm, 61, rfl⟩
abbrev main_call0_call0_v6 : Ref sig .tc := ⟨.hbm, 62, rfl⟩
abbrev main_call0_call0_v7 : Ref sig .tc := ⟨.hbm, 63, rfl⟩
abbrev main_call0_call0_v8 : Ref sig .tc := ⟨.hbm, 64, rfl⟩
abbrev main_call0_call0_v9 : Ref sig .tc := ⟨.hbm, 65, rfl⟩
abbrev main_call0_call0_v10 : Ref sig .tc := ⟨.hbm, 66, rfl⟩
abbrev main_call0_call0_v11 : Ref sig .tc := ⟨.hbm, 67, rfl⟩
abbrev main_call0_v1 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]
-- ==== Prompt.lean ====
abbrev S2x4096x2048 : Shape := ⟨3, ![2, 4096, 2048]⟩
abbrev S1x2048 : Shape := ⟨2, ![1, 2048]⟩
abbrev S1x2048x7712 : Shape := ⟨3, ![1, 2048, 7712]⟩
abbrev S1x24 : Shape := ⟨2, ![1, 24]⟩
abbrev S1x8 : Shape := ⟨2, ![1, 8]⟩
abbrev S2048x7712 : Shape := ⟨2, ![2048, 7712]⟩
abbrev S24 : Shape := ⟨1, ![24]⟩
abbrev S8 : Shape := ⟨1, ![8]⟩
abbrev S7712x2048 : Shape := ⟨2, ![7712, 2048]⟩
abbrev S2048x7680 : Shape := ⟨2, ![2048, 7680]⟩
abbrev S512x2048 : Shape := ⟨2, ![512, 2048]⟩
abbrev S2048x512 : Shape := ⟨2, ![2048, 512]⟩
abbrev S24x2048 : Shape := ⟨2, ![24, 2048]⟩
abbrev S8x2048 : Shape := ⟨2, ![8, 2048]⟩
abbrev S32x2048 : Shape := ⟨2, ![32, 2048]⟩
abbrev S2048x32 : Shape := ⟨2, ![2048, 32]⟩
abbrev S_ : Shape := ⟨0, ![]⟩
abbrev S2048x128 : Shape := ⟨2, ![2048, 128]⟩
abbrev S32 : Shape := ⟨1, ![32]⟩
abbrev S128 : Shape := ⟨1, ![128]⟩
abbrev S1x128 : Shape := ⟨2, ![1, 128]⟩
abbrev S8192x2048 : Shape := ⟨2, ![8192, 2048]⟩
abbrev S2048 : Shape := ⟨1, ![2048]⟩
abbrev S512 : Shape := ⟨1, ![512]⟩
abbrev S512x1 : Shape := ⟨2, ![512, 1]⟩
abbrev S8192x1024 : Shape := ⟨2, ![8192, 1024]⟩
abbrev S1024x2048 : Shape := ⟨2, ![1024, 2048]⟩
abbrev S1024x512 : Shape := ⟨2, ![1024, 512]⟩
abbrev S8192x512 : Shape := ⟨2, ![8192, 512]⟩
abbrev S8192x128 : Shape := ⟨2, ![8192, 128]⟩
abbrev S512x128 : Shape := ⟨2, ![512, 128]⟩
abbrev S8192x8 : Shape := ⟨2, ![8192, 8]⟩
abbrev S2x4096x8 : Shape := ⟨3, ![2, 4096, 8]⟩
abbrev S8192x24 : Shape := ⟨2, ![8192, 24]⟩
abbrev S2x4096x8x3 : Shape := ⟨4, ![2, 4096, 8, 3]⟩
abbrev S2x4096x2x8x128 : Shape := ⟨5, ![2, 4096, 2, 8, 128]⟩
abbrev S2x4096x512 : Shape := ⟨3, ![2, 4096, 512]⟩
abbrev S2x512x512 : Shape := ⟨3, ![2, 512, 512]⟩
abbrev S2x512x2x2x128 : Shape := ⟨5, ![2, 512, 2, 2, 128]⟩
abbrev S1x2x4096x2x8x128 : Shape := ⟨6, ![1, 2, 4096, 2, 8, 128]⟩
abbrev S1x2x4096x8 : Shape := ⟨4, ![1, 2, 4096, 8]⟩
abbrev S1x2x512x2x2x128 : Shape := ⟨6, ![1, 2, 512, 2, 2, 128]⟩

abbrev nBuf : Space → Nat
  | .hbm => 48
  | .vmem => 54
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x7712, .f32⟩
  | .hbm, ⟨3, _⟩ => ⟨S1x24, .f32⟩
  | .hbm, ⟨4, _⟩ => ⟨S1x8, .f32⟩
  | .hbm, ⟨5, _⟩ => ⟨S2048x7712, .f32⟩
  | .hbm, ⟨6, _⟩ => ⟨S24, .f32⟩
  | .hbm, ⟨7, _⟩ => ⟨S8, .f32⟩
  | .hbm, ⟨8, _⟩ => ⟨S7712x2048, .f32⟩
  | .hbm, ⟨9, _⟩ => ⟨S2048x7680, .bf16⟩
  | .hbm, ⟨10, _⟩ => ⟨S24x2048, .f32⟩
  | .hbm, ⟨11, _⟩ => ⟨S8x2048, .f32⟩
  | .hbm, ⟨12, _⟩ => ⟨S32x2048, .f32⟩
  | .hbm, ⟨13, _⟩ => ⟨S2048x32, .f32⟩
  | .hbm, ⟨14, _⟩ => ⟨S_, .i32⟩
  | .hbm, ⟨15, _⟩ => ⟨S_, .f32⟩
  | .hbm, ⟨16, _⟩ => ⟨S2048x128, .f32⟩
  | .hbm, ⟨17, _⟩ => ⟨S32, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S8192x2048, .f32⟩
  | .hbm, ⟨23, _⟩ => ⟨S2048, .f32⟩
  | .hbm, ⟨24, _⟩ => ⟨S1x2048, .f32⟩
  | .hbm, ⟨25, _⟩ => ⟨S8192x2048, .bf16⟩
  | .hbm, ⟨26, _⟩ => ⟨S8192x1024, .bf16⟩
  | .hbm, ⟨27, _⟩ => ⟨S8192x512, .f32⟩
  | .hbm, ⟨28, _⟩ => ⟨S8192x512, .bf16⟩
  | .hbm, ⟨29, _⟩ => ⟨S8192x1024, .f32⟩
  | .hbm, ⟨30, _⟩ => ⟨S8192x1024, .bf16⟩
  | .hbm, ⟨31, _⟩ => ⟨S8192x2048, .f32⟩
  | .hbm, ⟨32, _⟩ => ⟨S8192x2048, .bf16⟩
  | .hbm, ⟨33, _⟩ => ⟨S8192x1024, .f32⟩
  | .hbm, ⟨34, _⟩ => ⟨S8192x128, .f32⟩
  | .hbm, ⟨35, _⟩ => ⟨S8192x8, .f32⟩
  | .hbm, ⟨36, _⟩ => ⟨S2x4096x8, .f32⟩
  | .hbm, ⟨37, _⟩ => ⟨S8192x24, .f32⟩
  | .hbm, ⟨38, _⟩ => ⟨S2x4096x8x3, .f32⟩
  | .hbm, ⟨39, _⟩ => ⟨S2x4096x2x8x128, .f32⟩
  | .hbm, ⟨40, _⟩ => ⟨S2x4096x512, .f32⟩
  | .hbm, ⟨41, _⟩ => ⟨S2x512x512, .f32⟩
  | .hbm, ⟨42, _⟩ => ⟨S2x512x2x2x128, .f32⟩
  | .hbm, ⟨43, _⟩ => ⟨S1x2x4096x2x8x128, .f32⟩
  | .hbm, ⟨44, _⟩ => ⟨S1x2x4096x8, .f32⟩
  | .hbm, ⟨45, _⟩ => ⟨S1x2x512x2x2x128, .f32⟩
  | .hbm, ⟨46, _⟩ => ⟨S8192x1024, .f32⟩
  | .hbm, ⟨47, _⟩ => ⟨S8192x1024, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .bf16⟩
  | .local _ .vmem, ⟨8, _⟩ => ⟨S512x2048, .bf16⟩
  | .local _ .vmem, ⟨9, _⟩ => ⟨S1024x2048, .bf16⟩
  | .local _ .vmem, ⟨10, _⟩ => ⟨S1024x2048, .bf16⟩
  | .local _ .vmem, ⟨11, _⟩ => ⟨S2048x512, .bf16⟩
  | .local _ .vmem, ⟨12, _⟩ => ⟨S2048x512, .bf16⟩
  | .local _ .vmem, ⟨13, _⟩ => ⟨S1024x512, .bf16⟩
  | .local _ .vmem, ⟨14, _⟩ => ⟨S1024x512, .bf16⟩
  | .local _ .vmem, ⟨15, _⟩ => ⟨S1024x2048, .bf16⟩
  | .local _ .vmem, ⟨16, _⟩ => ⟨S1024x2048, .bf16⟩
  | .local _ .vmem, ⟨17, _⟩ => ⟨S2048x512, .bf16⟩
  | .local _ .vmem, ⟨18, _⟩ => ⟨S1024x512, .f32⟩
  | .local _ .vmem, ⟨19, _⟩ => ⟨S1024x512, .f32⟩
  | .local _ .vmem, ⟨20, _⟩ => ⟨S1024x512, .bf16⟩
  | .local _ .vmem, ⟨21, _⟩ => ⟨S1024x512, .bf16⟩
  | .local _ .vmem, ⟨22, _⟩ => ⟨S1024x2048, .bf16⟩
  | .local _ .vmem, ⟨23, _⟩ => ⟨S1024x2048, .bf16⟩
  | .local _ .vmem, ⟨24, _⟩ => ⟨S2048x512, .bf16⟩
  | .local _ .vmem, ⟨25, _⟩ => ⟨S2048x512, .bf16⟩
  | .local _ .vmem, ⟨26, _⟩ => ⟨S1024x512, .f32⟩
  | .local _ .vmem, ⟨27, _⟩ => ⟨S1024x512, .f32⟩
  | .local _ .vmem, ⟨28, _⟩ => ⟨S1024x2048, .bf16⟩
  | .local _ .vmem, ⟨29, _⟩ => ⟨S1024x2048, .bf16⟩
  | .local _ .vmem, ⟨30, _⟩ => ⟨S2048x512, .bf16⟩
  | .local _ .vmem, ⟨31, _⟩ => ⟨S2048x512, .bf16⟩
  | .local _ .vmem, ⟨32, _⟩ => ⟨S1024x512, .bf16⟩
  | .local _ .vmem, ⟨33, _⟩ => ⟨S1024x512, .bf16⟩
  | .local _ .vmem, ⟨34, _⟩ => ⟨S1024x2048, .bf16⟩
  | .local _ .vmem, ⟨35, _⟩ => ⟨S1024x2048, .bf16⟩
  | .local _ .vmem, ⟨36, _⟩ => ⟨S2048x512, .bf16⟩
  | .local _ .vmem, ⟨37, _⟩ => ⟨S2048x512, .bf16⟩
  | .local _ .vmem, ⟨38, _⟩ => ⟨S1024x512, .f32⟩
  | .local _ .vmem, ⟨39, _⟩ => ⟨S1024x512, .f32⟩
  | .local _ .vmem, ⟨40, _⟩ => ⟨S1024x512, .bf16⟩
  | .local _ .vmem, ⟨41, _⟩ => ⟨S1024x512, .bf16⟩
  | .local _ .vmem, ⟨42, _⟩ => ⟨S1024x2048, .bf16⟩
  | .local _ .vmem, ⟨43, _⟩ => ⟨S1024x2048, .bf16⟩
  | .local _ .vmem, ⟨44, _⟩ => ⟨S2048x512, .bf16⟩
  | .local _ .vmem, ⟨45, _⟩ => ⟨S2048x512, .bf16⟩
  | .local _ .vmem, ⟨46, _⟩ => ⟨S1024x512, .f32⟩
  | .local _ .vmem, ⟨47, _⟩ => ⟨S1024x512, .f32⟩
  | .local _ .vmem, ⟨48, _⟩ => ⟨S512x2048, .bf16⟩
  | .local _ .vmem, ⟨49, _⟩ => ⟨S512x2048, .bf16⟩
  | .local _ .vmem, ⟨50, _⟩ => ⟨S2048x128, .f32⟩
  | .local _ .vmem, ⟨51, _⟩ => ⟨S1x128, .f32⟩
  | .local _ .vmem, ⟨52, _⟩ => ⟨S512x128, .f32⟩
  | .local _ .vmem, ⟨53, _⟩ => ⟨S512x128, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_call1_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg1_1 : Ref sig .tc := ⟨.vmem, 31, rfl⟩
abbrev cc5_stg2_0 : Ref sig .tc := ⟨.vmem, 32, rfl⟩
abbrev cc5_stg2_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg1_1 : Ref sig .tc := ⟨.vmem, 37, rfl⟩
abbrev cc6_stg2_0 : Ref sig .tc := ⟨.vmem, 38, rfl⟩
abbrev cc6_stg2_1 : Ref sig .tc := ⟨.vmem, 39, rfl⟩
abbrev cc6_stg3_0 : Ref sig .tc := ⟨.vmem, 40, rfl⟩
abbrev cc6_stg3_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_stg2_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg3_0 : Ref sig .tc := ⟨.vmem, 52, rfl⟩
abbrev cc8_stg3_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem1_1 : DmaSem sig := 31
abbrev cc5_sem2_0 : DmaSem sig := 32
abbrev cc5_sem2_1 : DmaSem sig := 33
abbrev cc6_sem0_0 : DmaSem sig := 34
abbrev cc6_sem0_1 : DmaSem sig := 35
abbrev cc6_sem1_0 : DmaSem sig := 36
abbrev cc6_sem1_1 : DmaSem sig := 37
abbrev cc6_sem2_0 : DmaSem sig := 38
abbrev cc6_sem2_1 : DmaSem sig := 39
abbrev cc6_sem3_0 : DmaSem sig := 40
abbrev cc6_sem3_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem3_0 : DmaSem sig := 52
abbrev cc8_sem3_1 : DmaSem sig := 53

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c64_i32 : BitVec 32 := 64#32
  let v0 : BitVec 32 := Scalar.muli arg0 c64_i32
  let c0_i32 : BitVec 32 := 0#32
  let v1 : BitVec 32 := Scalar.addi v0 c0_i32
  let c15_i32 : BitVec 32 := 15#32
  let v2 : BitVec 32 := Scalar.addi arg0 c15_i32
  let c5_i32 : BitVec 32 := 5#32
  let v3 : BitVec 32 := Scalar.subi v2 c5_i32
  let c15_i32_0 : BitVec 32 := 15#32
  let v4 : BitVec 32 := Scalar.divsi v3 c15_i32_0
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c15_i32_0 c0_i32_3
  let v11 : BitVec 32 := Scalar.extui v10
  let c0_i32_4 : BitVec 32 := 0#32
  let v12 : BitVec 1 := Scalar.cmpi .slt c15_i32_0 c0_i32_4
  let v13 : BitVec 32 := Scalar.extui v12
  let v14 : BitVec 32 := Scalar.subi v11 v13
  let v15 : BitVec 1 := Scalar.cmpi .ne v9 v14
  let v16 : BitVec 32 := Scalar.remsi v3 c15_i32_0
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c3_i32 : BitVec 32 := 3#32
  let v21 : BitVec 32 := Scalar.muli v20 c3_i32
  let v22 : BitVec 32 := Scalar.addi v1 v21
  let c15_i32_6 : BitVec 32 := 15#32
  let v23 : BitVec 32 := Scalar.addi arg0 c15_i32_6
  let c13_i32 : BitVec 32 := 13#32
  let v24 : BitVec 32 := Scalar.subi v23 c13_i32
  let c15_i32_7 : BitVec 32 := 15#32
  let v25 : BitVec 32 := Scalar.divsi v24 c15_i32_7
  let c0_i32_8 : BitVec 32 := 0#32
  let v26 : BitVec 1 := Scalar.cmpi .sgt v24 c0_i32_8
  let v27 : BitVec 32 := Scalar.extui v26
  let c0_i32_9 : BitVec 32 := 0#32
  let v28 : BitVec 1 := Scalar.cmpi .slt v24 c0_i32_9
  let v29 : BitVec 32 := Scalar.extui v28
  let v30 : BitVec 32 := Scalar.subi v27 v29
  let c0_i32_10 : BitVec 32 := 0#32
  let v31 : BitVec 1 := Scalar.cmpi .sgt c15_i32_7 c0_i32_10
  let v32 : BitVec 32 := Scalar.extui v31
  let c0_i32_11 : BitVec 32 := 0#32
  let v33 : BitVec 1 := Scalar.cmpi .slt c15_i32_7 c0_i32_11
  let v34 : BitVec 32 := Scalar.extui v33
  let v35 : BitVec 32 := Scalar.subi v32 v34
  let v36 : BitVec 1 := Scalar.cmpi .ne v30 v35
  let v37 : BitVec 32 := Scalar.remsi v24 c15_i32_7
  let c0_i32_12 : BitVec 32 := 0#32
  let v38 : BitVec 1 := Scalar.cmpi .ne v37 c0_i32_12
  let v39 : BitVec 1 := Scalar.andi v36 v38
  let c1_i32_13 : BitVec 32 := 1#32
  let v40 : BitVec 32 := Scalar.subi v25 c1_i32_13
  let v41 : BitVec 32 := Scalar.select v39 v40 v25
  let c1_i32_14 : BitVec 32 := 1#32
  let v42 : BitVec 32 := Scalar.muli v41 c1_i32_14
  let v43 : BitVec 32 := Scalar.addi v22 v42
  let c8_i32 : BitVec 32 := 8#32
  let v44 : BitVec 32 := Scalar.muli v43 c8_i32
  let c0_i32_15 : BitVec 32 := 0#32
  let c0_i32_16 : BitVec 32 := 0#32
  ![v44.toNat, c0_i32_15.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![8, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S2048x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![8, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  let c0_i32_0 : BitVec 32 := 0#32
  ![c0_i32.toNat, v0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2048x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![8, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  let c0_i32_0 : BitVec 32 := 0#32
  ![c0_i32.toNat, v0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S2048x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![8, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  let c0_i32_0 : BitVec 32 := 0#32
  ![c0_i32.toNat, v0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S1024x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S2048x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1024x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 2 → Memref sig .tc .vmem S1024x512 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev grid7 : Pipeline.Grid := ⟨2, ![8, 2], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  let c0_i32_0 : BitVec 32 := 0#32
  ![c0_i32.toNat, v0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S1024x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S2048x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1024x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨1, ![16], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S512x2048 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S2048x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S512x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]
-- ==== PromptReferenceIdeal.lean ====
abbrev S2x4096x2048 : Shape := ⟨3, ![2, 4096, 2048]⟩
abbrev S1x2048 : Shape := ⟨2, ![1, 2048]⟩
abbrev S1x2048x7712 : Shape := ⟨3, ![1, 2048, 7712]⟩
abbrev S1x24 : Shape := ⟨2, ![1, 24]⟩
abbrev S1x8 : Shape := ⟨2, ![1, 8]⟩
abbrev S2048 : Shape := ⟨1, ![2048]⟩
abbrev S2048x7712 : Shape := ⟨2, ![2048, 7712]⟩
abbrev S24 : Shape := ⟨1, ![24]⟩
abbrev S8 : Shape := ⟨1, ![8]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x7712 : Shape := ⟨3, ![2, 4096, 7712]⟩
abbrev S2x4096x1024 : Shape := ⟨3, ![2, 4096, 1024]⟩
abbrev S2x4096x1536 : Shape := ⟨3, ![2, 4096, 1536]⟩
abbrev S2x4096x24 : Shape := ⟨3, ![2, 4096, 24]⟩
abbrev S2x4096x8 : Shape := ⟨3, ![2, 4096, 8]⟩
abbrev S2x4096x6x2x128 : Shape := ⟨5, ![2, 4096, 6, 2, 128]⟩
abbrev S1x1x24 : Shape := ⟨3, ![1, 1, 24]⟩
abbrev S2x4096x8x3 : Shape := ⟨4, ![2, 4096, 8, 3]⟩
abbrev S2x4096x8x128 : Shape := ⟨4, ![2, 4096, 8, 128]⟩
abbrev S1x1x8 : Shape := ⟨3, ![1, 1, 8]⟩
abbrev S2x4096x1x8x128 : Shape := ⟨5, ![2, 4096, 1, 8, 128]⟩
abbrev S2x4096x2x8x128 : Shape := ⟨5, ![2, 4096, 2, 8, 128]⟩
abbrev S1x2x4096x2x8x128 : Shape := ⟨6, ![1, 2, 4096, 2, 8, 128]⟩
abbrev S1x2x4096x8 : Shape := ⟨4, ![1, 2, 4096, 8]⟩
abbrev S2x512x2x2x128 : Shape := ⟨5, ![2, 512, 2, 2, 128]⟩
abbrev S1x2x512x2x2x128 : Shape := ⟨6, ![1, 2, 512, 2, 2, 128]⟩
abbrev S8192x1024 : Shape := ⟨2, ![8192, 1024]⟩

abbrev nBuf : Space → Nat
  | .hbm => 80
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x7712, .f32⟩
  | .hbm, ⟨3, _⟩ => ⟨S1x24, .f32⟩
  | .hbm, ⟨4, _⟩ => ⟨S1x8, .f32⟩
  | .hbm, ⟨5, _⟩ => ⟨S2048, .f32⟩
  | .hbm, ⟨6, _⟩ => ⟨S2048x7712, .f32⟩
  | .hbm, ⟨7, _⟩ => ⟨S24, .f32⟩
  | .hbm, ⟨8, _⟩ => ⟨S8, .f32⟩
  | .hbm, ⟨9, _⟩ => ⟨S2x4096x2048, .f32⟩
  | .hbm, ⟨10, _⟩ => ⟨S_, .f32⟩
  | .hbm, ⟨11, _⟩ => ⟨S2x4096, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S2x4096x1, .f32⟩
  | .hbm, ⟨20, _⟩ => ⟨S2x4096x2048, .f32⟩
  | .hbm, ⟨21, _⟩ => ⟨S2x4096x2048, .f32⟩
  | .hbm, ⟨22, _⟩ => ⟨S1x1x2048, .f32⟩
  | .hbm, ⟨23, _⟩ => ⟨S2x4096x2048, .f32⟩
  | .hbm, ⟨24, _⟩ => ⟨S2x4096x2048, .f32⟩
  | .hbm, ⟨25, _⟩ => ⟨S2x4096x7712, .f32⟩
  | .hbm, ⟨26, _⟩ => ⟨S2x4096x1024, .f32⟩
  | .hbm, ⟨27, _⟩ => ⟨S2x4096x1536, .f32⟩
  | .hbm, ⟨28, _⟩ => ⟨S2x4096x24, .f32⟩
  | .hbm, ⟨29, _⟩ => ⟨S2x4096x1024, .f32⟩
  | .hbm, ⟨30, _⟩ => ⟨S2x4096x1024, .f32⟩
  | .hbm, ⟨31, _⟩ => ⟨S2x4096x1024, .f32⟩
  | .hbm, ⟨32, _⟩ => ⟨S2x4096x1024, .f32⟩
  | .hbm, ⟨33, _⟩ => ⟨S2x4096x8, .f32⟩
  | .hbm, ⟨34, _⟩ => ⟨S2x4096x1024, .f32⟩
  | .hbm, ⟨35, _⟩ => ⟨S2x4096x6x2x128, .f32⟩
  | .hbm, ⟨36, _⟩ => ⟨S1x1x24, .f32⟩
  | .hbm, ⟨37, _⟩ => ⟨S2x4096x24, .f32⟩
  | .hbm, ⟨38, _⟩ => ⟨S2x4096x24, .f32⟩
  | .hbm, ⟨39, _⟩ => ⟨S2x4096x24, .f32⟩
  | .hbm, ⟨40, _⟩ => ⟨S2x4096x24, .f32⟩
  | .hbm, ⟨41, _⟩ => ⟨S_, .f32⟩
  | .hbm, ⟨42, _⟩ => ⟨S2x4096x24, .f32⟩
  | .hbm, ⟨43, _⟩ => ⟨S2x4096x24, .f32⟩
  | .hbm, ⟨44, _⟩ => ⟨S_, .f32⟩
  | .hbm, ⟨45, _⟩ => ⟨S2x4096x24, .f32⟩
  | .hbm, ⟨46, _⟩ => ⟨S2x4096x24, .f32⟩
  | .hbm, ⟨47, _⟩ => ⟨S2x4096x8x3, .f32⟩
  | .hbm, ⟨48, _⟩ => ⟨S2x4096x8x128, .f32⟩
  | .hbm, ⟨49, _⟩ => ⟨S2x4096x8x128, .f32⟩
  | .hbm, ⟨50, _⟩ => ⟨S1x1x8, .f32⟩
  | .hbm, ⟨51, _⟩ => ⟨S2x4096x8, .f32⟩
  | .hbm, ⟨52, _⟩ => ⟨S2x4096x8, .f32⟩
  | .hbm, ⟨53, _⟩ => ⟨S2x4096x8, .f32⟩
  | .hbm, ⟨54, _⟩ => ⟨S_, .f32⟩
  | .hbm, ⟨55, _⟩ => ⟨S2x4096x8, .f32⟩
  | .hbm, ⟨56, _⟩ => ⟨S2x4096x8, .f32⟩
  | .hbm, ⟨57, _⟩ => ⟨S2x4096x8, .f32⟩
  | .hbm, ⟨58, _⟩ => ⟨S2x4096x8, .f32⟩
  | .hbm, ⟨59, _⟩ => ⟨S2x4096x8, .i1⟩
  | .hbm, ⟨60, _⟩ => ⟨S2x4096x8, .f32⟩
  | .hbm, ⟨61, _⟩ => ⟨S2x4096x8, .f32⟩
  | .hbm, ⟨62, _⟩ => ⟨S2x4096x8, .f32⟩
  | .hbm, ⟨63, _⟩ => ⟨S2x4096x8, .f32⟩
  | .hbm, ⟨64, _⟩ => ⟨S2x4096x8, .f32⟩
  | .hbm, ⟨65, _⟩ => ⟨S2x4096x8, .f32⟩
  | .hbm, ⟨66, _⟩ => ⟨S2x4096x8, .f32⟩
  | .hbm, ⟨67, _⟩ => ⟨S2x4096x8, .f32⟩
  | .hbm, ⟨68, _⟩ => ⟨S2x4096x8, .f32⟩
  | .hbm, ⟨69, _⟩ => ⟨S2x4096x1x8x128, .f32⟩
  | .hbm, ⟨70, _⟩ => ⟨S2x4096x1x8x128, .f32⟩
  | .hbm, ⟨71, _⟩ => ⟨S2x4096x2x8x128, .f32⟩
  | .hbm, ⟨72, _⟩ => ⟨S1x2x4096x2x8x128, .f32⟩
  | .hbm, ⟨73, _⟩ => ⟨S1x2x4096x8, .f32⟩
  | .hbm, ⟨74, _⟩ => ⟨S2x512x2x2x128, .f32⟩
  | .hbm, ⟨75, _⟩ => ⟨S1x2x512x2x2x128, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_call0_v0 : Ref sig .tc := ⟨.hbm, 53, rfl⟩
abbrev main_call0_call0_cst : Ref sig .tc := ⟨.hbm, 54, rfl⟩
abbrev main_call0_call0_v0 : Ref sig .tc := ⟨.hbm, 55, rfl⟩
abbrev main_call0_call0_v1 : Ref sig .tc := ⟨.hbm, 56, rfl⟩
abbrev main_call0_call0_v2 : Ref sig .tc := ⟨.hbm, 57, rfl⟩
abbrev main_call0_call0_v3 : Ref sig .tc := ⟨.hbm, 58, rfl⟩
abbrev main_call0_call0_v4 : Ref sig .tc := ⟨.hbm, 59, rfl⟩
abbrev main_call0_call0_v5 : Ref sig .tc := ⟨.hbm, 60, rfl⟩
abbrev main_call0_call0_v6 : Ref sig .tc := ⟨.hbm, 61, rfl⟩
abbrev main_call0_call0_v7 : Ref sig .tc := ⟨.hbm, 62, rfl⟩
abbrev main_call0_call0_v8 : Ref sig .tc := ⟨.hbm, 63, rfl⟩
abbrev main_call0_call0_v9 : Ref sig .tc := ⟨.hbm, 64, rfl⟩
abbrev main_call0_call0_v10 : Ref sig .tc := ⟨.hbm, 65, rfl⟩
abbrev main_call0_call0_v11 : Ref sig .tc := ⟨.hbm, 66, rfl⟩
abbrev main_call0_v1 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩

abbrev nD : Nat := 1
abbrev τ : Topo := Topo.v7x

variable {F : FTy → Type} [FloatOps F]
-- ==== MergePrompt.lean ====
abbrev S2x4096x2048 : Shape := ⟨3, ![2, 4096, 2048]⟩
abbrev S8192x1024 : Shape := ⟨2, ![8192, 1024]⟩
abbrev S1x2048x2048 : Shape := ⟨3, ![1, 2048, 2048]⟩
abbrev S2048 : Shape := ⟨1, ![2048]⟩
abbrev S2048x2048 : Shape := ⟨2, ![2048, 2048]⟩
abbrev S8192x2048 : Shape := ⟨2, ![8192, 2048]⟩
abbrev S1x2048 : Shape := ⟨2, ![1, 2048]⟩
abbrev S512x2048 : Shape := ⟨2, ![512, 2048]⟩
abbrev S512x1024 : Shape := ⟨2, ![512, 1024]⟩
abbrev S1024x2048 : Shape := ⟨2, ![1024, 2048]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S8192x1024, .bf16⟩
  | .hbm, ⟨2, _⟩ => ⟨S8192x1024, .bf16⟩
  | .hbm, ⟨3, _⟩ => ⟨S1x2048x2048, .f32⟩
  | .hbm, ⟨4, _⟩ => ⟨S2048, .f32⟩
  | .hbm, ⟨5, _⟩ => ⟨S2048x2048, .f32⟩
  | .hbm, ⟨6, _⟩ => ⟨S2048x2048, .bf16⟩
  | .hbm, ⟨7, _⟩ => ⟨S8192x2048, .f32⟩
  | .hbm, ⟨8, _⟩ => ⟨S1x2048, .f32⟩
  | .hbm, ⟨9, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergePromptReferenceIdeal.lean ====
abbrev S2x4096x2048 : Shape := ⟨3, ![2, 4096, 2048]⟩
abbrev S8192x1024 : Shape := ⟨2, ![8192, 1024]⟩
abbrev S1x2048x2048 : Shape := ⟨3, ![1, 2048, 2048]⟩
abbrev S2048 : Shape := ⟨1, ![2048]⟩
abbrev S2x4096x1024 : Shape := ⟨3, ![2, 4096, 1024]⟩
abbrev S2048x2048 : Shape := ⟨2, ![2048, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 30
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S8192x1024, .bf16⟩
  | .hbm, ⟨2, _⟩ => ⟨S8192x1024, .bf16⟩
  | .hbm, ⟨3, _⟩ => ⟨S1x2048x2048, .f32⟩
  | .hbm, ⟨4, _⟩ => ⟨S2048, .f32⟩
  | .hbm, ⟨5, _⟩ => ⟨S8192x1024, .f32⟩
  | .hbm, ⟨6, _⟩ => ⟨S2x4096x1024, .f32⟩
  | .hbm, ⟨7, _⟩ => ⟨S8192x1024, .f32⟩
  | .hbm, ⟨8, _⟩ => ⟨S2x4096x1024, .f32⟩
  | .hbm, ⟨9, _⟩ => ⟨S2x4096x2048, .f32⟩
  | .hbm, ⟨10, _⟩ => ⟨S2048x2048, .f32⟩
  | .hbm, ⟨11, _⟩ => ⟨S2x4096x2048, .f32⟩
  | .hbm, ⟨12, _⟩ => ⟨S2x4096x2048, .f32⟩
  | .hbm, ⟨13, _⟩ => ⟨S2x4096x2048, .f32⟩
  | .hbm, ⟨14, _⟩ => ⟨S_, .f32⟩
  | .hbm, ⟨15, _⟩ => ⟨S2x4096, .f32⟩
  | .hbm, ⟨16, _⟩ => ⟨S2x4096x1, .f32⟩
  | .hbm, ⟨17, _⟩ => ⟨S_, .f32⟩
  | .hbm, ⟨18, _⟩ => ⟨S2x4096x1, .f32⟩
  | .hbm, ⟨19, _⟩ => ⟨S2x4096x1, .f32⟩
  | .hbm, ⟨20, _⟩ => ⟨S_, .f32⟩
  | .hbm, ⟨21, _⟩ => ⟨S2x4096x1, .f32⟩
  | .hbm, ⟨22, _⟩ => ⟨S2x4096x1, .f32⟩
  | .hbm, ⟨23, _⟩ => ⟨S2x4096x1, .f32⟩
  | .hbm, ⟨24, _⟩ => ⟨S2x4096x2048, .f32⟩
  | .hbm, ⟨25, _⟩ => ⟨S2x4096x2048, .f32⟩
  | .hbm, ⟨26, _⟩ => ⟨S1x1x2048, .f32⟩
  | .hbm, ⟨27, _⟩ => ⟨S2x4096x2048, .f32⟩
  | .hbm, ⟨28, _⟩ => ⟨S2x4096x2048, .f32⟩
  | .hbm, ⟨29, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== MergeSample.lean ====
abbrev S32x4x2048 : Shape := ⟨3, ![32, 4, 2048]⟩
abbrev S128x1024 : Shape := ⟨2, ![128, 1024]⟩
abbrev S1x2048x2048 : Shape := ⟨3, ![1, 2048, 2048]⟩
abbrev S2048 : Shape := ⟨1, ![2048]⟩
abbrev S2048x2048 : Shape := ⟨2, ![2048, 2048]⟩
abbrev S128x2048 : Shape := ⟨2, ![128, 2048]⟩
abbrev S1x2048 : Shape := ⟨2, ![1, 2048]⟩
abbrev S1024x2048 : Shape := ⟨2, ![1024, 2048]⟩
abbrev S128 : Shape := ⟨1, ![128]⟩
abbrev S128x1 : Shape := ⟨2, ![128, 1]⟩

abbrev nBuf : Space → Nat
  | .hbm => 10
  | .vmem => 7
  | .smem => 0
  | _ => 0

abbrev bufTy : (tb : Table) → Fin (tcTables nBuf tb) → BufTy
  | .hbm, ⟨0, _⟩ => ⟨S32x4x2048, .f32⟩
  | .hbm, ⟨1, _⟩ => ⟨S128x1024, .bf16⟩
  | .hbm, ⟨2, _⟩ => ⟨S128x1024, .bf16⟩
  | .hbm, ⟨3, _⟩ => ⟨S1x2048x2048, .f32⟩
  | .hbm, ⟨4, _⟩ => ⟨S2048, .f32⟩
  | .hbm, ⟨5, _⟩ => ⟨S2048x2048, .f32⟩
  | .hbm, ⟨6, _⟩ => ⟨S2048x2048, .bf16⟩
  | .hbm, ⟨7, _⟩ => ⟨S128x2048, .f32⟩
  | .hbm, ⟨8, _⟩ => ⟨S1x2048, .f32⟩
  | .hbm, ⟨9, _⟩ => ⟨S128x2048, .f32⟩
  | .local _ .vmem, ⟨0, _⟩ => ⟨S128x2048, .f32⟩
  | .local _ .vmem, ⟨1, _⟩ => ⟨S128x1024, .bf16⟩
  | .local _ .vmem, ⟨2, _⟩ => ⟨S128x1024, .bf16⟩
  | .local _ .vmem, ⟨3, _⟩ => ⟨S1024x2048, .bf16⟩
  | .local _ .vmem, ⟨4, _⟩ => ⟨S1024x2048, .bf16⟩
  | .local _ .vmem, ⟨5, _⟩ => ⟨S1x2048, .f32⟩
  | .local _ .vmem, ⟨6, _⟩ => ⟨S128x2048, .f32⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== MergeSampleReferenceIdeal.lean ====
abbrev S32x4x2048 : Shape := ⟨3, ![32, 4, 2048]⟩
abbrev S128x1024 : Shape := ⟨2, ![128, 1024]⟩
abbrev S1x2048x2048 : Shape := ⟨3, ![1, 2048, 2048]⟩
abbrev S2048 : Shape := ⟨1, ![2048]⟩
abbrev S32x4x1024 : Shape := ⟨3, ![32, 4, 1024]⟩
abbrev S2048x2048 : Shape := ⟨2, ![2048, 2048]⟩
abbrev S_ : Shape := ⟨0, ![]⟩
abbrev S32x4 : Shape := ⟨2, ![32, 4]⟩
abbrev S32x4x1 : Shape := ⟨3, ![32, 4, 1]⟩
abbrev S1x1x2048 : Shape := ⟨3, ![1, 1, 2048]⟩
abbrev S128x2048 : Shape := ⟨2, ![128, 2048]⟩

abbrev nBuf : Space → Nat
  | .hbm => 30
  | .vmem => 0
  | .smem => 0
  | _ => 0

abbrev bufTy : (tb : Table) → Fin (tcTables nBuf tb) → BufTy
  | .hbm, ⟨0, _⟩ => ⟨S32x4x2048, .f32⟩
  | .hbm, ⟨1, _⟩ => ⟨S128x1024, .bf16⟩
  | .hbm, ⟨2, _⟩ => ⟨S128x1024, .bf16⟩
  | .hbm, ⟨3, _⟩ => ⟨S1x2048x2048, .f32⟩
  | .hbm, ⟨4, _⟩ => ⟨S2048, .f32⟩
  | .hbm, ⟨5, _⟩ => ⟨S128x1024, .f32⟩
  | .hbm, ⟨6, _⟩ => ⟨S32x4x1024, .f32⟩
  | .hbm, ⟨7, _⟩ => ⟨S128x1024, .f32⟩
  | .hbm, ⟨8, _⟩ => ⟨S32x4x1024, .f32⟩
  | .hbm, ⟨9, _⟩ => ⟨S32x4x2048, .f32⟩
  | .hbm, ⟨10, _⟩ => ⟨S2048x2048, .f32⟩
  | .hbm, ⟨11, _⟩ => ⟨S32x4x2048, .f32⟩
  | .hbm, ⟨12, _⟩ => ⟨S32x4x2048, .f32⟩
  | .hbm, ⟨13, _⟩ => ⟨S32x4x2048, .f32⟩
  | .hbm, ⟨14, _⟩ => ⟨S_, .f32⟩
  | .hbm, ⟨15, _⟩ => ⟨S32x4, .f32⟩
  | .hbm, ⟨16, _⟩ => ⟨S32x4x1, .f32⟩
  | .hbm, ⟨17, _⟩ => ⟨S_, .f32⟩
  | .hbm, ⟨18, _⟩ => ⟨S32x4x1, .f32⟩
  | .hbm, ⟨19, _⟩ => ⟨S32x4x1, .f32⟩
  | .hbm, ⟨20, _⟩ => ⟨S_, .f32⟩
  | .hbm, ⟨21, _⟩ => ⟨S32x4x1, .f32⟩
  | .hbm, ⟨22, _⟩ => ⟨S32x4x1, .f32⟩
  | .hbm, ⟨23, _⟩ => ⟨S32x4x1, .f32⟩
  | .hbm, ⟨24, _⟩ => ⟨S32x4x2048, .f32⟩
  | .hbm, ⟨25, _⟩ => ⟨S32x4x2048, .f32⟩
  | .hbm, ⟨26, _⟩ => ⟨S1x1x2048, .f32⟩
  | .hbm, ⟨27, _⟩ => ⟨S32x4x2048, .f32⟩
  | .hbm, ⟨28, _⟩ => ⟨S32x4x2048, .f32⟩
  | .hbm, ⟨29, _⟩ => ⟨S128x2048, .f32⟩
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== KeyValue.lean ====
abbrev S8192x2048 : Shape := ⟨2, ![8192, 2048]⟩
abbrev S2048x7680 : Shape := ⟨2, ![2048, 7680]⟩
abbrev S8192x8x128 : Shape := ⟨3, ![8192, 8, 128]⟩
abbrev S8192x512 : Shape := ⟨2, ![8192, 512]⟩
abbrev S8192x1024 : Shape := ⟨2, ![8192, 1024]⟩
abbrev S1024x2048 : Shape := ⟨2, ![1024, 2048]⟩
abbrev S2048x1024 : Shape := ⟨2, ![2048, 1024]⟩
abbrev S1024x8x128 : Shape := ⟨3, ![1024, 8, 128]⟩
abbrev S1024x512 : Shape := ⟨2, ![1024, 512]⟩
abbrev S1024x1024 : Shape := ⟨2, ![1024, 1024]⟩
abbrev S1024x128 : Shape := ⟨2, ![1024, 128]⟩
abbrev S1024x1x128 : Shape := ⟨3, ![1024, 1, 128]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x7680, .bf16⟩
  | .hbm, ⟨2, _⟩ => ⟨S8192x8x128, .f32⟩
  | .hbm, ⟨3, _⟩ => ⟨S8192x512, .f32⟩
  | .hbm, ⟨4, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x8x128, .f32⟩
  | .local _ .vmem, ⟨4, _⟩ => ⟨S1024x8x128, .f32⟩
  | .local _ .vmem, ⟨5, _⟩ => ⟨S1024x512, .f32⟩
  | .local _ .vmem, ⟨6, _⟩ => ⟨S1024x512, .f32⟩
  | .local _ .vmem, ⟨7, _⟩ => ⟨S1024x1024, .bf16⟩
  | .local _ .vmem, ⟨8, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KeyValueReferenceIdeal.lean ====
abbrev S8192x2048 : Shape := ⟨2, ![8192, 2048]⟩
abbrev S2048x7680 : Shape := ⟨2, ![2048, 7680]⟩
abbrev S8192x7680 : Shape := ⟨2, ![8192, 7680]⟩
abbrev S8192x1024 : Shape := ⟨2, ![8192, 1024]⟩
abbrev S8192x8x128 : Shape := ⟨3, ![8192, 8, 128]⟩
abbrev S8192x512 : Shape := ⟨2, ![8192, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x7680, .bf16⟩
  | .hbm, ⟨2, _⟩ => ⟨S8192x2048, .f32⟩
  | .hbm, ⟨3, _⟩ => ⟨S2048x7680, .f32⟩
  | .hbm, ⟨4, _⟩ => ⟨S8192x7680, .f32⟩
  | .hbm, ⟨5, _⟩ => ⟨S8192x1024, .f32⟩
  | .hbm, ⟨6, _⟩ => ⟨S8192x8x128, .f32⟩
  | .hbm, ⟨7, _⟩ => ⟨S8192x512, .f32⟩
  | .hbm, ⟨8, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Cumsum.lean ====
abbrev S2x4096x8 : Shape := ⟨3, ![2, 4096, 8]⟩
abbrev S2x8x4096 : Shape := ⟨3, ![2, 8, 4096]⟩
abbrev S16x4096 : Shape := ⟨2, ![16, 4096]⟩

abbrev nBuf : Space → Nat
  | .hbm => 4
  | .vmem => 2
  | .smem => 0
  | _ => 0

abbrev bufTy : (tb : Table) → Fin (tcTables nBuf tb) → BufTy
  | .hbm, ⟨0, _⟩ => ⟨S2x4096x8, .f32⟩
  | .hbm, ⟨1, _⟩ => ⟨S2x8x4096, .f32⟩
  | .hbm, ⟨2, _⟩ => ⟨S16x4096, .f32⟩
  | .hbm, ⟨3, _⟩ => ⟨S16x4096, .f32⟩
  | .local _ .vmem, ⟨0, _⟩ => ⟨S16x4096, .f32⟩
  | .local _ .vmem, ⟨1, _⟩ => ⟨S16x4096, .f32⟩
  | _, _ => ⟨S2x4096x8, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== CumsumReferenceIdeal.lean ====
abbrev S2x4096x8 : Shape := ⟨3, ![2, 4096, 8]⟩
abbrev S_ : Shape := ⟨0, ![]⟩
abbrev S2x8x4096 : Shape := ⟨3, ![2, 8, 4096]⟩
abbrev S16x4096 : Shape := ⟨2, ![16, 4096]⟩

abbrev nBuf : Space → Nat
  | .hbm => 6
  | .vmem => 0
  | .smem => 0
  | _ => 0

abbrev bufTy : (tb : Table) → Fin (tcTables nBuf tb) → BufTy
  | .hbm, ⟨0, _⟩ => ⟨S2x4096x8, .f32⟩
  | .hbm, ⟨1, _⟩ => ⟨S_, .f32⟩
  | .hbm, ⟨2, _⟩ => ⟨S_, .f32⟩
  | .hbm, ⟨3, _⟩ => ⟨S2x4096x8, .f32⟩
  | .hbm, ⟨4, _⟩ => ⟨S2x8x4096, .f32⟩
  | .hbm, ⟨5, _⟩ => ⟨S16x4096, .f32⟩
  | _, _ => ⟨S2x4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Compress.lean ====
abbrev S8192x512 : Shape := ⟨2, ![8192, 512]⟩
abbrev S1x2x32x128 : Shape := ⟨4, ![1, 2, 32, 128]⟩
abbrev S1x2x32x128x128 : Shape := ⟨5, ![1, 2, 32, 128, 128]⟩
abbrev S2x32x128x128 : Shape := ⟨4, ![2, 32, 128, 128]⟩
abbrev S2x4096x128 : Shape := ⟨3, ![2, 4096, 128]⟩
abbrev S2x32x128 : Shape := ⟨3, ![2, 32, 128]⟩
abbrev S2x2x2x128x128 : Shape := ⟨5, ![2, 2, 2, 128, 128]⟩
abbrev S4096x128 : Shape := ⟨2, ![4096, 128]⟩
abbrev S1x32x128 : Shape := ⟨3, ![1, 32, 128]⟩
abbrev S1x4096x128 : Shape := ⟨3, ![1, 4096, 128]⟩
abbrev S1x1x1x128x128 : Shape := ⟨5, ![1, 1, 1, 128, 128]⟩
abbrev S128x4096 : Shape := ⟨2, ![128, 4096]⟩
abbrev S1x1x128 : Shape := ⟨3, ![1, 1, 128]⟩
abbrev S1x128 : Shape := ⟨2, ![1, 128]⟩
abbrev S64x128 : Shape := ⟨2, ![64, 128]⟩
abbrev S128x128 : Shape := ⟨2, ![128, 128]⟩

abbrev nBuf : Space → Nat
  | .hbm => 8
  | .vmem => 9
  | .smem => 0
  | _ => 0

abbrev bufTy : (tb : Table) → Fin (tcTables nBuf tb) → BufTy
  | .hbm, ⟨0, _⟩ => ⟨S8192x512, .f32⟩
  | .hbm, ⟨1, _⟩ => ⟨S1x2x32x128, .f32⟩
  | .hbm, ⟨2, _⟩ => ⟨S1x2x32x128x128, .f32⟩
  | .hbm, ⟨3, _⟩ => ⟨S2x32x128x128, .f32⟩
  | .hbm, ⟨4, _⟩ => ⟨S2x4096x128, .f32⟩
  | .hbm, ⟨5, _⟩ => ⟨S2x4096x128, .bf16⟩
  | .hbm, ⟨6, _⟩ => ⟨S2x32x128, .f32⟩
  | .hbm, ⟨7, _⟩ => ⟨S2x2x2x128x128, .bf16⟩
  | .local _ .vmem, ⟨0, _⟩ => ⟨S4096x128, .f32⟩
  | .local _ .vmem, ⟨1, _⟩ => ⟨S4096x128, .f32⟩
  | .local _ .vmem, ⟨2, _⟩ => ⟨S1x32x128, .f32⟩
  | .local _ .vmem, ⟨3, _⟩ => ⟨S1x32x128, .f32⟩
  | .local _ .vmem, ⟨4, _⟩ => ⟨S1x4096x128, .bf16⟩
  | .local _ .vmem, ⟨5, _⟩ => ⟨S1x4096x128, .bf16⟩
  | .local _ .vmem, ⟨6, _⟩ => ⟨S1x1x1x128x128, .bf16⟩
  | .local _ .vmem, ⟨7, _⟩ => ⟨S1x1x1x128x128, .bf16⟩
  | .local _ .vmem, ⟨8, _⟩ => ⟨S128x4096, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1x1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== CompressReferenceIdeal.lean ====
abbrev S8192x512 : Shape := ⟨2, ![8192, 512]⟩
abbrev S1x2x32x128 : Shape := ⟨4, ![1, 2, 32, 128]⟩
abbrev S1x2x32x128x128 : Shape := ⟨5, ![1, 2, 32, 128, 128]⟩
abbrev S2x4096x2x2x128 : Shape := ⟨5, ![2, 4096, 2, 2, 128]⟩
abbrev S2x4096x1x2x128 : Shape := ⟨5, ![2, 4096, 1, 2, 128]⟩
abbrev S2x4096x2x128 : Shape := ⟨4, ![2, 4096, 2, 128]⟩
abbrev S1x1x32x128 : Shape := ⟨4, ![1, 1, 32, 128]⟩
abbrev S32x128 : Shape := ⟨2, ![32, 128]⟩
abbrev S1x1x32x128x128 : Shape := ⟨5, ![1, 1, 32, 128, 128]⟩
abbrev S32x128x128 : Shape := ⟨3, ![32, 128, 128]⟩
abbrev S2x128x32x2x128 : Shape := ⟨5, ![2, 128, 32, 2, 128]⟩
abbrev S1x1x32x1x128 : Shape := ⟨5, ![1, 1, 32, 1, 128]⟩
abbrev S2x128x2x128 : Shape := ⟨4, ![2, 128, 2, 128]⟩
abbrev S2x64x2x128 : Shape := ⟨4, ![2, 64, 2, 128]⟩
abbrev S2x1x128x2x128 : Shape := ⟨5, ![2, 1, 128, 2, 128]⟩
abbrev S2x2x128x2x128 : Shape := ⟨5, ![2, 2, 128, 2, 128]⟩
abbrev S2x2x2x128x128 : Shape := ⟨5, ![2, 2, 2, 128, 128]⟩

abbrev nBuf : Space → Nat
  | .hbm => 37
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1x2x32x128, .f32⟩
  | .hbm, ⟨2, _⟩ => ⟨S1x2x32x128x128, .f32⟩
  | .hbm, ⟨3, _⟩ => ⟨S2x4096x2x2x128, .f32⟩
  | .hbm, ⟨4, _⟩ => ⟨S2x4096x1x2x128, .f32⟩
  | .hbm, ⟨5, _⟩ => ⟨S2x4096x2x128, .f32⟩
  | .hbm, ⟨6, _⟩ => ⟨S1x1x32x128, .f32⟩
  | .hbm, ⟨7, _⟩ => ⟨S32x128, .f32⟩
  | .hbm, ⟨8, _⟩ => ⟨S1x1x32x128x128, .f32⟩
  | .hbm, ⟨9, _⟩ => ⟨S32x128x128, .f32⟩
  | .hbm, ⟨10, _⟩ => ⟨S2x128x32x2x128, .f32⟩
  | .hbm, ⟨11, _⟩ => ⟨S1x1x32x1x128, .f32⟩
  | .hbm, ⟨12, _⟩ => ⟨S2x128x32x2x128, .f32⟩
  | .hbm, ⟨13, _⟩ => ⟨S2x128x32x2x128, .f32⟩
  | .hbm, ⟨14, _⟩ => ⟨S2x128x2x128, .f32⟩
  | .hbm, ⟨15, _⟩ => ⟨S2x64x2x128, .f32⟩
  | .hbm, ⟨16, _⟩ => ⟨S2x64x2x128, .f32⟩
  | .hbm, ⟨17, _⟩ => ⟨S2x128x2x128, .f32⟩
  | .hbm, ⟨18, _⟩ => ⟨S2x4096x1x2x128, .f32⟩
  | .hbm, ⟨19, _⟩ => ⟨S2x4096x2x128, .f32⟩
  | .hbm, ⟨20, _⟩ => ⟨S1x1x32x128, .f32⟩
  | .hbm, ⟨21, _⟩ => ⟨S32x128, .f32⟩
  | .hbm, ⟨22, _⟩ => ⟨S1x1x32x128x128, .f32⟩
  | .hbm, ⟨23, _⟩ => ⟨S32x128x128, .f32⟩
  | .hbm, ⟨24, _⟩ => ⟨S2x128x32x2x128, .f32⟩
  | .hbm, ⟨25, _⟩ => ⟨S1x1x32x1x128, .f32⟩
  | .hbm, ⟨26, _⟩ => ⟨S2x128x32x2x128, .f32⟩
  | .hbm, ⟨27, _⟩ => ⟨S2x128x32x2x128, .f32⟩
  | .hbm, ⟨28, _⟩ => ⟨S2x128x2x128, .f32⟩
  | .hbm, ⟨29, _⟩ => ⟨S2x64x2x128, .f32⟩
  | .hbm, ⟨30, _⟩ => ⟨S2x64x2x128, .f32⟩
  | .hbm, ⟨31, _⟩ => ⟨S2x128x2x128, .f32⟩
  | .hbm, ⟨32, _⟩ => ⟨S2x1x128x2x128, .f32⟩
  | .hbm, ⟨33, _⟩ => ⟨S2x1x128x2x128, .f32⟩
  | .hbm, ⟨34, _⟩ => ⟨S2x2x128x2x128, .f32⟩
  | .hbm, ⟨35, _⟩ => ⟨S2x2x2x128x128, .f32⟩
  | .hbm, ⟨36, _⟩ => ⟨S2x2x2x128x128, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩

abbrev nD : Nat := 1
abbrev τ : Topo := Topo.v7x

variable {F : FTy → Type} [FloatOps F]
-- ==== Fox.lean ====
abbrev S8192x1024 : Shape := ⟨2, ![8192, 1024]⟩
abbrev S8192x2048 : Shape := ⟨2, ![8192, 2048]⟩
abbrev S16x1x4096 : Shape := ⟨3, ![16, 1, 4096]⟩
abbrev S512x128 : Shape := ⟨2, ![512, 128]⟩
abbrev S4096x128 : Shape := ⟨2, ![4096, 128]⟩
abbrev S1x1x4096 : Shape := ⟨3, ![1, 1, 4096]⟩
abbrev S512x1 : Shape := ⟨2, ![512, 1]⟩
abbrev S512x512 : Shape := ⟨2, ![512, 512]⟩
abbrev S1x1x512 : Shape := ⟨3, ![1, 1, 512]⟩
abbrev S1x512 : Shape := ⟨2, ![1, 512]⟩
abbrev S512 : Shape := ⟨1, ![512]⟩

abbrev nBuf : Space → Nat
  | .hbm => 5
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S16x1x4096, .f32⟩
  | .hbm, ⟨3, _⟩ => ⟨S8192x1024, .f32⟩
  | .hbm, ⟨4, _⟩ => ⟨S8192x1024, .bf16⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x1x4096, .f32⟩
  | .local _ .vmem, ⟨7, _⟩ => ⟨S1x1x4096, .f32⟩
  | .local _ .vmem, ⟨8, _⟩ => ⟨S512x128, .f32⟩
  | .local _ .vmem, ⟨9, _⟩ => ⟨S512x128, .f32⟩
  | .local _ .vmem, ⟨10, _⟩ => ⟨S512x128, .bf16⟩
  | .local _ .vmem, ⟨11, _⟩ => ⟨S512x128, .bf16⟩
  | .local _ .vmem, ⟨12, _⟩ => ⟨S512x1, .f32⟩
  | .local _ .vmem, ⟨13, _⟩ => ⟨S512x1, .f32⟩
  | .local _ .vmem, ⟨14, _⟩ => ⟨S512x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 8], ![false, false, false]⟩

@[reducible] def k0_t1_loop (i : grid0.Coords) : Scf.Loop 32 :=
  let c0_i32_9 : BitVec 32 := 0#32
  let arg2 : BitVec 32 := BitVec.ofNat 32 (i 2).val
  let v13 : BitVec 32 := Scalar.subi arg2 c0_i32_9
  let c1_i32 : BitVec 32 := 1#32
  let v15 : BitVec 32 := Scalar.divsi v13 c1_i32
  let v16 : BitVec 32 := Scalar.muli v15 c1_i32
  let v17 : BitVec 32 := Scalar.addi c0_i32_9 v16
  let c1_i32_10 : BitVec 32 := 1#32
  ⟨c0_i32_9, v17, c1_i32_10⟩
def k0_mult1 (i : grid0.Coords) (k0_t1 : Fin (k0_t1_loop i).trips) : BitVec 32 :=
  let c0_i32_9 : BitVec 32 := 0#32
  let c1_i32_10 : BitVec 32 := 1#32
  let arg12 : BitVec 32 := Scf.iv c0_i32_9 c1_i32_10 k0_t1
  let c512_i32_48 : BitVec 32 := 512#32
  let v88 : BitVec 32 := Scalar.muli arg12 c512_i32_48
  v88
def k0_off1 (i : grid0.Coords) (k0_t1 : Fin (k0_t1_loop i).trips) : Fin 2 → Nat :=
  let c0_i32_9 : BitVec 32 := 0#32
  let c1_i32_10 : BitVec 32 := 1#32
  let arg12 : BitVec 32 := Scf.iv c0_i32_9 c1_i32_10 k0_t1
  let c512_i32_48 : BitVec 32 := 512#32
  let v88 : BitVec 32 := Scalar.muli arg12 c512_i32_48
  let v89 : BitVec 32 := v88
  let v90 : Index := Scalar.indexCast v89
  let c0_49 : Index := 0#32
  ![v90.toNat, 0]
def k0_off2 (i : grid0.Coords) (k0_t1 : Fin (k0_t1_loop i).trips) : Fin 3 → Nat :=
  let c0_52 : Index := 0#32
  let c0_53 : Index := 0#32
  let c0_i32_9 : BitVec 32 := 0#32
  let c1_i32_10 : BitVec 32 := 1#32
  let arg12 : BitVec 32 := Scf.iv c0_i32_9 c1_i32_10 k0_t1
  let c512_i32_48 : BitVec 32 := 512#32
  let v88 : BitVec 32 := Scalar.muli arg12 c512_i32_48
  let v89 : BitVec 32 := v88
  let v95 : Index := Scalar.indexCast v89
  ![0, 0, v95.toNat]
@[reducible] def k0_t2_loop (i : grid0.Coords) : Scf.Loop 32 :=
  let c0_i32_9 : BitVec 32 := 0#32
  let arg2 : BitVec 32 := BitVec.ofNat 32 (i 2).val
  let v13 : BitVec 32 := Scalar.subi arg2 c0_i32_9
  let c1_i32 : BitVec 32 := 1#32
  let v15 : BitVec 32 := Scalar.divsi v13 c1_i32
  let v16 : BitVec 32 := Scalar.muli v15 c1_i32
  let v17 : BitVec 32 := Scalar.addi c0_i32_9 v16
  let v14 : BitVec 32 := Scalar.addi c0_i32_9 v13
  let c1_i32_11 : BitVec 32 := 1#32
  ⟨v17, v14, c1_i32_11⟩
def k0_mult2 (i : grid0.Coords) (k0_t2 : Fin (k0_t2_loop i).trips) : BitVec 32 :=
  let c0_i32_9 : BitVec 32 := 0#32
  let arg2 : BitVec 32 := BitVec.ofNat 32 (i 2).val
  let v13 : BitVec 32 := Scalar.subi arg2 c0_i32_9
  let c1_i32 : BitVec 32 := 1#32
  let v15 : BitVec 32 := Scalar.divsi v13 c1_i32
  let v16 : BitVec 32 := Scalar.muli v15 c1_i32
  let v17 : BitVec 32 := Scalar.addi c0_i32_9 v16
  let c1_i32_11 : BitVec 32 := 1#32
  let arg12 : BitVec 32 := Scf.iv v17 c1_i32_11 k0_t2
  let c512_i32_48 : BitVec 32 := 512#32
  let v88 : BitVec 32 := Scalar.muli arg12 c512_i32_48
  v88
def k0_off3 (i : grid0.Coords) (k0_t2 : Fin (k0_t2_loop i).trips) : Fin 2 → Nat :=
  let c0_i32_9 : BitVec 32 := 0#32
  let arg2 : BitVec 32 := BitVec.ofNat 32 (i 2).val
  let v13 : BitVec 32 := Scalar.subi arg2 c0_i32_9
  let c1_i32 : BitVec 32 := 1#32
  let v15 : BitVec 32 := Scalar.divsi v13 c1_i32
  let v16 : BitVec 32 := Scalar.muli v15 c1_i32
  let v17 : BitVec 32 := Scalar.addi c0_i32_9 v16
  let c1_i32_11 : BitVec 32 := 1#32
  let arg12 : BitVec 32 := Scf.iv v17 c1_i32_11 k0_t2
  let c512_i32_48 : BitVec 32 := 512#32
  let v88 : BitVec 32 := Scalar.muli arg12 c512_i32_48
  let v89 : BitVec 32 := v88
  let v90 : Index := Scalar.indexCast v89
  let c0_49 : Index := 0#32
  ![v90.toNat, 0]
def k0_off4 (i : grid0.Coords) (k0_t2 : Fin (k0_t2_loop i).trips) : Fin 3 → Nat :=
  let c0_52 : Index := 0#32
  let c0_53 : Index := 0#32
  let c0_i32_9 : BitVec 32 := 0#32
  let arg2 : BitVec 32 := BitVec.ofNat 32 (i 2).val
  let v13 : BitVec 32 := Scalar.subi arg2 c0_i32_9
  let c1_i32 : BitVec 32 := 1#32
  let v15 : BitVec 32 := Scalar.divsi v13 c1_i32
  let v16 : BitVec 32 := Scalar.muli v15 c1_i32
  let v17 : BitVec 32 := Scalar.addi c0_i32_9 v16
  let c1_i32_11 : BitVec 32 := 1#32
  let arg12 : BitVec 32 := Scf.iv v17 c1_i32_11 k0_t2
  let c512_i32_48 : BitVec 32 := 512#32
  let v88 : BitVec 32 := Scalar.muli arg12 c512_i32_48
  let v89 : BitVec 32 := v88
  let v95 : Index := Scalar.indexCast v89
  ![0, 0, v95.toNat]
def k0_mult3 (i : grid0.Coords) : BitVec 32 :=
  let arg2 : BitVec 32 := BitVec.ofNat 32 (i 2).val
  let c512_i32 : BitVec 32 := 512#32
  let v18 : BitVec 32 := Scalar.muli arg2 c512_i32
  v18
def k0_off5 (i : grid0.Coords) : Fin 2 → Nat :=
  let arg2 : BitVec 32 := BitVec.ofNat 32 (i 2).val
  let c512_i32 : BitVec 32 := 512#32
  let v18 : BitVec 32 := Scalar.muli arg2 c512_i32
  let v19 : BitVec 32 := v18
  let v20 : Index := Scalar.indexCast v19
  let c0_12 : Index := 0#32
  ![v20.toNat, 0]
def k0_off6 (i : grid0.Coords) : Fin 3 → Nat :=
  let c0_15 : Index := 0#32
  let c0_16 : Index := 0#32
  let arg2 : BitVec 32 := BitVec.ofNat 32 (i 2).val
  let c512_i32 : BitVec 32 := 512#32
  let v18 : BitVec 32 := Scalar.muli arg2 c512_i32
  let v19 : BitVec 32 := v18
  let v25 : Index := Scalar.indexCast v19
  ![0, 0, v25.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== FoxReferenceIdeal.lean ====
abbrev S8192x1024 : Shape := ⟨2, ![8192, 1024]⟩
abbrev S8192x2048 : Shape := ⟨2, ![8192, 2048]⟩
abbrev S16x1x4096 : Shape := ⟨3, ![16, 1, 4096]⟩
abbrev S2x4096x16x128 : Shape := ⟨4, ![2, 4096, 16, 128]⟩
abbrev S2x8x4096 : Shape := ⟨3, ![2, 8, 4096]⟩
abbrev S2x4096x8 : Shape := ⟨3, ![2, 4096, 8]⟩
abbrev S4096 : Shape := ⟨1, ![4096]⟩
abbrev S2x4096x8x128 : Shape := ⟨4, ![2, 4096, 8, 128]⟩
abbrev S2x8x4096x4096 : Shape := ⟨4, ![2, 8, 4096, 4096]⟩
abbrev S_ : Shape := ⟨0, ![]⟩
abbrev S2x8x4096x1 : Shape := ⟨4, ![2, 8, 4096, 1]⟩
abbrev S2x8x1x4096 : Shape := ⟨4, ![2, 8, 1, 4096]⟩
abbrev S1x4096 : Shape := ⟨2, ![1, 4096]⟩
abbrev S4096x1 : Shape := ⟨2, ![4096, 1]⟩
abbrev S4096x4096 : Shape := ⟨2, ![4096, 4096]⟩
abbrev S2x8x128x4096 : Shape := ⟨4, ![2, 8, 128, 4096]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S16x1x4096, .f32⟩
  | .hbm, ⟨3, _⟩ => ⟨S8192x1024, .f32⟩
  | .hbm, ⟨4, _⟩ => ⟨S8192x2048, .f32⟩
  | .hbm, ⟨5, _⟩ => ⟨S2x4096x16x128, .f32⟩
  | .hbm, ⟨6, _⟩ => ⟨S2x8x4096, .f32⟩
  | .hbm, ⟨7, _⟩ => ⟨S2x4096x8, .f32⟩
  | .hbm, ⟨8, _⟩ => ⟨S4096, .i32⟩
  | .hbm, ⟨9, _⟩ => ⟨S8192x1024, .f32⟩
  | .hbm, ⟨10, _⟩ => ⟨S2x4096x8x128, .f32⟩
  | .hbm, ⟨11, _⟩ => ⟨S2x4096x8x128, .f32⟩
  | .hbm, ⟨12, _⟩ => ⟨S2x4096x8x128, .f32⟩
  | .hbm, ⟨13, _⟩ => ⟨S2x8x4096x4096, .f32⟩
  | .hbm, ⟨14, _⟩ => ⟨S_, .f32⟩
  | .hbm, ⟨15, _⟩ => ⟨S2x8x4096x4096, .f32⟩
  | .hbm, ⟨16, _⟩ => ⟨S2x8x4096x4096, .f32⟩
  | .hbm, ⟨17, _⟩ => ⟨S2x8x4096, .f32⟩
  | .hbm, ⟨18, _⟩ => ⟨S2x8x4096x1, .f32⟩
  | .hbm, ⟨19, _⟩ => ⟨S2x8x4096x4096, .f32⟩
  | .hbm, ⟨20, _⟩ => ⟨S2x8x4096x4096, .f32⟩
  | .hbm, ⟨21, _⟩ => ⟨S2x8x4096, .f32⟩
  | .hbm, ⟨22, _⟩ => ⟨S2x8x1x4096, .f32⟩
  | .hbm, ⟨23, _⟩ => ⟨S2x8x4096x4096, .f32⟩
  | .hbm, ⟨24, _⟩ => ⟨S2x8x4096x4096, .f32⟩
  | .hbm, ⟨25, _⟩ => ⟨S1x4096, .i32⟩
  | .hbm, ⟨26, _⟩ => ⟨S4096x1, .i32⟩
  | .hbm, ⟨27, _⟩ => ⟨S4096x4096, .i32⟩
  | .hbm, ⟨28, _⟩ => ⟨S4096x4096, .i32⟩
  | .hbm, ⟨29, _⟩ => ⟨S4096x4096, .i1⟩
  | .hbm, ⟨30, _⟩ => ⟨S_, .f32⟩
  | .hbm, ⟨31, _⟩ => ⟨S_, .f32⟩
  | .hbm, ⟨32, _⟩ => ⟨S2x8x4096x4096, .i1⟩
  | .hbm, ⟨33, _⟩ => ⟨S2x8x4096x4096, .f32⟩
  | .hbm, ⟨34, _⟩ => ⟨S2x8x4096x4096, .f32⟩
  | .hbm, ⟨35, _⟩ => ⟨S_, .f32⟩
  | .hbm, ⟨36, _⟩ => ⟨S2x8x4096, .f32⟩
  | .hbm, ⟨37, _⟩ => ⟨S2x8x4096x1, .f32⟩
  | .hbm, ⟨38, _⟩ => ⟨S_, .f32⟩
  | .hbm, ⟨39, _⟩ => ⟨S2x8x4096x1, .f32⟩
  | .hbm, ⟨40, _⟩ => ⟨S2x8x4096x1, .i1⟩
  | .hbm, ⟨41, _⟩ => ⟨S_, .f32⟩
  | .hbm, ⟨42, _⟩ => ⟨S_, .f32⟩
  | .hbm, ⟨43, _⟩ => ⟨S2x8x4096x1, .f32⟩
  | .hbm, ⟨44, _⟩ => ⟨S2x8x4096x1, .f32⟩
  | .hbm, ⟨45, _⟩ => ⟨S2x8x4096x4096, .f32⟩
  | .hbm, ⟨46, _⟩ => ⟨S2x8x4096x4096, .f32⟩
  | .hbm, ⟨47, _⟩ => ⟨S2x8x4096x4096, .f32⟩
  | .hbm, ⟨48, _⟩ => ⟨S_, .f32⟩
  | .hbm, ⟨49, _⟩ => ⟨S2x8x4096, .f32⟩
  | .hbm, ⟨50, _⟩ => ⟨S2x8x4096x1, .f32⟩
  | .hbm, ⟨51, _⟩ => ⟨S_, .f32⟩
  | .hbm, ⟨52, _⟩ => ⟨S2x8x4096x1, .f32⟩
  | .hbm, ⟨53, _⟩ => ⟨S2x8x4096x1, .f32⟩
  | .hbm, ⟨54, _⟩ => ⟨S2x8x4096x4096, .f32⟩
  | .hbm, ⟨55, _⟩ => ⟨S2x8x4096x4096, .f32⟩
  | .hbm, ⟨56, _⟩ => ⟨S2x8x128x4096, .f32⟩
  | .hbm, ⟨57, _⟩ => ⟨S2x4096x8x128, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_call1_v0 : Ref sig .tc := ⟨.hbm, 42, rfl⟩
abbrev main_call1_v1 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_call2_v0 : Ref sig .tc := ⟨.hbm, 59, rfl⟩
abbrev main_call2_v1 : Ref sig .tc := ⟨.hbm, 60, rfl⟩
abbrev main_call2_cst : Ref sig .tc := ⟨.hbm, 61, rfl⟩
abbrev main_call2_v2 : Ref sig .tc := ⟨.hbm, 62, rfl⟩
abbrev main_call2_v3 : Ref sig .tc := ⟨.hbm, 63, rfl⟩
abbrev main_call2_cst_0 : Ref sig .tc := ⟨.hbm, 64, rfl⟩
abbrev main_call2_v4 : Ref sig .tc := ⟨.hbm, 65, rfl⟩
abbrev main_call2_v5 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩

abbrev nD : Nat := 1
abbrev τ : Topo := Topo.v7x

variable {F : FTy → Type} [FloatOps F]
-- ==== Proof.Regroup.Value.lean ====
/-
  The VALUE of the weight regrouping. The kernel reads the transposed weight (one row per output column) through an
  element-indexed window of 512 rows and writes each block transposed and narrowed. Its three spans of columns leave out
  the 24 gate columns from 2560 on and the 8 forget columns from 6680 on, so result column `j` is weight column `src j`:
  `j` itself below 2560, `j + 24` below 6656, `j + 32` from there. The reference splits the weight into its nine groups
  of columns and joins the seven large ones; piece by piece that is the same map.
-/
module

public import proofs.«01_k».proof.Defs
public import proofs.«01_k».proof.Proof.Gen.Regroup.Frame
public import proofs.«01_k».proof.Proof.Gen.RegroupReference
public import proofs.«01_k».proof.Proof.Gen.RegroupIdeal.Value
public import proofs.«01_k».proof.Proof.Gen.RegroupReferenceIdeal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Regrouping

/-- The weight column that result column `j` is taken from. -/
def src (j : Nat) : Nat := if j < 2560 then j else if j < 6656 then j + 24 else j + 32

/-- The three spans, as arithmetic. -/
theorem src_spec (j : Nat) : (j < 2560 ∧ src j = j) ∨ (2560 ≤ j ∧ j < 6656 ∧ src j = j + 24) ∨ (6656 ≤ j ∧ src j = j + 32) := by
  unfold src; split_ifs <;> omega

theorem src_lt {j : Nat} (h : j < 7680) : src j < 7712 := by unfold src; split_ifs <;> omega

end Cert.Regrouping

/-! ## The kernel -/

namespace Cert.RegroupIdeal.Hand

open Cert.RegroupIdeal Cert.RegroupIdeal.Gen Cert.Regrouping

variable {F : FTy → Type} [FloatOps F]
variable (m : (ℓ : Loc nD τ sig) → Buf (Elt F) ℓ) (ρ : Dev nD → PrngReg)

/-- The regrouped weight as one function of the weight: element (d, j) is the narrowed weight element (d, src j). -/
def grouped (w : S1x2048x7712.Idx → F .f32) : FVec F S2048x7680 .bf16 := fun i =>
  FloatOps.truncf .bf16 bitsLt_bf16_f32 (w (ix3 0 (i 0) ⟨src (i 1).val, src_lt (i 1).isLt⟩))

/-- Where the two windows stand at grid point `t`: the element window at the row its 512 columns come from, the result
    window at block `t` of its columns. -/
theorem index_at : ∀ t : Fin cfg0.N, win0_0.index t 0 = src (t.val * 512) ∧ win0_0.index t 1 = 0
      ∧ win0_1.index t 0 = 0 ∧ win0_1.index t 1 = t.val ∧ src (t.val * 512 + 511) = src (t.val * 512) + 511 :=
  (by decide +kernel : ∀ t : Fin grid0.N, win0_0.index t 0 = src (t.val * 512) ∧ win0_0.index t 1 = 0
      ∧ win0_1.index t 0 = 0 ∧ win0_1.index t 1 = t.val ∧ src (t.val * 512 + 511) = src (t.val * 512) + 511)

/-- Within one tile the source columns are consecutive. -/
theorem src_tile {t k : Nat} (hk : k < 512) : src (t * 512 + k) = src (t * 512) + k := by
  unfold src; split_ifs <;> omega

theorem hz : (![0, 0] : Fin 2 → Nat) = fun _ => 0 := funext fun a => by fin_cases a <;> rfl

/-- The weight without its leading axis of one, transposed, read at an element. -/
theorem turned_apply (w : S1x2048x7712.Idx → F .f32) (i : Fin 7712) (d : Fin 2048) :
    transpose S7712x2048 [1, 0] (shapeCast S2048x7712 w shapeCasts_S1x2048x7712_S2048x7712)
      transposes_S2048x7712_S7712x2048_1_0 (ix2 i d) = w (ix3 0 d i) := by
  pointwise

/-- The array the element window reads: the weight, transposed. -/
theorem entry_apply (c : Dev nD) (i : Fin 7712) (d : Fin 2048) :
    (V m c main_v1 : S7712x2048.Idx → F .f32) (ix2 i d) = m ((c : Thread nD τ).loc main_arg0) (ix3 0 d i) := by
  have e : V m c main_v1 = transpose S7712x2048 [1, 0]
      (shapeCast S2048x7712 (m ((c : Thread nD τ).loc main_arg0)) shapeCasts_S1x2048x7712_S2048x7712)
      transposes_S2048x7712_S7712x2048_1_0 := by
    show StableHlo.after hostOps0 (fun b => m (c, b)) main_v1 = _
    after_results <;> rfl
  rw [e]
  exact turned_apply _ i d

/-- What the body stores, read at an element: the loaded block's transposed element, narrowed. -/
theorem pay_apply (x : Vec F S512x2048 .f32) (d : Fin 2048) (k : Fin 512) :
    k0_pay1 x (ix2 d k) = FloatOps.truncf .bf16 bitsLt_bf16_f32 (x (ix2 k d)) := by
  pointwise [k0_pay1]

/-- Every grid point writes back its block of the regrouped weight. -/
theorem flushed_eq (c : Dev nD) (t : Fin cfg0.N) :
    (dats m 0 c).flushed 1 t = (win0_1.blk t).view.read (Elt F) (grouped (m ((c : Thread nD τ).loc main_arg0))) := by
  rw [Cert.RegroupIdeal.Value.flushed1]
  unfold out0_1
  rw [View.canon_unit_zero hz, View.ld_unit_zero hz]
  obtain ⟨h0, h1, h2, h3, -⟩ := index_at t
  funext j
  obtain ⟨d, k, rfl⟩ : ∃ (d : Fin 2048) (k : Fin 512), j = ix2 d k := ⟨_, _, eq_ix2 (n0 := 2048) (n1 := 512) j⟩
  refine (pay_apply _ d k).trans (congrArg (FloatOps.truncf .bf16 bitsLt_bf16_f32) ?_)
  have hk := k.isLt
  have e0 : (win0_0.rect t).emb (ix2 k d) = ix2 ⟨src (t.val * 512 + k.val), src_lt (by have := lt_of_lt_of_eq t.isLt N_0; omega)⟩ d := by
    funext a; apply Fin.ext
    match a with
    | ⟨0, _⟩ => show win0_0.index t 0 + 1 * k.val = src (t.val * 512 + k.val); rw [h0, src_tile hk]; omega
    | ⟨1, _⟩ => show win0_0.index t 1 + 1 * d.val = d.val; rw [h1]; omega
  refine (congrArg (V m c main_v1) e0).trans ((entry_apply m c _ d).trans (congrArg (m ((c : Thread nD τ).loc main_arg0)) ?_))
  funext a; apply Fin.ext
  match a with
  | ⟨0, _⟩ => rfl
  | ⟨1, _⟩ => show d.val = win0_1.index t 0 * 2048 + 1 * d.val; rw [h2]; omega
  | ⟨2, _⟩ => show src (t.val * 512 + k.val) = src (win0_1.index t 1 * 512 + 1 * k.val); rw [h3]; congr 1; omega

/-- The result's blocks tile its array. -/
theorem cover (i : S2048x7680.Idx) :
    ∃ t : Fin cfg0.N, (cfg0.win 1).flush t = true ∧ i ∈ ((cfg0.win 1).blk t).view.set := by
  have h0 : (i 0 : Nat) < 2048 := (i 0).isLt
  have h1 : (i 1 : Nat) < 7680 := (i 1).isLt
  have ht : (i 1 : Nat) / 512 < cfg0.N := by show _ < grid0.N; rw [N_0]; omega
  refine ⟨⟨(i 1 : Nat) / 512, ht⟩, flush0_1 _, ?_⟩
  show i ∈ ((View.whole main_v2).slice (win0_1.rect ⟨(i 1 : Nat) / 512, ht⟩)).set
  rw [View.set_slice_whole, Rect.mem_set_unit]
  obtain ⟨-, -, e0, e1, -⟩ := index_at ⟨(i 1 : Nat) / 512, ht⟩
  intro a
  match a with
  | ⟨0, _⟩ =>
    show win0_1.index ⟨(i 1 : Nat) / 512, ht⟩ 0 * 2048 ≤ (i 0 : Nat) ∧ (i 0 : Nat) < win0_1.index ⟨(i 1 : Nat) / 512, ht⟩ 0 * 2048 + 2048
    rw [e0]; omega
  | ⟨1, _⟩ =>
    show win0_1.index ⟨(i 1 : Nat) / 512, ht⟩ 1 * 512 ≤ (i 1 : Nat) ∧ (i 1 : Nat) < win0_1.index ⟨(i 1 : Nat) / 512, ht⟩ 1 * 512 + 512
    rw [e1]; dsimp only; omega

/-- So the result array ends holding the regrouped weight, and the argument is unchanged. -/
theorem run : θ_run defs (onTc (τ := τ) (main (F := F))) ⟨m, fun _ => 0, ρ⟩ fun r => ∀ c : Dev nD,
      r.2.mem ((c : Thread nD τ).loc main_v2) = grouped (m ((c : Thread nD τ).loc main_arg0))
      ∧ r.2.mem ((c : Thread nD τ).loc main_arg0) = m ((c : Thread nD τ).loc main_arg0) :=
  (θ_run defs _ _).mono (fun _ h c => ⟨(h c).1.trans ((dats m 0 c).arrAt_eq_of_cover 1
      (grouped (m ((c : Thread nD τ).loc main_arg0))) (fun t _ => flushed_eq m c t) cover), (h c).2⟩)
    (Cert.RegroupIdeal.Value.run_blocks m ρ)

end Cert.RegroupIdeal.Hand

/-! ## The reference -/

namespace Cert.RegroupReferenceIdeal.Hand

open Cert.RegroupReferenceIdeal Cert.RegroupReferenceIdeal.Gen Cert.Regrouping

variable {F : FTy → Type} [FloatOps F]
variable (m : (ℓ : Loc nD τ sig) → Buf (Elt F) ℓ) (ρ : Dev nD → PrngReg)

/-- The seven large groups of columns of a weight, joined and narrowed, are the regrouped weight. -/
theorem joined_eq (w : S1x2048x7712.Idx → F .f32) :
    truncf .bf16 (concatenate S2048x7680 1
      [⟨S2048x1024, extractStridedSlice S2048x1024 ![0, 0] (shapeCast _ w shapeCasts_S1x2048x7712_S2048x7712) slices_S2048x7712_S2048x1024_0_0⟩,
       ⟨S2048x1536, extractStridedSlice S2048x1536 ![0, 1024] (shapeCast _ w shapeCasts_S1x2048x7712_S2048x7712) slices_S2048x7712_S2048x1536_0_1024⟩,
       ⟨S2048x1024, extractStridedSlice S2048x1024 ![0, 2584] (shapeCast _ w shapeCasts_S1x2048x7712_S2048x7712) slices_S2048x7712_S2048x1024_0_2584⟩,
       ⟨S2048x1024, extractStridedSlice S2048x1024 ![0, 3608] (shapeCast _ w shapeCasts_S1x2048x7712_S2048x7712) slices_S2048x7712_S2048x1024_0_3608⟩,
       ⟨S2048x1024, extractStridedSlice S2048x1024 ![0, 4632] (shapeCast _ w shapeCasts_S1x2048x7712_S2048x7712) slices_S2048x7712_S2048x1024_0_4632⟩,
       ⟨S2048x1024, extractStridedSlice S2048x1024 ![0, 5656] (shapeCast _ w shapeCasts_S1x2048x7712_S2048x7712) slices_S2048x7712_S2048x1024_0_5656⟩,
       ⟨S2048x1024, extractStridedSlice S2048x1024 ![0, 6688] (shapeCast _ w shapeCasts_S1x2048x7712_S2048x7712) slices_S2048x7712_S2048x1024_0_6688⟩]
      concatenates_S2048x1024_S2048x1536_S2048x1024_S2048x1024_S2048x1024_S2048x1024_S2048x1024_S2048x7680_d1) bitsLt_bf16_f32
      = Cert.RegroupIdeal.Hand.grouped w := by
  funext i
  idx_vars i
  pointwise [Cert.RegroupIdeal.Hand.grouped]
  refine congrArg (FloatOps.truncf .bf16 _) ?_
  have hi := i1.isLt
  split_ifs <;> refine congrArg w (congrArg (ix3 0 i0) (Fin.ext ?_)) <;> show _ = src i1.val <;>
    have hs := src_spec i1.val <;> dsimp only <;> omega

end Cert.RegroupReferenceIdeal.Hand

end
-- ==== Proof.Regroup.Claims.lean ====
/-
  The claims about the weight regrouping. The run of Value.lean holds at every float instance, and the printed program
  and its idealization are the same text, so one run serves the bit-exact claim and the ideal one.
-/
module

public import proofs.«01_k».proof.Proof.Regroup.Value

@[expose] public section

set_option maxRecDepth 16384

noncomputable section

open Idealize.ShloMosaic Idealize.ShloMosaic.TcCoe Idealize.SL.Sem

namespace Cert.Regrouping

theorem frame : Cert.quiescent_Regroup := fun m ρ _ => Cert.Regroup.Gen.frame m ρ
theorem frame_ideal : Cert.quiescent_RegroupIdeal := fun m ρ _ => Cert.RegroupIdeal.Gen.frame m ρ
/-- The reference is host operations only: it declares no semaphore. -/
theorem frame_reference : Cert.quiescent_RegroupReferenceIdeal := fun m ρ _ =>
  (θ_run Cert.RegroupReferenceIdeal.defs _ _).mono
    (fun r h => ⟨fun c => (h c).2, sem_eq_zero_of_no_sems (by decide) r.2⟩)
    (Cert.RegroupReferenceIdeal.Value.run m ρ)

theorem preserves : Cert.preserves_Regroup_RegroupIdeal := trivial

/-- At the ideal instance both end with the regrouped weight of arguments that agree. -/
theorem algebraic : Cert.algebraic_RegroupIdeal_RegroupReferenceIdeal := by
  intro m ρ m' ρ' _ hagree
  refine ⟨fun c => Cert.RegroupIdeal.Hand.grouped (F := Ideal) (m (c.tc.loc Cert.RegroupIdeal.main_arg0)), ?_, ?_⟩
  · exact (θ_run Cert.RegroupIdeal.defs _ _).mono (fun _ h c => h c) (Cert.RegroupIdeal.Hand.run m ρ)
  refine (θ_run Cert.RegroupReferenceIdeal.defs _ _).mono (fun _ h c => ⟨(h c).1.trans ?_, (h c).2⟩)
    (Cert.RegroupReferenceIdeal.Value.run m' ρ')
  rw [hagree c]
  exact Cert.RegroupReferenceIdeal.Hand.joined_eq _

/-- The printed program's body table is its idealization's: label by label the same function. -/
theorem bodies_eq : Cert.Regroup.defs₀ (F := Bits) = Cert.RegroupIdeal.defs₀ := by
  unfold Cert.Regroup.defs₀ Cert.RegroupIdeal.defs₀
  congr 1
  funext l x
  match l, x with
  | 0, (t, s) => rfl

theorem defs_eq : Cert.Regroup.defs (F := Bits) = Cert.RegroupIdeal.defs := by
  show Pipeline.defs Cert.RegroupIdeal.pcfgs Cert.Regroup.defs₀ = Pipeline.defs Cert.RegroupIdeal.pcfgs Cert.RegroupIdeal.defs₀
  rw [bodies_eq]

/-- And the same, word for word, on the bits. -/
theorem bitexact : Cert.bitexact_Regroup_RegroupReference := by
  intro m ρ m' ρ' _ hagree
  refine ⟨fun c => Cert.RegroupIdeal.Hand.grouped (F := Bits) (m (c.tc.loc Cert.Regroup.main_arg0)), ?_, ?_⟩
  · rw [defs_eq]
    exact (θ_run Cert.RegroupIdeal.defs _ _).mono (fun _ h c => h c) (Cert.RegroupIdeal.Hand.run (F := Bits) m ρ)
  refine (θ_run Cert.RegroupReferenceIdeal.defs _ _).mono (fun _ h c => ⟨(h c).1.trans ?_, (h c).2⟩)
    (Cert.RegroupReferenceIdeal.Value.run (F := Bits) m' ρ')
  have e : m' (c.tc.loc Cert.RegroupReferenceIdeal.main_arg0) = m (c.tc.loc Cert.Regroup.main_arg0) := hagree c
  rw [e]
  exact Cert.RegroupReferenceIdeal.Hand.joined_eq _

/-- The reference's own bits frame, taken from the same run. -/
theorem frame_reference_bits : Cert.quiescent_RegroupReference := fun m ρ _ =>
  (θ_run Cert.RegroupReferenceIdeal.defs _ _).mono
    (fun r h => ⟨fun c => (h c).2, sem_eq_zero_of_no_sems (by decide) r.2⟩)
    (Cert.RegroupReferenceIdeal.Value.run (F := Bits) m ρ)

end Cert.Regrouping

end
-- ==== Proof.Sample.Run.lean ====
/-
  The run of the sample batch's projection with every array NAMED: the launch of the frame (the same segments, in the
  same order), its final memory read at every buffer instead of at the arguments alone. What an array holds is then a
  matter of `W12`, the contents after the last stretch of host operations.
-/
module

public import proofs.«01_k».proof.Proof.Gen.SampleIdeal.Frame

@[expose] public section

set_option maxRecDepth 16384

noncomputable section

namespace Cert.SampleIdeal.Hand

open Cert.SampleIdeal Cert.SampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the program every buffer of the TensorCores that outlives its kernels holds what `W12` says. -/
theorem run : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h _ c => h c)

end Cert.SampleIdeal.Hand

end
-- ==== Proof.Projection.Blocks.lean ====
/-
  The projection's mathematics at the ideal instance, free of any program: rows normalised by their root mean square,
  a product that takes chosen columns of a weight, the gates and forget logarithms — each as a function of whole arrays
  read at an index — and, for each, the step from a block to the array: a body that computes the same function of its
  blocks, read where its windows stand, computes the function's block.
-/
module

public import proofs.«01_k».proof.Proof.Regroup.Value

@[expose] public section

set_option maxRecDepth 16384

noncomputable section

open Idealize.ShloMosaic Idealize.ShloMosaic.TcCoe Idealize.SL.Sem

namespace Cert.Projection

open Cert.Regrouping

/-- The contents of a two-axis array of extended reals. -/
abbrev Mat (M N : Nat) : Type := (⟨2, ![M, N]⟩ : Shape).Idx → EReal

/-- The mean of a row's squares plus the norm's small constant, to the power −1/2. -/
def rowScale (x : Fin 2048 → EReal) : EReal :=
  Ideal.rsqrt (Ideal.div (∑ k, x k * x k) (Ideal.ofBits FTy.f32 1157627904#32) + Ideal.ofBits FTy.f32 897988541#32)

/-- Every row divided by its root mean square and multiplied by the norm's weight. -/
def normed {M : Nat} (x : Mat M 2048) (g : Mat 1 2048) : Mat M 2048 := fun i =>
  x i * rowScale (fun k => x (ix2 (n0 := M) (i 0) k)) * g (ix2 (n1 := 2048) 0 (i 1))

/-- The product of `h` with the columns `col 0`, `col 1`, … of `w`. -/
def product {M K N n : Nat} (h : Mat M K) (w : Mat K N) (col : Fin n → Fin N) : Mat M n := fun i =>
  ∑ k, h (ix2 (n0 := M) (i 0) k) * w (ix2 k (col (i 1)))

/-- The logistic function. -/
def logistic (z : EReal) : EReal := Ideal.div 1 (1 + Ideal.exp (-z))

/-- The logarithm of the logistic function, in the form that does not overflow. -/
def logLogistic (z : EReal) : EReal := min z 0 - Ideal.log1p (Ideal.exp (-max z (-z)))

/-- One array of gates and forget logarithms: the logistic function in its first 24 columns, its logarithm after. -/
def gated {M n : Nat} (h : Mat M 2048) (w : Mat 2048 n) (b : Mat 1 n) : Mat M n := fun i =>
  if (i 1).val < 24 then logistic (product h w id i + b (ix2 (n1 := n) 0 (i 1)))
  else logLogistic (product h w id i + b (ix2 (n1 := n) 0 (i 1)))

variable {M K N n tm tn : Nat}

/-- A two-axis index is known by its coordinates. -/
theorem ext2 {M N : Nat} {i : (⟨2, ![M, N]⟩ : Shape).Idx} {a : Fin M} {b : Fin N} (h0 : (i 0).val = a.val) (h1 : (i 1).val = b.val) :
    i = ix2 a b := by
  funext x
  match x with
  | ⟨0, _⟩ => exact Fin.ext h0
  | ⟨1, _⟩ => exact Fin.ext h1

/-- A block of rows normalises to the block of the normalised rows. -/
theorem normed_block (x : Mat M 2048) (g : Mat 1 2048) {pay : Mat tm 2048 → Mat 1 2048 → Mat tm 2048}
    (hpay : ∀ x g a b, pay x g (ix2 a b) = normed x g (ix2 a b))
    {e0 e2 : (⟨2, ![tm, 2048]⟩ : Shape).Idx → (⟨2, ![M, 2048]⟩ : Shape).Idx}
    {e1 : (⟨2, ![1, 2048]⟩ : Shape).Idx → (⟨2, ![1, 2048]⟩ : Shape).Idx} (row : Fin tm → Fin M)
    (h0 : ∀ a b, e0 (ix2 a b) = ix2 (row a) b) (h1 : ∀ b, e1 (ix2 0 b) = ix2 0 b) (h2 : ∀ a b, e2 (ix2 a b) = ix2 (row a) b)
    (a : Fin tm) (b : Fin 2048) :
    pay (fun j => x (e0 j)) (fun j => g (e1 j)) (ix2 a b) = normed x g (e2 (ix2 a b)) := by
  rw [hpay, h2]
  show x (e0 (ix2 a b)) * rowScale (fun k => x (e0 (ix2 a k))) * g (e1 (ix2 0 b)) = x (ix2 (row a) b) * rowScale (fun k => x (ix2 (row a) k)) * g (ix2 0 b)
  simp only [h0, h1]

/-- A product of a block of rows and a block of columns is the block of the product. -/
theorem product_block (h : Mat M K) (w : Mat K N) (col : Fin n → Fin N) {pay : Mat tm K → Mat K tn → Mat tm tn}
    (hpay : ∀ x y a b, pay x y (ix2 a b) = product x y id (ix2 a b))
    {e0 : (⟨2, ![tm, K]⟩ : Shape).Idx → (⟨2, ![M, K]⟩ : Shape).Idx}
    {e1 : (⟨2, ![K, tn]⟩ : Shape).Idx → (⟨2, ![K, N]⟩ : Shape).Idx}
    {e2 : (⟨2, ![tm, tn]⟩ : Shape).Idx → (⟨2, ![M, n]⟩ : Shape).Idx} (row : Fin tm → Fin M) (tgt : Fin tn → Fin n)
    (h0 : ∀ a k, e0 (ix2 a k) = ix2 (row a) k) (h1 : ∀ k b, e1 (ix2 k b) = ix2 k (col (tgt b)))
    (h2 : ∀ a b, e2 (ix2 a b) = ix2 (row a) (tgt b)) (a : Fin tm) (b : Fin tn) :
    pay (fun j => h (e0 j)) (fun j => w (e1 j)) (ix2 a b) = product h w col (e2 (ix2 a b)) := by
  rw [hpay, h2]
  show ∑ k, h (e0 (ix2 a k)) * w (e1 (ix2 k b)) = ∑ k, h (ix2 (row a) k) * w (ix2 k (col (tgt b)))
  simp only [h0, h1]

/-- The columns `o`, `o + 1`, … of an array of 7680 columns. -/
def cols (o : Nat) (h : o + n ≤ 7680) : Fin n → Fin 7680 := fun j => ⟨o + j.val, by omega⟩

/-- The same for windows that stand at multiples of their blocks: the rows' window at row block `r`, the columns' window
    `off` column blocks to the right of the result's. -/
theorem product_tile (h : Mat M K) (w : Mat K 7680) (off : Nat) (hn : off * tn + n ≤ 7680) {pay : Mat tm K → Mat K tn → Mat tm tn}
    (hpay : ∀ x y a b, pay x y (ix2 a b) = product x y id (ix2 a b))
    {e0 : (⟨2, ![tm, K]⟩ : Shape).Idx → (⟨2, ![M, K]⟩ : Shape).Idx}
    {e1 : (⟨2, ![K, tn]⟩ : Shape).Idx → (⟨2, ![K, 7680]⟩ : Shape).Idx}
    {e2 : (⟨2, ![tm, tn]⟩ : Shape).Idx → (⟨2, ![M, n]⟩ : Shape).Idx} {r c x0 x1 y0 y1 z0 z1 : Nat}
    (hi : x0 = r ∧ x1 = 0 ∧ y0 = 0 ∧ y1 = off + c ∧ z0 = r ∧ z1 = c)
    (h0 : ∀ i j, (e0 (ix2 i j) 0).val = x0 * tm + 1 * i.val ∧ (e0 (ix2 i j) 1).val = x1 * K + 1 * j.val)
    (h1 : ∀ i j, (e1 (ix2 i j) 0).val = y0 * K + 1 * i.val ∧ (e1 (ix2 i j) 1).val = y1 * tn + 1 * j.val)
    (h2 : ∀ i j, (e2 (ix2 i j) 0).val = z0 * tm + 1 * i.val ∧ (e2 (ix2 i j) 1).val = z1 * tn + 1 * j.val) :
    pay (fun j => h (e0 j)) (fun j => w (e1 j)) = fun j => product h w (cols (n := n) (off * tn) hn) (e2 j) := by
  obtain ⟨rfl, rfl, rfl, rfl, rfl, rfl⟩ := hi
  funext j
  obtain ⟨a, b, rfl⟩ : ∃ (a : Fin tm) (b : Fin tn), j = ix2 a b := ⟨_, _, eq_ix2 (n0 := tm) (n1 := tn) j⟩
  rw [hpay]
  show ∑ k, h (e0 (ix2 a k)) * w (e1 (ix2 k b)) = ∑ k, h (ix2 (e2 (ix2 a b) 0) k) * w (ix2 k (cols (n := n) (off * tn) hn (e2 (ix2 a b) 1)))
  refine Finset.sum_congr rfl fun k _ => congrArg₂ (· * ·) (congrArg h (ext2 ?_ ?_)) (congrArg w (ext2 ?_ ?_))
  · rw [(h0 a k).1, (h2 a b).1]
  · rw [(h0 a k).2]; omega
  · rw [(h1 k b).1]; omega
  · show _ = off * tn + (e2 (ix2 a b) 1).val
    rw [(h1 k b).2, (h2 a b).2, Nat.add_mul]; omega

/-- The gates and forget logarithms of a block of rows are the block of them. -/
theorem gated_block (h : Mat M 2048) (w : Mat 2048 n) (b : Mat 1 n) {pay : Mat tm 2048 → Mat 2048 n → Mat 1 n → Mat tm n}
    (hpay : ∀ x y z i j, pay x y z (ix2 i j) = gated x y z (ix2 i j))
    {e0 : (⟨2, ![tm, 2048]⟩ : Shape).Idx → (⟨2, ![M, 2048]⟩ : Shape).Idx}
    {e1 : (⟨2, ![2048, n]⟩ : Shape).Idx → (⟨2, ![2048, n]⟩ : Shape).Idx}
    {e2 : (⟨2, ![1, n]⟩ : Shape).Idx → (⟨2, ![1, n]⟩ : Shape).Idx}
    {e3 : (⟨2, ![tm, n]⟩ : Shape).Idx → (⟨2, ![M, n]⟩ : Shape).Idx} (row : Fin tm → Fin M)
    (h0 : ∀ a k, e0 (ix2 a k) = ix2 (row a) k) (h1 : ∀ k j, e1 (ix2 k j) = ix2 k j) (h2 : ∀ j, e2 (ix2 0 j) = ix2 0 j)
    (h3 : ∀ a j, e3 (ix2 a j) = ix2 (row a) j) (i : Fin tm) (j : Fin n) :
    pay (fun y => h (e0 y)) (fun y => w (e1 y)) (fun y => b (e2 y)) (ix2 i j) = gated h w b (e3 (ix2 i j)) := by
  rw [hpay, h3]
  show (if j.val < 24 then logistic ((∑ k, h (e0 (ix2 i k)) * w (e1 (ix2 k j))) + b (e2 (ix2 0 j)))
      else logLogistic ((∑ k, h (e0 (ix2 i k)) * w (e1 (ix2 k j))) + b (e2 (ix2 0 j))))
    = if j.val < 24 then logistic ((∑ k, h (ix2 (row i) k) * w (ix2 k j)) + b (ix2 0 j))
      else logLogistic ((∑ k, h (ix2 (row i) k) * w (ix2 k j)) + b (ix2 0 j))
  simp only [h0, h1, h2]

/-- A choice by the lane number is a choice by the column. -/
theorem select_lane (b : Fin 128) (x y : EReal) :
    Scalar.select (IntOp.cmpi .slt (BitVec.ofNat 32 b.val) 24#32) x y = if b.val < 24 then x else y := by
  rw [(by decide +kernel : ∀ b : Fin 128, IntOp.cmpi .slt (BitVec.ofNat 32 b.val) 24#32 = if b.val < 24 then 1#1 else 0#1) b]
  split_ifs <;> rfl

/-- The regrouped weight, from the weight with one row per column. -/
def turned (w : Mat 7712 2048) : Mat 2048 7680 := fun i => w (ix2 (n1 := 2048) ⟨src (i 1).val, src_lt (i 1).isLt⟩ (i 0))

/-- A block of 512 rows that starts where the tile's columns come from, transposed, is the tile of the regrouped weight. -/
theorem turned_block (w : Mat 7712 2048) {pay : Mat 512 2048 → Mat 2048 512} (hpay : ∀ x a b, pay x (ix2 a b) = x (ix2 b a))
    {e0 : (⟨2, ![512, 2048]⟩ : Shape).Idx → (⟨2, ![7712, 2048]⟩ : Shape).Idx}
    {e1 : (⟨2, ![2048, 512]⟩ : Shape).Idx → (⟨2, ![2048, 7680]⟩ : Shape).Idx} (t : Nat) (ht : t < 15)
    (h0 : ∀ k d, (e0 (ix2 k d) 0).val = src (t * 512) + k.val ∧ (e0 (ix2 k d) 1).val = d.val)
    (h1 : ∀ d k, e1 (ix2 d k) = ix2 d ⟨t * 512 + k.val, by omega⟩) (d : Fin 2048) (k : Fin 512) :
    pay (fun j => w (e0 j)) (ix2 d k) = turned w (e1 (ix2 d k)) := by
  rw [hpay, h1]
  exact congrArg w (ext2 ((h0 k d).1.trans (Cert.RegroupIdeal.Hand.src_tile k.isLt).symm) (h0 k d).2)

/-- An index lies in the tile its quotient names. -/
theorem in_tile {i t q : Nat} (ht : 0 < t) (h : q = i / t) : q * t ≤ i ∧ i < q * t + t := by
  subst h
  exact ⟨Nat.div_mul_le_self i t, by have := Nat.lt_div_mul_add (a := i) ht; omega⟩

/-- An index lies in the only tile of an axis that is not cut. -/
theorem in_axis {i n q : Nat} (hi : i < n) (h : q = 0) : q * n ≤ i ∧ i < q * n + n := by subst h; omega

end Cert.Projection

end
-- ==== Proof.Sample.Regions.lean ====
/-
  What each of the sample batch's four kernels leaves in its output array, as a function of the arrays it was entered
  with: the weights regrouped, the rows normalised, all seven groups of columns in one product, the gates and forget
  logarithms. The contents `V` at entry are arbitrary; the host operations between the kernels are Entry.lean's.
-/
module

public import proofs.«01_k».proof.Proof.Gen.SampleIdeal.Frame
public import proofs.«01_k».proof.Proof.Projection.Blocks

@[expose] public section

set_option maxRecDepth 16384

noncomputable section

open Idealize.ShloMosaic Idealize.ShloMosaic.TcCoe Idealize.SL.Sem
open Idealize.ShloMosaic.Pipeline (Dat)

namespace Cert.SampleIdeal.Hand

open Cert.RegroupIdeal.Hand (hz)
open Cert.SampleIdeal Cert.SampleIdeal.Gen Cert.Regrouping Cert.Projection

variable (V : (c : Dev nD) → (b : Ref sig .tc) → Buf (Elt Ideal) ((c : Thread nD τ).loc b)) (c : Dev nD)

/-! ## What the bodies store, read at an element -/

theorem pay0_apply (x : Mat 512 2048) (d : Fin 2048) (k : Fin 512) : k0_pay1 (F := Ideal) x (ix2 d k) = x (ix2 k d) := by
  pointwise [k0_pay1]

theorem pay1_apply (x : Mat 128 2048) (g : Mat 1 2048) (a : Fin 128) (b : Fin 2048) :
    k1_pay1 (F := Ideal) x g (ix2 a b) = normed x g (ix2 a b) := by
  pointwise [k1_pay1]
  rfl

theorem pay2_apply (x : Mat 128 2048) (w : Mat 2048 512) (a : Fin 128) (b : Fin 512) :
    k2_pay1 (F := Ideal) x w (ix2 a b) = product x w id (ix2 a b) := by
  pointwise [k2_pay1]
  rfl

theorem pay3_apply (x : Mat 128 2048) (w : Mat 2048 128) (z : Mat 1 128) (a b : Fin 128) :
    k3_pay1 (F := Ideal) x w z (ix2 a b) = gated x w z (ix2 a b) := by
  pointwise [k3_pay1]
  simp only [zero_sub]
  exact select_lane b _ _

/-! ## Where the windows stand -/

theorem index0 : ∀ t : Fin cfg0.N, win0_0.index t 0 = src (t.val * 512) ∧ win0_0.index t 1 = 0
      ∧ win0_1.index t 0 = 0 ∧ win0_1.index t 1 = t.val :=
  (by decide +kernel : ∀ t : Fin grid0.N, win0_0.index t 0 = src (t.val * 512) ∧ win0_0.index t 1 = 0
      ∧ win0_1.index t 0 = 0 ∧ win0_1.index t 1 = t.val)

theorem index1 : ∀ t : Fin cfg1.N, win1_0.index t 0 = 0 ∧ win1_0.index t 1 = 0 ∧ win1_1.index t 0 = 0
      ∧ win1_1.index t 1 = 0 ∧ win1_2.index t 0 = 0 ∧ win1_2.index t 1 = 0 :=
  (by decide +kernel : ∀ t : Fin grid1.N, win1_0.index t 0 = 0 ∧ win1_0.index t 1 = 0 ∧ win1_1.index t 0 = 0
      ∧ win1_1.index t 1 = 0 ∧ win1_2.index t 0 = 0 ∧ win1_2.index t 1 = 0)

theorem index2 : ∀ t : Fin cfg2.N, win2_0.index t 0 = 0 ∧ win2_0.index t 1 = 0 ∧ win2_1.index t 0 = 0
      ∧ win2_1.index t 1 = t.val ∧ win2_2.index t 0 = 0 ∧ win2_2.index t 1 = t.val :=
  (by decide +kernel : ∀ t : Fin grid2.N, win2_0.index t 0 = 0 ∧ win2_0.index t 1 = 0 ∧ win2_1.index t 0 = 0
      ∧ win2_1.index t 1 = t.val ∧ win2_2.index t 0 = 0 ∧ win2_2.index t 1 = t.val)

theorem index3 : ∀ t : Fin cfg3.N, win3_0.index t 0 = 0 ∧ win3_0.index t 1 = 0 ∧ win3_1.index t 0 = 0 ∧ win3_1.index t 1 = 0
      ∧ win3_2.index t 0 = 0 ∧ win3_2.index t 1 = 0 ∧ win3_3.index t 0 = 0 ∧ win3_3.index t 1 = 0 :=
  (by decide +kernel : ∀ t : Fin grid3.N, win3_0.index t 0 = 0 ∧ win3_0.index t 1 = 0 ∧ win3_1.index t 0 = 0 ∧ win3_1.index t 1 = 0
      ∧ win3_2.index t 0 = 0 ∧ win3_2.index t 1 = 0 ∧ win3_3.index t 0 = 0 ∧ win3_3.index t 1 = 0)

/-! ## The weights, regrouped -/

theorem flushed0 (t : Fin cfg0.N) : (dat0 V c).flushed 1 t = (win0_1.blk t).view.read (Elt Ideal) (turned (V c main_v3)) := by
  show (cfg0.win 1).cut (grid0.coords t) ((dat0 V c).after 1 t) = _
  rw [after0_1]
  unfold out0_1
  rw [View.canon_unit_zero hz, View.ld_unit_zero hz]
  obtain ⟨h0, h1, h2, h3⟩ := index0 t
  have ht : t.val < 15 := lt_of_lt_of_eq t.isLt N_0
  funext j
  obtain ⟨d, k, rfl⟩ : ∃ (d : Fin 2048) (k : Fin 512), j = ix2 d k := ⟨_, _, eq_ix2 (n0 := 2048) (n1 := 512) j⟩
  refine turned_block (V c main_v3) pay0_apply (e0 := (win0_0.rect t).emb) (e1 := (win0_1.rect t).emb) t.val ht
    (fun k d => ⟨?_, ?_⟩) (fun d k => ext2 ?_ ?_) d k
  · show win0_0.index t 0 + 1 * k.val = src (t.val * 512) + k.val; omega
  · show win0_0.index t 1 + 1 * d.val = d.val; omega
  · show win0_1.index t 0 * 2048 + 1 * d.val = d.val; omega
  · show win0_1.index t 1 * 512 + 1 * k.val = t.val * 512 + k.val; omega

theorem final0 : (dat0 V c).arrAt 1 cfg0.N = turned (V c main_v3) := by
  refine (dat0 V c).arrAt_eq_of_cover 1 (turned (V c main_v3)) (fun t _ => flushed0 V c t) fun i => ?_
  have hi : (i 1 : Nat) < 7680 := (i 1).isLt
  have ht : (i 1 : Nat) / 512 < cfg0.N := by show _ < grid0.N; rw [N_0]; omega
  refine ⟨⟨(i 1 : Nat) / 512, ht⟩, flush0_1 _, ?_⟩
  obtain ⟨-, -, h0, h1⟩ := index0 ⟨(i 1 : Nat) / 512, ht⟩
  show i ∈ ((View.whole main_v4).slice (win0_1.rect ⟨(i 1 : Nat) / 512, ht⟩)).set
  rw [View.set_slice_whole, Rect.mem_set_unit]
  intro a
  match a with
  | ⟨0, _⟩ => exact in_axis (i 0).isLt h0
  | ⟨1, _⟩ => exact in_tile (Nat.succ_pos 511) h1

/-! ## The rows, normalised -/

theorem flushed1 (t : Fin cfg1.N) : (dat1 V c).flushed 2 t
    = (win1_2.blk t).view.read (Elt Ideal) (normed (V c main_v13) (V c main_v15)) := by
  show (cfg1.win 2).cut (grid1.coords t) ((dat1 V c).after 2 t) = _
  rw [after1_2]
  unfold out1_2
  rw [View.canon_unit_zero hz, View.ld_unit_zero hz, View.ld_unit_zero hz]
  obtain ⟨h0, h1, h2, h3, h4, h5⟩ := index1 t
  funext j
  obtain ⟨a, b, rfl⟩ : ∃ (a : Fin 128) (b : Fin 2048), j = ix2 a b := ⟨_, _, eq_ix2 (n0 := 128) (n1 := 2048) j⟩
  refine normed_block (V c main_v13) (V c main_v15) pay1_apply (e0 := (win1_0.rect t).emb) (e1 := (win1_1.rect t).emb)
    (e2 := (win1_2.rect t).emb) (fun a => a) (fun a b => ext2 ?_ ?_) (fun b => ext2 ?_ ?_) (fun a b => ext2 ?_ ?_) a b
  · show win1_0.index t 0 * 128 + 1 * a.val = a.val; omega
  · show win1_0.index t 1 * 2048 + 1 * b.val = b.val; omega
  · show win1_1.index t 0 * 1 + 1 * 0 = 0; omega
  · show win1_1.index t 1 * 2048 + 1 * b.val = b.val; omega
  · show win1_2.index t 0 * 128 + 1 * a.val = a.val; omega
  · show win1_2.index t 1 * 2048 + 1 * b.val = b.val; omega

theorem final1 : (dat1 V c).arrAt 2 cfg1.N = normed (V c main_v13) (V c main_v15) := by
  refine (dat1 V c).arrAt_eq_of_cover 2 (normed (V c main_v13) (V c main_v15)) (fun t _ => flushed1 V c t) fun i => ?_
  obtain ⟨-, -, -, -, h0, h1⟩ := index1 t1_0
  refine ⟨t1_0, flush1_2 _, ?_⟩
  show i ∈ ((View.whole main_v16).slice (win1_2.rect t1_0)).set
  rw [View.set_slice_whole, Rect.mem_set_unit]
  intro a
  match a with
  | ⟨0, _⟩ => exact in_axis (i 0).isLt h0
  | ⟨1, _⟩ => exact in_axis (i 1).isLt h1

/-! ## The product of all columns -/

theorem flushed2 (t : Fin cfg2.N) : (dat2 V c).flushed 2 t
    = (win2_2.blk t).view.read (Elt Ideal) (product (V c main_v16) (V c main_v4) (n := 7680) id) := by
  show (cfg2.win 2).cut (grid2.coords t) ((dat2 V c).after 2 t) = _
  rw [after2_2]
  unfold out2_2
  rw [View.canon_unit_zero hz, View.ld_unit_zero hz, View.ld_unit_zero hz]
  obtain ⟨h0, h1, h2, h3, h4, h5⟩ := index2 t
  have ht := lt_of_lt_of_eq t.isLt N_2
  funext j
  obtain ⟨a, b, rfl⟩ : ∃ (a : Fin 128) (b : Fin 512), j = ix2 a b := ⟨_, _, eq_ix2 (n0 := 128) (n1 := 512) j⟩
  refine product_block (V c main_v16) (V c main_v4) id pay2_apply (e0 := (win2_0.rect t).emb) (e1 := (win2_1.rect t).emb)
    (e2 := (win2_2.rect t).emb) (fun a => a) (fun b => ⟨t.val * 512 + b.val, by omega⟩)
    (fun a k => ext2 ?_ ?_) (fun k b => ext2 ?_ ?_) (fun a b => ext2 ?_ ?_) a b
  · show win2_0.index t 0 * 128 + 1 * a.val = a.val; omega
  · show win2_0.index t 1 * 2048 + 1 * k.val = k.val; omega
  · show win2_1.index t 0 * 2048 + 1 * k.val = k.val; omega
  · show win2_1.index t 1 * 512 + 1 * b.val = t.val * 512 + b.val; omega
  · show win2_2.index t 0 * 128 + 1 * a.val = a.val; omega
  · show win2_2.index t 1 * 512 + 1 * b.val = t.val * 512 + b.val; omega

theorem final2 : (dat2 V c).arrAt 2 cfg2.N = product (V c main_v16) (V c main_v4) (n := 7680) id := by
  refine (dat2 V c).arrAt_eq_of_cover 2 (product (V c main_v16) (V c main_v4) (n := 7680) id) (fun t _ => flushed2 V c t) fun i => ?_
  have hi : (i 1 : Nat) < 7680 := (i 1).isLt
  have ht : (i 1 : Nat) / 512 < cfg2.N := by show _ < grid2.N; rw [N_2]; omega
  refine ⟨⟨(i 1 : Nat) / 512, ht⟩, flush2_2 _, ?_⟩
  obtain ⟨-, -, -, -, h0, h1⟩ := index2 ⟨(i 1 : Nat) / 512, ht⟩
  show i ∈ ((View.whole main_v17).slice (win2_2.rect ⟨(i 1 : Nat) / 512, ht⟩)).set
  rw [View.set_slice_whole, Rect.mem_set_unit]
  intro a
  match a with
  | ⟨0, _⟩ => exact in_axis (i 0).isLt h0
  | ⟨1, _⟩ => exact in_tile (Nat.succ_pos 511) h1

/-! ## The gates and forget logarithms -/

theorem flushed3 (t : Fin cfg3.N) : (dat3 V c).flushed 3 t
    = (win3_3.blk t).view.read (Elt Ideal) (gated (V c main_v16) (V c main_v9) (V c main_v12)) := by
  show (cfg3.win 3).cut (grid3.coords t) ((dat3 V c).after 3 t) = _
  rw [after3_3]
  unfold out3_3
  rw [View.canon_unit_zero hz, View.ld_unit_zero hz, View.ld_unit_zero hz, View.ld_unit_zero hz]
  obtain ⟨h0, h1, h2, h3, h4, h5, h6, h7⟩ := index3 t
  funext j
  obtain ⟨a, b, rfl⟩ : ∃ (a : Fin 128) (b : Fin 128), j = ix2 a b := ⟨_, _, eq_ix2 (n0 := 128) (n1 := 128) j⟩
  refine gated_block (V c main_v16) (V c main_v9) (V c main_v12) pay3_apply (e0 := (win3_0.rect t).emb) (e1 := (win3_1.rect t).emb)
    (e2 := (win3_2.rect t).emb) (e3 := (win3_3.rect t).emb) (fun a => a)
    (fun a k => ext2 ?_ ?_) (fun k j => ext2 ?_ ?_) (fun j => ext2 ?_ ?_) (fun a j => ext2 ?_ ?_) a b
  · show win3_0.index t 0 * 128 + 1 * a.val = a.val; omega
  · show win3_0.index t 1 * 2048 + 1 * k.val = k.val; omega
  · show win3_1.index t 0 * 2048 + 1 * k.val = k.val; omega
  · show win3_1.index t 1 * 128 + 1 * j.val = j.val; omega
  · show win3_2.index t 0 * 1 + 1 * 0 = 0; omega
  · show win3_2.index t 1 * 128 + 1 * j.val = j.val; omega
  · show win3_3.index t 0 * 128 + 1 * a.val = a.val; omega
  · show win3_3.index t 1 * 128 + 1 * j.val = j.val; omega

theorem final3 : (dat3 V c).arrAt 3 cfg3.N = gated (V c main_v16) (V c main_v9) (V c main_v12) := by
  refine (dat3 V c).arrAt_eq_of_cover 3 (gated (V c main_v16) (V c main_v9) (V c main_v12)) (fun t _ => flushed3 V c t) fun i => ?_
  obtain ⟨-, -, -, -, -, -, h0, h1⟩ := index3 t3_0
  refine ⟨t3_0, flush3_3 _, ?_⟩
  show i ∈ ((View.whole main_v25).slice (win3_3.rect t3_0)).set
  rw [View.set_slice_whole, Rect.mem_set_unit]
  intro a
  match a with
  | ⟨0, _⟩ => exact in_axis (i 0).isLt h0
  | ⟨1, _⟩ => exact in_axis (i 1).isLt h1

end Cert.SampleIdeal.Hand

end
-- ==== Proof.Projection.Spec.lean ====
/-
  The projection as one function of the layer's arrays: the score of a token on a column of the weight, and the two
  functions of a score that make a gate and a forget logarithm. Both programs' results are read as layouts of these.
-/
module

public import proofs.«01_k».proof.Proof.Projection.Blocks

@[expose] public section

noncomputable section

namespace Cert.Projection

open Idealize.ShloMosaic Idealize.ShloMosaic.Tactic
open Cert.Regrouping

/-- The normalised token's product with a column of the weight. -/
def score {B T : Nat} (x : (⟨3, ![B, T, 2048]⟩ : Shape).Idx → EReal) (g : Mat 1 2048)
    (w : (⟨3, ![1, 2048, 7712]⟩ : Shape).Idx → EReal) : (⟨3, ![B, T, 7712]⟩ : Shape).Idx → EReal := fun i =>
  ∑ d, x (ix3 (n0 := B) (n1 := T) (i 0) (i 1) d) * rowScale (fun k => x (ix3 (n0 := B) (n1 := T) (i 0) (i 1) k)) * g (ix2 0 d)
    * w (ix3 (n2 := 7712) 0 d (i 2))

/-- A three-axis index is known by its coordinates. -/
theorem ext3 {L M N : Nat} {i j : (⟨3, ![L, M, N]⟩ : Shape).Idx} (h0 : (i 0).val = (j 0).val) (h1 : (i 1).val = (j 1).val)
    (h2 : (i 2).val = (j 2).val) : i = j := by
  funext x
  match x with
  | ⟨0, _⟩ => exact Fin.ext h0
  | ⟨1, _⟩ => exact Fin.ext h1
  | ⟨2, _⟩ => exact Fin.ext h2

/-- Equal rows, norm weights and columns have equal products. -/
theorem product_normed {M N B T n : Nat} (X : Mat M 2048) (G : Mat 1 2048) (W : Mat 2048 N) (col : Fin n → Fin N)
    (x : (⟨3, ![B, T, 2048]⟩ : Shape).Idx → EReal) (g : Mat 1 2048) (w : (⟨3, ![1, 2048, 7712]⟩ : Shape).Idx → EReal)
    (a : Fin M) (j : Fin n) (b : Fin B) (t : Fin T) (q : Fin 7712) (hX : ∀ d, X (ix2 a d) = x (ix3 b t d))
    (hG : ∀ d, G (ix2 0 d) = g (ix2 0 d)) (hW : ∀ d, W (ix2 d (col j)) = w (ix3 0 d q)) :
    product (normed X G) W col (ix2 a j) = score x g w (ix3 b t q) := by
  show ∑ d, X (ix2 a d) * rowScale (fun k => X (ix2 a k)) * G (ix2 0 d) * W (ix2 d (col j))
    = ∑ d, x (ix3 b t d) * rowScale (fun k => x (ix3 b t k)) * g (ix2 0 d) * w (ix3 0 d q)
  simp only [hX, hG, hW]

/-- `M` holds, for `T` tokens of each of `B` sequences, the scores `Z` in the regrouped order. -/
def Regrouped {R B T : Nat} (M : Mat R 7680) (Z : (⟨3, ![B, T, 7712]⟩ : Shape).Idx → EReal) : Prop :=
  ∀ (b : Fin B) (t : Fin T) (a : Fin R) (j : Fin 7680) (q : Fin 7712), a.val = b.val * T + t.val → src j.val = q.val →
    M (ix2 a j) = Z (ix3 b t q)

/-- `M` holds, for `T` tokens of each of `B` sequences, the scores on the regrouped columns from `o` on. -/
def Group {R n B T : Nat} (o : Nat) (M : Mat R n) (Z : (⟨3, ![B, T, 7712]⟩ : Shape).Idx → EReal) : Prop :=
  ∀ (b : Fin B) (t : Fin T) (a : Fin R) (j : Fin n) (q : Fin 7712), a.val = b.val * T + t.val → src (o + j.val) = q.val →
    M (ix2 a j) = Z (ix3 b t q)

/-- `Y` holds the gates and the forget logarithms of the scores `Z`, after their biases. -/
def Narrow {R B T : Nat} (Y : Mat R 128) (Z : (⟨3, ![B, T, 7712]⟩ : Shape).Idx → EReal) (bg : Mat 1 24) (bf : Mat 1 8) : Prop :=
  (∀ (b : Fin B) (t : Fin T) (a : Fin R) (j : Fin 128) (k : Fin 24) (q : Fin 7712), a.val = b.val * T + t.val → j.val = k.val →
    q.val = 2560 + k.val → Y (ix2 a j) = logistic (Z (ix3 b t q) + bg (ix2 0 k)))
  ∧ ∀ (b : Fin B) (t : Fin T) (a : Fin R) (j : Fin 128) (k : Fin 8) (q : Fin 7712), a.val = b.val * T + t.val → j.val = 24 + k.val →
    q.val = 6680 + k.val → Y (ix2 a j) = logLogistic (Z (ix3 b t q) + bf (ix2 0 k))

/-- The logarithm of one plus an exponential is not minus infinity. -/
theorem log1p_exp_ne_bot (e : EReal) : Ideal.log1p (Ideal.exp e) ≠ ⊥ := by
  have hp : ∀ r : ℝ, 0 < r → Ideal.log (r : EReal) ≠ ⊥ := fun r hr => by
    show (if r ≤ 0 then (⊥ : EReal) else (Real.log r : EReal)) ≠ ⊥
    rw [if_neg (not_le.mpr hr)]
    exact EReal.coe_ne_bot _
  induction e with
  | bot =>
    show Ideal.log (1 + 0) ≠ ⊥
    rw [add_zero]
    exact hp 1 one_pos
  | top =>
    show Ideal.log (1 + ⊤) ≠ ⊥
    rw [show (1 : EReal) + ⊤ = ⊤ from EReal.coe_add_top 1]
    exact top_ne_bot
  | coe r =>
    show Ideal.log (1 + (Real.exp r : EReal)) ≠ ⊥
    have := hp (1 + Real.exp r) (by positivity)
    rwa [EReal.coe_add] at this

/-- The two stable forms of the logistic function's logarithm agree. -/
theorem logLogistic_eq (z : EReal) : -(max (-z) 0 + Ideal.log1p (Ideal.exp (-max (-z) (-(-z))))) = logLogistic z := by
  rw [neg_neg z]
  have h1 : max (-z) 0 ≠ ⊥ := ne_of_gt (lt_of_lt_of_le EReal.bot_lt_zero (le_max_right _ _))
  have h2 : Ideal.log1p (Ideal.exp (-max (-z) z)) ≠ ⊥ := log1p_exp_ne_bot _
  rw [EReal.neg_add (Or.inl h1) (Or.inr h2), logLogistic, max_comm (-z) z]
  congr 1
  rcases le_total z 0 with h | h
  · rw [max_eq_left (by simpa using EReal.neg_le_neg_iff.mpr h), min_eq_left h, neg_neg]
  · rw [max_eq_right (by simpa using EReal.neg_le_neg_iff.mpr h), min_eq_right h, neg_zero]

end Cert.Projection

end
-- ==== Proof.Sample.Entry.lean ====
/-
  What the kernels of the sample batch's projection read and what the program returns, in terms of the arguments: the
  host operations between the kernels only move elements, so each array is a layout of an argument or of a kernel's
  result.
-/
module

public import proofs.«01_k».proof.Proof.Sample.Regions
public import proofs.«01_k».proof.Proof.Projection.Spec
public import Idealize.ShloMosaic.Lib.StableHlo.RunRead

@[expose] public section

set_option maxRecDepth 16384

noncomputable section

namespace Cert.SampleIdeal.Hand

open Cert.SampleIdeal Cert.SampleIdeal.Gen
open Idealize.ShloMosaic Idealize.ShloMosaic.TcCoe Idealize.ShloMosaic.Tactic
open Cert.Regrouping Cert.Projection

section Stretches

variable (V : Valuation τ sig (Elt Ideal))

theorem ops0_w : StableHlo.after hostOps0 V (Proc.devRef .tc main_v3) = transpose S7712x2048 [1, 0]
    (shapeCast S2048x7712 (V (Proc.devRef .tc main_arg3)) shapeCasts_S1x2048x7712_S2048x7712) transposes_S2048x7712_S7712x2048_1_0 := by
  after_results <;> rfl

theorem ops0_gate : StableHlo.after hostOps0 V (Proc.devRef .tc main_v1)
    = shapeCast S24 (V (Proc.devRef .tc main_arg4)) shapeCasts_S1x24_S24 := by
  after_results <;> rfl

theorem ops0_forget : StableHlo.after hostOps0 V (Proc.devRef .tc main_v2)
    = shapeCast S8 (V (Proc.devRef .tc main_arg5)) shapeCasts_S1x8_S8 := by
  after_results <;> rfl

theorem ops1_small : StableHlo.after hostOps1 V (Proc.devRef .tc main_v8) = transpose S2048x32 [1, 0]
    (concatenate S32x2048 0 [⟨S24x2048, extractStridedSlice S24x2048 ![2560, 0] (V (Proc.devRef .tc main_v3)) slices_S7712x2048_S24x2048_2560_0⟩,
      ⟨S8x2048, extractStridedSlice S8x2048 ![6680, 0] (V (Proc.devRef .tc main_v3)) slices_S7712x2048_S8x2048_6680_0⟩]
      concatenates_S24x2048_S8x2048_S32x2048_d0) transposes_S32x2048_S2048x32_1_0 := by
  after_results <;> rfl

theorem ops1_1 : StableHlo.after hostOps1_1 V (Proc.devRef .tc main_v9)
    = pad S2048x128 ![0, 0] ![0, 96] ![0, 0] (V (Proc.devRef .tc main_v8) : S2048x32.Idx → EReal)
      (sitofp (F := Ideal) .f32 (V (Proc.devRef .tc main_c) : S_.Idx → BitVec 32)) pads_S2048x32_S2048x128_000_0960 h_S_ := by
  after_results <;> rfl

theorem ops1_2 : StableHlo.after hostOps1_2 V (Proc.devRef .tc main_v10)
    = concatenate S32 0 [⟨S24, V (Proc.devRef .tc main_v1)⟩, ⟨S8, V (Proc.devRef .tc main_v2)⟩] concatenates_S24_S8_S32_d0 := by
  after_results <;> rfl

theorem ops1_3 : StableHlo.after hostOps1_3 V (Proc.devRef .tc main_v11)
    = pad S128 ![0] ![96] ![0] (V (Proc.devRef .tc main_v10) : S32.Idx → EReal)
      (sitofp (F := Ideal) .f32 (V (Proc.devRef .tc main_c_0) : S_.Idx → BitVec 32)) pads_S32_S128_0960 h_S_ := by
  after_results <;> rfl

theorem ops1_4_bias : StableHlo.after hostOps1_4 V (Proc.devRef .tc main_v12)
    = shapeCast S1x128 (V (Proc.devRef .tc main_v11)) shapeCasts_S128_S1x128 := by
  after_results <;> rfl

theorem ops1_4_x : StableHlo.after hostOps1_4 V (Proc.devRef .tc main_v13)
    = shapeCast S128x2048 (V (Proc.devRef .tc main_arg0)) shapeCasts_S32x4x2048_S128x2048 := by
  after_results <;> rfl

theorem ops1_4_g : StableHlo.after hostOps1_4 V (Proc.devRef .tc main_v15)
    = shapeCast S1x2048 (shapeCast S2048 (V (Proc.devRef .tc main_arg2)) shapeCasts_S1x2048_S2048) shapeCasts_S2048_S1x2048 := by
  after_results <;> rfl

theorem ops4_kv4 : StableHlo.after hostOps4 V (Proc.devRef .tc main_v36)
    = broadcastInDim S1x32x4x4x2x128 ![1, 2, 3, 4, 5] bcast_S32x4x4x2x128_S1x32x4x4x2x128_1_2_3_4_5
        (shapeCast S32x4x4x2x128 (V (Proc.devRef .tc main_v19)) shapeCasts_S128x1024_S32x4x4x2x128) := by
  after_results <;> rfl

theorem ops4_kv_f : StableHlo.after hostOps4 V (Proc.devRef .tc main_v37)
    = broadcastInDim S1x32x4x2x8x128 ![1, 2, 3, 4, 5] bcast_S32x4x2x8x128_S1x32x4x2x8x128_1_2_3_4_5
        (shapeCast S32x4x2x8x128 (V (Proc.devRef .tc main_v23)) shapeCasts_S128x2048_S32x4x2x8x128) := by
  after_results <;> rfl

theorem ops4_logf : StableHlo.after hostOps4 V (Proc.devRef .tc main_v38)
    = broadcastInDim S1x32x4x8 ![1, 2, 3] bcast_S32x4x8_S1x32x4x8_1_2_3
        (shapeCast S32x4x8 (extractStridedSlice S128x8 ![0, 24] (V (Proc.devRef .tc main_v25)) slices_S128x128_S128x8_0_24)
          shapeCasts_S128x8_S32x4x8) := by
  after_results <;> rfl

theorem ops4_win : StableHlo.after hostOps4 V (Proc.devRef .tc main_v39)
    = broadcastInDim S1x32x512x2x2x128 ![1, 2, 3, 4, 5] bcast_S32x512x2x2x128_S1x32x512x2x2x128_1_2_3_4_5
        (extractStridedSlice S32x512x2x2x128 ![0, 4, 0, 0, 0] (concatenate S32x516x2x2x128 1
          [⟨S32x512x2x2x128, shapeCast S32x512x2x2x128 (V (Proc.devRef .tc main_arg1)) shapeCasts_S1x32x512x2x2x128_S32x512x2x2x128⟩,
           ⟨S32x4x2x2x128, shapeCast S32x4x2x2x128 (V (Proc.devRef .tc main_v20)) shapeCasts_S128x512_S32x4x2x2x128⟩]
          concatenates_S32x512x2x2x128_S32x4x2x2x128_S32x516x2x2x128_d1) slices_S32x516x2x2x128_S32x512x2x2x128_0_4_0_0_0) := by
  after_results <;> rfl

theorem ops4_gates : StableHlo.after hostOps4 V (Proc.devRef .tc main_v29)
    = shapeCast S32x4x8x3 (extractStridedSlice S128x24 ![0, 0] (V (Proc.devRef .tc main_v25)) slices_S128x128_S128x24_0_0)
        shapeCasts_S128x24_S32x4x8x3 := by
  after_results <;> rfl

theorem ops3_columns :
    StableHlo.after hostOps3 V (Proc.devRef .tc main_v18) = extractStridedSlice S128x1024 ![0, 0] (V (Proc.devRef .tc main_v17)) slices_S128x7680_S128x1024_0_0
    ∧ StableHlo.after hostOps3 V (Proc.devRef .tc main_v19) = extractStridedSlice S128x1024 ![0, 1024] (V (Proc.devRef .tc main_v17)) slices_S128x7680_S128x1024_0_1024
    ∧ StableHlo.after hostOps3 V (Proc.devRef .tc main_v20) = extractStridedSlice S128x512 ![0, 2048] (V (Proc.devRef .tc main_v17)) slices_S128x7680_S128x512_0_2048
    ∧ StableHlo.after hostOps3 V (Proc.devRef .tc main_v21) = extractStridedSlice S128x1024 ![0, 2560] (V (Proc.devRef .tc main_v17)) slices_S128x7680_S128x1024_0_2560
    ∧ StableHlo.after hostOps3 V (Proc.devRef .tc main_v22) = extractStridedSlice S128x1024 ![0, 3584] (V (Proc.devRef .tc main_v17)) slices_S128x7680_S128x1024_0_3584
    ∧ StableHlo.after hostOps3 V (Proc.devRef .tc main_v23) = extractStridedSlice S128x2048 ![0, 4608] (V (Proc.devRef .tc main_v17)) slices_S128x7680_S128x2048_0_4608
    ∧ StableHlo.after hostOps3 V (Proc.devRef .tc main_v24) = extractStridedSlice S128x1024 ![0, 6656] (V (Proc.devRef .tc main_v17)) slices_S128x7680_S128x1024_0_6656 := by
  refine ⟨?_, ?_, ?_, ?_, ?_, ?_, ?_⟩ <;> after_results <;> rfl

end Stretches

/-! ## The layouts, at an element -/

theorem rows_apply (x : S32x4x2048.Idx → EReal) (a : Fin 128) (b : Fin 32) (t : Fin 4) (d : Fin 2048) (ha : a.val = b.val * 4 + t.val) :
    shapeCast S128x2048 x shapeCasts_S32x4x2048_S128x2048 (ix2 a d) = x (ix3 b t d) := by
  pointwise
  exact congrArg x (ext3 (show a.val / 4 = b.val by omega) (show a.val % 4 = t.val by omega) rfl)

theorem norm_apply (g : S1x2048.Idx → EReal) (d : Fin 2048) :
    shapeCast S1x2048 (shapeCast S2048 g shapeCasts_S1x2048_S2048) shapeCasts_S2048_S1x2048 (ix2 0 d) = g (ix2 0 d) := by
  pointwise

theorem turned_apply (w : S1x2048x7712.Idx → EReal) (i : Fin 7712) (d : Fin 2048) :
    transpose S7712x2048 [1, 0] (shapeCast S2048x7712 w shapeCasts_S1x2048x7712_S2048x7712)
      transposes_S2048x7712_S7712x2048_1_0 (ix2 i d) = w (ix3 0 d i) := by
  pointwise

/-- The narrow weight's column: a gate's in the first 24, a forget logarithm's in the next 8. -/
theorem small_apply (w : S7712x2048.Idx → EReal) (z : S_.Idx → EReal) (d : Fin 2048) (j : Fin 128) (hj : j.val < 32) :
    pad S2048x128 ![0, 0] ![0, 96] ![0, 0] (transpose S2048x32 [1, 0]
      (concatenate S32x2048 0 [⟨S24x2048, extractStridedSlice S24x2048 ![2560, 0] w slices_S7712x2048_S24x2048_2560_0⟩,
        ⟨S8x2048, extractStridedSlice S8x2048 ![6680, 0] w slices_S7712x2048_S8x2048_6680_0⟩]
        concatenates_S24x2048_S8x2048_S32x2048_d0) transposes_S32x2048_S2048x32_1_0) z pads_S2048x32_S2048x128_000_0960 h_S_ (ix2 d j)
      = w (ix2 ⟨if j.val < 24 then 2560 + j.val else 6656 + j.val, by split_ifs <;> omega⟩ d) := by
  pointwise
  rw [dif_pos hj]
  by_cases h : j.val < 24
  · simp only [h, if_true, dite_true]
  · simp only [h, if_false, dite_false]
    exact congrArg w (ext2 (show 6680 + (j.val - 24) = 6656 + j.val by omega) rfl)

/-- The narrow bias's element likewise. -/
theorem bias_apply (bg : S1x24.Idx → EReal) (bf : S1x8.Idx → EReal) (z : S_.Idx → EReal) (j : Fin 128) (hj : j.val < 32) :
    shapeCast S1x128 (pad S128 ![0] ![96] ![0] (concatenate S32 0 [⟨S24, shapeCast S24 bg shapeCasts_S1x24_S24⟩,
      ⟨S8, shapeCast S8 bf shapeCasts_S1x8_S8⟩] concatenates_S24_S8_S32_d0) z pads_S32_S128_0960 h_S_) shapeCasts_S128_S1x128 (ix2 0 j)
      = if h : j.val < 24 then bg (ix2 0 ⟨j.val, h⟩) else bf (ix2 0 ⟨j.val - 24, by omega⟩) := by
  pointwise
  rw [dif_pos hj]

/-! ## What the kernels compute, in terms of the arguments -/

variable (m : (ℓ : Loc nD τ sig) → Buf (Elt Ideal) ℓ) (ρ : Dev nD → PrngReg) (c : Dev nD)

/-- The weight the later kernels and host operations read. -/
theorem at_w : W1 m ρ c (Proc.devRef .tc main_v3) = transpose S7712x2048 [1, 0]
    (shapeCast S2048x7712 (m ((c : Thread nD τ).loc main_arg3)) shapeCasts_S1x2048x7712_S2048x7712) transposes_S2048x7712_S7712x2048_1_0 :=
  ops0_w (W0 m ρ c)

/-- The normalised rows. -/
theorem at_h : W8 m ρ c (Proc.devRef .tc main_v16) = normed
    (shapeCast S128x2048 (m ((c : Thread nD τ).loc main_arg0)) shapeCasts_S32x4x2048_S128x2048)
    (shapeCast S1x2048 (shapeCast S2048 (m ((c : Thread nD τ).loc main_arg2)) shapeCasts_S1x2048_S2048) shapeCasts_S2048_S1x2048) := by
  refine (W8_arr m ρ c 2).trans ((final1 (V7 m ρ) c).trans ?_)
  refine congrArg₂ normed ((ops1_4_x (W6 m ρ c)).trans ?_) ((ops1_4_g (W6 m ρ c)).trans ?_)
  · rw [W6_of m ρ c main_arg0 (by decide), W5_of m ρ c main_arg0 (by decide), W4_of m ρ c main_arg0 (by decide),
      W3_of m ρ c main_arg0 (by decide), W2_of m ρ c main_arg0 (by decide), W1_of m ρ c main_arg0 (by decide)]
  · rw [W6_of m ρ c main_arg2 (by decide), W5_of m ρ c main_arg2 (by decide), W4_of m ρ c main_arg2 (by decide),
      W3_of m ρ c main_arg2 (by decide), W2_of m ρ c main_arg2 (by decide), W1_of m ρ c main_arg2 (by decide)]

/-- The regrouped weight. -/
theorem at_main : W8 m ρ c (Proc.devRef .tc main_v4) = turned (W1 m ρ c (Proc.devRef .tc main_v3)) := by
  rw [W8_of m ρ c main_v4 (by decide), W7_of m ρ c main_v4 (by decide), W6_of m ρ c main_v4 (by decide), W5_of m ρ c main_v4 (by decide),
    W4_of m ρ c main_v4 (by decide), W3_of m ρ c main_v4 (by decide)]
  exact (W2_arr m ρ c 1).trans (final0 (V1 m ρ) c)

/-- The product of all columns holds the scores, in the regrouped order. -/
theorem scores : Regrouped (W9 m ρ c (Proc.devRef .tc main_v17) : Mat 128 7680) (B := 32) (T := 4)
    (score (m ((c : Thread nD τ).loc main_arg0)) (m ((c : Thread nD τ).loc main_arg2)) (m ((c : Thread nD τ).loc main_arg3))) := by
  intro b t a j q ha hj
  have e : W9 m ρ c (Proc.devRef .tc main_v17) = product (W8 m ρ c (Proc.devRef .tc main_v16)) (W8 m ρ c (Proc.devRef .tc main_v4)) (n := 7680) id :=
    (W9_arr m ρ c 2).trans (final2 (V8 m ρ) c)
  rw [e, at_h, at_main, at_w]
  exact product_normed _ _ _ _ _ _ _ _ _ _ _ _ (fun d => rows_apply _ a b t d ha) (fun d => norm_apply _ d)
    (fun d => (turned_apply _ _ d).trans (congrArg _ (ext3 rfl rfl hj)))

/-- The narrow weight. -/
theorem at_small : W10 m ρ c (Proc.devRef .tc main_v9) = pad S2048x128 ![0, 0] ![0, 96] ![0, 0] (transpose S2048x32 [1, 0]
      (concatenate S32x2048 0 [⟨S24x2048, extractStridedSlice S24x2048 ![2560, 0] (W1 m ρ c (Proc.devRef .tc main_v3)) slices_S7712x2048_S24x2048_2560_0⟩,
        ⟨S8x2048, extractStridedSlice S8x2048 ![6680, 0] (W1 m ρ c (Proc.devRef .tc main_v3)) slices_S7712x2048_S8x2048_6680_0⟩]
        concatenates_S24x2048_S8x2048_S32x2048_d0) transposes_S32x2048_S2048x32_1_0)
      (sitofp (F := Ideal) .f32 (W3 m ρ c (Proc.devRef .tc main_c) : S_.Idx → BitVec 32)) pads_S2048x32_S2048x128_000_0960 h_S_ := by
  rw [W10_of m ρ c main_v9 (by decide), W9_of m ρ c main_v9 (by decide), W8_of m ρ c main_v9 (by decide), W7_of m ρ c main_v9 (by decide),
    W6_of m ρ c main_v9 (by decide), W5_of m ρ c main_v9 (by decide), ← W2_of m ρ c main_v3 (by decide)]
  refine (ops1_1 (W3 m ρ c)).trans ?_
  rw [show W3 m ρ c (Proc.devRef .tc main_v8) = _ from ops1_small (W2 m ρ c)]

/-- The narrow bias. -/
theorem at_bias : W10 m ρ c (Proc.devRef .tc main_v12) = shapeCast S1x128 (pad S128 ![0] ![96] ![0] (concatenate S32 0
      [⟨S24, shapeCast S24 (m ((c : Thread nD τ).loc main_arg4)) shapeCasts_S1x24_S24⟩,
       ⟨S8, shapeCast S8 (m ((c : Thread nD τ).loc main_arg5)) shapeCasts_S1x8_S8⟩] concatenates_S24_S8_S32_d0)
      (sitofp (F := Ideal) .f32 (W5 m ρ c (Proc.devRef .tc main_c_0) : S_.Idx → BitVec 32)) pads_S32_S128_0960 h_S_) shapeCasts_S128_S1x128 := by
  rw [W10_of m ρ c main_v12 (by decide), W9_of m ρ c main_v12 (by decide), W8_of m ρ c main_v12 (by decide)]
  refine (ops1_4_bias (W6 m ρ c)).trans ?_
  rw [show W6 m ρ c (Proc.devRef .tc main_v11) = _ from ops1_3 (W5 m ρ c), show W5 m ρ c (Proc.devRef .tc main_v10) = _ from ops1_2 (W4 m ρ c),
    W4_of m ρ c main_v1 (by decide), W3_of m ρ c main_v1 (by decide), W2_of m ρ c main_v1 (by decide),
    W4_of m ρ c main_v2 (by decide), W3_of m ρ c main_v2 (by decide), W2_of m ρ c main_v2 (by decide),
    show W1 m ρ c (Proc.devRef .tc main_v1) = _ from ops0_gate (W0 m ρ c), show W1 m ρ c (Proc.devRef .tc main_v2) = _ from ops0_forget (W0 m ρ c)]

/-- The narrow product's first 32 columns hold the gates and the forget logarithms. -/
theorem smalls : Narrow (W11 m ρ c (Proc.devRef .tc main_v25) : Mat 128 128) (B := 32) (T := 4)
    (score (m ((c : Thread nD τ).loc main_arg0)) (m ((c : Thread nD τ).loc main_arg2)) (m ((c : Thread nD τ).loc main_arg3)))
    (m ((c : Thread nD τ).loc main_arg4)) (m ((c : Thread nD τ).loc main_arg5)) := by
  have e : W11 m ρ c (Proc.devRef .tc main_v25) = gated (W10 m ρ c (Proc.devRef .tc main_v16)) (W10 m ρ c (Proc.devRef .tc main_v9)) (W10 m ρ c (Proc.devRef .tc main_v12)) :=
    (W11_arr m ρ c 3).trans (final3 (V10 m ρ) c)
  rw [e, W10_of m ρ c main_v16 (by decide), W9_of m ρ c main_v16 (by decide), at_h, at_small, at_bias, at_w]
  have hs (b : Fin 32) (t : Fin 4) (a j : Fin 128) (q : Fin 7712) (ha : a.val = b.val * 4 + t.val) (hj : j.val < 32)
      (hq : (if j.val < 24 then 2560 + j.val else 6656 + j.val) = q.val) := product_normed
    (shapeCast S128x2048 (m ((c : Thread nD τ).loc main_arg0)) shapeCasts_S32x4x2048_S128x2048)
    (shapeCast S1x2048 (shapeCast S2048 (m ((c : Thread nD τ).loc main_arg2)) shapeCasts_S1x2048_S2048) shapeCasts_S2048_S1x2048)
    _ id _ _ _ a j _ _ q
    (fun d => rows_apply (m ((c : Thread nD τ).loc main_arg0)) a b t d ha) (fun d => norm_apply (m ((c : Thread nD τ).loc main_arg2)) d)
    (fun d => (small_apply _ (sitofp (F := Ideal) .f32 (W3 m ρ c (Proc.devRef .tc main_c) : S_.Idx → BitVec 32)) d j hj).trans
      ((congrArg _ (congrArg (fun i => ix2 i d) (Fin.ext hq))).trans (turned_apply (m ((c : Thread nD τ).loc main_arg3)) q d)))
  constructor
  · intro b t a j k q ha hj hq
    have h : j.val < 24 := by omega
    exact (if_pos h).trans (congrArg logistic (congrArg₂ (· + ·) (hs b t a j q ha (by omega) ((if_pos h).trans (by omega)))
      ((bias_apply _ _ _ j (by omega)).trans ((dif_pos h).trans (congrArg _ (ext2 rfl hj))))))
  · intro b t a j k q ha hj hq
    have h : ¬ j.val < 24 := by omega
    exact (if_neg h).trans (congrArg logLogistic (congrArg₂ (· + ·) (hs b t a j q ha (by omega) ((if_neg h).trans (by omega)))
      ((bias_apply _ _ _ j (by omega)).trans ((dif_neg h).trans (congrArg _ (ext2 rfl (show j.val - 24 = k.val by omega)))))))

end Cert.SampleIdeal.Hand

end
-- ==== Proof.Sample.Layout.lean ====
/-
  The two programs' results as layouts: the kernel's slices and reshapes of the regrouped product, and the reference's
  of the product in the weight's own order, hold the same scores.
-/
module

public import proofs.«01_k».proof.Proof.Projection.Spec
public import proofs.«01_k».proof.Proof.Gen.SampleIdeal
public import proofs.«01_k».proof.Proof.Gen.SampleReferenceIdeal.Read

@[expose] public section

set_option maxRecDepth 16384

noncomputable section

namespace Cert.SampleIdeal.Hand

open Cert.SampleIdeal Cert.SampleIdeal.Gen
open Idealize.ShloMosaic Idealize.ShloMosaic.TcCoe Idealize.ShloMosaic.Tactic
open Cert.Regrouping Cert.Projection
open Cert.SampleReferenceIdeal.Read

variable (x : S32x4x2048.Idx → EReal) (g : S1x2048.Idx → EReal) (w : S1x2048x7712.Idx → EReal)

/-- The reference's product holds the scores. -/
theorem product_eq : val_main_v17 (F := Ideal) x g w = score x g w := by
  funext i
  idx_vars i
  pointwise [val_main_v17, val_main_v16, val_main_v15, val_main_v14, val_main_v13, val_main_v12, val_main_v11, val_main_v10, val_main_v9,
    val_main_v8, val_main_v7, val_main_v6, val_main_v5, val_main_v4, val_main_v1, val_main_v0, val_main_cst, val_main_cst_0, val_main_cst_1]
  rfl

section Columns

variable {M : Mat 128 7680} (h : Regrouped M (score x g w))
include h

theorem kv4_eq : broadcastInDim S1x32x4x4x2x128 ![1, 2, 3, 4, 5] bcast_S32x4x4x2x128_S1x32x4x4x2x128_1_2_3_4_5
        (shapeCast S32x4x4x2x128 (extractStridedSlice S128x1024 ![0, 1024] M slices_S128x7680_S128x1024_0_1024)
          shapeCasts_S128x1024_S32x4x4x2x128)
    = val_main_v49 (F := Ideal) x g w := by
  unfold val_main_v49 val_main_v48 val_main_v27 val_main_v19
  rw [product_eq]
  generalize score x g w = Z at h ⊢
  funext i
  idx_vars i
  pointwise
  refine h _ _ _ _ _ rfl ?_
  unfold src; split_ifs <;> simp_all <;> omega

theorem kv_f_eq : broadcastInDim S1x32x4x2x8x128 ![1, 2, 3, 4, 5] bcast_S32x4x2x8x128_S1x32x4x2x8x128_1_2_3_4_5
        (shapeCast S32x4x2x8x128 (extractStridedSlice S128x2048 ![0, 4608] M slices_S128x7680_S128x2048_0_4608) shapeCasts_S128x2048_S32x4x2x8x128)
    = val_main_v53 (F := Ideal) x g w := by
  unfold val_main_v53 val_main_v52 val_main_v51 val_main_v50 val_main_v38 val_main_v39 val_main_v23 val_main_v24
  rw [product_eq]
  generalize score x g w = Z at h ⊢
  funext i
  idx_vars i
  pointwise
  split_ifs
  · refine h _ _ _ _ _ rfl ?_
    unfold src; split_ifs <;> simp_all <;> omega
  · refine h _ _ _ _ _ rfl ?_
    unfold src; split_ifs <;> simp_all <;> omega

theorem win_eq (p : S1x32x512x2x2x128.Idx → EReal) : broadcastInDim S1x32x512x2x2x128 ![1, 2, 3, 4, 5] bcast_S32x512x2x2x128_S1x32x512x2x2x128_1_2_3_4_5
        (extractStridedSlice S32x512x2x2x128 ![0, 4, 0, 0, 0] (concatenate S32x516x2x2x128 1
          [⟨S32x512x2x2x128, shapeCast S32x512x2x2x128 p shapeCasts_S1x32x512x2x2x128_S32x512x2x2x128⟩,
           ⟨S32x4x2x2x128, shapeCast S32x4x2x2x128 (extractStridedSlice S128x512 ![0, 2048] M slices_S128x7680_S128x512_0_2048) shapeCasts_S128x512_S32x4x2x2x128⟩]
          concatenates_S32x512x2x2x128_S32x4x2x2x128_S32x516x2x2x128_d1) slices_S32x516x2x2x128_S32x512x2x2x128_0_4_0_0_0)
    = val_main_v55 (F := Ideal) x p g w := by
  unfold val_main_v55 val_main_v47 val_main_v46 val_main_v45 val_main_v44 val_main_v27 val_main_v19
  rw [product_eq]
  generalize score x g w = Z at h ⊢
  funext i
  idx_vars i
  pointwise
  by_cases hp : 4 + i2.val < 512
  · simp only [hp, dite_true]
  · simp only [hp, dite_false]
    refine h _ _ _ _ _ rfl ?_
    show src (2048 + (i3.val * 256 + i4.val * 128 + i5.val)) = 1024 + ((4 + i3.val) * 256 + i4.val * 128 + i5.val)
    have hs := src_spec (2048 + (i3.val * 256 + i4.val * 128 + i5.val))
    omega

theorem q_n_eq : extractStridedSlice S128x1024 ![0, 0] M slices_S128x7680_S128x1024_0_0 = val_main_v56 (F := Ideal) x g w := by
  unfold val_main_v56 val_main_v18
  rw [product_eq]
  generalize score x g w = Z at h ⊢
  funext i
  idx_vars i
  pointwise
  exact h _ _ _ _ _ (Nat.div_add_mod' _ 4).symm (by unfold src; split_ifs <;> simp_all <;> omega)

theorem z_n_eq : extractStridedSlice S128x1024 ![0, 2560] M slices_S128x7680_S128x1024_0_2560 = val_main_v57 (F := Ideal) x g w := by
  unfold val_main_v57 val_main_v21
  rw [product_eq]
  generalize score x g w = Z at h ⊢
  funext i
  idx_vars i
  pointwise
  exact h _ _ _ _ _ (Nat.div_add_mod' _ 4).symm (by unfold src; split_ifs <;> simp_all <;> omega)

theorem q_f_eq : extractStridedSlice S128x1024 ![0, 3584] M slices_S128x7680_S128x1024_0_3584 = val_main_v58 (F := Ideal) x g w := by
  unfold val_main_v58 val_main_v22
  rw [product_eq]
  generalize score x g w = Z at h ⊢
  funext i
  idx_vars i
  pointwise
  exact h _ _ _ _ _ (Nat.div_add_mod' _ 4).symm (by unfold src; split_ifs <;> simp_all <;> omega)

theorem z_f_eq : extractStridedSlice S128x1024 ![0, 6656] M slices_S128x7680_S128x1024_0_6656 = val_main_v59 (F := Ideal) x g w := by
  unfold val_main_v59 val_main_v26
  rw [product_eq]
  generalize score x g w = Z at h ⊢
  funext i
  idx_vars i
  pointwise
  exact h _ _ _ _ _ (Nat.div_add_mod' _ 4).symm (by unfold src; split_ifs <;> simp_all <;> omega)

end Columns

section Narrows

variable (bg : S1x24.Idx → EReal) (bf : S1x8.Idx → EReal) {Y : Mat 128 128} (h : Narrow Y (score x g w) bg bf)
include h

theorem gates_eq : shapeCast S32x4x8x3 (extractStridedSlice S128x24 ![0, 0] Y slices_S128x128_S128x24_0_0) shapeCasts_S128x24_S32x4x8x3
    = val_main_v37 (F := Ideal) x g w bg := by
  unfold val_main_v37 val_main_v36 val_main_v35 val_main_v34 val_main_v33 val_main_v32 val_main_v31 val_main_v30 val_main_v29 val_main_v28
    val_main_v20 val_main_v2 val_main_cst_2 val_main_cst_3
  rw [product_eq]
  generalize score x g w = Z at h ⊢
  funext i
  idx_vars i
  pointwise
  exact h.1 _ _ _ _ _ _ rfl rfl rfl

theorem logf_eq : broadcastInDim S1x32x4x8 ![1, 2, 3] bcast_S32x4x8_S1x32x4x8_1_2_3
        (shapeCast S32x4x8 (extractStridedSlice S128x8 ![0, 24] Y slices_S128x128_S128x8_0_24) shapeCasts_S128x8_S32x4x8)
    = val_main_v54 (F := Ideal) x g w bf := by
  unfold val_main_v54 val_main_v43 val_main_call0_v1 val_main_call0_call0_v11 val_main_call0_call0_v10 val_main_call0_call0_v9
    val_main_call0_call0_v8 val_main_call0_call0_v7 val_main_call0_call0_v6 val_main_call0_call0_v5 val_main_call0_call0_v4
    val_main_call0_call0_v3 val_main_call0_call0_v2 val_main_call0_call0_v1 val_main_call0_call0_v0 val_main_call0_call0_cst val_main_call0_v0
    val_main_v42 val_main_v41 val_main_v40 val_main_v25 val_main_v3
  rw [product_eq]
  generalize score x g w = Z at h ⊢
  funext i
  idx_vars i
  pointwise
  rw [h.2 i1 i2 _ _ i3 ⟨6680 + i3.val, by omega⟩ rfl rfl rfl, if_neg (not_not.mpr rfl)]
  exact (logLogistic_eq _).symm

end Narrows

end Cert.SampleIdeal.Hand

end
-- ==== Proof.Sample.Results.lean ====
/-
  The sample batch's projection: the results of a run of the kernel are the reference's, stage by stage, of the same
  arguments.
-/
module

public import proofs.«01_k».proof.Proof.Sample.Run
public import proofs.«01_k».proof.Proof.Sample.Entry
public import proofs.«01_k».proof.Proof.Sample.Layout

@[expose] public section

set_option maxRecDepth 16384

noncomputable section

namespace Cert.SampleIdeal.Hand

open Cert.SampleIdeal Cert.SampleIdeal.Gen
open Idealize.ShloMosaic Idealize.ShloMosaic.TcCoe Idealize.ShloMosaic.Tactic
open Cert.Regrouping Cert.Projection
open Cert.SampleReferenceIdeal.Read

variable (m : (ℓ : Loc nD τ sig) → Buf (Elt Ideal) ℓ) (ρ : Dev nD → PrngReg) (c : Dev nD)

theorem kv4_final : W12 m ρ c (Proc.devRef .tc main_v36) = val_main_v49 (F := Ideal) (m ((c : Thread nD τ).loc main_arg0)) (m ((c : Thread nD τ).loc main_arg2)) (m ((c : Thread nD τ).loc main_arg3)) := by
  refine (ops4_kv4 (W11 m ρ c)).trans ?_
  rw [W11_of m ρ c main_v19 (by decide), show W10 m ρ c (Proc.devRef .tc main_v19) = _ from (ops3_columns (W9 m ρ c)).2.1]
  exact kv4_eq _ _ _ (scores m ρ c)

theorem kv_f_final : W12 m ρ c (Proc.devRef .tc main_v37) = val_main_v53 (F := Ideal) (m ((c : Thread nD τ).loc main_arg0)) (m ((c : Thread nD τ).loc main_arg2)) (m ((c : Thread nD τ).loc main_arg3)) := by
  refine (ops4_kv_f (W11 m ρ c)).trans ?_
  rw [W11_of m ρ c main_v23 (by decide), show W10 m ρ c (Proc.devRef .tc main_v23) = _ from (ops3_columns (W9 m ρ c)).2.2.2.2.2.1]
  exact kv_f_eq _ _ _ (scores m ρ c)

theorem logf_final : W12 m ρ c (Proc.devRef .tc main_v38) = val_main_v54 (F := Ideal) (m ((c : Thread nD τ).loc main_arg0)) (m ((c : Thread nD τ).loc main_arg2)) (m ((c : Thread nD τ).loc main_arg3)) (m ((c : Thread nD τ).loc main_arg5)) := by
  exact (ops4_logf (W11 m ρ c)).trans (logf_eq _ _ _ (m ((c : Thread nD τ).loc main_arg4)) (m ((c : Thread nD τ).loc main_arg5)) (smalls m ρ c))

theorem win_final : W12 m ρ c (Proc.devRef .tc main_v39) = val_main_v55 (F := Ideal) (m ((c : Thread nD τ).loc main_arg0)) (m ((c : Thread nD τ).loc main_arg1)) (m ((c : Thread nD τ).loc main_arg2)) (m ((c : Thread nD τ).loc main_arg3)) := by
  refine (ops4_win (W11 m ρ c)).trans ?_
  rw [W11_of m ρ c main_v20 (by decide), show W10 m ρ c (Proc.devRef .tc main_v20) = _ from (ops3_columns (W9 m ρ c)).2.2.1,
    W11_of m ρ c main_arg1 (by decide),
    W10_of m ρ c main_arg1 (by decide),
    W9_of m ρ c main_arg1 (by decide),
    W8_of m ρ c main_arg1 (by decide),
    W7_of m ρ c main_arg1 (by decide),
    W6_of m ρ c main_arg1 (by decide),
    W5_of m ρ c main_arg1 (by decide),
    W4_of m ρ c main_arg1 (by decide),
    W3_of m ρ c main_arg1 (by decide),
    W2_of m ρ c main_arg1 (by decide),
    W1_of m ρ c main_arg1 (by decide)]
  exact win_eq _ _ _ (scores m ρ c) _

theorem q_n_final : W12 m ρ c (Proc.devRef .tc main_v18) = val_main_v56 (F := Ideal) (m ((c : Thread nD τ).loc main_arg0)) (m ((c : Thread nD τ).loc main_arg2)) (m ((c : Thread nD τ).loc main_arg3)) := by
  rw [W12_of m ρ c main_v18 (by decide), W11_of m ρ c main_v18 (by decide), show W10 m ρ c (Proc.devRef .tc main_v18) = _ from (ops3_columns (W9 m ρ c)).1]
  exact q_n_eq _ _ _ (scores m ρ c)

theorem gates_final : W12 m ρ c (Proc.devRef .tc main_v29) = val_main_v37 (F := Ideal) (m ((c : Thread nD τ).loc main_arg0)) (m ((c : Thread nD τ).loc main_arg2)) (m ((c : Thread nD τ).loc main_arg3)) (m ((c : Thread nD τ).loc main_arg4)) := by
  exact (ops4_gates (W11 m ρ c)).trans (gates_eq _ _ _ (m ((c : Thread nD τ).loc main_arg4)) (m ((c : Thread nD τ).loc main_arg5)) (smalls m ρ c))

theorem z_n_final : W12 m ρ c (Proc.devRef .tc main_v21) = val_main_v57 (F := Ideal) (m ((c : Thread nD τ).loc main_arg0)) (m ((c : Thread nD τ).loc main_arg2)) (m ((c : Thread nD τ).loc main_arg3)) := by
  rw [W12_of m ρ c main_v21 (by decide), W11_of m ρ c main_v21 (by decide), show W10 m ρ c (Proc.devRef .tc main_v21) = _ from (ops3_columns (W9 m ρ c)).2.2.2.1]
  exact z_n_eq _ _ _ (scores m ρ c)

theorem q_f_final : W12 m ρ c (Proc.devRef .tc main_v22) = val_main_v58 (F := Ideal) (m ((c : Thread nD τ).loc main_arg0)) (m ((c : Thread nD τ).loc main_arg2)) (m ((c : Thread nD τ).loc main_arg3)) := by
  rw [W12_of m ρ c main_v22 (by decide), W11_of m ρ c main_v22 (by decide), show W10 m ρ c (Proc.devRef .tc main_v22) = _ from (ops3_columns (W9 m ρ c)).2.2.2.2.1]
  exact q_f_eq _ _ _ (scores m ρ c)

theorem z_f_final : W12 m ρ c (Proc.devRef .tc main_v24) = val_main_v59 (F := Ideal) (m ((c : Thread nD τ).loc main_arg0)) (m ((c : Thread nD τ).loc main_arg2)) (m ((c : Thread nD τ).loc main_arg3)) := by
  rw [W12_of m ρ c main_v24 (by decide), W11_of m ρ c main_v24 (by decide), show W10 m ρ c (Proc.devRef .tc main_v24) = _ from (ops3_columns (W9 m ρ c)).2.2.2.2.2.2]
  exact z_f_eq _ _ _ (scores m ρ c)

end Cert.SampleIdeal.Hand

end
-- ==== Proof.Sample.Claims.lean ====
/-
  The claims about the sample batch's projection: the printed program and its idealization run and leave the arguments,
  so does the reference, and at the ideal instance the results agree.
-/
module

public import proofs.«01_k».proof.Defs
public import proofs.«01_k».proof.Proof.Gen.Sample.Frame
public import proofs.«01_k».proof.Proof.Gen.SampleReferenceIdeal.Run
public import proofs.«01_k».proof.Proof.Sample.Results
public import Idealize.ShloMosaic.Lib.Quiescent

@[expose] public section

set_option maxRecDepth 16384

noncomputable section

open Idealize.ShloMosaic Idealize.ShloMosaic.TcCoe Idealize.SL.Sem

namespace Cert.Sampling

theorem frame : Cert.quiescent_Sample := fun m ρ _ => Cert.Sample.Gen.frame m ρ
theorem frame_ideal : Cert.quiescent_SampleIdeal := fun m ρ _ => Cert.SampleIdeal.Gen.frame m ρ
/-- The reference is host operations only: it declares no semaphore. -/
theorem frame_reference : Cert.quiescent_SampleReferenceIdeal := fun m ρ _ =>
  (θ_run Cert.SampleReferenceIdeal.defs _ _).mono
    (fun r h => ⟨fun c => (h c).2.2.2.2.2.2.2.2.2, sem_eq_zero_of_no_sems (by decide) r.2⟩)
    (Cert.SampleReferenceIdeal.Value.run m ρ)

theorem preserves : Cert.preserves_Sample_SampleIdeal := trivial

open Cert.SampleIdeal.Hand Cert.SampleIdeal.Gen Cert.SampleReferenceIdeal.Read in
/-- At the ideal instance the two programs' nine results agree, of arguments that agree. -/
theorem algebraic : Cert.algebraic_SampleIdeal_SampleReferenceIdeal := by
  intro m ρ m' ρ' _ hagree
  refine ⟨fun c => val_main_v49 (F := Ideal) (m (c.tc.loc Cert.SampleIdeal.main_arg0)) (m (c.tc.loc Cert.SampleIdeal.main_arg2)) (m (c.tc.loc Cert.SampleIdeal.main_arg3)),
    fun c => val_main_v53 (F := Ideal) (m (c.tc.loc Cert.SampleIdeal.main_arg0)) (m (c.tc.loc Cert.SampleIdeal.main_arg2)) (m (c.tc.loc Cert.SampleIdeal.main_arg3)),
    fun c => val_main_v54 (F := Ideal) (m (c.tc.loc Cert.SampleIdeal.main_arg0)) (m (c.tc.loc Cert.SampleIdeal.main_arg2)) (m (c.tc.loc Cert.SampleIdeal.main_arg3)) (m (c.tc.loc Cert.SampleIdeal.main_arg5)),
    fun c => val_main_v55 (F := Ideal) (m (c.tc.loc Cert.SampleIdeal.main_arg0)) (m (c.tc.loc Cert.SampleIdeal.main_arg1)) (m (c.tc.loc Cert.SampleIdeal.main_arg2)) (m (c.tc.loc Cert.SampleIdeal.main_arg3)),
    fun c => val_main_v56 (F := Ideal) (m (c.tc.loc Cert.SampleIdeal.main_arg0)) (m (c.tc.loc Cert.SampleIdeal.main_arg2)) (m (c.tc.loc Cert.SampleIdeal.main_arg3)),
    fun c => val_main_v37 (F := Ideal) (m (c.tc.loc Cert.SampleIdeal.main_arg0)) (m (c.tc.loc Cert.SampleIdeal.main_arg2)) (m (c.tc.loc Cert.SampleIdeal.main_arg3)) (m (c.tc.loc Cert.SampleIdeal.main_arg4)),
    fun c => val_main_v57 (F := Ideal) (m (c.tc.loc Cert.SampleIdeal.main_arg0)) (m (c.tc.loc Cert.SampleIdeal.main_arg2)) (m (c.tc.loc Cert.SampleIdeal.main_arg3)),
    fun c => val_main_v58 (F := Ideal) (m (c.tc.loc Cert.SampleIdeal.main_arg0)) (m (c.tc.loc Cert.SampleIdeal.main_arg2)) (m (c.tc.loc Cert.SampleIdeal.main_arg3)),
    fun c => val_main_v59 (F := Ideal) (m (c.tc.loc Cert.SampleIdeal.main_arg0)) (m (c.tc.loc Cert.SampleIdeal.main_arg2)) (m (c.tc.loc Cert.SampleIdeal.main_arg3)), ?_, ?_⟩
  · refine (θ_run Cert.SampleIdeal.defs _ _).mono (fun r h c => ⟨(h c _ (mem_uc Cert.SampleIdeal.main_v36 (by decide))).trans (kv4_final m ρ c),
      (h c _ (mem_uc Cert.SampleIdeal.main_v37 (by decide))).trans (kv_f_final m ρ c),
      (h c _ (mem_uc Cert.SampleIdeal.main_v38 (by decide))).trans (logf_final m ρ c),
      (h c _ (mem_uc Cert.SampleIdeal.main_v39 (by decide))).trans (win_final m ρ c),
      (h c _ (mem_uc Cert.SampleIdeal.main_v18 (by decide))).trans (q_n_final m ρ c),
      (h c _ (mem_uc Cert.SampleIdeal.main_v29 (by decide))).trans (gates_final m ρ c),
      (h c _ (mem_uc Cert.SampleIdeal.main_v21 (by decide))).trans (z_n_final m ρ c),
      (h c _ (mem_uc Cert.SampleIdeal.main_v22 (by decide))).trans (q_f_final m ρ c),
      (h c _ (mem_uc Cert.SampleIdeal.main_v24 (by decide))).trans (z_f_final m ρ c),
      (h c _ (mem_uc Cert.SampleIdeal.main_arg0 (by decide))).trans (W12_main_arg0 m ρ c),
      (h c _ (mem_uc Cert.SampleIdeal.main_arg1 (by decide))).trans (W12_main_arg1 m ρ c),
      (h c _ (mem_uc Cert.SampleIdeal.main_arg2 (by decide))).trans (W12_main_arg2 m ρ c),
      (h c _ (mem_uc Cert.SampleIdeal.main_arg3 (by decide))).trans (W12_main_arg3 m ρ c),
      (h c _ (mem_uc Cert.SampleIdeal.main_arg4 (by decide))).trans (W12_main_arg4 m ρ c),
      (h c _ (mem_uc Cert.SampleIdeal.main_arg5 (by decide))).trans (W12_main_arg5 m ρ c)⟩)
      (Cert.SampleIdeal.Hand.run m ρ)
  refine (θ_run Cert.SampleReferenceIdeal.defs _ _).mono (fun r h c => ?_) (Cert.SampleReferenceIdeal.Value.run m' ρ')
  obtain ⟨e0, e1, e2, e3, e4, e5⟩ := hagree c
  exact ⟨(h c).1.trans ((val_main_v49_eq _ _ _).trans (by rw [e0, e2, e3])),
    (h c).2.1.trans ((val_main_v53_eq _ _ _).trans (by rw [e0, e2, e3])),
    (h c).2.2.1.trans ((val_main_v54_eq m' c).trans (by rw [e0, e2, e3, e5])),
    (h c).2.2.2.1.trans ((val_main_v55_eq _ _ _ _).trans (by rw [e0, e1, e2, e3])),
    (h c).2.2.2.2.1.trans ((val_main_v56_eq _ _ _).trans (by rw [e0, e2, e3])),
    (h c).2.2.2.2.2.1.trans ((val_main_v37_eq _ _ _ _).trans (by rw [e0, e2, e3, e4])),
    (h c).2.2.2.2.2.2.1.trans ((val_main_v57_eq _ _ _).trans (by rw [e0, e2, e3])),
    (h c).2.2.2.2.2.2.2.1.trans ((val_main_v58_eq _ _ _).trans (by rw [e0, e2, e3])),
    (h c).2.2.2.2.2.2.2.2.1.trans ((val_main_v59_eq _ _ _).trans (by rw [e0, e2, e3])),
    (h c).2.2.2.2.2.2.2.2.2⟩

end Cert.Sampling

end
-- ==== Proof.Prompt.Run.lean ====
/-
  The run of the prompt batch's projection with every array NAMED: the launch of the frame (the same segments, in the
  same order), its final memory read at every buffer instead of at the arguments alone. What an array holds is then a
  matter of `W16`, the contents after the last stretch of host operations.
-/
module

public import proofs.«01_k».proof.Proof.Gen.PromptIdeal.Frame

@[expose] public section

set_option maxRecDepth 16384

noncomputable section

namespace Cert.PromptIdeal.Hand

open Cert.PromptIdeal Cert.PromptIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the program every buffer of the TensorCores that outlives its kernels holds what `W16` says. -/
theorem run : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h _ c => h c)

end Cert.PromptIdeal.Hand

end
-- ==== Proof.Prompt.Regions.lean ====
/-
  What the prompt batch's weight, norm and gate kernels leave in their output arrays, as functions of the arrays they
  were entered with. The contents `V` at entry are arbitrary; the six products are Products.lean's and the host
  operations between the kernels Entry.lean's.
-/
module

public import proofs.«01_k».proof.Proof.Gen.PromptIdeal.Frame
public import proofs.«01_k».proof.Proof.Projection.Blocks

@[expose] public section

set_option maxRecDepth 16384

noncomputable section

open Idealize.ShloMosaic Idealize.ShloMosaic.TcCoe Idealize.SL.Sem
open Idealize.ShloMosaic.Pipeline (Dat)

namespace Cert.PromptIdeal.Hand

open Cert.RegroupIdeal.Hand (hz)
open Cert.PromptIdeal Cert.PromptIdeal.Gen Cert.Regrouping Cert.Projection

variable (V : (c : Dev nD) → (b : Ref sig .tc) → Buf (Elt Ideal) ((c : Thread nD τ).loc b)) (c : Dev nD)

/-! ## What the bodies store, read at an element -/

theorem pay0_apply (x : Mat 512 2048) (d : Fin 2048) (k : Fin 512) : k0_pay1 (F := Ideal) x (ix2 d k) = x (ix2 k d) := by
  pointwise [k0_pay1]

theorem pay1_apply (x : Mat 512 2048) (g : Mat 1 2048) (a : Fin 512) (b : Fin 2048) :
    k1_pay1 (F := Ideal) x g (ix2 a b) = normed x g (ix2 a b) := by
  pointwise [k1_pay1]
  rfl

theorem pay8_apply (x : Mat 512 2048) (w : Mat 2048 128) (z : Mat 1 128) (a : Fin 512) (b : Fin 128) :
    k8_pay1 (F := Ideal) x w z (ix2 a b) = gated x w z (ix2 a b) := by
  pointwise [k8_pay1]
  simp only [zero_sub]
  exact select_lane b _ _

/-! ## Where the windows stand -/

theorem index0 : ∀ t : Fin cfg0.N, win0_0.index t 0 = src (t.val * 512) ∧ win0_0.index t 1 = 0
      ∧ win0_1.index t 0 = 0 ∧ win0_1.index t 1 = t.val :=
  (by decide +kernel : ∀ t : Fin grid0.N, win0_0.index t 0 = src (t.val * 512) ∧ win0_0.index t 1 = 0
      ∧ win0_1.index t 0 = 0 ∧ win0_1.index t 1 = t.val)

theorem index1 : ∀ t : Fin cfg1.N, win1_0.index t 0 = t.val ∧ win1_0.index t 1 = 0 ∧ win1_1.index t 0 = 0
      ∧ win1_1.index t 1 = 0 ∧ win1_2.index t 0 = t.val ∧ win1_2.index t 1 = 0 :=
  (by decide +kernel : ∀ t : Fin grid1.N, win1_0.index t 0 = t.val ∧ win1_0.index t 1 = 0 ∧ win1_1.index t 0 = 0
      ∧ win1_1.index t 1 = 0 ∧ win1_2.index t 0 = t.val ∧ win1_2.index t 1 = 0)

theorem index8 : ∀ t : Fin cfg8.N, win8_0.index t 0 = t.val ∧ win8_0.index t 1 = 0 ∧ win8_1.index t 0 = 0 ∧ win8_1.index t 1 = 0
      ∧ win8_2.index t 0 = 0 ∧ win8_2.index t 1 = 0 ∧ win8_3.index t 0 = t.val ∧ win8_3.index t 1 = 0 :=
  (by decide +kernel : ∀ t : Fin grid8.N, win8_0.index t 0 = t.val ∧ win8_0.index t 1 = 0 ∧ win8_1.index t 0 = 0 ∧ win8_1.index t 1 = 0
      ∧ win8_2.index t 0 = 0 ∧ win8_2.index t 1 = 0 ∧ win8_3.index t 0 = t.val ∧ win8_3.index t 1 = 0)

/-! ## The weights, regrouped -/

theorem flushed0 (t : Fin cfg0.N) : (dat0 V c).flushed 1 t = (win0_1.blk t).view.read (Elt Ideal) (turned (V c main_v3)) := by
  show (cfg0.win 1).cut (grid0.coords t) ((dat0 V c).after 1 t) = _
  rw [after0_1]
  unfold out0_1
  rw [View.canon_unit_zero hz, View.ld_unit_zero hz]
  obtain ⟨h0, h1, h2, h3⟩ := index0 t
  have ht : t.val < 15 := lt_of_lt_of_eq t.isLt N_0
  funext j
  obtain ⟨d, k, rfl⟩ : ∃ (d : Fin 2048) (k : Fin 512), j = ix2 d k := ⟨_, _, eq_ix2 (n0 := 2048) (n1 := 512) j⟩
  refine turned_block (V c main_v3) pay0_apply (e0 := (win0_0.rect t).emb) (e1 := (win0_1.rect t).emb) t.val ht
    (fun k d => ⟨?_, ?_⟩) (fun d k => ext2 ?_ ?_) d k
  · show win0_0.index t 0 + 1 * k.val = src (t.val * 512) + k.val; omega
  · show win0_0.index t 1 + 1 * d.val = d.val; omega
  · show win0_1.index t 0 * 2048 + 1 * d.val = d.val; omega
  · show win0_1.index t 1 * 512 + 1 * k.val = t.val * 512 + k.val; omega

theorem final0 : (dat0 V c).arrAt 1 cfg0.N = turned (V c main_v3) := by
  refine (dat0 V c).arrAt_eq_of_cover 1 (turned (V c main_v3)) (fun t _ => flushed0 V c t) fun i => ?_
  have hi : (i 1 : Nat) < 7680 := (i 1).isLt
  have ht : (i 1 : Nat) / 512 < cfg0.N := by show _ < grid0.N; rw [N_0]; omega
  refine ⟨⟨(i 1 : Nat) / 512, ht⟩, flush0_1 _, ?_⟩
  obtain ⟨-, -, h0, h1⟩ := index0 ⟨(i 1 : Nat) / 512, ht⟩
  show i ∈ ((View.whole main_v4).slice (win0_1.rect ⟨(i 1 : Nat) / 512, ht⟩)).set
  rw [View.set_slice_whole, Rect.mem_set_unit]
  intro a
  match a with
  | ⟨0, _⟩ => exact in_axis (i 0).isLt h0
  | ⟨1, _⟩ => exact in_tile (Nat.succ_pos 511) h1

/-! ## The rows, normalised -/

theorem flushed1 (t : Fin cfg1.N) : (dat1 V c).flushed 2 t
    = (win1_2.blk t).view.read (Elt Ideal) (normed (V c main_v13) (V c main_v15)) := by
  show (cfg1.win 2).cut (grid1.coords t) ((dat1 V c).after 2 t) = _
  rw [after1_2]
  unfold out1_2
  rw [View.canon_unit_zero hz, View.ld_unit_zero hz, View.ld_unit_zero hz]
  obtain ⟨h0, h1, h2, h3, h4, h5⟩ := index1 t
  have ht := lt_of_lt_of_eq t.isLt N_1
  funext j
  obtain ⟨a, b, rfl⟩ : ∃ (a : Fin 512) (b : Fin 2048), j = ix2 a b := ⟨_, _, eq_ix2 (n0 := 512) (n1 := 2048) j⟩
  refine normed_block (V c main_v13) (V c main_v15) pay1_apply (e0 := (win1_0.rect t).emb) (e1 := (win1_1.rect t).emb)
    (e2 := (win1_2.rect t).emb) (fun a => ⟨t.val * 512 + a.val, by omega⟩) (fun a b => ext2 ?_ ?_) (fun b => ext2 ?_ ?_) (fun a b => ext2 ?_ ?_) a b
  · show win1_0.index t 0 * 512 + 1 * a.val = t.val * 512 + a.val; omega
  · show win1_0.index t 1 * 2048 + 1 * b.val = b.val; omega
  · show win1_1.index t 0 * 1 + 1 * 0 = 0; omega
  · show win1_1.index t 1 * 2048 + 1 * b.val = b.val; omega
  · show win1_2.index t 0 * 512 + 1 * a.val = t.val * 512 + a.val; omega
  · show win1_2.index t 1 * 2048 + 1 * b.val = b.val; omega

theorem final1 : (dat1 V c).arrAt 2 cfg1.N = normed (V c main_v13) (V c main_v15) := by
  refine (dat1 V c).arrAt_eq_of_cover 2 (normed (V c main_v13) (V c main_v15)) (fun t _ => flushed1 V c t) fun i => ?_
  have hi : (i 0 : Nat) < 8192 := (i 0).isLt
  have ht : (i 0 : Nat) / 512 < cfg1.N := by show _ < grid1.N; rw [N_1]; omega
  obtain ⟨-, -, -, -, h0, h1⟩ := index1 ⟨(i 0 : Nat) / 512, ht⟩
  refine ⟨⟨(i 0 : Nat) / 512, ht⟩, flush1_2 _, ?_⟩
  show i ∈ ((View.whole main_v16).slice (win1_2.rect ⟨(i 0 : Nat) / 512, ht⟩)).set
  rw [View.set_slice_whole, Rect.mem_set_unit]
  intro a
  match a with
  | ⟨0, _⟩ => exact in_tile (Nat.succ_pos 511) h0
  | ⟨1, _⟩ => exact in_axis (i 1).isLt h1

/-! ## The gates and forget logarithms -/

theorem flushed8 (t : Fin cfg8.N) : (dat8 V c).flushed 3 t
    = (win8_3.blk t).view.read (Elt Ideal) (gated (V c main_v16) (V c main_v9) (V c main_v12)) := by
  show (cfg8.win 3).cut (grid8.coords t) ((dat8 V c).after 3 t) = _
  rw [after8_3]
  unfold out8_3
  rw [View.canon_unit_zero hz, View.ld_unit_zero hz, View.ld_unit_zero hz, View.ld_unit_zero hz]
  obtain ⟨h0, h1, h2, h3, h4, h5, h6, h7⟩ := index8 t
  have ht := lt_of_lt_of_eq t.isLt N_8
  funext j
  obtain ⟨a, b, rfl⟩ : ∃ (a : Fin 512) (b : Fin 128), j = ix2 a b := ⟨_, _, eq_ix2 (n0 := 512) (n1 := 128) j⟩
  refine gated_block (V c main_v16) (V c main_v9) (V c main_v12) pay8_apply (e0 := (win8_0.rect t).emb) (e1 := (win8_1.rect t).emb)
    (e2 := (win8_2.rect t).emb) (e3 := (win8_3.rect t).emb) (fun a => ⟨t.val * 512 + a.val, by omega⟩)
    (fun a k => ext2 ?_ ?_) (fun k j => ext2 ?_ ?_) (fun j => ext2 ?_ ?_) (fun a j => ext2 ?_ ?_) a b
  · show win8_0.index t 0 * 512 + 1 * a.val = t.val * 512 + a.val; omega
  · show win8_0.index t 1 * 2048 + 1 * k.val = k.val; omega
  · show win8_1.index t 0 * 2048 + 1 * k.val = k.val; omega
  · show win8_1.index t 1 * 128 + 1 * j.val = j.val; omega
  · show win8_2.index t 0 * 1 + 1 * 0 = 0; omega
  · show win8_2.index t 1 * 128 + 1 * j.val = j.val; omega
  · show win8_3.index t 0 * 512 + 1 * a.val = t.val * 512 + a.val; omega
  · show win8_3.index t 1 * 128 + 1 * j.val = j.val; omega

theorem final8 : (dat8 V c).arrAt 3 cfg8.N = gated (V c main_v16) (V c main_v9) (V c main_v12) := by
  refine (dat8 V c).arrAt_eq_of_cover 3 (gated (V c main_v16) (V c main_v9) (V c main_v12)) (fun t _ => flushed8 V c t) fun i => ?_
  have hi : (i 0 : Nat) < 8192 := (i 0).isLt
  have ht : (i 0 : Nat) / 512 < cfg8.N := by show _ < grid8.N; rw [N_8]; omega
  obtain ⟨-, -, -, -, -, -, h0, h1⟩ := index8 ⟨(i 0 : Nat) / 512, ht⟩
  refine ⟨⟨(i 0 : Nat) / 512, ht⟩, flush8_3 _, ?_⟩
  show i ∈ ((View.whole main_v23).slice (win8_3.rect ⟨(i 0 : Nat) / 512, ht⟩)).set
  rw [View.set_slice_whole, Rect.mem_set_unit]
  intro a
  match a with
  | ⟨0, _⟩ => exact in_tile (Nat.succ_pos 511) h0
  | ⟨1, _⟩ => exact in_axis (i 1).isLt h1

end Cert.PromptIdeal.Hand

end
-- ==== Proof.Prompt.Products.lean ====
/-
  What each of the prompt batch's six projection kernels leaves in its output array: the product of the normalised rows
  with its own group of the regrouped weight's columns. The kernels differ in the group's first column and width; of a
  kernel that writes its product twice, in two precisions, the wide copy is read here.
-/
module

public import proofs.«01_k».proof.Proof.Gen.PromptIdeal.Frame
public import proofs.«01_k».proof.Proof.Projection.Blocks

@[expose] public section

set_option maxRecDepth 16384

noncomputable section

open Idealize.ShloMosaic Idealize.ShloMosaic.TcCoe Idealize.SL.Sem
open Idealize.ShloMosaic.Pipeline (Dat)

namespace Cert.PromptIdeal.Hand

open Cert.RegroupIdeal.Hand (hz)
open Cert.PromptIdeal Cert.PromptIdeal.Gen Cert.Regrouping Cert.Projection

variable (V : (c : Dev nD) → (b : Ref sig .tc) → Buf (Elt Ideal) ((c : Thread nD τ).loc b)) (c : Dev nD)

/-! ## The queries of the sparse mixer -/

theorem pay2_apply (x : Mat 1024 2048) (w : Mat 2048 512) (a : Fin 1024) (b : Fin 512) :
    k2_pay1 (F := Ideal) x w (ix2 a b) = product x w id (ix2 a b) := by
  pointwise [k2_pay1]
  rfl

theorem index2 : ∀ t : Fin cfg2.N, win2_0.index t 0 = t.val / 2 ∧ win2_0.index t 1 = 0 ∧ win2_1.index t 0 = 0
      ∧ win2_1.index t 1 = 0 + t.val % 2 ∧ win2_2.index t 0 = t.val / 2 ∧ win2_2.index t 1 = t.val % 2 :=
  (by decide +kernel : ∀ t : Fin grid2.N, win2_0.index t 0 = t.val / 2 ∧ win2_0.index t 1 = 0 ∧ win2_1.index t 0 = 0
      ∧ win2_1.index t 1 = 0 + t.val % 2 ∧ win2_2.index t 0 = t.val / 2 ∧ win2_2.index t 1 = t.val % 2)

theorem flushed2 (t : Fin cfg2.N) : (dat2 V c).flushed 2 t = (win2_2.blk t).view.read (Elt Ideal)
    (product (V c main_v16) (V c main_v4) (cols (n := 1024) (0 * 512) (by omega))) := by
  show (cfg2.win 2).cut (grid2.coords t) ((dat2 V c).after 2 t) = _
  rw [after2_2]
  unfold out2_2
  rw [View.canon_unit_zero hz, View.ld_unit_zero hz, View.ld_unit_zero hz]
  exact product_tile (V c main_v16) (V c main_v4) 0 (by omega) pay2_apply (e0 := (win2_0.rect t).emb) (e1 := (win2_1.rect t).emb)
    (e2 := (win2_2.rect t).emb) (index2 t) (fun _ _ => ⟨rfl, rfl⟩) (fun _ _ => ⟨rfl, rfl⟩) (fun _ _ => ⟨rfl, rfl⟩)

theorem final2 : (dat2 V c).arrAt 2 cfg2.N = product (V c main_v16) (V c main_v4) (cols (n := 1024) (0 * 512) (by omega)) := by
  refine (dat2 V c).arrAt_eq_of_cover 2 (product (V c main_v16) (V c main_v4) (cols (n := 1024) (0 * 512) (by omega))) (fun t _ => flushed2 V c t) fun i => ?_
  have h0 : (i 0 : Nat) < 8192 := (i 0).isLt
  have h1 : (i 1 : Nat) < 1024 := (i 1).isLt
  have ht : (i 0 : Nat) / 1024 * 2 + (i 1 : Nat) / 512 < cfg2.N := by show _ < grid2.N; rw [N_2]; omega
  obtain ⟨-, -, -, -, e0, e1⟩ := index2 ⟨(i 0 : Nat) / 1024 * 2 + (i 1 : Nat) / 512, ht⟩
  refine ⟨⟨(i 0 : Nat) / 1024 * 2 + (i 1 : Nat) / 512, ht⟩, flush2_2 _, ?_⟩
  show i ∈ ((View.whole main_v17).slice (win2_2.rect ⟨(i 0 : Nat) / 1024 * 2 + (i 1 : Nat) / 512, ht⟩)).set
  rw [View.set_slice_whole, Rect.mem_set_unit]
  intro a
  match a with
  | ⟨0, _⟩ => exact in_tile (Nat.succ_pos 1023) (e0.trans (show ((i 0 : Nat) / 1024 * 2 + (i 1 : Nat) / 512) / 2 = (i 0 : Nat) / 1024 by omega))
  | ⟨1, _⟩ => exact in_tile (Nat.succ_pos 511) (e1.trans (show ((i 0 : Nat) / 1024 * 2 + (i 1 : Nat) / 512) % 2 = (i 1 : Nat) / 512 by omega))

/-! ## The window keys and values -/

theorem pay3_apply (x : Mat 1024 2048) (w : Mat 2048 512) (a : Fin 1024) (b : Fin 512) :
    k3_pay1 (F := Ideal) x w (ix2 a b) = product x w id (ix2 a b) := by
  pointwise [k3_pay1]
  rfl

theorem index3 : ∀ t : Fin cfg3.N, win3_0.index t 0 = t.val ∧ win3_0.index t 1 = 0 ∧ win3_1.index t 0 = 0
      ∧ win3_1.index t 1 = 4 + 0 ∧ win3_2.index t 0 = t.val ∧ win3_2.index t 1 = 0 :=
  (by decide +kernel : ∀ t : Fin grid3.N, win3_0.index t 0 = t.val ∧ win3_0.index t 1 = 0 ∧ win3_1.index t 0 = 0
      ∧ win3_1.index t 1 = 4 + 0 ∧ win3_2.index t 0 = t.val ∧ win3_2.index t 1 = 0)

theorem flushed3 (t : Fin cfg3.N) : (dat3 V c).flushed 2 t = (win3_2.blk t).view.read (Elt Ideal)
    (product (V c main_v16) (V c main_v4) (cols (n := 512) (4 * 512) (by omega))) := by
  show (cfg3.win 2).cut (grid3.coords t) ((dat3 V c).after 2 t) = _
  rw [after3_2]
  unfold out3_2
  rw [View.canon_unit_zero hz, View.ld_unit_zero hz, View.ld_unit_zero hz]
  exact product_tile (V c main_v16) (V c main_v4) 4 (by omega) pay3_apply (e0 := (win3_0.rect t).emb) (e1 := (win3_1.rect t).emb)
    (e2 := (win3_2.rect t).emb) (index3 t) (fun _ _ => ⟨rfl, rfl⟩) (fun _ _ => ⟨rfl, rfl⟩) (fun _ _ => ⟨rfl, rfl⟩)

theorem final3 : (dat3 V c).arrAt 2 cfg3.N = product (V c main_v16) (V c main_v4) (cols (n := 512) (4 * 512) (by omega)) := by
  refine (dat3 V c).arrAt_eq_of_cover 2 (product (V c main_v16) (V c main_v4) (cols (n := 512) (4 * 512) (by omega))) (fun t _ => flushed3 V c t) fun i => ?_
  have h0 : (i 0 : Nat) < 8192 := (i 0).isLt
  have h1 : (i 1 : Nat) < 512 := (i 1).isLt
  have ht : (i 0 : Nat) / 1024 < cfg3.N := by show _ < grid3.N; rw [N_3]; omega
  obtain ⟨-, -, -, -, e0, e1⟩ := index3 ⟨(i 0 : Nat) / 1024, ht⟩
  refine ⟨⟨(i 0 : Nat) / 1024, ht⟩, flush3_2 _, ?_⟩
  show i ∈ ((View.whole main_v18_0).slice (win3_2.rect ⟨(i 0 : Nat) / 1024, ht⟩)).set
  rw [View.set_slice_whole, Rect.mem_set_unit]
  intro a
  match a with
  | ⟨0, _⟩ => exact in_tile (Nat.succ_pos 1023) (e0.trans (show (i 0 : Nat) / 1024 = (i 0 : Nat) / 1024 from rfl))
  | ⟨1, _⟩ => exact in_tile (Nat.succ_pos 511) (e1.trans (show 0 = (i 1 : Nat) / 512 by omega))

/-! ## The sparse mixer's output gate -/

theorem pay4_apply (x : Mat 1024 2048) (w : Mat 2048 512) (a : Fin 1024) (b : Fin 512) :
    k4_pay1 (F := Ideal) x w (ix2 a b) = product x w id (ix2 a b) := by
  pointwise [k4_pay1]
  rfl

theorem index4 : ∀ t : Fin cfg4.N, win4_0.index t 0 = t.val / 2 ∧ win4_0.index t 1 = 0 ∧ win4_1.index t 0 = 0
      ∧ win4_1.index t 1 = 5 + t.val % 2 ∧ win4_2.index t 0 = t.val / 2 ∧ win4_2.index t 1 = t.val % 2 :=
  (by decide +kernel : ∀ t : Fin grid4.N, win4_0.index t 0 = t.val / 2 ∧ win4_0.index t 1 = 0 ∧ win4_1.index t 0 = 0
      ∧ win4_1.index t 1 = 5 + t.val % 2 ∧ win4_2.index t 0 = t.val / 2 ∧ win4_2.index t 1 = t.val % 2)

theorem flushed4 (t : Fin cfg4.N) : (dat4 V c).flushed 2 t = (win4_2.blk t).view.read (Elt Ideal)
    (product (V c main_v16) (V c main_v4) (cols (n := 1024) (5 * 512) (by omega))) := by
  show (cfg4.win 2).cut (grid4.coords t) ((dat4 V c).after 2 t) = _
  rw [after4_2]
  unfold out4_2
  rw [View.canon_unit_zero hz, View.ld_unit_zero hz, View.ld_unit_zero hz]
  exact product_tile (V c main_v16) (V c main_v4) 5 (by omega) pay4_apply (e0 := (win4_0.rect t).emb) (e1 := (win4_1.rect t).emb)
    (e2 := (win4_2.rect t).emb) (index4 t) (fun _ _ => ⟨rfl, rfl⟩) (fun _ _ => ⟨rfl, rfl⟩) (fun _ _ => ⟨rfl, rfl⟩)

theorem final4 : (dat4 V c).arrAt 2 cfg4.N = product (V c main_v16) (V c main_v4) (cols (n := 1024) (5 * 512) (by omega)) := by
  refine (dat4 V c).arrAt_eq_of_cover 2 (product (V c main_v16) (V c main_v4) (cols (n := 1024) (5 * 512) (by omega))) (fun t _ => flushed4 V c t) fun i => ?_
  have h0 : (i 0 : Nat) < 8192 := (i 0).isLt
  have h1 : (i 1 : Nat) < 1024 := (i 1).isLt
  have ht : (i 0 : Nat) / 1024 * 2 + (i 1 : Nat) / 512 < cfg4.N := by show _ < grid4.N; rw [N_4]; omega
  obtain ⟨-, -, -, -, e0, e1⟩ := index4 ⟨(i 0 : Nat) / 1024 * 2 + (i 1 : Nat) / 512, ht⟩
  refine ⟨⟨(i 0 : Nat) / 1024 * 2 + (i 1 : Nat) / 512, ht⟩, flush4_2 _, ?_⟩
  show i ∈ ((View.whole main_v19).slice (win4_2.rect ⟨(i 0 : Nat) / 1024 * 2 + (i 1 : Nat) / 512, ht⟩)).set
  rw [View.set_slice_whole, Rect.mem_set_unit]
  intro a
  match a with
  | ⟨0, _⟩ => exact in_tile (Nat.succ_pos 1023) (e0.trans (show ((i 0 : Nat) / 1024 * 2 + (i 1 : Nat) / 512) / 2 = (i 0 : Nat) / 1024 by omega))
  | ⟨1, _⟩ => exact in_tile (Nat.succ_pos 511) (e1.trans (show ((i 0 : Nat) / 1024 * 2 + (i 1 : Nat) / 512) % 2 = (i 1 : Nat) / 512 by omega))

/-! ## The queries of the forgetting mixer -/

theorem pay5_apply (x : Mat 1024 2048) (w : Mat 2048 512) (a : Fin 1024) (b : Fin 512) :
    k5_pay1 (F := Ideal) x w (ix2 a b) = product x w id (ix2 a b) := by
  pointwise [k5_pay1]
  rfl

theorem index5 : ∀ t : Fin cfg5.N, win5_0.index t 0 = t.val / 2 ∧ win5_0.index t 1 = 0 ∧ win5_1.index t 0 = 0
      ∧ win5_1.index t 1 = 7 + t.val % 2 ∧ win5_2.index t 0 = t.val / 2 ∧ win5_2.index t 1 = t.val % 2 :=
  (by decide +kernel : ∀ t : Fin grid5.N, win5_0.index t 0 = t.val / 2 ∧ win5_0.index t 1 = 0 ∧ win5_1.index t 0 = 0
      ∧ win5_1.index t 1 = 7 + t.val % 2 ∧ win5_2.index t 0 = t.val / 2 ∧ win5_2.index t 1 = t.val % 2)

theorem flushed5 (t : Fin cfg5.N) : (dat5 V c).flushed 2 t = (win5_2.blk t).view.read (Elt Ideal)
    (product (V c main_v16) (V c main_v4) (cols (n := 1024) (7 * 512) (by omega))) := by
  show (cfg5.win 2).cut (grid5.coords t) ((dat5 V c).after 2 t) = _
  rw [after5_2]
  unfold out5_2
  rw [View.canon_unit_zero hz, View.ld_unit_zero hz, View.ld_unit_zero hz]
  exact product_tile (V c main_v16) (V c main_v4) 7 (by omega) pay5_apply (e0 := (win5_0.rect t).emb) (e1 := (win5_1.rect t).emb)
    (e2 := (win5_2.rect t).emb) (index5 t) (fun _ _ => ⟨rfl, rfl⟩) (fun _ _ => ⟨rfl, rfl⟩) (fun _ _ => ⟨rfl, rfl⟩)

theorem final5 : (dat5 V c).arrAt 2 cfg5.N = product (V c main_v16) (V c main_v4) (cols (n := 1024) (7 * 512) (by omega)) := by
  refine (dat5 V c).arrAt_eq_of_cover 2 (product (V c main_v16) (V c main_v4) (cols (n := 1024) (7 * 512) (by omega))) (fun t _ => flushed5 V c t) fun i => ?_
  have h0 : (i 0 : Nat) < 8192 := (i 0).isLt
  have h1 : (i 1 : Nat) < 1024 := (i 1).isLt
  have ht : (i 0 : Nat) / 1024 * 2 + (i 1 : Nat) / 512 < cfg5.N := by show _ < grid5.N; rw [N_5]; omega
  obtain ⟨-, -, -, -, e0, e1⟩ := index5 ⟨(i 0 : Nat) / 1024 * 2 + (i 1 : Nat) / 512, ht⟩
  refine ⟨⟨(i 0 : Nat) / 1024 * 2 + (i 1 : Nat) / 512, ht⟩, flush5_2 _, ?_⟩
  show i ∈ ((View.whole main_v20).slice (win5_2.rect ⟨(i 0 : Nat) / 1024 * 2 + (i 1 : Nat) / 512, ht⟩)).set
  rw [View.set_slice_whole, Rect.mem_set_unit]
  intro a
  match a with
  | ⟨0, _⟩ => exact in_tile (Nat.succ_pos 1023) (e0.trans (show ((i 0 : Nat) / 1024 * 2 + (i 1 : Nat) / 512) / 2 = (i 0 : Nat) / 1024 by omega))
  | ⟨1, _⟩ => exact in_tile (Nat.succ_pos 511) (e1.trans (show ((i 0 : Nat) / 1024 * 2 + (i 1 : Nat) / 512) % 2 = (i 1 : Nat) / 512 by omega))

/-! ## The forgetting mixer's keys and values -/

theorem pay6_apply (x : Mat 1024 2048) (w : Mat 2048 512) (a : Fin 1024) (b : Fin 512) :
    k6_pay1 (F := Ideal) x w (ix2 a b) = product x w id (ix2 a b) := by
  pointwise [k6_pay1]
  rfl

theorem index6 : ∀ t : Fin cfg6.N, win6_0.index t 0 = t.val / 4 ∧ win6_0.index t 1 = 0 ∧ win6_1.index t 0 = 0
      ∧ win6_1.index t 1 = 9 + t.val % 4 ∧ win6_2.index t 0 = t.val / 4 ∧ win6_2.index t 1 = t.val % 4 :=
  (by decide +kernel : ∀ t : Fin grid6.N, win6_0.index t 0 = t.val / 4 ∧ win6_0.index t 1 = 0 ∧ win6_1.index t 0 = 0
      ∧ win6_1.index t 1 = 9 + t.val % 4 ∧ win6_2.index t 0 = t.val / 4 ∧ win6_2.index t 1 = t.val % 4)

theorem flushed6 (t : Fin cfg6.N) : (dat6 V c).flushed 2 t = (win6_2.blk t).view.read (Elt Ideal)
    (product (V c main_v16) (V c main_v4) (cols (n := 2048) (9 * 512) (by omega))) := by
  show (cfg6.win 2).cut (grid6.coords t) ((dat6 V c).after 2 t) = _
  rw [after6_2]
  unfold out6_2
  rw [View.canon_unit_zero hz, View.ld_unit_zero hz, View.ld_unit_zero hz]
  exact product_tile (V c main_v16) (V c main_v4) 9 (by omega) pay6_apply (e0 := (win6_0.rect t).emb) (e1 := (win6_1.rect t).emb)
    (e2 := (win6_2.rect t).emb) (index6 t) (fun _ _ => ⟨rfl, rfl⟩) (fun _ _ => ⟨rfl, rfl⟩) (fun _ _ => ⟨rfl, rfl⟩)

theorem final6 : (dat6 V c).arrAt 2 cfg6.N = product (V c main_v16) (V c main_v4) (cols (n := 2048) (9 * 512) (by omega)) := by
  refine (dat6 V c).arrAt_eq_of_cover 2 (product (V c main_v16) (V c main_v4) (cols (n := 2048) (9 * 512) (by omega))) (fun t _ => flushed6 V c t) fun i => ?_
  have h0 : (i 0 : Nat) < 8192 := (i 0).isLt
  have h1 : (i 1 : Nat) < 2048 := (i 1).isLt
  have ht : (i 0 : Nat) / 1024 * 4 + (i 1 : Nat) / 512 < cfg6.N := by show _ < grid6.N; rw [N_6]; omega
  obtain ⟨-, -, -, -, e0, e1⟩ := index6 ⟨(i 0 : Nat) / 1024 * 4 + (i 1 : Nat) / 512, ht⟩
  refine ⟨⟨(i 0 : Nat) / 1024 * 4 + (i 1 : Nat) / 512, ht⟩, flush6_2 _, ?_⟩
  show i ∈ ((View.whole main_v21_0).slice (win6_2.rect ⟨(i 0 : Nat) / 1024 * 4 + (i 1 : Nat) / 512, ht⟩)).set
  rw [View.set_slice_whole, Rect.mem_set_unit]
  intro a
  match a with
  | ⟨0, _⟩ => exact in_tile (Nat.succ_pos 1023) (e0.trans (show ((i 0 : Nat) / 1024 * 4 + (i 1 : Nat) / 512) / 4 = (i 0 : Nat) / 1024 by omega))
  | ⟨1, _⟩ => exact in_tile (Nat.succ_pos 511) (e1.trans (show ((i 0 : Nat) / 1024 * 4 + (i 1 : Nat) / 512) % 4 = (i 1 : Nat) / 512 by omega))

/-! ## The forgetting mixer's output gate -/

theorem pay7_apply (x : Mat 1024 2048) (w : Mat 2048 512) (a : Fin 1024) (b : Fin 512) :
    k7_pay1 (F := Ideal) x w (ix2 a b) = product x w id (ix2 a b) := by
  pointwise [k7_pay1]
  rfl

theorem index7 : ∀ t : Fin cfg7.N, win7_0.index t 0 = t.val / 2 ∧ win7_0.index t 1 = 0 ∧ win7_1.index t 0 = 0
      ∧ win7_1.index t 1 = 13 + t.val % 2 ∧ win7_2.index t 0 = t.val / 2 ∧ win7_2.index t 1 = t.val % 2 :=
  (by decide +kernel : ∀ t : Fin grid7.N, win7_0.index t 0 = t.val / 2 ∧ win7_0.index t 1 = 0 ∧ win7_1.index t 0 = 0
      ∧ win7_1.index t 1 = 13 + t.val % 2 ∧ win7_2.index t 0 = t.val / 2 ∧ win7_2.index t 1 = t.val % 2)

theorem flushed7 (t : Fin cfg7.N) : (dat7 V c).flushed 2 t = (win7_2.blk t).view.read (Elt Ideal)
    (product (V c main_v16) (V c main_v4) (cols (n := 1024) (13 * 512) (by omega))) := by
  show (cfg7.win 2).cut (grid7.coords t) ((dat7 V c).after 2 t) = _
  rw [after7_2]
  unfold out7_2
  rw [View.canon_unit_zero hz, View.ld_unit_zero hz, View.ld_unit_zero hz]
  exact product_tile (V c main_v16) (V c main_v4) 13 (by omega) pay7_apply (e0 := (win7_0.rect t).emb) (e1 := (win7_1.rect t).emb)
    (e2 := (win7_2.rect t).emb) (index7 t) (fun _ _ => ⟨rfl, rfl⟩) (fun _ _ => ⟨rfl, rfl⟩) (fun _ _ => ⟨rfl, rfl⟩)

theorem final7 : (dat7 V c).arrAt 2 cfg7.N = product (V c main_v16) (V c main_v4) (cols (n := 1024) (13 * 512) (by omega)) := by
  refine (dat7 V c).arrAt_eq_of_cover 2 (product (V c main_v16) (V c main_v4) (cols (n := 1024) (13 * 512) (by omega))) (fun t _ => flushed7 V c t) fun i => ?_
  have h0 : (i 0 : Nat) < 8192 := (i 0).isLt
  have h1 : (i 1 : Nat) < 1024 := (i 1).isLt
  have ht : (i 0 : Nat) / 1024 * 2 + (i 1 : Nat) / 512 < cfg7.N := by show _ < grid7.N; rw [N_7]; omega
  obtain ⟨-, -, -, -, e0, e1⟩ := index7 ⟨(i 0 : Nat) / 1024 * 2 + (i 1 : Nat) / 512, ht⟩
  refine ⟨⟨(i 0 : Nat) / 1024 * 2 + (i 1 : Nat) / 512, ht⟩, flush7_2 _, ?_⟩
  show i ∈ ((View.whole main_v22).slice (win7_2.rect ⟨(i 0 : Nat) / 1024 * 2 + (i 1 : Nat) / 512, ht⟩)).set
  rw [View.set_slice_whole, Rect.mem_set_unit]
  intro a
  match a with
  | ⟨0, _⟩ => exact in_tile (Nat.succ_pos 1023) (e0.trans (show ((i 0 : Nat) / 1024 * 2 + (i 1 : Nat) / 512) / 2 = (i 0 : Nat) / 1024 by omega))
  | ⟨1, _⟩ => exact in_tile (Nat.succ_pos 511) (e1.trans (show ((i 0 : Nat) / 1024 * 2 + (i 1 : Nat) / 512) % 2 = (i 1 : Nat) / 512 by omega))

end Cert.PromptIdeal.Hand

end
-- ==== Proof.Prompt.Entry.lean ====
/-
  What the kernels of the prompt batch's projection read and what the program returns, in terms of the arguments: the
  host operations between the kernels only move elements, so each array is a layout of an argument or of a kernel's
  result.
-/
module

public import proofs.«01_k».proof.Proof.Prompt.Regions
public import proofs.«01_k».proof.Proof.Prompt.Products
public import proofs.«01_k».proof.Proof.Projection.Spec
public import Idealize.ShloMosaic.Lib.StableHlo.RunRead

@[expose] public section

set_option maxRecDepth 16384

noncomputable section

namespace Cert.PromptIdeal.Hand

open Cert.PromptIdeal Cert.PromptIdeal.Gen
open Idealize.ShloMosaic Idealize.ShloMosaic.TcCoe Idealize.ShloMosaic.Tactic
open Cert.Regrouping Cert.Projection

section Stretches

variable (V : Valuation τ sig (Elt Ideal))

theorem ops0_w : StableHlo.after hostOps0 V (Proc.devRef .tc main_v3) = transpose S7712x2048 [1, 0]
    (shapeCast S2048x7712 (V (Proc.devRef .tc main_arg2)) shapeCasts_S1x2048x7712_S2048x7712) transposes_S2048x7712_S7712x2048_1_0 := by
  after_results <;> rfl

theorem ops0_gate : StableHlo.after hostOps0 V (Proc.devRef .tc main_v1)
    = shapeCast S24 (V (Proc.devRef .tc main_arg3)) shapeCasts_S1x24_S24 := by
  after_results <;> rfl

theorem ops0_forget : StableHlo.after hostOps0 V (Proc.devRef .tc main_v2)
    = shapeCast S8 (V (Proc.devRef .tc main_arg4)) shapeCasts_S1x8_S8 := by
  after_results <;> rfl

theorem ops1_small : StableHlo.after hostOps1 V (Proc.devRef .tc main_v8) = transpose S2048x32 [1, 0]
    (concatenate S32x2048 0 [⟨S24x2048, extractStridedSlice S24x2048 ![2560, 0] (V (Proc.devRef .tc main_v3)) slices_S7712x2048_S24x2048_2560_0⟩,
      ⟨S8x2048, extractStridedSlice S8x2048 ![6680, 0] (V (Proc.devRef .tc main_v3)) slices_S7712x2048_S8x2048_6680_0⟩]
      concatenates_S24x2048_S8x2048_S32x2048_d0) transposes_S32x2048_S2048x32_1_0 := by
  after_results <;> rfl

theorem ops1_1 : StableHlo.after hostOps1_1 V (Proc.devRef .tc main_v9)
    = pad S2048x128 ![0, 0] ![0, 96] ![0, 0] (V (Proc.devRef .tc main_v8) : S2048x32.Idx → EReal)
      (sitofp (F := Ideal) .f32 (V (Proc.devRef .tc main_c) : S_.Idx → BitVec 32)) pads_S2048x32_S2048x128_000_0960 h_S_ := by
  after_results <;> rfl

theorem ops1_2 : StableHlo.after hostOps1_2 V (Proc.devRef .tc main_v10)
    = concatenate S32 0 [⟨S24, V (Proc.devRef .tc main_v1)⟩, ⟨S8, V (Proc.devRef .tc main_v2)⟩] concatenates_S24_S8_S32_d0 := by
  after_results <;> rfl

theorem ops1_3 : StableHlo.after hostOps1_3 V (Proc.devRef .tc main_v11)
    = pad S128 ![0] ![96] ![0] (V (Proc.devRef .tc main_v10) : S32.Idx → EReal)
      (sitofp (F := Ideal) .f32 (V (Proc.devRef .tc main_c_0) : S_.Idx → BitVec 32)) pads_S32_S128_0960 h_S_ := by
  after_results <;> rfl

theorem ops1_4_bias : StableHlo.after hostOps1_4 V (Proc.devRef .tc main_v12)
    = shapeCast S1x128 (V (Proc.devRef .tc main_v11)) shapeCasts_S128_S1x128 := by
  after_results <;> rfl

theorem ops1_4_x : StableHlo.after hostOps1_4 V (Proc.devRef .tc main_v13)
    = shapeCast S8192x2048 (V (Proc.devRef .tc main_arg0)) shapeCasts_S2x4096x2048_S8192x2048 := by
  after_results <;> rfl

theorem ops1_4_g : StableHlo.after hostOps1_4 V (Proc.devRef .tc main_v15)
    = shapeCast S1x2048 (shapeCast S2048 (V (Proc.devRef .tc main_arg1)) shapeCasts_S1x2048_S2048) shapeCasts_S2048_S1x2048 := by
  after_results <;> rfl

theorem ops9_kv_f : StableHlo.after hostOps9 V (Proc.devRef .tc main_v32)
    = broadcastInDim S1x2x4096x2x8x128 ![1, 2, 3, 4, 5] bcast_S2x4096x2x8x128_S1x2x4096x2x8x128_1_2_3_4_5
        (shapeCast S2x4096x2x8x128 (V (Proc.devRef .tc main_v21_0)) shapeCasts_S8192x2048_S2x4096x2x8x128) := by
  after_results <;> rfl

theorem ops9_logf : StableHlo.after hostOps9 V (Proc.devRef .tc main_v33)
    = broadcastInDim S1x2x4096x8 ![1, 2, 3] bcast_S2x4096x8_S1x2x4096x8_1_2_3
        (shapeCast S2x4096x8 (extractStridedSlice S8192x8 ![0, 24] (V (Proc.devRef .tc main_v23)) slices_S8192x128_S8192x8_0_24)
          shapeCasts_S8192x8_S2x4096x8) := by
  after_results <;> rfl

theorem ops9_win : StableHlo.after hostOps9 V (Proc.devRef .tc main_v34)
    = broadcastInDim S1x2x512x2x2x128 ![1, 2, 3, 4, 5] bcast_S2x512x2x2x128_S1x2x512x2x2x128_1_2_3_4_5
        (shapeCast S2x512x2x2x128 (extractStridedSlice S2x512x512 ![0, 3584, 0]
          (shapeCast S2x4096x512 (V (Proc.devRef .tc main_v18_0)) shapeCasts_S8192x512_S2x4096x512)
          slices_S2x4096x512_S2x512x512_0_3584_0) shapeCasts_S2x512x512_S2x512x2x2x128) := by
  after_results <;> rfl

theorem ops9_gates : StableHlo.after hostOps9 V (Proc.devRef .tc main_v27)
    = shapeCast S2x4096x8x3 (extractStridedSlice S8192x24 ![0, 0] (V (Proc.devRef .tc main_v23)) slices_S8192x128_S8192x24_0_0)
        shapeCasts_S8192x24_S2x4096x8x3 := by
  after_results <;> rfl

/-- The two groups returned wide are widened narrow arrays, the same extended reals. -/
theorem ops9_q_n : (StableHlo.after hostOps9 V (Proc.devRef .tc main_v35) : Mat 8192 1024) = V (Proc.devRef .tc main_v17) := by
  after_results <;> rfl

theorem ops9_q_f : (StableHlo.after hostOps9 V (Proc.devRef .tc main_v36) : Mat 8192 1024) = V (Proc.devRef .tc main_v20) := by
  after_results <;> rfl

end Stretches

/-! ## The layouts, at an element -/

theorem rows_apply (x : S2x4096x2048.Idx → EReal) (a : Fin 8192) (b : Fin 2) (t : Fin 4096) (d : Fin 2048) (ha : a.val = b.val * 4096 + t.val) :
    shapeCast S8192x2048 x shapeCasts_S2x4096x2048_S8192x2048 (ix2 a d) = x (ix3 b t d) := by
  pointwise
  exact congrArg x (ext3 (show a.val / 4096 = b.val by omega) (show a.val % 4096 = t.val by omega) rfl)

theorem norm_apply (g : S1x2048.Idx → EReal) (d : Fin 2048) :
    shapeCast S1x2048 (shapeCast S2048 g shapeCasts_S1x2048_S2048) shapeCasts_S2048_S1x2048 (ix2 0 d) = g (ix2 0 d) := by
  pointwise

theorem turned_apply (w : S1x2048x7712.Idx → EReal) (i : Fin 7712) (d : Fin 2048) :
    transpose S7712x2048 [1, 0] (shapeCast S2048x7712 w shapeCasts_S1x2048x7712_S2048x7712)
      transposes_S2048x7712_S7712x2048_1_0 (ix2 i d) = w (ix3 0 d i) := by
  pointwise

/-- The narrow weight's column: a gate's in the first 24, a forget logarithm's in the next 8. -/
theorem small_apply (w : S7712x2048.Idx → EReal) (z : S_.Idx → EReal) (d : Fin 2048) (j : Fin 128) (hj : j.val < 32) :
    pad S2048x128 ![0, 0] ![0, 96] ![0, 0] (transpose S2048x32 [1, 0]
      (concatenate S32x2048 0 [⟨S24x2048, extractStridedSlice S24x2048 ![2560, 0] w slices_S7712x2048_S24x2048_2560_0⟩,
        ⟨S8x2048, extractStridedSlice S8x2048 ![6680, 0] w slices_S7712x2048_S8x2048_6680_0⟩]
        concatenates_S24x2048_S8x2048_S32x2048_d0) transposes_S32x2048_S2048x32_1_0) z pads_S2048x32_S2048x128_000_0960 h_S_ (ix2 d j)
      = w (ix2 ⟨if j.val < 24 then 2560 + j.val else 6656 + j.val, by split_ifs <;> omega⟩ d) := by
  pointwise
  rw [dif_pos hj]
  by_cases h : j.val < 24
  · simp only [h, if_true, dite_true]
  · simp only [h, if_false, dite_false]
    exact congrArg w (ext2 (show 6680 + (j.val - 24) = 6656 + j.val by omega) rfl)

/-- The narrow bias's element likewise. -/
theorem bias_apply (bg : S1x24.Idx → EReal) (bf : S1x8.Idx → EReal) (z : S_.Idx → EReal) (j : Fin 128) (hj : j.val < 32) :
    shapeCast S1x128 (pad S128 ![0] ![96] ![0] (concatenate S32 0 [⟨S24, shapeCast S24 bg shapeCasts_S1x24_S24⟩,
      ⟨S8, shapeCast S8 bf shapeCasts_S1x8_S8⟩] concatenates_S24_S8_S32_d0) z pads_S32_S128_0960 h_S_) shapeCasts_S128_S1x128 (ix2 0 j)
      = if h : j.val < 24 then bg (ix2 0 ⟨j.val, h⟩) else bf (ix2 0 ⟨j.val - 24, by omega⟩) := by
  pointwise
  rw [dif_pos hj]

/-! ## What the kernels compute, in terms of the arguments -/

variable (m : (ℓ : Loc nD τ sig) → Buf (Elt Ideal) ℓ) (ρ : Dev nD → PrngReg) (c : Dev nD)

/-- The weight the later kernels and host operations read. -/
theorem at_w : W1 m ρ c (Proc.devRef .tc main_v3) = transpose S7712x2048 [1, 0]
    (shapeCast S2048x7712 (m ((c : Thread nD τ).loc main_arg2)) shapeCasts_S1x2048x7712_S2048x7712) transposes_S2048x7712_S7712x2048_1_0 :=
  ops0_w (W0 m ρ c)

/-- The normalised rows. -/
theorem at_h : W8 m ρ c (Proc.devRef .tc main_v16) = normed
    (shapeCast S8192x2048 (m ((c : Thread nD τ).loc main_arg0)) shapeCasts_S2x4096x2048_S8192x2048)
    (shapeCast S1x2048 (shapeCast S2048 (m ((c : Thread nD τ).loc main_arg1)) shapeCasts_S1x2048_S2048) shapeCasts_S2048_S1x2048) := by
  refine (W8_arr m ρ c 2).trans ((final1 (V7 m ρ) c).trans ?_)
  refine congrArg₂ normed ((ops1_4_x (W6 m ρ c)).trans ?_) ((ops1_4_g (W6 m ρ c)).trans ?_)
  · rw [W6_of m ρ c main_arg0 (by decide), W5_of m ρ c main_arg0 (by decide), W4_of m ρ c main_arg0 (by decide),
      W3_of m ρ c main_arg0 (by decide), W2_of m ρ c main_arg0 (by decide), W1_of m ρ c main_arg0 (by decide)]
  · rw [W6_of m ρ c main_arg1 (by decide), W5_of m ρ c main_arg1 (by decide), W4_of m ρ c main_arg1 (by decide),
      W3_of m ρ c main_arg1 (by decide), W2_of m ρ c main_arg1 (by decide), W1_of m ρ c main_arg1 (by decide)]

/-- The regrouped weight. -/
theorem at_main : W8 m ρ c (Proc.devRef .tc main_v4) = turned (W1 m ρ c (Proc.devRef .tc main_v3)) := by
  rw [W8_of m ρ c main_v4 (by decide), W7_of m ρ c main_v4 (by decide), W6_of m ρ c main_v4 (by decide), W5_of m ρ c main_v4 (by decide),
    W4_of m ρ c main_v4 (by decide), W3_of m ρ c main_v4 (by decide)]
  exact (W2_arr m ρ c 1).trans (final0 (V1 m ρ) c)

/-- The products read the same two arrays, and the last kernel the first of them. -/
theorem held (r : Ref sig .tc) (hr : r = main_v16 ∨ r = main_v4 ∨ r = main_v9 ∨ r = main_v12) :
    W9 m ρ c (Proc.devRef .tc r) = W8 m ρ c (Proc.devRef .tc r) ∧ W10 m ρ c (Proc.devRef .tc r) = W8 m ρ c (Proc.devRef .tc r)
    ∧ W11 m ρ c (Proc.devRef .tc r) = W8 m ρ c (Proc.devRef .tc r) ∧ W12 m ρ c (Proc.devRef .tc r) = W8 m ρ c (Proc.devRef .tc r)
    ∧ W13 m ρ c (Proc.devRef .tc r) = W8 m ρ c (Proc.devRef .tc r) ∧ W14 m ρ c (Proc.devRef .tc r) = W8 m ρ c (Proc.devRef .tc r) := by
  have e9 := W9_of m ρ c r (by rcases hr with rfl | rfl | rfl | rfl <;> decide)
  have e10 := (W10_of m ρ c r (by rcases hr with rfl | rfl | rfl | rfl <;> decide)).trans e9
  have e11 := (W11_of m ρ c r (by rcases hr with rfl | rfl | rfl | rfl <;> decide)).trans e10
  have e12 := (W12_of m ρ c r (by rcases hr with rfl | rfl | rfl | rfl <;> decide)).trans e11
  have e13 := (W13_of m ρ c r (by rcases hr with rfl | rfl | rfl | rfl <;> decide)).trans e12
  exact ⟨e9, e10, e11, e12, e13, (W14_of m ρ c r (by rcases hr with rfl | rfl | rfl | rfl <;> decide)).trans e13⟩

/-- A product with a group of columns holds the scores on that group. -/
theorem group_scores {n : Nat} (o : Nat) (ho : o + n ≤ 7680) (M : Mat 8192 n)
    (hM : M = product (W8 m ρ c (Proc.devRef .tc main_v16)) (W8 m ρ c (Proc.devRef .tc main_v4)) (cols o ho)) :
    Group o M (B := 2) (T := 4096) (score (m ((c : Thread nD τ).loc main_arg0)) (m ((c : Thread nD τ).loc main_arg1)) (m ((c : Thread nD τ).loc main_arg2))) := by
  intro b t a j q ha hj
  rw [hM, at_h, at_main, at_w]
  exact product_normed _ _ _ _ _ _ _ _ _ _ _ _ (fun d => rows_apply _ a b t d ha) (fun d => norm_apply _ d)
    (fun d => (turned_apply _ _ d).trans (congrArg _ (ext3 rfl rfl hj)))

theorem q_n_scores : Group 0 (W9 m ρ c (Proc.devRef .tc main_v17) : Mat 8192 1024) (B := 2) (T := 4096)
    (score (m ((c : Thread nD τ).loc main_arg0)) (m ((c : Thread nD τ).loc main_arg1)) (m ((c : Thread nD τ).loc main_arg2))) :=
  group_scores m ρ c _ _ _ ((W9_arr m ρ c 2).trans (final2 (V8 m ρ) c))

theorem win_scores : Group 2048 (W10 m ρ c (Proc.devRef .tc main_v18_0) : Mat 8192 512) (B := 2) (T := 4096)
    (score (m ((c : Thread nD τ).loc main_arg0)) (m ((c : Thread nD τ).loc main_arg1)) (m ((c : Thread nD τ).loc main_arg2))) :=
  group_scores m ρ c _ _ _ ((W10_arr m ρ c 2).trans ((final3 (V9 m ρ) c).trans
    (congrArg₂ (fun h w => product h w _) (held m ρ c main_v16 (.inl rfl)).1 (held m ρ c main_v4 (.inr (.inl rfl))).1)))

theorem z_n_scores : Group 2560 (W11 m ρ c (Proc.devRef .tc main_v19) : Mat 8192 1024) (B := 2) (T := 4096)
    (score (m ((c : Thread nD τ).loc main_arg0)) (m ((c : Thread nD τ).loc main_arg1)) (m ((c : Thread nD τ).loc main_arg2))) :=
  group_scores m ρ c _ _ _ ((W11_arr m ρ c 2).trans ((final4 (V10 m ρ) c).trans
    (congrArg₂ (fun h w => product h w _) (held m ρ c main_v16 (.inl rfl)).2.1 (held m ρ c main_v4 (.inr (.inl rfl))).2.1)))

theorem q_f_scores : Group 3584 (W12 m ρ c (Proc.devRef .tc main_v20) : Mat 8192 1024) (B := 2) (T := 4096)
    (score (m ((c : Thread nD τ).loc main_arg0)) (m ((c : Thread nD τ).loc main_arg1)) (m ((c : Thread nD τ).loc main_arg2))) :=
  group_scores m ρ c _ _ _ ((W12_arr m ρ c 2).trans ((final5 (V11 m ρ) c).trans
    (congrArg₂ (fun h w => product h w _) (held m ρ c main_v16 (.inl rfl)).2.2.1 (held m ρ c main_v4 (.inr (.inl rfl))).2.2.1)))

theorem kv_f_scores : Group 4608 (W13 m ρ c (Proc.devRef .tc main_v21_0) : Mat 8192 2048) (B := 2) (T := 4096)
    (score (m ((c : Thread nD τ).loc main_arg0)) (m ((c : Thread nD τ).loc main_arg1)) (m ((c : Thread nD τ).loc main_arg2))) :=
  group_scores m ρ c _ _ _ ((W13_arr m ρ c 2).trans ((final6 (V12 m ρ) c).trans
    (congrArg₂ (fun h w => product h w _) (held m ρ c main_v16 (.inl rfl)).2.2.2.1 (held m ρ c main_v4 (.inr (.inl rfl))).2.2.2.1)))

theorem z_f_scores : Group 6656 (W14 m ρ c (Proc.devRef .tc main_v22) : Mat 8192 1024) (B := 2) (T := 4096)
    (score (m ((c : Thread nD τ).loc main_arg0)) (m ((c : Thread nD τ).loc main_arg1)) (m ((c : Thread nD τ).loc main_arg2))) :=
  group_scores m ρ c _ _ _ ((W14_arr m ρ c 2).trans ((final7 (V13 m ρ) c).trans
    (congrArg₂ (fun h w => product h w _) (held m ρ c main_v16 (.inl rfl)).2.2.2.2.1 (held m ρ c main_v4 (.inr (.inl rfl))).2.2.2.2.1)))

/-- The narrow weight. -/
theorem at_small : W8 m ρ c (Proc.devRef .tc main_v9) = pad S2048x128 ![0, 0] ![0, 96] ![0, 0] (transpose S2048x32 [1, 0]
      (concatenate S32x2048 0 [⟨S24x2048, extractStridedSlice S24x2048 ![2560, 0] (W1 m ρ c (Proc.devRef .tc main_v3)) slices_S7712x2048_S24x2048_2560_0⟩,
        ⟨S8x2048, extractStridedSlice S8x2048 ![6680, 0] (W1 m ρ c (Proc.devRef .tc main_v3)) slices_S7712x2048_S8x2048_6680_0⟩]
        concatenates_S24x2048_S8x2048_S32x2048_d0) transposes_S32x2048_S2048x32_1_0)
      (sitofp (F := Ideal) .f32 (W3 m ρ c (Proc.devRef .tc main_c) : S_.Idx → BitVec 32)) pads_S2048x32_S2048x128_000_0960 h_S_ := by
  rw [W8_of m ρ c main_v9 (by decide), W7_of m ρ c main_v9 (by decide),
    W6_of m ρ c main_v9 (by decide), W5_of m ρ c main_v9 (by decide), ← W2_of m ρ c main_v3 (by decide)]
  refine (ops1_1 (W3 m ρ c)).trans ?_
  rw [show W3 m ρ c (Proc.devRef .tc main_v8) = _ from ops1_small (W2 m ρ c)]

/-- The narrow bias. -/
theorem at_bias : W8 m ρ c (Proc.devRef .tc main_v12) = shapeCast S1x128 (pad S128 ![0] ![96] ![0] (concatenate S32 0
      [⟨S24, shapeCast S24 (m ((c : Thread nD τ).loc main_arg3)) shapeCasts_S1x24_S24⟩,
       ⟨S8, shapeCast S8 (m ((c : Thread nD τ).loc main_arg4)) shapeCasts_S1x8_S8⟩] concatenates_S24_S8_S32_d0)
      (sitofp (F := Ideal) .f32 (W5 m ρ c (Proc.devRef .tc main_c_0) : S_.Idx → BitVec 32)) pads_S32_S128_0960 h_S_) shapeCasts_S128_S1x128 := by
  rw [W8_of m ρ c main_v12 (by decide)]
  refine (ops1_4_bias (W6 m ρ c)).trans ?_
  rw [show W6 m ρ c (Proc.devRef .tc main_v11) = _ from ops1_3 (W5 m ρ c), show W5 m ρ c (Proc.devRef .tc main_v10) = _ from ops1_2 (W4 m ρ c),
    W4_of m ρ c main_v1 (by decide), W3_of m ρ c main_v1 (by decide), W2_of m ρ c main_v1 (by decide),
    W4_of m ρ c main_v2 (by decide), W3_of m ρ c main_v2 (by decide), W2_of m ρ c main_v2 (by decide),
    show W1 m ρ c (Proc.devRef .tc main_v1) = _ from ops0_gate (W0 m ρ c), show W1 m ρ c (Proc.devRef .tc main_v2) = _ from ops0_forget (W0 m ρ c)]

/-- The narrow product's first 32 columns hold the gates and the forget logarithms. -/
theorem smalls : Narrow (W15 m ρ c (Proc.devRef .tc main_v23) : Mat 8192 128) (B := 2) (T := 4096)
    (score (m ((c : Thread nD τ).loc main_arg0)) (m ((c : Thread nD τ).loc main_arg1)) (m ((c : Thread nD τ).loc main_arg2)))
    (m ((c : Thread nD τ).loc main_arg3)) (m ((c : Thread nD τ).loc main_arg4)) := by
  have e : W15 m ρ c (Proc.devRef .tc main_v23) = gated (W14 m ρ c (Proc.devRef .tc main_v16)) (W14 m ρ c (Proc.devRef .tc main_v9)) (W14 m ρ c (Proc.devRef .tc main_v12)) :=
    (W15_arr m ρ c 3).trans (final8 (V14 m ρ) c)
  rw [e, (held m ρ c main_v16 (.inl rfl)).2.2.2.2.2, (held m ρ c main_v9 (.inr (.inr (.inl rfl)))).2.2.2.2.2,
    (held m ρ c main_v12 (.inr (.inr (.inr rfl)))).2.2.2.2.2, at_h, at_small, at_bias, at_w]
  have hs (b : Fin 2) (t : Fin 4096) (a : Fin 8192) (j : Fin 128) (q : Fin 7712) (ha : a.val = b.val * 4096 + t.val) (hj : j.val < 32)
      (hq : (if j.val < 24 then 2560 + j.val else 6656 + j.val) = q.val) := product_normed
    (shapeCast S8192x2048 (m ((c : Thread nD τ).loc main_arg0)) shapeCasts_S2x4096x2048_S8192x2048)
    (shapeCast S1x2048 (shapeCast S2048 (m ((c : Thread nD τ).loc main_arg1)) shapeCasts_S1x2048_S2048) shapeCasts_S2048_S1x2048)
    _ id _ _ _ a j _ _ q
    (fun d => rows_apply (m ((c : Thread nD τ).loc main_arg0)) a b t d ha) (fun d => norm_apply (m ((c : Thread nD τ).loc main_arg1)) d)
    (fun d => (small_apply _ (sitofp (F := Ideal) .f32 (W3 m ρ c (Proc.devRef .tc main_c) : S_.Idx → BitVec 32)) d j hj).trans
      ((congrArg _ (congrArg (fun i => ix2 i d) (Fin.ext hq))).trans (turned_apply (m ((c : Thread nD τ).loc main_arg2)) q d)))
  constructor
  · intro b t a j k q ha hj hq
    have h : j.val < 24 := by omega
    exact (if_pos h).trans (congrArg logistic (congrArg₂ (· + ·) (hs b t a j q ha (by omega) ((if_pos h).trans (by omega)))
      ((bias_apply _ _ _ j (by omega)).trans ((dif_pos h).trans (congrArg _ (ext2 rfl hj))))))
  · intro b t a j k q ha hj hq
    have h : ¬ j.val < 24 := by omega
    exact (if_neg h).trans (congrArg logLogistic (congrArg₂ (· + ·) (hs b t a j q ha (by omega) ((if_neg h).trans (by omega)))
      ((bias_apply _ _ _ j (by omega)).trans ((dif_neg h).trans (congrArg _ (ext2 rfl (show j.val - 24 = k.val by omega)))))))

end Cert.PromptIdeal.Hand

end
-- ==== Proof.Prompt.Layout.lean ====
/-
  The two programs' results as layouts: the kernels' products with groups of columns, sliced and reshaped, and the
  reference's product in the weight's own order hold the same scores.
-/
module

public import proofs.«01_k».proof.Proof.Projection.Spec
public import proofs.«01_k».proof.Proof.Gen.PromptIdeal
public import proofs.«01_k».proof.Proof.Gen.PromptReferenceIdeal.Read

@[expose] public section

set_option maxRecDepth 16384

noncomputable section

namespace Cert.PromptIdeal.Hand

open Cert.PromptIdeal Cert.PromptIdeal.Gen
open Idealize.ShloMosaic Idealize.ShloMosaic.TcCoe Idealize.ShloMosaic.Tactic
open Cert.Regrouping Cert.Projection
open Cert.PromptReferenceIdeal.Read

variable (x : S2x4096x2048.Idx → EReal) (g : S1x2048.Idx → EReal) (w : S1x2048x7712.Idx → EReal)

/-- The reference's product holds the scores. -/
theorem product_eq : val_main_v17 (F := Ideal) x g w = score x g w := by
  funext i
  idx_vars i
  pointwise [val_main_v17, val_main_v16, val_main_v15, val_main_v14, val_main_v13, val_main_v12, val_main_v11, val_main_v10, val_main_v9,
    val_main_v8, val_main_v7, val_main_v6, val_main_v5, val_main_v4, val_main_v1, val_main_v0, val_main_cst, val_main_cst_0, val_main_cst_1]
  rfl

section Columns

theorem q_n_eq {M : Mat 8192 1024} (h : Group 0 M (score x g w)) : M = val_main_v51 (F := Ideal) x g w := by
  unfold val_main_v51 val_main_v18
  rw [product_eq]
  generalize score x g w = Z at h ⊢
  funext i
  idx_vars i
  pointwise
  exact h _ _ _ _ _ (Nat.div_add_mod' _ 4096).symm (by unfold src; split_ifs <;> simp_all <;> omega)

theorem z_n_eq {M : Mat 8192 1024} (h : Group 2560 M (score x g w)) : M = val_main_v52 (F := Ideal) x g w := by
  unfold val_main_v52 val_main_v21
  rw [product_eq]
  generalize score x g w = Z at h ⊢
  funext i
  idx_vars i
  pointwise
  exact h _ _ _ _ _ (Nat.div_add_mod' _ 4096).symm (by unfold src; split_ifs <;> simp_all <;> omega)

theorem q_f_eq {M : Mat 8192 1024} (h : Group 3584 M (score x g w)) : M = val_main_v53 (F := Ideal) x g w := by
  unfold val_main_v53 val_main_v22
  rw [product_eq]
  generalize score x g w = Z at h ⊢
  funext i
  idx_vars i
  pointwise
  exact h _ _ _ _ _ (Nat.div_add_mod' _ 4096).symm (by unfold src; split_ifs <;> simp_all <;> omega)

theorem z_f_eq {M : Mat 8192 1024} (h : Group 6656 M (score x g w)) : M = val_main_v54 (F := Ideal) x g w := by
  unfold val_main_v54 val_main_v26
  rw [product_eq]
  generalize score x g w = Z at h ⊢
  funext i
  idx_vars i
  pointwise
  exact h _ _ _ _ _ (Nat.div_add_mod' _ 4096).symm (by unfold src; split_ifs <;> simp_all <;> omega)

theorem kv_f_eq {M : Mat 8192 2048} (h : Group 4608 M (score x g w)) :
    broadcastInDim S1x2x4096x2x8x128 ![1, 2, 3, 4, 5] bcast_S2x4096x2x8x128_S1x2x4096x2x8x128_1_2_3_4_5
        (shapeCast S2x4096x2x8x128 M shapeCasts_S8192x2048_S2x4096x2x8x128)
    = val_main_v47 (F := Ideal) x g w := by
  unfold val_main_v47 val_main_v46 val_main_v45 val_main_v44 val_main_v38 val_main_v39 val_main_v23 val_main_v24
  rw [product_eq]
  generalize score x g w = Z at h ⊢
  funext i
  idx_vars i
  pointwise
  split_ifs
  · refine h _ _ _ _ _ rfl ?_
    unfold src; split_ifs <;> simp_all <;> omega
  · refine h _ _ _ _ _ rfl ?_
    unfold src; split_ifs <;> simp_all <;> omega

theorem win_eq {M : Mat 8192 512} (h : Group 2048 M (score x g w)) :
    broadcastInDim S1x2x512x2x2x128 ![1, 2, 3, 4, 5] bcast_S2x512x2x2x128_S1x2x512x2x2x128_1_2_3_4_5
        (shapeCast S2x512x2x2x128 (extractStridedSlice S2x512x512 ![0, 3584, 0]
          (shapeCast S2x4096x512 M shapeCasts_S8192x512_S2x4096x512)
          slices_S2x4096x512_S2x512x512_0_3584_0) shapeCasts_S2x512x512_S2x512x2x2x128)
    = val_main_v50 (F := Ideal) x g w := by
  unfold val_main_v50 val_main_v49 val_main_v27 val_main_v19
  rw [product_eq]
  generalize score x g w = Z at h ⊢
  funext i
  idx_vars i
  pointwise
  refine h _ _ _ _ _ rfl ?_
  show src (2048 + (i3.val * 256 + i4.val * 128 + i5.val)) = 1024 + ((4 + i3.val) * 256 + i4.val * 128 + i5.val)
  have hs := src_spec (2048 + (i3.val * 256 + i4.val * 128 + i5.val))
  omega

end Columns

section Narrows

variable (bg : S1x24.Idx → EReal) (bf : S1x8.Idx → EReal) {Y : Mat 8192 128} (h : Narrow Y (score x g w) bg bf)
include h

theorem gates_eq : shapeCast S2x4096x8x3 (extractStridedSlice S8192x24 ![0, 0] Y slices_S8192x128_S8192x24_0_0) shapeCasts_S8192x24_S2x4096x8x3
    = val_main_v37 (F := Ideal) x g w bg := by
  unfold val_main_v37 val_main_v36 val_main_v35 val_main_v34 val_main_v33 val_main_v32 val_main_v31 val_main_v30 val_main_v29 val_main_v28
    val_main_v20 val_main_v2 val_main_cst_2 val_main_cst_3
  rw [product_eq]
  generalize score x g w = Z at h ⊢
  funext i
  idx_vars i
  pointwise
  exact h.1 _ _ _ _ _ _ rfl rfl rfl

theorem logf_eq : broadcastInDim S1x2x4096x8 ![1, 2, 3] bcast_S2x4096x8_S1x2x4096x8_1_2_3
        (shapeCast S2x4096x8 (extractStridedSlice S8192x8 ![0, 24] Y slices_S8192x128_S8192x8_0_24) shapeCasts_S8192x8_S2x4096x8)
    = val_main_v48 (F := Ideal) x g w bf := by
  unfold val_main_v48 val_main_v43 val_main_call0_v1 val_main_call0_call0_v11 val_main_call0_call0_v10 val_main_call0_call0_v9
    val_main_call0_call0_v8 val_main_call0_call0_v7 val_main_call0_call0_v6 val_main_call0_call0_v5 val_main_call0_call0_v4
    val_main_call0_call0_v3 val_main_call0_call0_v2 val_main_call0_call0_v1 val_main_call0_call0_v0 val_main_call0_call0_cst val_main_call0_v0
    val_main_v42 val_main_v41 val_main_v40 val_main_v25 val_main_v3
  rw [product_eq]
  generalize score x g w = Z at h ⊢
  funext i
  idx_vars i
  pointwise
  rw [h.2 i1 i2 _ _ i3 ⟨6680 + i3.val, by omega⟩ rfl rfl rfl, if_neg (not_not.mpr rfl)]
  exact (logLogistic_eq _).symm

end Narrows

end Cert.PromptIdeal.Hand

end
-- ==== Proof.Prompt.Results.lean ====
/-
  The prompt batch's projection: the results of a run of the kernel are the reference's, stage by stage, of the same
  arguments.
-/
module

public import proofs.«01_k».proof.Proof.Prompt.Run
public import proofs.«01_k».proof.Proof.Prompt.Entry
public import proofs.«01_k».proof.Proof.Prompt.Layout

@[expose] public section

set_option maxRecDepth 16384

noncomputable section

namespace Cert.PromptIdeal.Hand

open Cert.PromptIdeal Cert.PromptIdeal.Gen
open Idealize.ShloMosaic Idealize.ShloMosaic.TcCoe Idealize.ShloMosaic.Tactic
open Cert.Regrouping Cert.Projection
open Cert.PromptReferenceIdeal.Read

variable (m : (ℓ : Loc nD τ sig) → Buf (Elt Ideal) ℓ) (ρ : Dev nD → PrngReg) (c : Dev nD)

theorem kv_f_final : W16 m ρ c (Proc.devRef .tc main_v32) = val_main_v47 (F := Ideal) (m ((c : Thread nD τ).loc main_arg0)) (m ((c : Thread nD τ).loc main_arg1)) (m ((c : Thread nD τ).loc main_arg2)) := by
  refine (ops9_kv_f (W15 m ρ c)).trans ?_
  rw [W15_of m ρ c main_v21_0 (by decide), W14_of m ρ c main_v21_0 (by decide)]
  exact kv_f_eq _ _ _ (kv_f_scores m ρ c)

theorem logf_final : W16 m ρ c (Proc.devRef .tc main_v33) = val_main_v48 (F := Ideal) (m ((c : Thread nD τ).loc main_arg0)) (m ((c : Thread nD τ).loc main_arg1)) (m ((c : Thread nD τ).loc main_arg2)) (m ((c : Thread nD τ).loc main_arg4)) := by
  exact (ops9_logf (W15 m ρ c)).trans (logf_eq _ _ _ (m ((c : Thread nD τ).loc main_arg3)) (m ((c : Thread nD τ).loc main_arg4)) (smalls m ρ c))

theorem win_final : W16 m ρ c (Proc.devRef .tc main_v34) = val_main_v50 (F := Ideal) (m ((c : Thread nD τ).loc main_arg0)) (m ((c : Thread nD τ).loc main_arg1)) (m ((c : Thread nD τ).loc main_arg2)) := by
  refine (ops9_win (W15 m ρ c)).trans ?_
  rw [W15_of m ρ c main_v18_0 (by decide), W14_of m ρ c main_v18_0 (by decide), W13_of m ρ c main_v18_0 (by decide), W12_of m ρ c main_v18_0 (by decide), W11_of m ρ c main_v18_0 (by decide)]
  exact win_eq _ _ _ (win_scores m ρ c)

theorem q_n_final : W16 m ρ c (Proc.devRef .tc main_v35) = val_main_v51 (F := Ideal) (m ((c : Thread nD τ).loc main_arg0)) (m ((c : Thread nD τ).loc main_arg1)) (m ((c : Thread nD τ).loc main_arg2)) := by
  refine (ops9_q_n (W15 m ρ c)).trans ?_
  rw [W15_of m ρ c main_v17 (by decide), W14_of m ρ c main_v17 (by decide), W13_of m ρ c main_v17 (by decide), W12_of m ρ c main_v17 (by decide), W11_of m ρ c main_v17 (by decide), W10_of m ρ c main_v17 (by decide)]
  exact q_n_eq _ _ _ (q_n_scores m ρ c)

theorem gates_final : W16 m ρ c (Proc.devRef .tc main_v27) = val_main_v37 (F := Ideal) (m ((c : Thread nD τ).loc main_arg0)) (m ((c : Thread nD τ).loc main_arg1)) (m ((c : Thread nD τ).loc main_arg2)) (m ((c : Thread nD τ).loc main_arg3)) := by
  exact (ops9_gates (W15 m ρ c)).trans (gates_eq _ _ _ (m ((c : Thread nD τ).loc main_arg3)) (m ((c : Thread nD τ).loc main_arg4)) (smalls m ρ c))

theorem z_n_final : W16 m ρ c (Proc.devRef .tc main_v19) = val_main_v52 (F := Ideal) (m ((c : Thread nD τ).loc main_arg0)) (m ((c : Thread nD τ).loc main_arg1)) (m ((c : Thread nD τ).loc main_arg2)) := by
  rw [W16_of m ρ c main_v19 (by decide), W15_of m ρ c main_v19 (by decide), W14_of m ρ c main_v19 (by decide), W13_of m ρ c main_v19 (by decide), W12_of m ρ c main_v19 (by decide)]
  exact z_n_eq _ _ _ (z_n_scores m ρ c)

theorem q_f_final : W16 m ρ c (Proc.devRef .tc main_v36) = val_main_v53 (F := Ideal) (m ((c : Thread nD τ).loc main_arg0)) (m ((c : Thread nD τ).loc main_arg1)) (m ((c : Thread nD τ).loc main_arg2)) := by
  refine (ops9_q_f (W15 m ρ c)).trans ?_
  rw [W15_of m ρ c main_v20 (by decide), W14_of m ρ c main_v20 (by decide), W13_of m ρ c main_v20 (by decide)]
  exact q_f_eq _ _ _ (q_f_scores m ρ c)

theorem z_f_final : W16 m ρ c (Proc.devRef .tc main_v22) = val_main_v54 (F := Ideal) (m ((c : Thread nD τ).loc main_arg0)) (m ((c : Thread nD τ).loc main_arg1)) (m ((c : Thread nD τ).loc main_arg2)) := by
  rw [W16_of m ρ c main_v22 (by decide), W15_of m ρ c main_v22 (by decide)]
  exact z_f_eq _ _ _ (z_f_scores m ρ c)

end Cert.PromptIdeal.Hand

end
-- ==== Proof.Prompt.Claims.lean ====
/-
  The claims about the prompt batch's projection: the printed program and its idealization run and leave the arguments,
  so does the reference, and at the ideal instance the results agree.
-/
module

public import proofs.«01_k».proof.Defs
public import proofs.«01_k».proof.Proof.Gen.Prompt.Frame
public import proofs.«01_k».proof.Proof.Gen.PromptReferenceIdeal.Run
public import proofs.«01_k».proof.Proof.Prompt.Results
public import Idealize.ShloMosaic.Lib.Quiescent

@[expose] public section

set_option maxRecDepth 16384

noncomputable section

open Idealize.ShloMosaic Idealize.ShloMosaic.TcCoe Idealize.SL.Sem

namespace Cert.Prompting

theorem frame : Cert.quiescent_Prompt := fun m ρ _ => Cert.Prompt.Gen.frame m ρ
theorem frame_ideal : Cert.quiescent_PromptIdeal := fun m ρ _ => Cert.PromptIdeal.Gen.frame m ρ
/-- The reference is host operations only: it declares no semaphore. -/
theorem frame_reference : Cert.quiescent_PromptReferenceIdeal := fun m ρ _ =>
  (θ_run Cert.PromptReferenceIdeal.defs _ _).mono
    (fun r h => ⟨fun c => (h c).2.2.2.2.2.2.2.2, sem_eq_zero_of_no_sems (by decide) r.2⟩)
    (Cert.PromptReferenceIdeal.Value.run m ρ)

theorem preserves : Cert.preserves_Prompt_PromptIdeal := trivial

open Cert.PromptIdeal.Hand Cert.PromptIdeal.Gen Cert.PromptReferenceIdeal.Read in
/-- At the ideal instance the two programs' eight results agree, of arguments that agree. -/
theorem algebraic : Cert.algebraic_PromptIdeal_PromptReferenceIdeal := by
  intro m ρ m' ρ' _ hagree
  refine ⟨fun c => val_main_v47 (F := Ideal) (m (c.tc.loc Cert.PromptIdeal.main_arg0)) (m (c.tc.loc Cert.PromptIdeal.main_arg1)) (m (c.tc.loc Cert.PromptIdeal.main_arg2)),
    fun c => val_main_v48 (F := Ideal) (m (c.tc.loc Cert.PromptIdeal.main_arg0)) (m (c.tc.loc Cert.PromptIdeal.main_arg1)) (m (c.tc.loc Cert.PromptIdeal.main_arg2)) (m (c.tc.loc Cert.PromptIdeal.main_arg4)),
    fun c => val_main_v50 (F := Ideal) (m (c.tc.loc Cert.PromptIdeal.main_arg0)) (m (c.tc.loc Cert.PromptIdeal.main_arg1)) (m (c.tc.loc Cert.PromptIdeal.main_arg2)),
    fun c => val_main_v51 (F := Ideal) (m (c.tc.loc Cert.PromptIdeal.main_arg0)) (m (c.tc.loc Cert.PromptIdeal.main_arg1)) (m (c.tc.loc Cert.PromptIdeal.main_arg2)),
    fun c => val_main_v37 (F := Ideal) (m (c.tc.loc Cert.PromptIdeal.main_arg0)) (m (c.tc.loc Cert.PromptIdeal.main_arg1)) (m (c.tc.loc Cert.PromptIdeal.main_arg2)) (m (c.tc.loc Cert.PromptIdeal.main_arg3)),
    fun c => val_main_v52 (F := Ideal) (m (c.tc.loc Cert.PromptIdeal.main_arg0)) (m (c.tc.loc Cert.PromptIdeal.main_arg1)) (m (c.tc.loc Cert.PromptIdeal.main_arg2)),
    fun c => val_main_v53 (F := Ideal) (m (c.tc.loc Cert.PromptIdeal.main_arg0)) (m (c.tc.loc Cert.PromptIdeal.main_arg1)) (m (c.tc.loc Cert.PromptIdeal.main_arg2)),
    fun c => val_main_v54 (F := Ideal) (m (c.tc.loc Cert.PromptIdeal.main_arg0)) (m (c.tc.loc Cert.PromptIdeal.main_arg1)) (m (c.tc.loc Cert.PromptIdeal.main_arg2)), ?_, ?_⟩
  · refine (θ_run Cert.PromptIdeal.defs _ _).mono (fun r h c => ⟨(h c _ (mem_uc Cert.PromptIdeal.main_v32 (by decide))).trans (kv_f_final m ρ c),
      (h c _ (mem_uc Cert.PromptIdeal.main_v33 (by decide))).trans (logf_final m ρ c),
      (h c _ (mem_uc Cert.PromptIdeal.main_v34 (by decide))).trans (win_final m ρ c),
      (h c _ (mem_uc Cert.PromptIdeal.main_v35 (by decide))).trans (q_n_final m ρ c),
      (h c _ (mem_uc Cert.PromptIdeal.main_v27 (by decide))).trans (gates_final m ρ c),
      (h c _ (mem_uc Cert.PromptIdeal.main_v19 (by decide))).trans (z_n_final m ρ c),
      (h c _ (mem_uc Cert.PromptIdeal.main_v36 (by decide))).trans (q_f_final m ρ c),
      (h c _ (mem_uc Cert.PromptIdeal.main_v22 (by decide))).trans (z_f_final m ρ c),
      (h c _ (mem_uc Cert.PromptIdeal.main_arg0 (by decide))).trans (W16_main_arg0 m ρ c),
      (h c _ (mem_uc Cert.PromptIdeal.main_arg1 (by decide))).trans (W16_main_arg1 m ρ c),
      (h c _ (mem_uc Cert.PromptIdeal.main_arg2 (by decide))).trans (W16_main_arg2 m ρ c),
      (h c _ (mem_uc Cert.PromptIdeal.main_arg3 (by decide))).trans (W16_main_arg3 m ρ c),
      (h c _ (mem_uc Cert.PromptIdeal.main_arg4 (by decide))).trans (W16_main_arg4 m ρ c)⟩)
      (Cert.PromptIdeal.Hand.run m ρ)
  refine (θ_run Cert.PromptReferenceIdeal.defs _ _).mono (fun r h c => ?_) (Cert.PromptReferenceIdeal.Value.run m' ρ')
  obtain ⟨e0, e1, e2, e3, e4⟩ := hagree c
  exact ⟨(h c).1.trans ((val_main_v47_eq _ _ _).trans (by rw [e0, e1, e2])),
    (h c).2.1.trans ((val_main_v48_eq m' c).trans (by rw [e0, e1, e2, e4])),
    (h c).2.2.1.trans ((val_main_v50_eq _ _ _).trans (by rw [e0, e1, e2])),
    (h c).2.2.2.1.trans ((val_main_v51_eq _ _ _).trans (by rw [e0, e1, e2])),
    (h c).2.2.2.2.1.trans ((val_main_v37_eq _ _ _ _).trans (by rw [e0, e1, e2, e3])),
    (h c).2.2.2.2.2.1.trans ((val_main_v52_eq _ _ _).trans (by rw [e0, e1, e2])),
    (h c).2.2.2.2.2.2.1.trans ((val_main_v53_eq _ _ _).trans (by rw [e0, e1, e2])),
    (h c).2.2.2.2.2.2.2.1.trans ((val_main_v54_eq _ _ _).trans (by rw [e0, e1, e2])),
    (h c).2.2.2.2.2.2.2.2⟩

end Cert.Prompting

end
-- ==== Proof.Merge.Block.lean ====
/-
  The output projection's mathematics at the ideal instance, free of any program: a residual row plus two products, one
  per group of heads, with the upper and the lower half of the output weight, normalised by its root mean square.
-/
module

public import proofs.«01_k».proof.Proof.Projection.Blocks

@[expose] public section

set_option maxRecDepth 16384

noncomputable section

open Idealize.ShloMosaic Idealize.ShloMosaic.TcCoe Idealize.SL.Sem

namespace Cert.Merging

open Cert.Projection

variable {M tm : Nat}

/-- The residual plus the two groups' products with their halves of the weight. -/
def joined (x : Mat M 2048) (u : Mat M 1024) (p : Mat 1024 2048) (v : Mat M 1024) (q : Mat 1024 2048) : Mat M 2048 := fun i =>
  x i + ∑ k, u (ix2 (n0 := M) (i 0) k) * p (ix2 k (n1 := 2048) (i 1)) + ∑ k, v (ix2 (n0 := M) (i 0) k) * q (ix2 k (n1 := 2048) (i 1))

/-- The upper and the lower half of a weight. -/
def upper (w : Mat 2048 2048) : Mat 1024 2048 := fun i => w (ix2 (n1 := 2048) ⟨(i 0).val, by have h : (i 0).val < 1024 := (i 0).isLt; omega⟩ (i 1))
def lower (w : Mat 2048 2048) : Mat 1024 2048 := fun i => w (ix2 (n1 := 2048) ⟨1024 + (i 0).val, by have h : (i 0).val < 1024 := (i 0).isLt; omega⟩ (i 1))

/-- The rows a block holds come out as the block of the result. -/
theorem joined_block (x : Mat M 2048) (u v : Mat M 1024) (w : Mat 2048 2048) (g : Mat 1 2048)
    {pay : Mat tm 2048 → Mat tm 1024 → Mat 1024 2048 → Mat tm 1024 → Mat 1024 2048 → Mat 1 2048 → Mat tm 2048}
    (hpay : ∀ x u p v q g a b, pay x u p v q g (ix2 a b) = normed (joined x u p v q) g (ix2 a b))
    {e0 e6 : (⟨2, ![tm, 2048]⟩ : Shape).Idx → (⟨2, ![M, 2048]⟩ : Shape).Idx}
    {e1 e2 : (⟨2, ![tm, 1024]⟩ : Shape).Idx → (⟨2, ![M, 1024]⟩ : Shape).Idx}
    {e3 e4 : (⟨2, ![1024, 2048]⟩ : Shape).Idx → (⟨2, ![2048, 2048]⟩ : Shape).Idx}
    {e5 : (⟨2, ![1, 2048]⟩ : Shape).Idx → (⟨2, ![1, 2048]⟩ : Shape).Idx} {r x0 x1 u0 u1 v0 v1 p0 p1 q0 q1 g0 g1 z0 z1 : Nat}
    (hi : x0 = r ∧ x1 = 0 ∧ u0 = r ∧ u1 = 0 ∧ v0 = r ∧ v1 = 0 ∧ p0 = 0 ∧ p1 = 0 ∧ q0 = 1 ∧ q1 = 0 ∧ g0 = 0 ∧ g1 = 0 ∧ z0 = r ∧ z1 = 0)
    (h0 : ∀ i j, (e0 (ix2 i j) 0).val = x0 * tm + 1 * i.val ∧ (e0 (ix2 i j) 1).val = x1 * 2048 + 1 * j.val)
    (h1 : ∀ i j, (e1 (ix2 i j) 0).val = u0 * tm + 1 * i.val ∧ (e1 (ix2 i j) 1).val = u1 * 1024 + 1 * j.val)
    (h2 : ∀ i j, (e2 (ix2 i j) 0).val = v0 * tm + 1 * i.val ∧ (e2 (ix2 i j) 1).val = v1 * 1024 + 1 * j.val)
    (h3 : ∀ i j, (e3 (ix2 i j) 0).val = p0 * 1024 + 1 * i.val ∧ (e3 (ix2 i j) 1).val = p1 * 2048 + 1 * j.val)
    (h4 : ∀ i j, (e4 (ix2 i j) 0).val = q0 * 1024 + 1 * i.val ∧ (e4 (ix2 i j) 1).val = q1 * 2048 + 1 * j.val)
    (h5 : ∀ i j, (e5 (ix2 i j) 0).val = g0 * 1 + 1 * i.val ∧ (e5 (ix2 i j) 1).val = g1 * 2048 + 1 * j.val)
    (h6 : ∀ i j, (e6 (ix2 i j) 0).val = z0 * tm + 1 * i.val ∧ (e6 (ix2 i j) 1).val = z1 * 2048 + 1 * j.val) :
    pay (fun j => x (e0 j)) (fun j => u (e1 j)) (fun j => w (e3 j)) (fun j => v (e2 j)) (fun j => w (e4 j)) (fun j => g (e5 j))
      = fun j => normed (joined x u (upper w) v (lower w)) g (e6 j) := by
  obtain ⟨rfl, rfl, rfl, rfl, rfl, rfl, rfl, rfl, rfl, rfl, rfl, rfl, rfl, rfl⟩ := hi
  funext j
  obtain ⟨a, b, rfl⟩ : ∃ (a : Fin tm) (b : Fin 2048), j = ix2 a b := ⟨_, _, eq_ix2 (n0 := tm) (n1 := 2048) j⟩
  rw [hpay]
  have hr : (e6 (ix2 a b) 0).val < M := (e6 (ix2 a b) 0).isLt
  set row : Fin M := ⟨(e6 (ix2 a b) 0).val, hr⟩ with hrow
  have er : row.val = z0 * tm + 1 * a.val := (h6 a b).1
  have f6 : e6 (ix2 a b) = ix2 row b := ext2 rfl (by rw [(h6 a b).2]; omega)
  have f0 : ∀ k, e0 (ix2 a k) = ix2 row k := fun k => ext2 ((h0 a k).1.trans er.symm) (by rw [(h0 a k).2]; omega)
  have f1 : ∀ k, e1 (ix2 a k) = ix2 row k := fun k => ext2 ((h1 a k).1.trans er.symm) (by rw [(h1 a k).2]; omega)
  have f2 : ∀ k, e2 (ix2 a k) = ix2 row k := fun k => ext2 ((h2 a k).1.trans er.symm) (by rw [(h2 a k).2]; omega)
  have f3 : ∀ (k : Fin 1024) l, e3 (ix2 k l) = ix2 ⟨k.val, by omega⟩ l := fun k l => ext2 (by rw [(h3 k l).1]; show _ = k.val; omega) (by rw [(h3 k l).2]; omega)
  have f4 : ∀ (k : Fin 1024) l, e4 (ix2 k l) = ix2 ⟨1024 + k.val, by omega⟩ l := fun k l => ext2 (by rw [(h4 k l).1]; show _ = 1024 + k.val; omega) (by rw [(h4 k l).2]; omega)
  have f5 : e5 (ix2 0 b) = ix2 0 b := ext2 (by rw [(h5 0 b).1]; rfl) (by rw [(h5 0 b).2]; omega)
  rw [f6]
  have key : ∀ l : Fin 2048, joined (fun j => x (e0 j)) (fun j => u (e1 j)) (fun j => w (e3 j)) (fun j => v (e2 j)) (fun j => w (e4 j)) (ix2 a l)
      = joined x u (upper w) v (lower w) (ix2 row l) := fun l => by
    show x (e0 (ix2 a l)) + ∑ k, u (e1 (ix2 a k)) * w (e3 (ix2 k l)) + ∑ k, v (e2 (ix2 a k)) * w (e4 (ix2 k l)) = _
    simp only [f0, f1, f2, f3, f4]
    rfl
  show joined _ _ _ _ _ (ix2 a b) * rowScale (fun k => joined _ _ _ _ _ (ix2 a k)) * g (e5 (ix2 0 b)) = _
  simp only [key, f5]
  rfl

end Cert.Merging

end
-- ==== Proof.Merge.Prompt.lean ====
/-
  The prompt batch's merge: the kernel's array and the reference's are both the normalised residual sum.
-/
module

public import proofs.«01_k».proof.Proof.Projection.Spec
public import proofs.«01_k».proof.Proof.Merge.Block
public import proofs.«01_k».proof.Proof.Gen.MergePromptIdeal.Value
public import proofs.«01_k».proof.Proof.Gen.MergePromptReferenceIdeal.Read

@[expose] public section

set_option maxRecDepth 16384

noncomputable section

open Idealize.ShloMosaic Idealize.ShloMosaic.TcCoe Idealize.ShloMosaic.Tactic Idealize.SL.Sem
open Cert.Projection Cert.Merging

namespace Cert.MergePromptIdeal.Hand

open Cert.MergePromptIdeal Cert.MergePromptIdeal.Gen

variable (m : (ℓ : Loc nD τ sig) → Buf (Elt Ideal) ℓ) (ρ : Dev nD → PrngReg)

theorem hz : (![0, 0] : Fin 2 → Nat) = fun _ => 0 := funext fun a => by fin_cases a <;> rfl

theorem pay_apply (x : Mat 512 2048) (u : Mat 512 1024) (p : Mat 1024 2048) (v : Mat 512 1024) (q : Mat 1024 2048) (g : Mat 1 2048)
    (a : Fin 512) (b : Fin 2048) : k0_pay1 (F := Ideal) x u p v q g (ix2 a b) = normed (joined x u p v q) g (ix2 a b) := by
  pointwise [k0_pay1]
  rfl

/-- Where the windows stand at each grid point: the rows' at block `t`, the weight's at its two halves. -/
theorem index_at : ∀ t : Fin cfg0.N, win0_0.index t 0 = t.val ∧ win0_0.index t 1 = 0 ∧ win0_1.index t 0 = t.val ∧ win0_1.index t 1 = 0
      ∧ win0_2.index t 0 = t.val ∧ win0_2.index t 1 = 0 ∧ win0_3.index t 0 = 0 ∧ win0_3.index t 1 = 0 ∧ win0_4.index t 0 = 1
      ∧ win0_4.index t 1 = 0 ∧ win0_5.index t 0 = 0 ∧ win0_5.index t 1 = 0 ∧ win0_6.index t 0 = t.val ∧ win0_6.index t 1 = 0 :=
  (by decide +kernel : ∀ t : Fin grid0.N, win0_0.index t 0 = t.val ∧ win0_0.index t 1 = 0 ∧ win0_1.index t 0 = t.val ∧ win0_1.index t 1 = 0
      ∧ win0_2.index t 0 = t.val ∧ win0_2.index t 1 = 0 ∧ win0_3.index t 0 = 0 ∧ win0_3.index t 1 = 0 ∧ win0_4.index t 0 = 1
      ∧ win0_4.index t 1 = 0 ∧ win0_5.index t 0 = 0 ∧ win0_5.index t 1 = 0 ∧ win0_6.index t 0 = t.val ∧ win0_6.index t 1 = 0)

/-- The result as one function of the arrays the region finds. -/
abbrev result (c : Dev nD) : Mat 8192 2048 :=
  normed (joined (V m c main_v2) (V m c main_arg1) (upper (V m c main_v1)) (V m c main_arg2) (lower (V m c main_v1))) (V m c main_v3)

theorem flushed_eq (c : Dev nD) (t : Fin cfg0.N) : (dats m 0 c).flushed 6 t = (win0_6.blk t).view.read (Elt Ideal) (result m c) := by
  rw [Cert.MergePromptIdeal.Value.flushed6]
  unfold out0_6
  rw [View.canon_unit_zero hz, View.ld_unit_zero hz, View.ld_unit_zero hz, View.ld_unit_zero hz, View.ld_unit_zero hz,
    View.ld_unit_zero hz, View.ld_unit_zero hz]
  exact joined_block (V m c main_v2) (V m c main_arg1) (V m c main_arg2) (V m c main_v1) (V m c main_v3) pay_apply
    (e0 := (win0_0.rect t).emb) (e1 := (win0_1.rect t).emb) (e2 := (win0_2.rect t).emb) (e3 := (win0_3.rect t).emb)
    (e4 := (win0_4.rect t).emb) (e5 := (win0_5.rect t).emb) (e6 := (win0_6.rect t).emb) (r := t.val) (index_at t)
    (fun _ _ => ⟨rfl, rfl⟩) (fun _ _ => ⟨rfl, rfl⟩) (fun _ _ => ⟨rfl, rfl⟩) (fun _ _ => ⟨rfl, rfl⟩) (fun _ _ => ⟨rfl, rfl⟩)
    (fun _ _ => ⟨rfl, rfl⟩) (fun _ _ => ⟨rfl, rfl⟩)

/-- The result's blocks tile its array. -/
theorem cover (i : S8192x2048.Idx) : ∃ t : Fin cfg0.N, (cfg0.win 6).flush t = true ∧ i ∈ ((cfg0.win 6).blk t).view.set := by
  have h0 : (i 0 : Nat) < 8192 := (i 0).isLt
  have h1 : (i 1 : Nat) < 2048 := (i 1).isLt
  have ht : (i 0 : Nat) / 512 < cfg0.N := by show _ < grid0.N; rw [N_0]; omega
  refine ⟨⟨(i 0 : Nat) / 512, ht⟩, flush0_6 _, ?_⟩
  show i ∈ ((View.whole main_v4).slice (win0_6.rect ⟨(i 0 : Nat) / 512, ht⟩)).set
  rw [View.set_slice_whole, Rect.mem_set_unit]
  obtain ⟨-, -, -, -, -, -, -, -, -, -, -, -, e0, e1⟩ := index_at ⟨(i 0 : Nat) / 512, ht⟩
  intro a
  match a with
  | ⟨0, _⟩ => exact in_tile (Nat.succ_pos 511) e0
  | ⟨1, _⟩ => exact in_axis h1 e1

theorem final (c : Dev nD) : (dats m 0 c).arrAt 6 cfg0.N = result m c :=
  (dats m 0 c).arrAt_eq_of_cover 6 (result m c) (fun t _ => flushed_eq m c t) cover

open Cert.MergePromptReferenceIdeal.Read

variable (x : S2x4096x2048.Idx → EReal) (u v : S8192x1024.Idx → EReal) (w : S1x2048x2048.Idx → EReal) (g : S2048.Idx → EReal)

/-- The reference's sum before its norm: one product over both groups, which is the two products. -/
theorem sum_eq (a : Fin 8192) (b : Fin 2) (t : Fin 4096) (ha : a.val = b.val * 4096 + t.val) (d : Fin 2048) :
    val_main_v7 (F := Ideal) x u v w (ix3 b t d)
    = joined (shapeCast S8192x2048 x shapeCasts_S2x4096x2048_S8192x2048) u (upper (shapeCast S2048x2048 w shapeCasts_S1x2048x2048_S2048x2048))
        v (lower (shapeCast S2048x2048 w shapeCasts_S1x2048x2048_S2048x2048)) (ix2 a d) := by
  have hx : shapeCast S8192x2048 x shapeCasts_S2x4096x2048_S8192x2048 (ix2 a d) = x (ix3 b t d) := by
    pointwise
    exact congrArg x (ext3 (by show a.val / 4096 = b.val; omega) (by show a.val % 4096 = t.val; omega) rfl)
  have hw : ∀ k : Fin 2048, shapeCast S2048x2048 w shapeCasts_S1x2048x2048_S2048x2048 (ix2 k d) = w (ix3 0 k d) := fun k => by pointwise
  unfold joined upper lower
  show _ = shapeCast S8192x2048 x shapeCasts_S2x4096x2048_S8192x2048 (ix2 a d)
    + ∑ k : Fin 1024, u (ix2 a k) * shapeCast S2048x2048 w shapeCasts_S1x2048x2048_S2048x2048 (ix2 ⟨k.val, by omega⟩ d)
    + ∑ k : Fin 1024, v (ix2 a k) * shapeCast S2048x2048 w shapeCasts_S1x2048x2048_S2048x2048 (ix2 ⟨1024 + k.val, by omega⟩ d)
  simp only [hx, hw]
  pointwise [val_main_v7, val_main_v6, val_main_v5, val_main_v4, val_main_v3, val_main_v2, val_main_v1, val_main_v0]
  rw [show a = ⟨b.val * 4096 + t.val, ha ▸ a.isLt⟩ from Fin.ext ha]
  exact (add_assoc _ _ _).symm

/-- The reference's result is the normalised sum. -/
theorem reference_eq : normed (joined (shapeCast S8192x2048 x shapeCasts_S2x4096x2048_S8192x2048) u
      (upper (shapeCast S2048x2048 w shapeCasts_S1x2048x2048_S2048x2048)) v (lower (shapeCast S2048x2048 w shapeCasts_S1x2048x2048_S2048x2048)))
        (shapeCast S1x2048 g shapeCasts_S2048_S1x2048) = val_main_v21 (F := Ideal) x u v w g := by
  have h := sum_eq x u v w
  unfold val_main_v21 val_main_v20 val_main_v19 val_main_v18 val_main_v17 val_main_v16 val_main_v15 val_main_v14 val_main_v13 val_main_v12
    val_main_v11 val_main_v10 val_main_v9 val_main_v8
  generalize val_main_v7 (F := Ideal) x u v w = Y at h ⊢
  generalize joined _ _ _ _ _ = J at h ⊢
  funext i
  idx_vars i
  have hy := h i0 ⟨i0.val / 4096, by omega⟩ ⟨i0.val % 4096, Nat.mod_lt _ (by decide)⟩ (Nat.div_add_mod' _ 4096).symm
  have hg : shapeCast S1x2048 g shapeCasts_S2048_S1x2048 (ix2 0 i1) = g (ix1 i1) := by pointwise
  show J (ix2 i0 i1) * rowScale (fun k => J (ix2 i0 k)) * shapeCast S1x2048 g shapeCasts_S2048_S1x2048 (ix2 0 i1) = _
  rw [hg]
  pointwise [val_main_cst, val_main_cst_0, val_main_cst_1]
  simp only [hy]
  rfl

/-- What the region finds in its arrays, and so the kernel's array: the reference's result of the same arguments. -/
theorem entry_eq (c : Dev nD) : result m c = val_main_v21 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  have e2 : V m c main_v2 = shapeCast S8192x2048 (m ((c : Thread nD τ).loc main_arg0)) shapeCasts_S2x4096x2048_S8192x2048 := by
    show StableHlo.after hostOps0 (fun b => m (c, b)) main_v2 = _
    after_results <;> rfl
  have e1 : V m c main_v1 = shapeCast S2048x2048 (m ((c : Thread nD τ).loc main_arg3)) shapeCasts_S1x2048x2048_S2048x2048 := by
    show StableHlo.after hostOps0 (fun b => m (c, b)) main_v1 = _
    after_results <;> rfl
  have e3 : V m c main_v3 = shapeCast S1x2048 (m ((c : Thread nD τ).loc main_arg4)) shapeCasts_S2048_S1x2048 := by
    show StableHlo.after hostOps0 (fun b => m (c, b)) main_v3 = _
    after_results <;> rfl
  unfold result
  rw [e1, e2, e3, V_main_arg1, V_main_arg2]
  exact reference_eq _ _ _ _ _

end Cert.MergePromptIdeal.Hand

end
-- ==== Proof.Merge.Sample.lean ====
/-
  The sample batch's merge: the kernel's array and the reference's are both the normalised residual sum.
-/
module

public import proofs.«01_k».proof.Proof.Projection.Spec
public import proofs.«01_k».proof.Proof.Merge.Block
public import proofs.«01_k».proof.Proof.Gen.MergeSampleIdeal.Value
public import proofs.«01_k».proof.Proof.Gen.MergeSampleReferenceIdeal.Read

@[expose] public section

set_option maxRecDepth 16384

noncomputable section

open Idealize.ShloMosaic Idealize.ShloMosaic.TcCoe Idealize.ShloMosaic.Tactic Idealize.SL.Sem
open Cert.Projection Cert.Merging

namespace Cert.MergeSampleIdeal.Hand

open Cert.MergeSampleIdeal Cert.MergeSampleIdeal.Gen

variable (m : (ℓ : Loc nD τ sig) → Buf (Elt Ideal) ℓ) (ρ : Dev nD → PrngReg)

theorem hz : (![0, 0] : Fin 2 → Nat) = fun _ => 0 := funext fun a => by fin_cases a <;> rfl

theorem pay_apply (x : Mat 128 2048) (u : Mat 128 1024) (p : Mat 1024 2048) (v : Mat 128 1024) (q : Mat 1024 2048) (g : Mat 1 2048)
    (a : Fin 128) (b : Fin 2048) : k0_pay1 (F := Ideal) x u p v q g (ix2 a b) = normed (joined x u p v q) g (ix2 a b) := by
  pointwise [k0_pay1]
  rfl

/-- Where the windows stand at each grid point: the rows' at block `t`, the weight's at its two halves. -/
theorem index_at : ∀ t : Fin cfg0.N, win0_0.index t 0 = t.val ∧ win0_0.index t 1 = 0 ∧ win0_1.index t 0 = t.val ∧ win0_1.index t 1 = 0
      ∧ win0_2.index t 0 = t.val ∧ win0_2.index t 1 = 0 ∧ win0_3.index t 0 = 0 ∧ win0_3.index t 1 = 0 ∧ win0_4.index t 0 = 1
      ∧ win0_4.index t 1 = 0 ∧ win0_5.index t 0 = 0 ∧ win0_5.index t 1 = 0 ∧ win0_6.index t 0 = t.val ∧ win0_6.index t 1 = 0 :=
  (by decide +kernel : ∀ t : Fin grid0.N, win0_0.index t 0 = t.val ∧ win0_0.index t 1 = 0 ∧ win0_1.index t 0 = t.val ∧ win0_1.index t 1 = 0
      ∧ win0_2.index t 0 = t.val ∧ win0_2.index t 1 = 0 ∧ win0_3.index t 0 = 0 ∧ win0_3.index t 1 = 0 ∧ win0_4.index t 0 = 1
      ∧ win0_4.index t 1 = 0 ∧ win0_5.index t 0 = 0 ∧ win0_5.index t 1 = 0 ∧ win0_6.index t 0 = t.val ∧ win0_6.index t 1 = 0)

/-- The result as one function of the arrays the region finds. -/
abbrev result (c : Dev nD) : Mat 128 2048 :=
  normed (joined (V m c main_v2) (V m c main_arg1) (upper (V m c main_v1)) (V m c main_arg2) (lower (V m c main_v1))) (V m c main_v3)

theorem flushed_eq (c : Dev nD) (t : Fin cfg0.N) : (dats m 0 c).flushed 6 t = (win0_6.blk t).view.read (Elt Ideal) (result m c) := by
  rw [Cert.MergeSampleIdeal.Value.flushed6]
  unfold out0_6
  rw [View.canon_unit_zero hz, View.ld_unit_zero hz, View.ld_unit_zero hz, View.ld_unit_zero hz, View.ld_unit_zero hz,
    View.ld_unit_zero hz, View.ld_unit_zero hz]
  exact joined_block (V m c main_v2) (V m c main_arg1) (V m c main_arg2) (V m c main_v1) (V m c main_v3) pay_apply
    (e0 := (win0_0.rect t).emb) (e1 := (win0_1.rect t).emb) (e2 := (win0_2.rect t).emb) (e3 := (win0_3.rect t).emb)
    (e4 := (win0_4.rect t).emb) (e5 := (win0_5.rect t).emb) (e6 := (win0_6.rect t).emb) (r := t.val) (index_at t)
    (fun _ _ => ⟨rfl, rfl⟩) (fun _ _ => ⟨rfl, rfl⟩) (fun _ _ => ⟨rfl, rfl⟩) (fun _ _ => ⟨rfl, rfl⟩) (fun _ _ => ⟨rfl, rfl⟩)
    (fun _ _ => ⟨rfl, rfl⟩) (fun _ _ => ⟨rfl, rfl⟩)

/-- The result's blocks tile its array. -/
theorem cover (i : S128x2048.Idx) : ∃ t : Fin cfg0.N, (cfg0.win 6).flush t = true ∧ i ∈ ((cfg0.win 6).blk t).view.set := by
  have h0 : (i 0 : Nat) < 128 := (i 0).isLt
  have h1 : (i 1 : Nat) < 2048 := (i 1).isLt
  have ht : (i 0 : Nat) / 128 < cfg0.N := by show _ < grid0.N; rw [N_0]; omega
  refine ⟨⟨(i 0 : Nat) / 128, ht⟩, flush0_6 _, ?_⟩
  show i ∈ ((View.whole main_v4).slice (win0_6.rect ⟨(i 0 : Nat) / 128, ht⟩)).set
  rw [View.set_slice_whole, Rect.mem_set_unit]
  obtain ⟨-, -, -, -, -, -, -, -, -, -, -, -, e0, e1⟩ := index_at ⟨(i 0 : Nat) / 128, ht⟩
  intro a
  match a with
  | ⟨0, _⟩ => exact in_tile (Nat.succ_pos 127) e0
  | ⟨1, _⟩ => exact in_axis h1 e1

theorem final (c : Dev nD) : (dats m 0 c).arrAt 6 cfg0.N = result m c :=
  (dats m 0 c).arrAt_eq_of_cover 6 (result m c) (fun t _ => flushed_eq m c t) cover

open Cert.MergeSampleReferenceIdeal.Read

variable (x : S32x4x2048.Idx → EReal) (u v : S128x1024.Idx → EReal) (w : S1x2048x2048.Idx → EReal) (g : S2048.Idx → EReal)

/-- The reference's sum before its norm: one product over both groups, which is the two products. -/
theorem sum_eq (a : Fin 128) (b : Fin 32) (t : Fin 4) (ha : a.val = b.val * 4 + t.val) (d : Fin 2048) :
    val_main_v7 (F := Ideal) x u v w (ix3 b t d)
    = joined (shapeCast S128x2048 x shapeCasts_S32x4x2048_S128x2048) u (upper (shapeCast S2048x2048 w shapeCasts_S1x2048x2048_S2048x2048))
        v (lower (shapeCast S2048x2048 w shapeCasts_S1x2048x2048_S2048x2048)) (ix2 a d) := by
  have hx : shapeCast S128x2048 x shapeCasts_S32x4x2048_S128x2048 (ix2 a d) = x (ix3 b t d) := by
    pointwise
    exact congrArg x (ext3 (by show a.val / 4 = b.val; omega) (by show a.val % 4 = t.val; omega) rfl)
  have hw : ∀ k : Fin 2048, shapeCast S2048x2048 w shapeCasts_S1x2048x2048_S2048x2048 (ix2 k d) = w (ix3 0 k d) := fun k => by pointwise
  unfold joined upper lower
  show _ = shapeCast S128x2048 x shapeCasts_S32x4x2048_S128x2048 (ix2 a d)
    + ∑ k : Fin 1024, u (ix2 a k) * shapeCast S2048x2048 w shapeCasts_S1x2048x2048_S2048x2048 (ix2 ⟨k.val, by omega⟩ d)
    + ∑ k : Fin 1024, v (ix2 a k) * shapeCast S2048x2048 w shapeCasts_S1x2048x2048_S2048x2048 (ix2 ⟨1024 + k.val, by omega⟩ d)
  simp only [hx, hw]
  pointwise [val_main_v7, val_main_v6, val_main_v5, val_main_v4, val_main_v3, val_main_v2, val_main_v1, val_main_v0]
  rw [show a = ⟨b.val * 4 + t.val, ha ▸ a.isLt⟩ from Fin.ext ha]
  exact (add_assoc _ _ _).symm

/-- The reference's result is the normalised sum. -/
theorem reference_eq : normed (joined (shapeCast S128x2048 x shapeCasts_S32x4x2048_S128x2048) u
      (upper (shapeCast S2048x2048 w shapeCasts_S1x2048x2048_S2048x2048)) v (lower (shapeCast S2048x2048 w shapeCasts_S1x2048x2048_S2048x2048)))
        (shapeCast S1x2048 g shapeCasts_S2048_S1x2048) = val_main_v21 (F := Ideal) x u v w g := by
  have h := sum_eq x u v w
  unfold val_main_v21 val_main_v20 val_main_v19 val_main_v18 val_main_v17 val_main_v16 val_main_v15 val_main_v14 val_main_v13 val_main_v12
    val_main_v11 val_main_v10 val_main_v9 val_main_v8
  generalize val_main_v7 (F := Ideal) x u v w = Y at h ⊢
  generalize joined _ _ _ _ _ = J at h ⊢
  funext i
  idx_vars i
  have hy := h i0 ⟨i0.val / 4, by omega⟩ ⟨i0.val % 4, Nat.mod_lt _ (by decide)⟩ (Nat.div_add_mod' _ 4).symm
  have hg : shapeCast S1x2048 g shapeCasts_S2048_S1x2048 (ix2 0 i1) = g (ix1 i1) := by pointwise
  show J (ix2 i0 i1) * rowScale (fun k => J (ix2 i0 k)) * shapeCast S1x2048 g shapeCasts_S2048_S1x2048 (ix2 0 i1) = _
  rw [hg]
  pointwise [val_main_cst, val_main_cst_0, val_main_cst_1]
  simp only [hy]
  rfl

/-- What the region finds in its arrays, and so the kernel's array: the reference's result of the same arguments. -/
theorem entry_eq (c : Dev nD) : result m c = val_main_v21 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  have e2 : V m c main_v2 = shapeCast S128x2048 (m ((c : Thread nD τ).loc main_arg0)) shapeCasts_S32x4x2048_S128x2048 := by
    show StableHlo.after hostOps0 (fun b => m (c, b)) main_v2 = _
    after_results <;> rfl
  have e1 : V m c main_v1 = shapeCast S2048x2048 (m ((c : Thread nD τ).loc main_arg3)) shapeCasts_S1x2048x2048_S2048x2048 := by
    show StableHlo.after hostOps0 (fun b => m (c, b)) main_v1 = _
    after_results <;> rfl
  have e3 : V m c main_v3 = shapeCast S1x2048 (m ((c : Thread nD τ).loc main_arg4)) shapeCasts_S2048_S1x2048 := by
    show StableHlo.after hostOps0 (fun b => m (c, b)) main_v3 = _
    after_results <;> rfl
  unfold result
  rw [e1, e2, e3, V_main_arg1, V_main_arg2]
  exact reference_eq _ _ _ _ _

end Cert.MergeSampleIdeal.Hand

end
-- ==== Proof.Merge.Claims.lean ====
/-
  The claims about the merge of both batches: the printed programs and their idealizations run and leave the arguments,
  so do the references, and at the ideal instance the results agree.
-/
module

public import proofs.«01_k».proof.Defs
public import proofs.«01_k».proof.Proof.Gen.MergePrompt.Frame
public import proofs.«01_k».proof.Proof.Gen.MergeSample.Frame
public import proofs.«01_k».proof.Proof.Merge.Prompt
public import proofs.«01_k».proof.Proof.Merge.Sample
public import Idealize.ShloMosaic.Lib.Quiescent

@[expose] public section

set_option maxRecDepth 16384

noncomputable section

open Idealize.ShloMosaic Idealize.ShloMosaic.TcCoe Idealize.SL.Sem

namespace Cert.MergePromptIdeal.Claims

theorem frame : Cert.quiescent_MergePrompt := fun m ρ _ => Cert.MergePrompt.Gen.frame m ρ
theorem frame_ideal : Cert.quiescent_MergePromptIdeal := fun m ρ _ => Cert.MergePromptIdeal.Gen.frame m ρ
/-- The reference is host operations only: it declares no semaphore. -/
theorem frame_reference : Cert.quiescent_MergePromptReferenceIdeal := fun m ρ _ =>
  (θ_run Cert.MergePromptReferenceIdeal.defs _ _).mono
    (fun r h => ⟨fun c => (h c).2, sem_eq_zero_of_no_sems (by decide) r.2⟩)
    (Cert.MergePromptReferenceIdeal.Value.run m ρ)

theorem preserves : Cert.preserves_MergePrompt_MergePromptIdeal := trivial

open Cert.MergePromptReferenceIdeal.Read in
/-- At the ideal instance both end with the normalised sum, of arguments that agree. -/
theorem algebraic : Cert.algebraic_MergePromptIdeal_MergePromptReferenceIdeal := by
  intro m ρ m' ρ' _ hagree
  refine ⟨fun c => val_main_v21 (F := Ideal) (m (c.tc.loc Cert.MergePromptIdeal.main_arg0)) (m (c.tc.loc Cert.MergePromptIdeal.main_arg1))
    (m (c.tc.loc Cert.MergePromptIdeal.main_arg2)) (m (c.tc.loc Cert.MergePromptIdeal.main_arg3)) (m (c.tc.loc Cert.MergePromptIdeal.main_arg4)), ?_, ?_⟩
  · exact (θ_run Cert.MergePromptIdeal.defs _ _).mono
      (fun _ h c => ⟨(h c).1.trans ((Cert.MergePromptIdeal.Hand.final m c).trans (Cert.MergePromptIdeal.Hand.entry_eq m c)), (h c).2⟩)
      (Cert.MergePromptIdeal.Value.run_blocks m ρ)
  refine (θ_run Cert.MergePromptReferenceIdeal.defs _ _).mono (fun r h c => ?_) (Cert.MergePromptReferenceIdeal.Value.run m' ρ')
  obtain ⟨e0, e1, e2, e3, e4⟩ := hagree c
  exact ⟨(h c).1.trans ((val_main_v21_eq _ _ _ _ _).trans (by rw [e0, e1, e2, e3, e4])), (h c).2⟩

end Cert.MergePromptIdeal.Claims

namespace Cert.MergeSampleIdeal.Claims

theorem frame : Cert.quiescent_MergeSample := fun m ρ _ => Cert.MergeSample.Gen.frame m ρ
theorem frame_ideal : Cert.quiescent_MergeSampleIdeal := fun m ρ _ => Cert.MergeSampleIdeal.Gen.frame m ρ
/-- The reference is host operations only: it declares no semaphore. -/
theorem frame_reference : Cert.quiescent_MergeSampleReferenceIdeal := fun m ρ _ =>
  (θ_run Cert.MergeSampleReferenceIdeal.defs _ _).mono
    (fun r h => ⟨fun c => (h c).2, sem_eq_zero_of_no_sems (by decide) r.2⟩)
    (Cert.MergeSampleReferenceIdeal.Value.run m ρ)

theorem preserves : Cert.preserves_MergeSample_MergeSampleIdeal := trivial

open Cert.MergeSampleReferenceIdeal.Read in
/-- At the ideal instance both end with the normalised sum, of arguments that agree. -/
theorem algebraic : Cert.algebraic_MergeSampleIdeal_MergeSampleReferenceIdeal := by
  intro m ρ m' ρ' _ hagree
  refine ⟨fun c => val_main_v21 (F := Ideal) (m (c.tc.loc Cert.MergeSampleIdeal.main_arg0)) (m (c.tc.loc Cert.MergeSampleIdeal.main_arg1))
    (m (c.tc.loc Cert.MergeSampleIdeal.main_arg2)) (m (c.tc.loc Cert.MergeSampleIdeal.main_arg3)) (m (c.tc.loc Cert.MergeSampleIdeal.main_arg4)), ?_, ?_⟩
  · exact (θ_run Cert.MergeSampleIdeal.defs _ _).mono
      (fun _ h c => ⟨(h c).1.trans ((Cert.MergeSampleIdeal.Hand.final m c).trans (Cert.MergeSampleIdeal.Hand.entry_eq m c)), (h c).2⟩)
      (Cert.MergeSampleIdeal.Value.run_blocks m ρ)
  refine (θ_run Cert.MergeSampleReferenceIdeal.defs _ _).mono (fun r h c => ?_) (Cert.MergeSampleReferenceIdeal.Value.run m' ρ')
  obtain ⟨e0, e1, e2, e3, e4⟩ := hagree c
  exact ⟨(h c).1.trans ((val_main_v21_eq _ _ _ _ _).trans (by rw [e0, e1, e2, e3, e4])), (h c).2⟩

end Cert.MergeSampleIdeal.Claims

end
-- ==== Proof.KeyValue.Value.lean ====
/-
  The prompt batch's key and value columns of the sparse heads: each block of rows is multiplied with the 1024 columns
  from 1024 on of the regrouped weight, and the product is written three times: channel by channel (eight channels of 128
  lanes), its first four channels alone, and whole. The kernel's arrays and the reference's are that product.
-/
module

public import proofs.«01_k».proof.Proof.Projection.Spec
public import proofs.«01_k».proof.Proof.Gen.KeyValueIdeal.Value
public import proofs.«01_k».proof.Proof.Gen.KeyValueReferenceIdeal.Read

@[expose] public section

set_option maxRecDepth 16384

noncomputable section

open Idealize.ShloMosaic Idealize.ShloMosaic.TcCoe Idealize.ShloMosaic.Tactic Idealize.SL.Sem
open Cert.Projection

namespace Cert.KeyValueIdeal.Hand

open Cert.KeyValueIdeal Cert.KeyValueIdeal.Gen

variable (m : (ℓ : Loc nD τ sig) → Buf (Elt Ideal) ℓ) (ρ : Dev nD → PrngReg)

theorem hz : (![0, 0] : Fin 2 → Nat) = fun _ => 0 := funext fun a => by fin_cases a <;> rfl

/-- An array of 1024 columns read by channel and lane. -/
def byChannel {M : Nat} (y : Mat M 1024) : (⟨3, ![M, 8, 128]⟩ : Shape).Idx → EReal := fun i =>
  y (ix2 (n0 := M) (n1 := 1024) (i 0) ⟨(i 1).val * 128 + (i 2).val, by
    have h1 : (i 1).val < 8 := (i 1).isLt
    have h2 : (i 2).val < 128 := (i 2).isLt
    omega⟩)

/-- Its first 512 columns. -/
def firstHalf {M : Nat} (y : Mat M 1024) : Mat M 512 := fun i =>
  y (ix2 (n0 := M) (n1 := 1024) (i 0) ⟨(i 1).val, by have h1 : (i 1).val < 512 := (i 1).isLt; omega⟩)

/-! ## What the body writes -/

theorem acc_apply (x : Mat 1024 2048) (y : Mat 2048 1024) : k0_pay5 (F := Ideal) x y = product x y id := by
  funext i
  idx_vars i
  pointwise [k0_pay5]
  rfl

/-- One channel's columns, with a middle axis of one, are the array read at that channel. -/
theorem channel_at (y : Mat 1024 1024) (o q : Nat) (hs : S1024x1024.Slices ![0, o] S1024x128) (ho : o = q * 128)
    (inb : ∀ a, (![0, q, 0] : Fin 3 → Nat) a + S1024x1x128.size a ≤ S1024x8x128.size a) (x : S1024x1x128.Idx) :
    shapeCast S1024x1x128 (extractStridedSlice S1024x128 ![0, o] y hs) shapeCasts_S1024x128_S1024x1x128 x
      = byChannel y ((Rect.unit (s := S1024x8x128) ![0, q, 0] S1024x1x128.size inb).emb x) := by
  subst ho
  have h0 : (x 0).val < 1024 := (x 0).isLt
  have h1 : (x 1).val < 1 := (x 1).isLt
  have h2 : (x 2).val < 128 := (x 2).isLt
  have hq : q + 1 ≤ 8 := inb 1
  rw [shapeCast_apply _ _ x (ix2 (n0 := 1024) (n1 := 128) (x 0) (x 2)) (by
    rw [Shape.rowMajor_val_two, Shape.rowMajor_val_three]
    show (x 0).val * 128 + (x 2).val = ((x 0).val * 1 + (x 1).val) * 128 + (x 2).val
    omega)]
  refine (extractStridedSlice_apply ![0, q * 128] y hs _ (ix2 (n0 := 1024) (n1 := 1024) (x 0) ⟨q * 128 + (x 2).val, by omega⟩) (fun a => ?_)).trans ?_
  · match a with
    | ⟨0, _⟩ => show (x 0).val = 0 + (x 0).val; omega
    | ⟨1, _⟩ => rfl
  · refine congrArg y (ext2 ?_ ?_)
    · show (x 0).val = 0 + 1 * (x 0).val; omega
    · show q * 128 + (x 2).val = (q + 1 * (x 1).val) * 128 + (0 + 1 * (x 2).val)
      have : (x 1).val = 0 := by omega
      rw [this]; omega

theorem first_at (z : Mat 1024 1024) (k : S1024x512.Idx) :
    extractStridedSlice S1024x512 ![0, 0] z slices_S1024x1024_o0_0_S1024x512 k
      = firstHalf z ((Rect.unit (s := S1024x512) ![0, 0] S1024x512.size inb_S1024x512_S1024x512_0_0).emb k) := by
  refine (extractStridedSlice_apply ![0, 0] z _ k (ix2 (n0 := 1024) (n1 := 1024) (k 0) ⟨(k 1).val, Nat.lt_trans (k 1).isLt (by decide)⟩)
    (fun a => ?_)).trans (congrArg z (ext2 ?_ ?_))
  · match a with
    | ⟨0, _⟩ => show (k 0).val = 0 + (k 0).val; omega
    | ⟨1, _⟩ => show (k 1).val = 0 + (k 1).val; omega
  · show (k 0).val = 0 + 1 * (k 0).val; omega
  · show (k 1).val = 0 + 1 * (k 1).val; omega

theorem whole_at (z : Mat 1024 1024) (k : S1024x1024.Idx) :
    z k = z ((Rect.unit (s := S1024x1024) ![0, 0] S1024x1024.size inb_S1024x1024_S1024x1024_0_0).emb k) := by
  refine congrArg z (funext fun a => Fin.ext ?_)
  match a with
  | ⟨0, _⟩ => show (k 0).val = 0 + 1 * (k 0).val; omega
  | ⟨1, _⟩ => show (k 1).val = 0 + 1 * (k 1).val; omega

section Body

variable (c : Dev nD) (i : grid0.Coords) (a1 : Memref sig .tc .vmem S1024x2048 .bf16) (h1 : a1.IsWhole) (a2 : Memref sig .tc .vmem S2048x1024 .bf16)
  (h2 : a2.IsWhole) (a3 : Memref sig .tc .vmem S1024x8x128 .f32) (h3 : a3.IsWhole) (a4 : Memref sig .tc .vmem S1024x512 .f32) (h4 : a4.IsWhole)
  (a5 : Memref sig .tc .vmem S1024x1024 .bf16) (h5 : a5.IsWhole) (x : Mat 1024 2048) (y : Mat 2048 1024)

/-- The body loads its two blocks whole. -/
theorem load_x : View.readAt (Elt Ideal) a1.view (Rect.unit (s := S1024x2048) ![0, 0] S1024x2048.size inb_S1024x2048_S1024x2048_0_0).toLoadRect (h1.unread x) = x := by
  rw [View.readAt_eq_ld, h1.read_unread, View.ld_unit_zero hz]
theorem load_y : View.readAt (Elt Ideal) a2.view (Rect.unit (s := S2048x1024) ![0, 0] S2048x1024.size inb_S2048x1024_S2048x1024_0_0).toLoadRect (h2.unread y) = y := by
  rw [View.readAt_eq_ld, h2.read_unread, View.ld_unit_zero hz]

/-- The values the body's first part hands on: the product, and its seventh channel. -/
theorem acc_eq : kernelRun0_A.sl.r (F := Ideal) c a1 h1 a2 h2 x y = product x y id := by
  unfold kernelRun0_A.sl.r
  rw [load_x, load_y, acc_apply]
theorem seventh_eq : kernelRun0_A.sl.r_1 (F := Ideal) c a1 h1 a2 h2 x y = k0_pay12 (F := Ideal) x y := by
  unfold kernelRun0_A.sl.r_1
  rw [load_x, load_y]

/-- Each piece the body writes to the channels' block is a channel of the product. -/
theorem pieces_ok : ∀ p ∈ (kernelRun0_A (F := Ideal) c i a1 h1 a2 h2 a3 h3 a4 h4 a5 h5 x y).1, ∀ k : p.1.shape.Idx,
    p.2 k = byChannel (product x y id) (p.1.emb k) := by
  dsimp only [kernelRun0_A]
  rw [acc_eq, seventh_eq, load_x, load_y]
  unfold k0_pay1 k0_pay2 k0_pay6 k0_pay7 k0_pay8 k0_pay9 k0_pay10 k0_pay11 k0_pay12
  rw [acc_apply]
  generalize product x y id = z
  refine List.forall_mem_cons.2 ⟨channel_at z 896 7 slices_S1024x1024_o0_896_S1024x128 rfl inb_S1024x8x128_S1024x1x128_0_7_0, ?_⟩
  refine List.forall_mem_cons.2 ⟨channel_at z 768 6 slices_S1024x1024_o0_768_S1024x128 rfl inb_S1024x8x128_S1024x1x128_0_6_0, ?_⟩
  refine List.forall_mem_cons.2 ⟨channel_at z 640 5 slices_S1024x1024_o0_640_S1024x128 rfl inb_S1024x8x128_S1024x1x128_0_5_0, ?_⟩
  refine List.forall_mem_cons.2 ⟨channel_at z 512 4 slices_S1024x1024_o0_512_S1024x128 rfl inb_S1024x8x128_S1024x1x128_0_4_0, ?_⟩
  refine List.forall_mem_cons.2 ⟨channel_at z 384 3 slices_S1024x1024_o0_384_S1024x128 rfl inb_S1024x8x128_S1024x1x128_0_3_0, ?_⟩
  refine List.forall_mem_cons.2 ⟨channel_at z 256 2 slices_S1024x1024_o0_256_S1024x128 rfl inb_S1024x8x128_S1024x1x128_0_2_0, ?_⟩
  refine List.forall_mem_cons.2 ⟨channel_at z 128 1 slices_S1024x1024_o0_128_S1024x128 rfl inb_S1024x8x128_S1024x1x128_0_1_0, ?_⟩
  refine List.forall_mem_cons.2 ⟨channel_at z 0 0 slices_S1024x1024_o0_0_S1024x128 rfl inb_S1024x8x128_S1024x1x128_0_0_0, ?_⟩
  exact fun _ h => absurd h List.not_mem_nil

theorem channels_eq : out0_A_2 (F := Ideal) c i a1 h1 a2 h2 a3 h3 a4 h4 a5 h5 x y = byChannel (product x y id) := by
  have hp := pieces_ok c i a1 h1 a2 h2 a3 h3 a4 h4 a5 h5 x y
  have hc := cover0_A_2 (F := Ideal) c i a1 h1 a2 h2 a3 h3 a4 h4 a5 h5 x y
  unfold out0_A_2
  generalize (kernelRun0_A (F := Ideal) c i a1 h1 a2 h2 a3 h3 a4 h4 a5 h5 x y).1 = L at hp hc ⊢
  exact funext fun j => View.read_writes_apply_of_pieces VO0_2 VO0_2.junk (byChannel (product x y id)) L hp j (hc j)

/-- The one piece it writes to the other two blocks: the product's first half, and the product. -/
theorem firsts_eq : out0_A_3 (F := Ideal) c i a1 h1 a2 h2 a3 h3 a4 h4 a5 h5 x y = firstHalf (product x y id) := by
  have hp : ∀ p ∈ (kernelRun0_A (F := Ideal) c i a1 h1 a2 h2 a3 h3 a4 h4 a5 h5 x y).2.1, ∀ k : p.1.shape.Idx,
      p.2 k = firstHalf (product x y id) (p.1.emb k) := by
    dsimp only [kernelRun0_A]
    rw [acc_eq]
    unfold k0_pay3
    generalize product x y id = z
    exact List.forall_mem_cons.2 ⟨first_at z, fun _ h => absurd h List.not_mem_nil⟩
  have hc := cover0_A_3 (F := Ideal) c i a1 h1 a2 h2 a3 h3 a4 h4 a5 h5 x y
  unfold out0_A_3
  generalize (kernelRun0_A (F := Ideal) c i a1 h1 a2 h2 a3 h3 a4 h4 a5 h5 x y).2.1 = L at hp hc ⊢
  exact funext fun j => View.read_writes_apply_of_pieces VO0_3 VO0_3.junk (firstHalf (product x y id)) L hp j (hc j)

theorem whole_eq : out0_A_4 (F := Ideal) c i a1 h1 a2 h2 a3 h3 a4 h4 a5 h5 x y = product x y id := by
  have hp : ∀ p ∈ (kernelRun0_A (F := Ideal) c i a1 h1 a2 h2 a3 h3 a4 h4 a5 h5 x y).2.2.1, ∀ k : p.1.shape.Idx,
      p.2 k = product x y id (p.1.emb k) := by
    dsimp only [kernelRun0_A]
    rw [acc_eq]
    unfold k0_pay4
    generalize product x y id = z
    exact List.forall_mem_cons.2 ⟨whole_at z, fun _ h => absurd h List.not_mem_nil⟩
  have hc := cover0_A_4 (F := Ideal) c i a1 h1 a2 h2 a3 h3 a4 h4 a5 h5 x y
  unfold out0_A_4
  generalize (kernelRun0_A (F := Ideal) c i a1 h1 a2 h2 a3 h3 a4 h4 a5 h5 x y).2.2.1 = L at hp hc ⊢
  exact funext fun j => View.read_writes_apply_of_pieces VO0_4 VO0_4.junk (product x y id) L hp j (hc j)

end Body

/-! ## What the arrays end with -/

/-- Where the windows stand: the rows' and the outputs' at row block `t`, the weight's at its second block of columns. -/
theorem index_at : ∀ t : Fin cfg0.N, win0_0.index t 0 = t.val ∧ win0_0.index t 1 = 0 ∧ win0_1.index t 0 = 0 ∧ win0_1.index t 1 = 1
      ∧ win0_2.index t 0 = t.val ∧ win0_2.index t 1 = 0 ∧ win0_2.index t 2 = 0 ∧ win0_3.index t 0 = t.val ∧ win0_3.index t 1 = 0
      ∧ win0_4.index t 0 = t.val ∧ win0_4.index t 1 = 0 :=
  (by decide +kernel : ∀ t : Fin grid0.N, win0_0.index t 0 = t.val ∧ win0_0.index t 1 = 0 ∧ win0_1.index t 0 = 0 ∧ win0_1.index t 1 = 1
      ∧ win0_2.index t 0 = t.val ∧ win0_2.index t 1 = 0 ∧ win0_2.index t 2 = 0 ∧ win0_3.index t 0 = t.val ∧ win0_3.index t 1 = 0
      ∧ win0_4.index t 0 = t.val ∧ win0_4.index t 1 = 0)

/-- The product as one function of the arrays the region finds. -/
abbrev whole (c : Dev nD) : Mat 8192 1024 := product (M := 8192) (V m c main_arg0) (V m c main_arg1) (cols (n := 1024) 1024 (by decide))

/-- The weight's block, which lies inside the weight though its last block of columns would not. -/
theorem weight_block (c : Dev nD) (t : Fin cfg0.N) (k : Fin 2048) (b : Fin 1024) :
    X0_1 m c t (ix2 k b) = V m c main_arg1 (ix2 k (cols (n := 1024) 1024 (by decide) b)) := by
  obtain ⟨-, -, e0, e1, -⟩ := index_at t
  unfold X0_1 Pipeline.Window.fill
  rw [dif_pos (moved0_1 t _)]
  refine congrArg (V m c main_arg1) (ext2 ?_ ?_)
  · show win0_1.index t 0 * 2048 + 1 * k.val = k.val
    rw [e0]; omega
  · show win0_1.index t 1 * 1024 + 1 * b.val = 1024 + b.val
    rw [e1]; omega

/-- The product of a block of rows is the block of the product. -/
theorem block_product (c : Dev nD) (t : Fin cfg0.N) (a : Fin 1024) (b : Fin 1024) (r : Fin 8192) (hr : r.val = t.val * 1024 + a.val) :
    product (M := 1024) (iblk m c 0 t) (X0_1 m c t) id (ix2 a b) = whole m c (ix2 r b) := by
  obtain ⟨e0, e1, -⟩ := index_at t
  unfold whole product
  refine Finset.sum_congr rfl fun k _ => congrArg₂ (fun p q : EReal => p * q) (congrArg (V m c main_arg0) (ext2 ?_ ?_)) (weight_block m c t k b)
  · show win0_0.index t 0 * 1024 + 1 * a.val = r.val
    rw [e0]; omega
  · show win0_0.index t 1 * 2048 + 1 * k.val = k.val
    rw [e1]; omega

theorem flushed_channels (c : Dev nD) (t : Fin cfg0.N) :
    (dats m 0 c).flushed 2 t = (win0_2.blk t).view.read (Elt Ideal) (byChannel (whole m c)) := by
  rw [Cert.KeyValueIdeal.Value.flushed2_A, channels_eq]
  obtain ⟨-, -, -, -, e0, e1, e2, -⟩ := index_at t
  funext (j : S1024x8x128.Idx)
  have h0 : (j 0).val < 1024 := (j 0).isLt
  have h1 : (j 1).val < 8 := (j 1).isLt
  have h2 : (j 2).val < 128 := (j 2).isLt
  have ht : t.val < 8 := lt_of_lt_of_eq t.isLt N_0
  refine (block_product m c t (j 0) ⟨(j 1).val * 128 + (j 2).val, by omega⟩ ⟨t.val * 1024 + (j 0).val, by omega⟩ rfl).trans ?_
  refine congrArg (whole m c) (Eq.symm (ext2 ?_ ?_))
  · show win0_2.index t 0 * 1024 + 1 * (j 0).val = t.val * 1024 + (j 0).val
    rw [e0]; omega
  · show (win0_2.index t 1 * 8 + 1 * (j 1).val) * 128 + (win0_2.index t 2 * 128 + 1 * (j 2).val) = (j 1).val * 128 + (j 2).val
    rw [e1, e2]; omega

theorem flushed_firsts (c : Dev nD) (t : Fin cfg0.N) :
    (dats m 0 c).flushed 3 t = (win0_3.blk t).view.read (Elt Ideal) (firstHalf (whole m c)) := by
  rw [Cert.KeyValueIdeal.Value.flushed3_A, firsts_eq]
  obtain ⟨-, -, -, -, -, -, -, e0, e1, -⟩ := index_at t
  funext (j : S1024x512.Idx)
  have h0 : (j 0).val < 1024 := (j 0).isLt
  have h1 : (j 1).val < 512 := (j 1).isLt
  have ht : t.val < 8 := lt_of_lt_of_eq t.isLt N_0
  refine (block_product m c t (j 0) ⟨(j 1).val, by omega⟩ ⟨t.val * 1024 + (j 0).val, by omega⟩ rfl).trans ?_
  refine congrArg (whole m c) (Eq.symm (ext2 ?_ ?_))
  · show win0_3.index t 0 * 1024 + 1 * (j 0).val = t.val * 1024 + (j 0).val
    rw [e0]; omega
  · show win0_3.index t 1 * 512 + 1 * (j 1).val = (j 1).val
    rw [e1]; omega

theorem flushed_whole (c : Dev nD) (t : Fin cfg0.N) :
    (dats m 0 c).flushed 4 t = (win0_4.blk t).view.read (Elt Ideal) (whole m c) := by
  rw [Cert.KeyValueIdeal.Value.flushed4_A, whole_eq]
  obtain ⟨-, -, -, -, -, -, -, -, -, e0, e1⟩ := index_at t
  funext (j : S1024x1024.Idx)
  have h0 : (j 0).val < 1024 := (j 0).isLt
  have ht : t.val < 8 := lt_of_lt_of_eq t.isLt N_0
  refine (congrArg _ (eq_ix2 (n0 := 1024) (n1 := 1024) j)).trans ((block_product m c t (j 0) (j 1) ⟨t.val * 1024 + (j 0).val, by omega⟩ rfl).trans ?_)
  refine congrArg (whole m c) (Eq.symm (ext2 ?_ ?_))
  · show win0_4.index t 0 * 1024 + 1 * (j 0).val = t.val * 1024 + (j 0).val
    rw [e0]; omega
  · show win0_4.index t 1 * 1024 + 1 * (j 1).val = (j 1).val
    rw [e1]; omega

/-- The row block an array's row lies in. -/
abbrev rowBlock (r : Nat) (h : r < 8192) : Fin cfg0.N := ⟨r / 1024, by show _ < grid0.N; rw [N_0]; omega⟩

theorem cover_channels (i : S8192x8x128.Idx) : ∃ t : Fin cfg0.N, (cfg0.win 2).flush t = true ∧ i ∈ ((cfg0.win 2).blk t).view.set := by
  refine ⟨rowBlock (i 0).val (i 0).isLt, flush0_2 _, ?_⟩
  show i ∈ ((View.whole main_v0_0).slice (win0_2.rect (rowBlock (i 0).val (i 0).isLt))).set
  rw [View.set_slice_whole, Rect.mem_set_unit]
  obtain ⟨-, -, -, -, e0, e1, e2, -⟩ := index_at (rowBlock (i 0).val (i 0).isLt)
  intro a
  match a with
  | ⟨0, _⟩ => exact in_tile (Nat.succ_pos 1023) e0
  | ⟨1, _⟩ => exact in_axis (i 1).isLt e1
  | ⟨2, _⟩ => exact in_axis (i 2).isLt e2

theorem cover_firsts (i : S8192x512.Idx) : ∃ t : Fin cfg0.N, (cfg0.win 3).flush t = true ∧ i ∈ ((cfg0.win 3).blk t).view.set := by
  refine ⟨rowBlock (i 0).val (i 0).isLt, flush0_3 _, ?_⟩
  show i ∈ ((View.whole main_v0_1).slice (win0_3.rect (rowBlock (i 0).val (i 0).isLt))).set
  rw [View.set_slice_whole, Rect.mem_set_unit]
  obtain ⟨-, -, -, -, -, -, -, e0, e1, -⟩ := index_at (rowBlock (i 0).val (i 0).isLt)
  intro a
  match a with
  | ⟨0, _⟩ => exact in_tile (Nat.succ_pos 1023) e0
  | ⟨1, _⟩ => exact in_axis (i 1).isLt e1

theorem cover_whole (i : S8192x1024.Idx) : ∃ t : Fin cfg0.N, (cfg0.win 4).flush t = true ∧ i ∈ ((cfg0.win 4).blk t).view.set := by
  refine ⟨rowBlock (i 0).val (i 0).isLt, flush0_4 _, ?_⟩
  show i ∈ ((View.whole main_v0_2).slice (win0_4.rect (rowBlock (i 0).val (i 0).isLt))).set
  rw [View.set_slice_whole, Rect.mem_set_unit]
  obtain ⟨-, -, -, -, -, -, -, -, -, e0, e1⟩ := index_at (rowBlock (i 0).val (i 0).isLt)
  intro a
  match a with
  | ⟨0, _⟩ => exact in_tile (Nat.succ_pos 1023) e0
  | ⟨1, _⟩ => exact in_axis (i 1).isLt e1

theorem final_channels (c : Dev nD) : (dats m 0 c).arrAt 2 cfg0.N = byChannel (whole m c) :=
  (dats m 0 c).arrAt_eq_of_cover 2 (byChannel (whole m c)) (fun t _ => flushed_channels m c t) cover_channels
theorem final_firsts (c : Dev nD) : (dats m 0 c).arrAt 3 cfg0.N = firstHalf (whole m c) :=
  (dats m 0 c).arrAt_eq_of_cover 3 (firstHalf (whole m c)) (fun t _ => flushed_firsts m c t) cover_firsts
theorem final_whole (c : Dev nD) : (dats m 0 c).arrAt 4 cfg0.N = whole m c :=
  (dats m 0 c).arrAt_eq_of_cover 4 (whole m c) (fun t _ => flushed_whole m c t) cover_whole

/-! ## The reference -/

open Cert.KeyValueReferenceIdeal.Read

variable (h : S8192x2048.Idx → EReal) (w : S2048x7680.Idx → EReal)

/-- The reference's columns are the product with the weight's. -/
theorem reference_whole : val_main_v3 (F := Ideal) h w = product (M := 8192) h w (cols (n := 1024) 1024 (by decide)) := by
  funext i
  rw [val_main_v3_apply, val_main_v2_apply]
  exact Finset.sum_congr rfl fun k _ => congrArg₂ (· * ·) (congrArg h (ext2 rfl rfl)) (congrArg w (ext2 rfl rfl))

theorem reference_channels : val_main_v4 (F := Ideal) h w = byChannel (product (M := 8192) h w (cols (n := 1024) 1024 (by decide))) := by
  funext i
  rw [val_main_v4_apply, reference_whole]
  have h1 : (i 1).val < 8 := (i 1).isLt
  have h2 : (i 2).val < 128 := (i 2).isLt
  refine congrArg (product (M := 8192) h w (cols (n := 1024) 1024 (by decide))) (ext2 ?_ ?_)
  · show (((i 0).val * 8 + (i 1).val) * 128 + (i 2).val) / 1024 = (i 0).val; omega
  · show (((i 0).val * 8 + (i 1).val) * 128 + (i 2).val) % 1024 = (i 1).val * 128 + (i 2).val; omega

theorem reference_firsts : val_main_v5 (F := Ideal) h w = firstHalf (product (M := 8192) h w (cols (n := 1024) 1024 (by decide))) := by
  funext i
  rw [val_main_v5_apply, reference_whole]
  exact congrArg (product (M := 8192) h w (cols (n := 1024) 1024 (by decide))) (ext2 rfl rfl)

theorem reference_rounded : val_main_v6 (F := Ideal) h w = product (M := 8192) h w (cols (n := 1024) 1024 (by decide)) := by
  funext i
  rw [val_main_v6_apply, reference_whole]
  rfl

end Cert.KeyValueIdeal.Hand

end
-- ==== Proof.KeyValue.Claims.lean ====
/-
  The claims about the prompt batch's key and value columns: the printed program and its idealization run and leave the
  arguments, so does the reference, and at the ideal instance the three results agree.
-/
module

public import proofs.«01_k».proof.Defs
public import proofs.«01_k».proof.Proof.Gen.KeyValue.Frame
public import proofs.«01_k».proof.Proof.KeyValue.Value
public import Idealize.ShloMosaic.Lib.Quiescent

@[expose] public section

set_option maxRecDepth 16384

noncomputable section

open Idealize.ShloMosaic Idealize.ShloMosaic.TcCoe Idealize.SL.Sem

namespace Cert.KeyValueIdeal.Claims

theorem frame : Cert.quiescent_KeyValue := fun m ρ _ => Cert.KeyValue.Gen.frame m ρ
theorem frame_ideal : Cert.quiescent_KeyValueIdeal := fun m ρ _ => Cert.KeyValueIdeal.Gen.frame m ρ
/-- The reference is host operations only: it declares no semaphore. -/
theorem frame_reference : Cert.quiescent_KeyValueReferenceIdeal := fun m ρ _ =>
  (θ_run Cert.KeyValueReferenceIdeal.defs _ _).mono
    (fun r h => ⟨fun c => (h c).2.2.2, sem_eq_zero_of_no_sems (by decide) r.2⟩)
    (Cert.KeyValueReferenceIdeal.Value.run m ρ)

theorem preserves : Cert.preserves_KeyValue_KeyValueIdeal := trivial

open Cert.KeyValueReferenceIdeal.Read Cert.KeyValueIdeal.Hand in
/-- At the ideal instance both end with the columns by channel, their first half, and the columns, of arguments that agree. -/
theorem algebraic : Cert.algebraic_KeyValueIdeal_KeyValueReferenceIdeal := by
  intro m ρ m' ρ' _ hagree
  refine ⟨fun c => byChannel (whole m c), fun c => firstHalf (whole m c), fun c => whole m c, ?_, ?_⟩
  · exact (θ_run Cert.KeyValueIdeal.defs _ _).mono
      (fun _ h c => ⟨(h c).1.trans (final_channels m c), (h c).2.1.trans (final_firsts m c), (h c).2.2.1.trans (final_whole m c), (h c).2.2.2⟩)
      (Cert.KeyValueIdeal.Value.run_blocks m ρ)
  refine (θ_run Cert.KeyValueReferenceIdeal.defs _ _).mono (fun r h c => ?_) (Cert.KeyValueReferenceIdeal.Value.run m' ρ')
  obtain ⟨e0, e1⟩ := hagree c
  refine ⟨(h c).1.trans ((val_main_v4_eq _ _).trans ?_), (h c).2.1.trans ((val_main_v5_eq _ _).trans ?_),
    (h c).2.2.1.trans ((val_main_v6_eq _ _).trans ?_), (h c).2.2.2⟩
  · rw [e0, e1]; exact reference_channels _ _
  · rw [e0, e1]; exact reference_firsts _ _
  · rw [e0, e1]; exact reference_rounded _ _

end Cert.KeyValueIdeal.Claims

end
-- ==== Proof.Cumsum.Value.lean ====
/-
  The cumulative sums of the forget logarithms: the kernel's twelve doubling steps and the reference's window sum are
  both the sum of the entries up to and including a lane.
-/
module

public import proofs.«01_k».proof.Proof.Projection.Spec
public import Idealize.ShloMosaic.Lib.KernelVsHost
public import proofs.«01_k».proof.Proof.Gen.CumsumIdeal.Value
public import proofs.«01_k».proof.Proof.Gen.CumsumReferenceIdeal.Read

@[expose] public section

set_option maxRecDepth 16384

noncomputable section

open Idealize.ShloMosaic Idealize.ShloMosaic.TcCoe Idealize.ShloMosaic.Tactic Idealize.SL.Sem
open Cert.Projection

namespace Cert.CumsumIdeal.Hand

open Cert.CumsumIdeal Cert.CumsumIdeal.Gen

variable (m : (ℓ : Loc nD τ sig) → Buf (Elt Ideal) ℓ) (ρ : Dev nD → PrngReg)

/-! ## Sums of the entries before a lane -/

/-- The sum of the `n` entries of a sequence ending at `b`, as many as there are. -/
def ending (n : ℕ) (f : ℕ → EReal) (b : ℕ) : EReal := ∑ k ∈ Finset.range n, if k ≤ b then f (b - k) else 0

/-- Twice as many entries: those, and as many ending `n` places earlier. -/
theorem ending_double (n : ℕ) (f : ℕ → EReal) (b : ℕ) :
    ending n f b + (if n ≤ b then ending n f (b - n) else 0) = ending (n + n) f b := by
  unfold ending
  rw [Finset.sum_range_add]
  refine congrArg _ ?_
  by_cases h : n ≤ b
  · rw [if_pos h]
    refine Finset.sum_congr rfl fun k _ => ?_
    by_cases hk : k ≤ b - n
    · rw [if_pos hk, if_pos (by omega), Nat.sub_sub]
    · rw [if_neg hk, if_neg (by omega)]
  · rw [if_neg h]
    exact (Finset.sum_eq_zero fun k _ => if_neg (by omega)).symm

/-- A row of an array as a sequence, zero past its end. -/
def row (x : Mat 16 4096) (a : Fin 16) (k : ℕ) : EReal := if h : k < 4096 then x (ix2 a ⟨k, h⟩) else 0

/-- The running sums of the rows. -/
def running (x : Mat 16 4096) : Mat 16 4096 := fun i => ending 4096 (row x (i 0)) (i 1).val

/-! ## The kernel's doubling -/

/-- One step of the kernel: from lane `s` on, the entry `s` lanes earlier is added. -/
def doubled (s : BitVec 32) (y : FVec Ideal S16x4096 .f32) : FVec Ideal S16x4096 .f32 :=
  addf y (select (cmpi .sge (iota .tc S16x4096 32 [1] iota_S16x4096_d1_w32) (broadcast S16x4096 s))
    (dynamicRotate 1 s none y rotates_S16x4096_d1) (broadcast S16x4096 (Scalar.ofBits (F := Ideal) .f32 0x00000000#32)))

theorem doubled_apply (s : BitVec 32) (n : ℕ) (hs : s.toNat = n) (hi : s.toInt = n) (hn : n < 4096) (y : Mat 16 4096) (a : Fin 16) (b : Fin 4096) :
    doubled s y (ix2 a b) = y (ix2 a b) + if n ≤ b.val then y (ix2 a ⟨b.val - n, by omega⟩) else 0 := by
  have hb := b.isLt
  have hr : dynamicRotate 1 s none y rotates_S16x4096_d1 (ix2 a b) = y (ix2 a ⟨(b.val + 4096 - n) % 4096, Nat.mod_lt _ (by decide)⟩) :=
    dynamicRotate_apply (1 : Fin 2) s y rotates_S16x4096_d1 _ _ fun c => by
      match c with
      | ⟨0, _⟩ => rfl
      | ⟨1, _⟩ =>
        show (b.val + 4096 - n) % 4096 = (b.val + 4096 - s.toNat % 4096) % 4096
        rw [hs, Nat.mod_eq_of_lt hn]
  have hlane : (BitVec.ofNat 32 b.val).toInt = b.val := by
    rw [BitVec.toInt_ofNat', Int.bmod_def]; omega
  unfold doubled
  generalize hR : dynamicRotate 1 s none y rotates_S16x4096_d1 = R at hr
  pointwise
  rw [hr]
  refine congrArg _ ?_
  have hc : IntOp.cmpi .sge (BitVec.ofNat 32 b.val) s = if n ≤ b.val then 1#1 else 0#1 := by
    show BitVec.ofBool (decide (s.toInt ≤ (BitVec.ofNat 32 b.val).toInt)) = _
    rw [hlane, hi]
    by_cases h : n ≤ b.val
    · rw [if_pos h, decide_eq_true (by exact_mod_cast h)]; rfl
    · rw [if_neg h, decide_eq_false (by exact_mod_cast h)]; rfl
  rw [hc]
  by_cases h : n ≤ b.val
  · rw [if_pos h, if_pos h]
    refine congrArg y (congrArg (ix2 a) (Fin.ext ?_))
    show (b.val + 4096 - n) % 4096 = b.val - n
    omega
  · rw [if_neg h, if_neg h]; rfl

/-- `y` holds, lane by lane, the sums of the `n` entries of `x` ending there. -/
def Sums (n : ℕ) (x y : Mat 16 4096) : Prop := ∀ (a : Fin 16) (b : Fin 4096), y (ix2 a b) = ending n (row x a) b.val

theorem sums_doubled {n : ℕ} {x y : Mat 16 4096} (s : BitVec 32) (h : Sums n x y) (hs : s.toNat = n := by decide) (hi : s.toInt = n := by decide)
    (hn : n < 4096 := by decide) : Sums (n + n) x (doubled s y) := fun a b => by
  rw [doubled_apply s n hs hi hn, h a b, ← ending_double]
  refine congrArg _ ?_
  by_cases hb : n ≤ b.val
  · rw [if_pos hb, if_pos hb, h]
  · rw [if_neg hb, if_neg hb]

theorem sums_one (x : Mat 16 4096) : Sums 1 x x := fun a b => by
  show _ = ∑ k ∈ Finset.range 1, _
  rw [Finset.sum_range_one, if_pos (Nat.zero_le _)]
  show _ = if h : b.val < 4096 then x (ix2 a ⟨b.val, h⟩) else 0
  rw [dif_pos b.isLt]

theorem first_steps (x : Mat 16 4096) : k0_pay2 (F := Ideal) x
    = doubled 32#32 (doubled 16#32 (doubled 8#32 (doubled 4#32 (doubled 2#32 (doubled 1#32 (shapeCast S16x4096 x shapeCasts_S16x4096_S16x4096)))))) := rfl

theorem last_steps (y : Mat 16 4096) : k0_pay1 (F := Ideal) (iota .tc S16x4096 32 [1] iota_S16x4096_d1_w32) y 64#32
    = doubled 2048#32 (doubled 1024#32 (doubled 512#32 (doubled 256#32 (doubled 128#32 (doubled 64#32 y))))) := rfl

/-- After the twelve steps each lane holds the sum up to it. -/
theorem steps (x : Mat 16 4096) :
    k0_pay1 (F := Ideal) (iota .tc S16x4096 32 [1] iota_S16x4096_d1_w32) (k0_pay2 x) 64#32 = running x := by
  have hx : shapeCast S16x4096 x shapeCasts_S16x4096_S16x4096 = x := shapeCast_self x _
  rw [last_steps, first_steps, hx]
  have h := sums_doubled 32#32 (sums_doubled 16#32 (sums_doubled 8#32 (sums_doubled 4#32 (sums_doubled 2#32 (sums_doubled 1#32 (sums_one x))))))
  have h' := sums_doubled 2048#32 (sums_doubled 1024#32 (sums_doubled 512#32 (sums_doubled 256#32 (sums_doubled 128#32 (sums_doubled 64#32 h)))))
  funext i
  idx_vars i
  exact h' i0 i1

/-! ## The kernel's array -/

theorem hz : (![0, 0] : Fin 2 → Nat) = fun _ => 0 := funext fun a => by fin_cases a <;> rfl

/-- The one grid point's windows are the whole arrays. -/
theorem index_at : ∀ t : Fin cfg0.N, win0_0.index t 0 = 0 ∧ win0_0.index t 1 = 0 ∧ win0_1.index t 0 = 0 ∧ win0_1.index t 1 = 0 :=
  (by decide +kernel : ∀ t : Fin grid0.N, win0_0.index t 0 = 0 ∧ win0_0.index t 1 = 0 ∧ win0_1.index t 0 = 0 ∧ win0_1.index t 1 = 0)

theorem emb_in (t : Fin cfg0.N) (j : S16x4096.Idx) : (win0_0.rect t).emb j = j := by
  obtain ⟨e0, e1, -⟩ := index_at t
  funext a
  match a with
  | ⟨0, _⟩ => exact Fin.ext (show win0_0.index t 0 * 16 + 1 * (j 0).val = (j 0).val by rw [e0]; omega)
  | ⟨1, _⟩ => exact Fin.ext (show win0_0.index t 1 * 4096 + 1 * (j 1).val = (j 1).val by rw [e1]; omega)

theorem emb_out (t : Fin cfg0.N) (j : S16x4096.Idx) : (win0_1.rect t).emb j = j := by
  obtain ⟨-, -, e0, e1⟩ := index_at t
  funext a
  match a with
  | ⟨0, _⟩ => exact Fin.ext (show win0_1.index t 0 * 16 + 1 * (j 0).val = (j 0).val by rw [e0]; omega)
  | ⟨1, _⟩ => exact Fin.ext (show win0_1.index t 1 * 4096 + 1 * (j 1).val = (j 1).val by rw [e1]; omega)

theorem flushed_eq (c : Dev nD) (t : Fin cfg0.N) :
    (dats m 0 c).flushed 1 t = (win0_1.blk t).view.read (Elt Ideal) (running (V m c main_v1)) := by
  have hb : iblk m c 0 t = V m c main_v1 := funext fun j => congrArg (V m c main_v1) (emb_in t j)
  rw [Cert.CumsumIdeal.Value.flushed1, hb]
  unfold out0_1
  rw [View.canon_unit_zero hz, View.ld_unit_zero hz, steps]
  funext j
  exact congrArg (running (V m c main_v1)) (emb_out t j).symm

theorem cover (i : S16x4096.Idx) : ∃ t : Fin cfg0.N, (cfg0.win 1).flush t = true ∧ i ∈ ((cfg0.win 1).blk t).view.set := by
  have ht : 0 < cfg0.N := by show 0 < grid0.N; decide
  refine ⟨⟨0, ht⟩, flush0_1 _, ?_⟩
  show i ∈ ((View.whole main_v2).slice (win0_1.rect ⟨0, ht⟩)).set
  rw [View.set_slice_whole, Rect.mem_set_unit]
  obtain ⟨-, -, e0, e1⟩ := index_at ⟨0, ht⟩
  intro a
  match a with
  | ⟨0, _⟩ => exact in_axis (i 0).isLt e0
  | ⟨1, _⟩ => exact in_axis (i 1).isLt e1

/-- The array the kernel returns: the running sums of the forget logarithms, one row per sequence and head. -/
theorem final (c : Dev nD) : (dats m 0 c).arrAt 1 cfg0.N
    = running (shapeCast S16x4096 (transpose S2x8x4096 [0, 2, 1] (m ((c : Thread nD τ).loc main_arg0)) transposes_S2x4096x8_S2x8x4096_0_2_1)
        shapeCasts_S2x8x4096_S16x4096) := by
  have e : V m c main_v1 = shapeCast S16x4096 (transpose S2x8x4096 [0, 2, 1] (m ((c : Thread nD τ).loc main_arg0)) transposes_S2x4096x8_S2x8x4096_0_2_1)
      shapeCasts_S2x8x4096_S16x4096 := by
    show StableHlo.after hostOps0 (fun b => m (c, b)) main_v1 = _
    after_results <;> rfl
  rw [(dats m 0 c).arrAt_eq_of_cover 1 (running (V m c main_v1)) (fun t _ => flushed_eq m c t) cover, e]

/-! ## The reference's window sum -/

/-- A fold that adds is the starting value and the sum. -/
theorem fold_sum {n : ℕ} (f : Fin n → EReal) : (List.finRange n).foldl (fun r k => r + f k) 0 = ∑ k, f k := by
  rw [← List.sum_ofFn, List.ofFn_eq_map, List.sum_eq_foldl, List.foldl_map]

/-- A place in a window one wide but on its middle axis is its middle coordinate. -/
theorem window_place (n : Fin (⟨3, ![1, 4096, 1]⟩ : Shape).numel) (a : Fin 3) :
    ((⟨3, ![1, 4096, 1]⟩ : Shape).rowMajor.symm n a).val = (![0, n.val, 0] : Fin 3 → ℕ) a := by
  have h : ((⟨3, ![1, 4096, 1]⟩ : Shape).rowMajor ((⟨3, ![1, 4096, 1]⟩ : Shape).rowMajor.symm n)).val = n.val := by
    rw [Equiv.apply_symm_apply]
  generalize (⟨3, ![1, 4096, 1]⟩ : Shape).rowMajor.symm n = p at h ⊢
  rw [Shape.rowMajor_val_three] at h
  have h0 : (p 0).val < 1 := (p 0).isLt
  have h2 : (p 2).val < 1 := (p 2).isLt
  change ((p 0).val * 4096 + (p 1).val) * 1 + (p 2).val = n.val at h
  match a with
  | ⟨0, _⟩ => show (p 0).val = 0; omega
  | ⟨1, _⟩ => show (p 1).val = n.val; omega
  | ⟨2, _⟩ => show (p 2).val = 0; omega

open Cert.CumsumReferenceIdeal.Read

/-- The reference's sum over a window that ends at a token is the sum of the entries up to the token. -/
theorem reference_window (x : (⟨3, ![2, 4096, 8]⟩ : Shape).Idx → EReal) (b : Fin 2) (t : Fin 4096) (h : Fin 8) :
    val_main_v0 (F := Ideal) x (ix3 b t h) = ending 4096 (fun k => if hk : k < 4096 then x (ix3 b ⟨k, hk⟩ h) else 0) t.val := by
  unfold val_main_v0 Host.reduceWindowAdd
  rw [Ideal.hostReduceWindowAdd_def]
  unfold Ideal.hostReduceWindowAdd Host.reduceWindow
  have hv (u : Cert.CumsumReferenceIdeal.S_.Idx) : val_main_call0_v0 (F := Ideal) u = (0 : EReal) := by
    pointwise [val_main_call0_v0, val_main_call0_cst]
  dsimp only
  simp only [hv]
  refine (fold_sum _).trans ?_
  have ht := t.isLt
  generalize hf : (fun k => if hk : k < 4096 then x (ix3 b ⟨k, hk⟩ h) else 0) = f
  let g : ℕ → EReal := fun n => if 4095 ≤ t.val + n then f (t.val + n - 4095) else 0
  refine (Finset.sum_congr rfl fun n _ => ?_).trans ((Fin.sum_univ_eq_sum_range g (⟨3, ![1, 4096, 1]⟩ : Shape).numel).trans ?_)
  · have w := window_place n
    have w0 : ((⟨3, ![1, 4096, 1]⟩ : Shape).rowMajor.symm n 0).val = 0 := w 0
    have w1 : ((⟨3, ![1, 4096, 1]⟩ : Shape).rowMajor.symm n 1).val = n.val := w 1
    have w2 : ((⟨3, ![1, 4096, 1]⟩ : Shape).rowMajor.symm n 2).val = 0 := w 2
    have hn : n.val < 4096 := n.isLt
    have hb := b.isLt
    have hh := h.isLt
    by_cases hc : 4095 ≤ t.val + n.val
    · refine (dif_pos ?_).trans (((?_ : _ = x (ix3 b ⟨t.val + n.val - 4095, by omega⟩ h)).trans ?_).trans (if_pos hc).symm)
      · intro a
        match a with
        | ⟨0, _⟩ =>
          show 0 ≤ b.val * 1 + ((⟨3, ![1, 4096, 1]⟩ : Shape).rowMajor.symm n 0).val ∧ b.val * 1 + ((⟨3, ![1, 4096, 1]⟩ : Shape).rowMajor.symm n 0).val - 0 < 2
          omega
        | ⟨1, _⟩ =>
          show 4095 ≤ t.val * 1 + ((⟨3, ![1, 4096, 1]⟩ : Shape).rowMajor.symm n 1).val ∧ t.val * 1 + ((⟨3, ![1, 4096, 1]⟩ : Shape).rowMajor.symm n 1).val - 4095 < 4096
          omega
        | ⟨2, _⟩ =>
          show 0 ≤ h.val * 1 + ((⟨3, ![1, 4096, 1]⟩ : Shape).rowMajor.symm n 2).val ∧ h.val * 1 + ((⟨3, ![1, 4096, 1]⟩ : Shape).rowMajor.symm n 2).val - 0 < 8
          omega
      · refine congrArg x (ext3 ?_ ?_ ?_)
        · show b.val * 1 + ((⟨3, ![1, 4096, 1]⟩ : Shape).rowMajor.symm n 0).val - 0 = b.val
          omega
        · show t.val * 1 + ((⟨3, ![1, 4096, 1]⟩ : Shape).rowMajor.symm n 1).val - 4095 = t.val + n.val - 4095
          omega
        · show h.val * 1 + ((⟨3, ![1, 4096, 1]⟩ : Shape).rowMajor.symm n 2).val - 0 = h.val
          omega
      · rw [← hf]
        show _ = if hk : t.val + n.val - 4095 < 4096 then x (ix3 b ⟨t.val + n.val - 4095, hk⟩ h) else 0
        rw [dif_pos (show t.val + n.val - 4095 < 4096 by omega)]
    · refine (dif_neg fun hin => hc ?_).trans (if_neg hc).symm
      have h1 := (hin 1).1
      change 4095 ≤ t.val * 1 + ((⟨3, ![1, 4096, 1]⟩ : Shape).rowMajor.symm n 1).val at h1
      omega
  · show ∑ n ∈ Finset.range 4096, (if 4095 ≤ t.val + n then f (t.val + n - 4095) else 0) = ∑ k ∈ Finset.range 4096, if k ≤ t.val then f (t.val - k) else 0
    rw [← Finset.sum_range_reflect (fun k => if k ≤ t.val then f (t.val - k) else 0) 4096]
    refine Finset.sum_congr rfl fun n hn => ?_
    have hn := Finset.mem_range.1 hn
    show _ = if 4096 - 1 - n ≤ t.val then f (t.val - (4096 - 1 - n)) else 0
    by_cases hc : 4095 ≤ t.val + n
    · rw [if_pos hc, if_pos (by omega)]
      exact congrArg f (by omega)
    · rw [if_neg hc, if_neg (by omega)]

/-- The reference's result is the running sums, one row per sequence and head. -/
theorem reference_eq (x : (⟨3, ![2, 4096, 8]⟩ : Shape).Idx → EReal) :
    running (shapeCast S16x4096 (transpose S2x8x4096 [0, 2, 1] x transposes_S2x4096x8_S2x8x4096_0_2_1) shapeCasts_S2x8x4096_S16x4096)
      = val_main_v2 (F := Ideal) x := by
  funext i
  idx_vars i
  have hx (k : Fin 4096) : shapeCast S16x4096 (transpose S2x8x4096 [0, 2, 1] x transposes_S2x4096x8_S2x8x4096_0_2_1) shapeCasts_S2x8x4096_S16x4096 (ix2 i0 k)
      = x (ix3 ⟨i0.val / 8, by omega⟩ k ⟨i0.val % 8, Nat.mod_lt _ (by decide)⟩) := by
    pointwise
  have h1 := i1.isLt
  rw [val_main_v2_apply, val_main_v1_apply]
  refine Eq.trans ?_ ((reference_window x ⟨i0.val / 8, by omega⟩ i1 ⟨i0.val % 8, Nat.mod_lt _ (by decide)⟩).symm.trans (congrArg _ (ext3 ?_ ?_ ?_)))
  · refine congrArg (fun f => ending 4096 f i1.val) (funext fun k => ?_)
    by_cases hk : k < 4096
    · rw [dif_pos hk]
      exact (dif_pos hk).trans (hx ⟨k, hk⟩)
    · rw [dif_neg hk]
      exact dif_neg hk
  · show i0.val / 8 = (i0.val * 4096 + i1.val) / 32768
    omega
  · show i1.val = (i0.val * 4096 + i1.val) % 4096
    omega
  · show i0.val % 8 = (i0.val * 4096 + i1.val) / 4096 % 8
    omega

end Cert.CumsumIdeal.Hand

end
-- ==== Proof.Cumsum.Claims.lean ====
/-
  The claims about the cumulative sums of the forget logarithms: the printed program and its idealization run and leave
  the argument, so does the reference, and at the ideal instance the results agree.
-/
module

public import proofs.«01_k».proof.Defs
public import proofs.«01_k».proof.Proof.Gen.Cumsum.Frame
public import proofs.«01_k».proof.Proof.Gen.CumsumReferenceIdeal.Run
public import proofs.«01_k».proof.Proof.Cumsum.Value
public import Idealize.ShloMosaic.Lib.Quiescent

@[expose] public section

set_option maxRecDepth 16384

noncomputable section

open Idealize.ShloMosaic Idealize.ShloMosaic.TcCoe Idealize.SL.Sem

namespace Cert.CumsumIdeal.Claims

theorem frame : Cert.quiescent_Cumsum := fun m ρ _ => Cert.Cumsum.Gen.frame m ρ
theorem frame_ideal : Cert.quiescent_CumsumIdeal := fun m ρ _ => Cert.CumsumIdeal.Gen.frame m ρ
/-- The reference is host operations only: it declares no semaphore. -/
theorem frame_reference : Cert.quiescent_CumsumReferenceIdeal := fun m ρ _ =>
  (θ_run Cert.CumsumReferenceIdeal.defs _ _).mono
    (fun r h => ⟨fun c => (h c).2, sem_eq_zero_of_no_sems (by decide) r.2⟩)
    (Cert.CumsumReferenceIdeal.Value.run m ρ)

theorem preserves : Cert.preserves_Cumsum_CumsumIdeal := trivial

open Cert.CumsumReferenceIdeal.Read Cert.CumsumIdeal.Hand in
/-- At the ideal instance both end with the running sums of arguments that agree. -/
theorem algebraic : Cert.algebraic_CumsumIdeal_CumsumReferenceIdeal := by
  intro m ρ m' ρ' _ hagree
  refine ⟨fun c => val_main_v2 (F := Ideal) (m ((c.tc : Thread _ _).loc Cert.CumsumIdeal.main_arg0)), ?_, ?_⟩
  · exact (θ_run Cert.CumsumIdeal.defs _ _).mono
      (fun _ h c => ⟨(h c).1.trans ((final m c).trans (reference_eq _)), (h c).2⟩)
      (Cert.CumsumIdeal.Value.run_blocks m ρ)
  refine (θ_run Cert.CumsumReferenceIdeal.defs _ _).mono (fun r h c => ?_) (Cert.CumsumReferenceIdeal.Value.run m' ρ')
  refine ⟨(h c).1.trans ((val_main_v2_eq _).trans ?_), (h c).2⟩
  rw [hagree c]

end Cert.CumsumIdeal.Claims

end
-- ==== Proof.Compress.Block.lean ====
/-
  One grid point of the compression of the prompt's keys and values: the scratch holds a block's 32 tokens side by
  side in each row, the even blocks above the odd ones, and the stored block is its product with the weight.
-/
module

public import proofs.«01_k».proof.Proof.Projection.Spec
public import proofs.«01_k».proof.Proof.Gen.CompressIdeal.Value

@[expose] public section

set_option maxRecDepth 16384

noncomputable section

open Idealize.ShloMosaic Idealize.ShloMosaic.TcCoe Idealize.ShloMosaic.Tactic Idealize.SL.Sem
open Cert.Projection

namespace Cert.CompressIdeal.Hand

open Cert.CompressIdeal Cert.CompressIdeal.Gen

/-- The token that lane `k` of scratch row `r` comes from: token `k / 128` of block `2 (r mod 64) + r / 64`. -/
def token (r k : ℕ) : ℕ := 64 * (r % 64) + 32 * (r / 64) + k / 128

theorem token_lt {r k : ℕ} (hr : r < 128) (hk : k < 4096) : token r k < 4096 := by unfold token; omega

/-- The scratch: each token's entries plus the position's. -/
def spread (x : Mat 4096 128) (p : (⟨3, ![1, 32, 128]⟩ : Shape).Idx → EReal) : Mat 128 4096 := fun i =>
  x (ix2 (n0 := 4096) (n1 := 128) ⟨token (i 0).val (i 1).val, token_lt (i 0).isLt (i 1).isLt⟩ ⟨(i 1).val % 128, Nat.mod_lt _ (by decide)⟩)
    + p (ix3 (n1 := 32) (n2 := 128) 0 ⟨(i 1).val / 128, Nat.div_lt_of_lt_mul (i 1).isLt⟩ ⟨(i 1).val % 128, Nat.mod_lt _ (by decide)⟩)

variable (a3 : Memref sig .tc .vmem S4096x128 .f32) (h3 : a3.IsWhole) (a4 : Memref sig .tc .vmem S1x32x128 .f32) (h4 : a4.IsWhole)
  (x : Mat 4096 128) (p : (⟨3, ![1, 32, 128]⟩ : Shape).Idx → EReal)

/-- What is stored at rows `r` on and lanes `q` on is the scratch there: every 64th token from `o` on, plus position `c`. -/
theorem piece_at {o r q c : ℕ} (inb : ∀ a, (![r, q] : Fin 2 → ℕ) a + S64x128.size a ≤ S128x4096.size a) (inb3) (inb4)
    (hb : FTy.bf16.bits < FTy.f32.bits) (bc : S1x128.Broadcasts S64x128) (s1 : S1x1x128.ShapeCasts S1x128) (s2 : S64x128.ShapeCasts S64x128)
    (hr : r = 0 ∨ r = 64) (hq : q = 128 * c) (ho : o = c + r / 2) (hc : c < 32) :
    ∀ k : S64x128.Idx, (shapeCast S64x128 (truncf (F := Ideal) (φ := .f32) .bf16 (addf (View.readAt (Elt Ideal) a3.view (⟨![o, 0], S64x128.size, ![64, 1], inb3⟩ : LoadRect S4096x128) (h3.unread x))
        (broadcastTo S64x128 (shapeCast S1x128 (View.readAt (Elt Ideal) a4.view (Rect.unit (s := S1x32x128) ![0, c, 0] S1x1x128.size inb4).toLoadRect (h4.unread p)) s1) bc))
        hb) s2 : FVec Ideal S64x128 .bf16) k
      = spread x p ((Rect.unit (s := S128x4096) ![r, q] S64x128.size inb).emb k) := by
  intro k
  have e3 (j : S64x128.Idx) : View.readAt (Elt Ideal) a3.view (⟨![o, 0], S64x128.size, ![64, 1], inb3⟩ : LoadRect S4096x128) (h3.unread x) j
      = x (ix2 (n0 := 4096) (n1 := 128) ⟨o + 64 * (j 0).val, by have := (j 0).isLt; change _ < 64 at this; omega⟩ (j 1)) := by
    rw [View.readAt_apply, h3.read_unread]
    refine congrArg x (funext fun a => ?_)
    match a with
    | ⟨0, _⟩ => exact Fin.ext rfl
    | ⟨1, _⟩ => exact Fin.ext (show 0 + 1 * (j 1).val = (j 1).val by omega)
  have e4 (j : S1x1x128.Idx) : View.readAt (Elt Ideal) a4.view (Rect.unit (s := S1x32x128) ![0, c, 0] S1x1x128.size inb4).toLoadRect (h4.unread p) j
      = p (ix3 (n1 := 32) (n2 := 128) 0 ⟨c, hc⟩ (j 2)) := by
    rw [View.readAt_apply, h4.read_unread]
    refine congrArg p (ext3 ?_ ?_ ?_)
    · have := (j 0).isLt
      change _ < 1 at this
      show 0 + 1 * (j 0).val = 0
      omega
    · have := (j 1).isLt
      change _ < 1 at this
      show c + 1 * (j 1).val = c
      omega
    · show 0 + 1 * (j 2).val = (j 2).val
      omega
  generalize View.readAt (Elt Ideal) a3.view _ _ = u at e3 ⊢
  generalize View.readAt (Elt Ideal) a4.view _ _ = v at e4 ⊢
  idx_vars k
  pointwise
  rw [e3, e4]
  have hk := k1.isLt
  have hk0 := k0.isLt
  refine congrArg₂ (fun a b : EReal => a + b) (congrArg x ?_) (congrArg p (ext3 rfl ?_ ?_))
  · funext a
    match a with
    | ⟨0, _⟩ =>
      refine Fin.ext ?_
      show o + 64 * k0.val = 64 * ((r + 1 * k0.val) % 64) + 32 * ((r + 1 * k0.val) / 64) + (q + 1 * k1.val) / 128
      omega
    | ⟨1, _⟩ =>
      refine Fin.ext ?_
      show k1.val = (q + 1 * k1.val) % 128
      omega
  · show c = (q + 1 * k1.val) / 128
    omega
  · show k1.val = (q + 1 * k1.val) % 128
    omega

/-- The 64 stores leave the scratch. -/
theorem pieces_ok (c : Dev nD) : ∀ w ∈ kernelRun0_A.sl.HS0_64 (F := Ideal) c a3 h3 a4 h4 x p, ∀ k, w.2 k = spread x p (w.1.emb k) := by
  unfold kernelRun0_A.sl.HS0_64
  iterate 64 refine List.forall_mem_cons.2 ⟨piece_at a3 h3 a4 h4 x p (by decide) _ _ _ _ _ _ (by decide) (by decide) (by decide) (by decide), ?_⟩
  exact fun _ h => absurd h List.not_mem_nil

theorem pieces_cover (c : Dev nD) (y : S128x4096.Idx) : ∃ w ∈ kernelRun0_A.sl.HS0_64 (F := Ideal) c a3 h3 a4 h4 x p, y ∈ w.1.set :=
  View.cover_of_tiledL (kernelRun0_A.sl.HS0_64 (F := Ideal) c a3 h3 a4 h4 x p) S64x128.size (by sl_kernel_rfl) y

theorem scratch_eq (c : Dev nD) (a7 : Memref sig .tc .vmem S128x4096 .bf16) : kernelRun0_A.sl.v514 (F := Ideal) c a3 h3 a4 h4 a7 x p = spread x p := by
  unfold kernelRun0_A.sl.v514 View.readCov
  have hp := pieces_ok a3 h3 a4 h4 x p c
  have hc := pieces_cover a3 h3 a4 h4 x p c
  generalize kernelRun0_A.sl.HS0_64 (F := Ideal) c a3 h3 a4 h4 x p = L at hp hc ⊢
  funext j
  rw [View.readAt_apply]
  refine (View.read_writes_apply_of_pieces a7.view a7.view.junk (spread x p) L hp _ (hc _)).trans (congrArg (spread x p) ?_)
  funext a
  match a with
  | ⟨0, _⟩ => exact Fin.ext (show 0 + 1 * (j 0).val = (j 0).val by omega)
  | ⟨1, _⟩ => exact Fin.ext (show 0 + 1 * (j 1).val = (j 1).val by omega)

/-- The stored block: the scratch times the weight. -/
def compressed (w : (⟨3, ![1, 4096, 128]⟩ : Shape).Idx → EReal) : (⟨5, ![1, 1, 1, 128, 128]⟩ : Shape).Idx → EReal := fun i =>
  ∑ k, spread x p (ix2 (n0 := 128) (i 3) k) * w (ix3 (n2 := 128) 0 k (i 4))

theorem payload_eq (w : (⟨3, ![1, 4096, 128]⟩ : Shape).Idx → EReal) : k0_pay1 (F := Ideal) (k0_pay106 (k0_pay2 w) (spread x p)) = compressed x p w := by
  unfold compressed
  generalize spread x p = z
  funext i
  idx_vars i
  pointwise [k0_pay1, k0_pay106, k0_pay2]

/-- What the body leaves in the output's buffer. -/
theorem block_eq (c : Dev nD) (i : grid0.Coords) (a5 : Memref sig .tc .vmem S1x4096x128 .bf16) (h5 : a5.IsWhole)
    (a6 : Memref sig .tc .vmem S1x1x1x128x128 .bf16) (h6 : a6.IsWhole) (a7 : Memref sig .tc .vmem S128x4096 .bf16) (h7 : a7.IsWhole)
    (w : (⟨3, ![1, 4096, 128]⟩ : Shape).Idx → EReal) :
    out0_A_3 (F := Ideal) c i a3 h3 a4 h4 a5 h5 a6 h6 a7 h7 x p w = compressed x p w := by
  have hp : ∀ q ∈ (kernelRun0_A (F := Ideal) c i a3 h3 a4 h4 a5 h5 a6 h6 a7 h7 x p w).1, ∀ k, q.2 k = compressed x p w (q.1.emb k) := by
    dsimp only [kernelRun0_A]
    have hw : kernelRun0_A.sl.r (F := Ideal) c a5 h5 w = k0_pay2 w := by
      unfold kernelRun0_A.sl.r
      rw [View.readAt_eq_ld, h5.read_unread, View.ld_unit_zero (funext fun a => by fin_cases a <;> rfl)]
    unfold kernelRun0_A.sl.r_20
    rw [scratch_eq, hw, payload_eq]
    refine List.forall_mem_cons.2 ⟨fun k => congrArg (compressed x p w) ?_, fun _ h => absurd h List.not_mem_nil⟩
    funext a
    match a with
    | ⟨0, _⟩ => exact Fin.ext (show (k 0).val = 0 + 1 * (k 0).val by omega)
    | ⟨1, _⟩ => exact Fin.ext (show (k 1).val = 0 + 1 * (k 1).val by omega)
    | ⟨2, _⟩ => exact Fin.ext (show (k 2).val = 0 + 1 * (k 2).val by omega)
    | ⟨3, _⟩ => exact Fin.ext (show (k 3).val = 0 + 1 * (k 3).val by omega)
    | ⟨4, _⟩ => exact Fin.ext (show (k 4).val = 0 + 1 * (k 4).val by omega)
  have hc := cover0_A_3 (F := Ideal) c i a3 h3 a4 h4 a5 h5 a6 h6 a7 h7 x p w
  unfold out0_A_3
  generalize (kernelRun0_A (F := Ideal) c i a3 h3 a4 h4 a5 h5 a6 h6 a7 h7 x p w).1 = L at hp hc ⊢
  exact funext fun j => View.read_writes_apply_of_pieces VO0_3 VO0_3.junk (compressed x p w) L hp j (hc j)

end Cert.CompressIdeal.Hand

end
-- ==== Proof.Compress.Value.lean ====
/-
  The compression of the prompt's keys and values as a whole: the blocks of the grid's eight points tile the kernel's
  array, which is one function of the arguments, and the reference's result is that function.
-/
module

public import proofs.«01_k».proof.Proof.Compress.Block
public import proofs.«01_k».proof.Proof.Projection.Blocks
public import proofs.«01_k».proof.Proof.Gen.CompressReferenceIdeal.Read

@[expose] public section

set_option maxRecDepth 16384

noncomputable section

open Idealize.ShloMosaic Idealize.ShloMosaic.TcCoe Idealize.ShloMosaic.Tactic Idealize.SL.Sem
open Cert.Projection

namespace Cert.CompressIdeal.Hand

open Cert.CompressIdeal Cert.CompressIdeal.Gen

variable (m : (ℓ : Loc nD τ sig) → Buf (Elt Ideal) ℓ)

/-- The compressed keys and values of projected columns `x`, position embeddings `p` and weights `w`, the last two with
    one row and one matrix for keys and one for values. -/
def summary (x : Mat 8192 512) (p : (⟨3, ![2, 32, 128]⟩ : Shape).Idx → EReal) (w : (⟨3, ![2, 4096, 128]⟩ : Shape).Idx → EReal)
    (b k h : Fin 2) (r e : Fin 128) : EReal :=
  ∑ n : Fin 4096, (x (ix2 ⟨b.val * 4096 + token r n, by have := token_lt r.isLt n.isLt; omega⟩ ⟨(k.val * 2 + h.val) * 128 + n.val % 128, by omega⟩)
    + p (ix3 k ⟨n.val / 128, by omega⟩ ⟨n.val % 128, by omega⟩)) * w (ix3 k n e)

/-- The same as an array. -/
def summaries (x : Mat 8192 512) (p : (⟨3, ![2, 32, 128]⟩ : Shape).Idx → EReal) (w : (⟨3, ![2, 4096, 128]⟩ : Shape).Idx → EReal) :
    (⟨5, ![2, 2, 2, 128, 128]⟩ : Shape).Idx → EReal := fun i => summary x p w (i 0) (i 1) (i 2) (i 3) (i 4)

/-- The grid runs over sequence, key or value, and head, the head fastest. -/
theorem index_at : ∀ t : Fin cfg0.N, win0_0.index t 0 = t.val / 4 ∧ win0_0.index t 1 = t.val % 4
      ∧ win0_1.index t 0 = t.val / 2 % 2 ∧ win0_1.index t 1 = 0 ∧ win0_1.index t 2 = 0
      ∧ win0_2.index t 0 = t.val / 2 % 2 ∧ win0_2.index t 1 = 0 ∧ win0_2.index t 2 = 0
      ∧ win0_3.index t 0 = t.val / 4 ∧ win0_3.index t 1 = t.val / 2 % 2 ∧ win0_3.index t 2 = t.val % 2
      ∧ win0_3.index t 3 = 0 ∧ win0_3.index t 4 = 0 :=
  (by decide +kernel : ∀ t : Fin grid0.N, win0_0.index t 0 = t.val / 4 ∧ win0_0.index t 1 = t.val % 4
      ∧ win0_1.index t 0 = t.val / 2 % 2 ∧ win0_1.index t 1 = 0 ∧ win0_1.index t 2 = 0
      ∧ win0_2.index t 0 = t.val / 2 % 2 ∧ win0_2.index t 1 = 0 ∧ win0_2.index t 2 = 0
      ∧ win0_3.index t 0 = t.val / 4 ∧ win0_3.index t 1 = t.val / 2 % 2 ∧ win0_3.index t 2 = t.val % 2
      ∧ win0_3.index t 3 = 0 ∧ win0_3.index t 4 = 0)

/-- A grid point's block, of the blocks it reads, is its part of the whole array. -/
theorem compressed_block (c : Dev nD) (t : Fin cfg0.N) (j : (⟨5, ![1, 1, 1, 128, 128]⟩ : Shape).Idx) :
    compressed (iblk m c 0 t) (iblk m c 1 t) (iblk m c 2 t) j
      = summaries (V m c main_arg0) (V m c main_v3) (V m c main_v2) ((win0_3.rect t).emb j) := by
  obtain ⟨a0, a1, b0, b1, b2, c0, c1, c2, d0, d1, d2, d3, d4⟩ := index_at t
  have ht : t.val < 8 := lt_of_lt_of_eq t.isLt N_0
  have j0 : (j 0).val < 1 := (j 0).isLt
  have j1 : (j 1).val < 1 := (j 1).isLt
  have j2 : (j 2).val < 1 := (j 2).isLt
  have o0 : (((win0_3.rect t).emb j) 0).val = t.val / 4 := by
    show win0_3.index t 0 * 1 + 1 * (j 0).val = _
    rw [d0]; omega
  have o1 : (((win0_3.rect t).emb j) 1).val = t.val / 2 % 2 := by
    show win0_3.index t 1 * 1 + 1 * (j 1).val = _
    rw [d1]; omega
  have o2 : (((win0_3.rect t).emb j) 2).val = t.val % 2 := by
    show win0_3.index t 2 * 1 + 1 * (j 2).val = _
    rw [d2]; omega
  have o3 : ((win0_3.rect t).emb j) 3 = j 3 := Fin.ext (by
    show win0_3.index t 3 * 128 + 1 * (j 3).val = _
    rw [d3]; omega)
  have o4 : ((win0_3.rect t).emb j) 4 = j 4 := Fin.ext (by
    show win0_3.index t 4 * 128 + 1 * (j 4).val = _
    rw [d4]; omega)
  unfold compressed summaries summary spread
  refine Finset.sum_congr rfl fun n _ => congrArg₂ (fun p q : EReal => p * q) (congrArg₂ (fun p q : EReal => p + q) ?_ ?_) ?_
  · refine congrArg (V m c main_arg0) (ext2 ?_ ?_)
    · show win0_0.index t 0 * 4096 + 1 * token (j 3) n = (((win0_3.rect t).emb j) 0).val * 4096 + token (((win0_3.rect t).emb j) 3) n
      rw [a0, o0, o3]; omega
    · show win0_0.index t 1 * 128 + 1 * (n.val % 128) = ((((win0_3.rect t).emb j) 1).val * 2 + (((win0_3.rect t).emb j) 2).val) * 128 + n.val % 128
      rw [a1, o1, o2]; omega
  · refine congrArg (V m c main_v3) (ext3 ?_ ?_ ?_)
    · show win0_1.index t 0 * 1 + 1 * 0 = (((win0_3.rect t).emb j) 1).val
      rw [b0, o1]; omega
    · show win0_1.index t 1 * 32 + 1 * (n.val / 128) = n.val / 128
      rw [b1]; omega
    · show win0_1.index t 2 * 128 + 1 * (n.val % 128) = n.val % 128
      rw [b2]; omega
  · refine congrArg (V m c main_v2) (ext3 ?_ ?_ ?_)
    · show win0_2.index t 0 * 1 + 1 * 0 = (((win0_3.rect t).emb j) 1).val
      rw [c0, o1]; omega
    · show win0_2.index t 1 * 4096 + 1 * n.val = n.val
      rw [c1]; omega
    · show win0_2.index t 2 * 128 + 1 * (j 4).val = (((win0_3.rect t).emb j) 4).val
      rw [c2, o4]; omega

theorem flushed_eq (c : Dev nD) (t : Fin cfg0.N) : (dats m 0 c).flushed 3 t
    = (win0_3.blk t).view.read (Elt Ideal) (summaries (V m c main_arg0) (V m c main_v3) (V m c main_v2)) := by
  rw [Cert.CompressIdeal.Value.flushed3_A, block_eq]
  refine funext (fun j => ?_)
  exact compressed_block m c t j

/-- The result's blocks tile its array. -/
theorem cover (i : S2x2x2x128x128.Idx) : ∃ t : Fin cfg0.N, (cfg0.win 3).flush t = true ∧ i ∈ ((cfg0.win 3).blk t).view.set := by
  have h0 : (i 0).val < 2 := (i 0).isLt
  have h1 : (i 1).val < 2 := (i 1).isLt
  have h2 : (i 2).val < 2 := (i 2).isLt
  have ht : (i 0).val * 4 + (i 1).val * 2 + (i 2).val < cfg0.N := by show _ < grid0.N; rw [N_0]; omega
  refine ⟨⟨_, ht⟩, flush0_3 _, ?_⟩
  show i ∈ ((View.whole main_v4).slice (win0_3.rect ⟨(i 0).val * 4 + (i 1).val * 2 + (i 2).val, ht⟩)).set
  rw [View.set_slice_whole, Rect.mem_set_unit]
  obtain ⟨-, -, -, -, -, -, -, -, e0, e1, e2, e3, e4⟩ := index_at ⟨(i 0).val * 4 + (i 1).val * 2 + (i 2).val, ht⟩
  intro a
  match a with
  | ⟨0, _⟩ => exact in_tile (Nat.succ_pos 0) (e0.trans (by show _ = (i 0).val / 1; simp only []; omega))
  | ⟨1, _⟩ => exact in_tile (Nat.succ_pos 0) (e1.trans (by show _ = (i 1).val / 1; simp only []; omega))
  | ⟨2, _⟩ => exact in_tile (Nat.succ_pos 0) (e2.trans (by show _ = (i 2).val / 1; simp only []; omega))
  | ⟨3, _⟩ => exact in_axis (i 3).isLt e3
  | ⟨4, _⟩ => exact in_axis (i 4).isLt e4

/-! ## The reference -/

open Cert.CompressReferenceIdeal.Read

variable (x : Mat 8192 512) (p : (⟨4, ![1, 2, 32, 128]⟩ : Shape).Idx → EReal) (w : (⟨5, ![1, 2, 32, 128, 128]⟩ : Shape).Idx → EReal)

/-- The sum over 32 tokens of 128 lanes as one sum of 4096 terms. -/
theorem sum_by_token (f : Fin 4096 → EReal) :
    ∑ n, f n = ∑ a : Fin 32, ∑ d : Fin 128, f ⟨d.val + 128 * a.val, by omega⟩ :=
  ((finProdFinEquiv (m := 32) (n := 128)).sum_comp f).symm.trans (Fintype.sum_prod_type _)

/-- Block `q` of the reference's products: its tokens with the position embedding added, against the weights. -/
def blockSum (b k : Fin 2) (q : Fin 128) (h : Fin 2) (e : Fin 128) : EReal :=
  ∑ a : Fin 32, ∑ d : Fin 128, (x (ix2 ⟨b.val * 4096 + (q.val * 32 + a.val), by omega⟩ ⟨k.val * 256 + h.val * 128 + d.val, by omega⟩)
    + p (ix4 0 k a d)) * w (ix5 0 k a d e)

theorem keys_eq (b : Fin 2) (q : Fin 128) (h : Fin 2) (e : Fin 128) :
    val_main_v11 (F := Ideal) x p w (ix4 b q h e) = blockSum x p w b 0 q h e := by
  unfold val_main_v11 blockSum val_main_v10 val_main_v9 val_main_v8 val_main_v7 val_main_v6 val_main_v5 val_main_v4 val_main_v3 val_main_v2
    val_main_v1 val_main_v0
  pointwise

theorem values_eq (b : Fin 2) (q : Fin 128) (h : Fin 2) (e : Fin 128) :
    val_main_v25 (F := Ideal) x p w (ix4 b q h e) = blockSum x p w b 1 q h e := by
  unfold val_main_v25 blockSum val_main_v24 val_main_v23 val_main_v22 val_main_v21 val_main_v20 val_main_v19 val_main_v18 val_main_v17 val_main_v16
    val_main_v15 val_main_v0
  pointwise

/-- Row `r` of a summary is block `q` of the products, where the even blocks come before the odd ones. -/
theorem summary_eq (b k h : Fin 2) (r e q : Fin 128) (hq : q.val = 2 * (r.val % 64) + r.val / 64) :
    summary x (shapeCast S2x32x128 p shapeCasts_S1x2x32x128_S2x32x128)
        (truncf (F := Ideal) .bf16 (shapeCast S2x4096x128 (shapeCast S2x32x128x128 w shapeCasts_S1x2x32x128x128_S2x32x128x128)
          shapeCasts_S2x32x128x128_S2x4096x128) bitsLt_bf16_f32) b k h r e
      = blockSum x p w b k q h e := by
  have hp (a : Fin 32) (d : Fin 128) : shapeCast S2x32x128 p shapeCasts_S1x2x32x128_S2x32x128 (ix3 k a d) = p (ix4 0 k a d) := by
    pointwise
  have hw (n : Fin 4096) : truncf (F := Ideal) .bf16 (shapeCast S2x4096x128 (shapeCast S2x32x128x128 w shapeCasts_S1x2x32x128x128_S2x32x128x128)
      shapeCasts_S2x32x128x128_S2x4096x128) bitsLt_bf16_f32 (ix3 k n e) = w (ix5 0 k ⟨n.val / 128, by omega⟩ ⟨n.val % 128, by omega⟩ e) := by
    pointwise
  unfold summary blockSum
  rw [sum_by_token]
  refine Finset.sum_congr rfl fun a _ => Finset.sum_congr rfl fun d _ => ?_
  rw [hp, hw]
  have ha : (d.val + 128 * a.val) / 128 = a.val := by omega
  have hd : (d.val + 128 * a.val) % 128 = d.val := by omega
  refine congrArg₂ (fun s t : EReal => s * t) (congrArg₂ (fun s t : EReal => s + t) (congrArg x (ext2 ?_ ?_)) ?_) ?_
  · show b.val * 4096 + token r.val (d.val + 128 * a.val) = b.val * 4096 + (q.val * 32 + a.val)
    unfold token; omega
  · show (k.val * 2 + h.val) * 128 + (d.val + 128 * a.val) % 128 = k.val * 256 + h.val * 128 + d.val
    omega
  · simp only [ha, hd]
  · simp only [ha, hd]

/-- The reference's result is the summaries of its arguments. -/
theorem reference_eq : summaries x (shapeCast S2x32x128 p shapeCasts_S1x2x32x128_S2x32x128)
        (truncf (F := Ideal) .bf16 (shapeCast S2x4096x128 (shapeCast S2x32x128x128 w shapeCasts_S1x2x32x128x128_S2x32x128x128)
          shapeCasts_S2x32x128x128_S2x4096x128) bitsLt_bf16_f32)
      = val_main_v33 (F := Ideal) x p w := by
  funext i
  idx_vars i
  refine (summary_eq x p w i0 i1 i2 i3 i4 ⟨2 * (i3.val % 64) + i3.val / 64, by omega⟩ rfl).trans ?_
  have hk := keys_eq x p w i0
  have hv := values_eq x p w i0
  unfold val_main_v33 val_main_v32 val_main_v31 val_main_v30 val_main_v29 val_main_v28 val_main_v27 val_main_v26 val_main_v14 val_main_v13 val_main_v12
  generalize val_main_v11 (F := Ideal) x p w = y at hk ⊢
  generalize val_main_v25 (F := Ideal) x p w = z at hv ⊢
  pointwise
  simp only [hk, hv]
  have key (k : Fin 2) (q : Fin 128) (h1 : i1.val = k.val) (h3 : 2 * (i3.val % 64) + i3.val / 64 = q.val) :
      blockSum x p w i0 i1 ⟨2 * (i3.val % 64) + i3.val / 64, by omega⟩ i2 i4 = blockSum x p w i0 k q i2 i4 :=
    congrArg₂ (fun k q => blockSum x p w i0 k q i2 i4) (Fin.ext h1) (Fin.ext h3)
  by_cases h1 : i1.val < 1 <;> by_cases h3 : i3.val < 64 <;> simp only [h1, h3, ↓reduceDIte]
  · exact key 0 _ (by omega) (by show 2 * (i3.val % 64) + i3.val / 64 = 2 * i3.val; omega)
  · exact key 0 _ (by omega) (by show 2 * (i3.val % 64) + i3.val / 64 = 1 + 2 * (i3.val - 64); omega)
  · exact key 1 _ (by omega) (by show 2 * (i3.val % 64) + i3.val / 64 = 2 * i3.val; omega)
  · exact key 1 _ (by omega) (by show 2 * (i3.val % 64) + i3.val / 64 = 1 + 2 * (i3.val - 64); omega)

theorem final (c : Dev nD) : (dats m 0 c).arrAt 3 cfg0.N = val_main_v33 (F := Ideal) (m ((c : Thread nD τ).loc main_arg0))
    (m ((c : Thread nD τ).loc main_arg1)) (m ((c : Thread nD τ).loc main_arg2)) := by
  have e1 : V m c main_v3 = shapeCast S2x32x128 (m ((c : Thread nD τ).loc main_arg1)) shapeCasts_S1x2x32x128_S2x32x128 := by
    show StableHlo.after hostOps0 (fun b => m (c, b)) main_v3 = _
    after_results <;> rfl
  have e2 : V m c main_v2 = truncf (F := Ideal) .bf16 (shapeCast S2x4096x128 (shapeCast S2x32x128x128 (m ((c : Thread nD τ).loc main_arg2))
      shapeCasts_S1x2x32x128x128_S2x32x128x128) shapeCasts_S2x32x128x128_S2x4096x128) bitsLt_bf16_f32 := by
    show StableHlo.after hostOps0 (fun b => m (c, b)) main_v2 = _
    after_results <;> rfl
  rw [(dats m 0 c).arrAt_eq_of_cover 3 _ (fun t _ => flushed_eq m c t) cover, e1, e2, V_main_arg0]
  exact reference_eq _ _ _

end Cert.CompressIdeal.Hand

end
-- ==== Proof.Compress.Claims.lean ====
/-
  The claims about the compression of the prompt's keys and values: the printed program and its idealization run and
  leave the three arguments, so does the reference, and at the ideal instance the results agree.
-/
module

public import proofs.«01_k».proof.Defs
public import proofs.«01_k».proof.Proof.Gen.Compress.Frame
public import proofs.«01_k».proof.Proof.Gen.CompressReferenceIdeal.Run
public import proofs.«01_k».proof.Proof.Compress.Value
public import Idealize.ShloMosaic.Lib.Quiescent

@[expose] public section

set_option maxRecDepth 16384

noncomputable section

open Idealize.ShloMosaic Idealize.ShloMosaic.TcCoe Idealize.SL.Sem

namespace Cert.CompressIdeal.Claims

theorem frame : Cert.quiescent_Compress := fun m ρ _ => Cert.Compress.Gen.frame m ρ
theorem frame_ideal : Cert.quiescent_CompressIdeal := fun m ρ _ => Cert.CompressIdeal.Gen.frame m ρ
/-- The reference is host operations only: it declares no semaphore. -/
theorem frame_reference : Cert.quiescent_CompressReferenceIdeal := fun m ρ _ =>
  (θ_run Cert.CompressReferenceIdeal.defs _ _).mono
    (fun r h => ⟨fun c => (h c).2, sem_eq_zero_of_no_sems (by decide) r.2⟩)
    (Cert.CompressReferenceIdeal.Value.run m ρ)

theorem preserves : Cert.preserves_Compress_CompressIdeal := trivial

open Cert.CompressReferenceIdeal.Read Cert.CompressIdeal.Hand in
/-- At the ideal instance both end with the reference's stage of arguments that agree. -/
theorem algebraic : Cert.algebraic_CompressIdeal_CompressReferenceIdeal := by
  intro m ρ m' ρ' _ hagree
  refine ⟨fun c => val_main_v33 (F := Ideal) (m ((c.tc : Thread _ _).loc Cert.CompressIdeal.main_arg0))
    (m ((c.tc : Thread _ _).loc Cert.CompressIdeal.main_arg1)) (m ((c.tc : Thread _ _).loc Cert.CompressIdeal.main_arg2)), ?_, ?_⟩
  · exact (θ_run Cert.CompressIdeal.defs _ _).mono (fun _ h c => ⟨(h c).1.trans (final m c), (h c).2⟩)
      (Cert.CompressIdeal.Value.run_blocks m ρ)
  refine (θ_run Cert.CompressReferenceIdeal.defs _ _).mono (fun r h c => ?_) (Cert.CompressReferenceIdeal.Value.run m' ρ')
  refine ⟨(h c).1.trans ((val_main_v33_eq m' c).trans ?_), (h c).2⟩
  obtain ⟨e0, e1, e2⟩ := hagree c
  rw [e0, e1, e2]

end Cert.CompressIdeal.Claims

end
-- ==== Proof.Fox.Softmax.lean ====
/-
  The softmax of one row taken tile by tile, free of any program. The row has logits `x`, `⊥` where masked, and values
  `v`. A running maximum, a running sum of exponentials and a running weighted sum are kept, both sums relative to the
  running maximum and rescaled whenever it moves. After all keys their quotient is the row's softmax applied to the
  values, also where the softmax is taken of logits that are all moved by one real number. Logits and values are any
  extended reals.
-/
module

public import Idealize.ShloMosaic.Lib.IdealHost
public import Mathlib.Data.EReal.Operations
public import Mathlib.Data.EReal.Inv

@[expose] public section

noncomputable section

open Idealize.ShloMosaic

namespace Cert.Softmax

/-- The exponential of a logit other than `⊤` relative to `M`. -/
def weight (x : EReal) (M : ℝ) : ℝ := if x = ⊥ then 0 else Real.exp (x.toReal - M)

/-- A maximum to subtract: 0 in place of `⊥`. -/
def safe (M : EReal) : EReal := if M = ⊥ then 0 else M

/-- The greatest of finitely many logits. -/
def top {n : ℕ} (x : Fin n → EReal) : EReal := Finset.univ.fold max ⊥ x

theorem weight_nonneg (x : EReal) (M : ℝ) : 0 ≤ weight x M := by
  unfold weight; split
  · exact le_rfl
  · exact (Real.exp_pos _).le

theorem weight_self (M : ℝ) : weight (M : EReal) M = 1 := by
  unfold weight
  rw [if_neg (EReal.coe_ne_bot M), EReal.toReal_coe, sub_self, Real.exp_zero]

theorem exp_sub_coe {x : EReal} (h : x ≠ ⊤) (M : ℝ) : Ideal.exp (x - (M : EReal)) = ((weight x M : ℝ) : EReal) := by
  unfold weight
  induction x using EReal.rec with
  | bot => rw [EReal.bot_sub, Ideal.exp_bot, if_pos rfl, EReal.coe_zero]
  | coe r => rw [← EReal.coe_sub, Ideal.exp_coe, if_neg (EReal.coe_ne_bot r), EReal.toReal_coe]
  | top => exact absurd rfl h

theorem exp_sub_top (x : EReal) : Ideal.exp (x - ⊤) = 0 := by rw [EReal.sub_top, Ideal.exp_bot]

/-- Moving a logit by `t` and taking another maximum rescales its weight. -/
theorem weight_move {x : EReal} (h : x ≠ ⊤) (t M M' : ℝ) : weight (x + t) M' = Real.exp (M + t - M') * weight x M := by
  unfold weight
  induction x using EReal.rec with
  | bot => rw [EReal.bot_add, if_pos rfl, if_pos rfl, mul_zero]
  | coe r =>
    rw [← EReal.coe_add, if_neg (EReal.coe_ne_bot _), if_neg (EReal.coe_ne_bot _), EReal.toReal_coe, EReal.toReal_coe, ← Real.exp_add]
    congr 1; ring
  | top => exact absurd rfl h

theorem safe_coe (M : ℝ) : safe (M : EReal) = M := if_neg (EReal.coe_ne_bot M)
theorem safe_top : safe ⊤ = ⊤ := if_neg (by decide)
theorem safe_bot : safe ⊥ = 0 := if_pos rfl

theorem coe_sum {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- A nonnegative real factor goes into a sum of extended reals. -/
theorem mul_sum {ι : Type} (S : Finset ι) {c : ℝ} (hc : 0 ≤ c) (f : ι → EReal) : (c : EReal) * ∑ i ∈ S, f i = ∑ i ∈ S, (c : EReal) * f i := by
  classical
  induction S using Finset.induction_on with
  | empty => simp
  | insert a S ha ih =>
    rw [Finset.sum_insert ha, Finset.sum_insert ha, ← ih,
      EReal.left_distrib_of_nonneg_of_ne_top (by exact_mod_cast hc) (EReal.coe_ne_top c)]

theorem le_top {n : ℕ} (x : Fin n → EReal) (c : Fin n) : x c ≤ top x := Finset.le_sup (f := x) (Finset.mem_univ c)

/-- The greatest of several logits is one of them. -/
theorem top_mem {n : ℕ} (x : Fin n → EReal) (h : 0 < n) : ∃ c, top x = x c := by
  obtain ⟨c, -, hc⟩ := Finset.exists_mem_eq_sup Finset.univ ⟨⟨0, h⟩, Finset.mem_univ _⟩ x
  exact ⟨c, hc⟩

variable (x v : ℕ → EReal)

/-- The running sums relative to a real maximum. -/
def total (K : ℕ) (M : ℝ) : ℝ := ∑ j ∈ Finset.range K, weight (x j) M
def weighted (K : ℕ) (M : ℝ) : EReal := ∑ j ∈ Finset.range K, ((weight (x j) M : ℝ) : EReal) * v j

/-- What the running maximum `m`, sum `l` and weighted sum `a` are after the first `K` keys. -/
def Running (K : ℕ) (m l a : EReal) : Prop :=
  (m = ⊥ ∧ (∀ j < K, x j = ⊥) ∧ l = 0 ∧ a = 0) ∨ (m = ⊤ ∧ (∃ j < K, x j = ⊤) ∧ l = 0 ∧ a = 0) ∨
  ∃ M : ℝ, m = M ∧ (∀ j < K, x j ≠ ⊤) ∧ (∃ j < K, x j = M) ∧ l = ((total x K M : ℝ) : EReal) ∧ a = weighted x v K M

theorem running_start : Running x v 0 ⊥ 0 0 := Or.inl ⟨rfl, fun j h => absurd h (Nat.not_lt_zero j), rfl, rfl⟩

/-- The running maximum after a tile of logits `x`. -/
def newMax {n : ℕ} (m : EReal) (x : Fin n → EReal) : EReal := max m (top x)
/-- The running sum of exponentials after a tile of logits `x`. -/
def newTotal {n : ℕ} (m : EReal) (x : Fin n → EReal) (l : EReal) : EReal :=
  Ideal.exp (m - safe (newMax m x)) * l + ∑ c, Ideal.exp (x c - safe (newMax m x))
/-- The running weighted sum after a tile of logits `x` with values `y`. -/
def newSum {n : ℕ} (m : EReal) (x y : Fin n → EReal) (a : EReal) : EReal :=
  Ideal.exp (m - safe (newMax m x)) * a + ∑ c, Ideal.exp (x c - safe (newMax m x)) * y c

/-- Key `j` of the first `K + n` is one of the first `K` or one of the tile's. -/
theorem split {K n j : ℕ} (h : j < K + n) : j < K ∨ ∃ c : Fin n, j = K + c.val :=
  (lt_or_ge j K).imp id fun h' => ⟨⟨j - K, by omega⟩, by show j = K + (j - K); omega⟩

variable {n K : ℕ}

theorem total_add (M : ℝ) : total x (K + n) M = total x K M + ∑ c : Fin n, weight (x (K + c.val)) M := by
  unfold total
  rw [Finset.sum_range_add, Finset.sum_range (fun i => weight (x (K + i)) M)]

theorem weighted_add (M : ℝ) : weighted x v (K + n) M
    = weighted x v K M + ∑ c : Fin n, ((weight (x (K + c.val)) M : ℝ) : EReal) * v (K + c.val) := by
  unfold weighted
  rw [Finset.sum_range_add, Finset.sum_range (fun i => ((weight (x (K + i)) M : ℝ) : EReal) * v (K + i))]

theorem total_move (h : ∀ j < K, x j ≠ ⊤) (t M M' : ℝ) : total (fun j => x j + t) K M' = Real.exp (M + t - M') * total x K M := by
  unfold total
  rw [Finset.mul_sum]
  exact Finset.sum_congr rfl fun j hj => weight_move (h j (Finset.mem_range.mp hj)) t M M'

theorem weighted_move (h : ∀ j < K, x j ≠ ⊤) (t M M' : ℝ) :
    weighted (fun j => x j + t) v K M' = ((Real.exp (M + t - M') : ℝ) : EReal) * weighted x v K M := by
  unfold weighted
  rw [mul_sum _ (Real.exp_pos _).le]
  exact Finset.sum_congr rfl fun j hj => by rw [weight_move (h j (Finset.mem_range.mp hj)) t M M', EReal.coe_mul, mul_assoc]

/-- One tile more. -/
theorem running_step {m l a : EReal} (hn : 0 < n) (h : Running x v K m l a) :
    Running x v (K + n) (newMax m fun c : Fin n => x (K + c.val)) (newTotal m (fun c : Fin n => x (K + c.val)) l)
      (newSum m (fun c : Fin n => x (K + c.val)) (fun c => v (K + c.val)) a) := by
  obtain ⟨c, hc⟩ := top_mem (fun c : Fin n => x (K + c.val)) hn
  have below (c : Fin n) : x (K + c.val) ≤ newMax m fun c : Fin n => x (K + c.val) :=
    (le_top (fun c : Fin n => x (K + c.val)) c).trans (le_max_right _ _)
  have which : newMax m (fun c : Fin n => x (K + c.val)) = m ∨ newMax m (fun c : Fin n => x (K + c.val)) = x (K + c.val) :=
    (max_choice _ _).imp id fun h => h.trans hc
  have old : m ≤ newMax m fun c : Fin n => x (K + c.val) := le_max_left _ _
  unfold newTotal newSum
  generalize newMax m (fun c : Fin n => x (K + c.val)) = M' at below which old ⊢
  induction M' using EReal.rec with
  | bot =>
    obtain rfl : m = ⊥ := le_bot_iff.mp old
    have tile (c : Fin n) : x (K + c.val) = ⊥ := le_bot_iff.mp (below c)
    rcases h with ⟨-, hb, rfl, rfl⟩ | ⟨h, -⟩ | ⟨M, h, -⟩
    · refine Or.inl ⟨rfl, fun j hj => ?_, ?_, ?_⟩
      · rcases split hj with hj | ⟨c, rfl⟩
        exacts [hb j hj, tile c]
      · simp only [tile, safe_bot, EReal.bot_sub, Ideal.exp_bot, mul_zero, Finset.sum_const_zero, add_zero]
      · simp only [tile, safe_bot, EReal.bot_sub, Ideal.exp_bot, mul_zero, zero_mul, Finset.sum_const_zero, add_zero]
    · exact absurd h (by decide)
    · exact absurd h.symm (EReal.coe_ne_bot M)
  | top =>
    refine Or.inr (Or.inl ⟨rfl, ?_, ?_, ?_⟩)
    · rcases which with e | e
      · subst e
        rcases h with ⟨h, -⟩ | ⟨-, ⟨j, hj, e⟩, -⟩ | ⟨M, h, -⟩
        · exact absurd h (by decide)
        · exact ⟨j, by omega, e⟩
        · exact absurd h.symm (EReal.coe_ne_top M)
      · exact ⟨K + c.val, by omega, e.symm⟩
    · simp only [safe_top, exp_sub_top, zero_mul, Finset.sum_const_zero, add_zero]
    · simp only [safe_top, exp_sub_top, zero_mul, Finset.sum_const_zero, add_zero]
  | coe M' =>
    have fin (c : Fin n) : x (K + c.val) ≠ ⊤ := fun e => EReal.coe_ne_top M' (top_le_iff.mp (e ▸ below c))
    have tile : ∑ c : Fin n, Ideal.exp (x (K + c.val) - (M' : EReal)) = ((∑ c : Fin n, weight (x (K + c.val)) M' : ℝ) : EReal) := by
      rw [← coe_sum]; exact Finset.sum_congr rfl fun c _ => exp_sub_coe (fin c) M'
    have tileV : ∑ c : Fin n, Ideal.exp (x (K + c.val) - (M' : EReal)) * v (K + c.val)
        = ∑ c : Fin n, ((weight (x (K + c.val)) M' : ℝ) : EReal) * v (K + c.val) :=
      Finset.sum_congr rfl fun c _ => by rw [exp_sub_coe (fin c)]
    rw [safe_coe, tile, tileV]
    rcases h with ⟨rfl, hb, rfl, rfl⟩ | ⟨rfl, -⟩ | ⟨M, rfl, hf, ⟨j, hj, e⟩, rfl, rfl⟩
    · have e : x (K + c.val) = M' := (which.resolve_left (EReal.coe_ne_bot M')).symm
      have w (j : ℕ) (hj : j ∈ Finset.range K) : weight (x j) M' = 0 := if_pos (hb j (Finset.mem_range.mp hj))
      have t0 : total x K M' = 0 := Finset.sum_eq_zero w
      have w0 : weighted x v K M' = 0 := Finset.sum_eq_zero fun j hj => by rw [w j hj, EReal.coe_zero, zero_mul]
      refine Or.inr (Or.inr ⟨M', rfl, fun j hj => ?_, ⟨K + c.val, by omega, e⟩, ?_, ?_⟩)
      · rcases split hj with hj | ⟨c, rfl⟩
        · rw [hb j hj]; decide
        · exact fin c
      · rw [mul_zero, total_add, t0, zero_add, zero_add]
      · rw [mul_zero, weighted_add, w0]
    · exact absurd (top_le_iff.mp old) (EReal.coe_ne_top M')
    · have ht := total_move x hf 0 M M'
      have hw := weighted_move x v hf 0 M M'
      simp only [EReal.coe_zero, add_zero] at ht hw
      refine Or.inr (Or.inr ⟨M', rfl, fun j hj => ?_, ?_, ?_, ?_⟩)
      · rcases split hj with hj | ⟨c, rfl⟩
        exacts [hf j hj, fin c]
      · rcases which with e' | e'
        · exact ⟨j, by omega, e.trans e'.symm⟩
        · exact ⟨K + c.val, by omega, e'.symm⟩
      · rw [total_add, ht, ← EReal.coe_sub, Ideal.exp_coe, ← EReal.coe_mul, EReal.coe_add]
      · rw [weighted_add, hw, ← EReal.coe_sub, Ideal.exp_coe]

/-- The softmax of a row of logits against values, the sum kept off zero by `ε`. -/
def attend {N : ℕ} (ε : EReal) (x y : Fin N → EReal) : EReal :=
  ∑ c, Ideal.div (Ideal.exp (x c - safe (top x))) (max (∑ c', Ideal.exp (x c' - safe (top x))) ε) * y c

theorem div_zero_left {y : EReal} (hy : 0 < y) : Ideal.div 0 y = 0 := by
  unfold Ideal.div
  rw [if_neg hy.ne', zero_mul]

theorem div_coe (x : EReal) {y : ℝ} (hy : y ≠ 0) : Ideal.div x (y : EReal) = x * ((y⁻¹ : ℝ) : EReal) := by
  unfold Ideal.div
  rw [if_neg (fun h => hy (EReal.coe_eq_zero.mp h)), ← EReal.coe_inv]

/-- A sum of weights in which the maximum takes part is at least 1. -/
theorem one_le_total {j : ℕ} {M : ℝ} (hj : j < K) (e : x j = M) : 1 ≤ total x K M := by
  refine le_trans ?_ (Finset.single_le_sum (fun i _ => weight_nonneg (x i) M) (Finset.mem_range.mpr hj))
  rw [e, weight_self]

/-- Where every exponential is 0 so is the softmax. -/
theorem attend_zero {N : ℕ} {ε : EReal} (hε : 0 < ε) (x y : Fin N → EReal) (h : ∀ c, Ideal.exp (x c - safe (top x)) = 0) :
    attend ε x y = 0 := by
  unfold attend
  simp only [h, Finset.sum_const_zero, div_zero_left (lt_max_of_lt_right hε), zero_mul]

/-- The quotient of the running sums after the first `K` of `N` keys, the rest masked, is the softmax of all of them. -/
theorem running_result {N : ℕ} {m l a ε : EReal} (t : ℝ) (h0 : 0 < ε) (h1 : ε ≤ 1) (hK : 0 < K) (hKN : K ≤ N)
    (hmask : ∀ j, K ≤ j → x j = ⊥) (h : Running x v K m l a) :
    Ideal.div a (max l ε) = attend ε (fun c : Fin N => x c.val + t) (fun c => v c.val) := by
  have hN : 0 < N := by omega
  rcases h with ⟨-, hb, rfl, rfl⟩ | ⟨-, ⟨j, hj, e⟩, rfl, rfl⟩ | ⟨M, -, hf, ⟨j, hj, e⟩, rfl, rfl⟩
  · rw [div_zero_left (lt_max_of_lt_right h0), attend_zero h0]
    have all (j : ℕ) : x j = ⊥ := (lt_or_ge j K).elim (hb j) (hmask j)
    intro c
    simp only [all, EReal.bot_add]
    rw [EReal.bot_sub, Ideal.exp_bot]
  · rw [div_zero_left (lt_max_of_lt_right h0), attend_zero h0]
    have ht : top (fun c : Fin N => x c.val + t) = ⊤ := by
      refine top_le_iff.mp (le_trans (le_of_eq ?_) (le_top _ ⟨j, by omega⟩))
      show ⊤ = x j + t
      rw [e, EReal.top_add_coe]
    intro c
    rw [ht, safe_top, exp_sub_top]
  · have fin (j : ℕ) : x j ≠ ⊤ := (lt_or_ge j K).elim (hf j) fun h => by rw [hmask j h]; decide
    obtain ⟨c, hc⟩ := top_mem (fun c : Fin N => x c.val + t) hN
    have ge : ((M + t : ℝ) : EReal) ≤ x c.val + t := by
      have := le_top (fun c : Fin N => x c.val + t) ⟨j, by omega⟩
      rw [hc] at this
      refine le_trans (le_of_eq ?_) this
      show _ = x j + t
      rw [e, EReal.coe_add]
    obtain ⟨M', hM⟩ : ∃ M' : ℝ, x c.val + t = M' := by
      have hx := fin c.val
      generalize x c.val = z at hx ge ⊢
      induction z using EReal.rec with
      | bot => rw [EReal.bot_add] at ge; exact absurd (le_bot_iff.mp ge) (EReal.coe_ne_bot _)
      | coe r => exact ⟨r + t, (EReal.coe_add r t).symm⟩
      | top => exact absurd rfl hx
    have finT (j : ℕ) : x j + t ≠ ⊤ := by
      have hx := fin j
      generalize x j = z at hx ⊢
      induction z using EReal.rec with
      | bot => rw [EReal.bot_add]; decide
      | coe r => rw [← EReal.coe_add]; exact EReal.coe_ne_top _
      | top => exact absurd rfl hx
    have restW (j : ℕ) (h : j ∉ Finset.range K) : weight (x j + t) M' = 0 := by
      rw [Finset.mem_range, not_lt] at h
      rw [hmask j h, EReal.bot_add]; exact if_pos rfl
    have hL : total x K M ≠ 0 := by have := one_le_total x hj e; positivity
    have tot : total (fun j => x j + t) N M' = Real.exp (M + t - M') * total x K M := by
      rw [← total_move x hf]
      exact (Finset.sum_subset (Finset.range_mono hKN) fun j _ h => restW j h).symm
    have wtd : weighted (fun j => x j + t) v N M' = ((Real.exp (M + t - M') : ℝ) : EReal) * weighted x v K M := by
      rw [← weighted_move x v hf]
      exact (Finset.sum_subset (Finset.range_mono hKN) fun j _ h => by rw [restW j h, EReal.coe_zero, zero_mul]).symm
    have hL' : total (fun j => x j + t) N M' ≠ 0 := by rw [tot]; exact mul_ne_zero (Real.exp_ne_zero _) hL
    have max1 {L : ℝ} (h : 1 ≤ L) : max (L : EReal) ε = L := max_eq_left (h1.trans (by exact_mod_cast h))
    unfold attend
    simp only [hc, hM, safe_coe, fun c : Fin N => exp_sub_coe (finT c.val) M']
    rw [coe_sum, ← Finset.sum_range (fun j => weight (x j + t) M'), max1 (one_le_total x hj e),
      show ∑ j ∈ Finset.range N, weight (x j + t) M' = total (fun j => x j + t) N M' from rfl,
      max1 (one_le_total (fun j => x j + t) c.isLt hM), div_coe _ hL]
    simp only [fun c : Fin N => div_coe ((weight (x c.val + t) M' : ℝ) : EReal) hL']
    have inv_nonneg' : 0 ≤ (total (fun j => x j + t) N M')⁻¹ :=
      inv_nonneg.mpr (Finset.sum_nonneg fun j _ => weight_nonneg _ _)
    have pull : ∑ c : Fin N, ((weight (x c.val + t) M' : ℝ) : EReal) * (((total (fun j => x j + t) N M')⁻¹ : ℝ) : EReal) * v c.val
        = (((total (fun j => x j + t) N M')⁻¹ : ℝ) : EReal) * weighted (fun j => x j + t) v N M' := by
      unfold weighted
      rw [mul_sum _ inv_nonneg', Finset.sum_range (fun j => (((total (fun j => x j + t) N M')⁻¹ : ℝ) : EReal) * (((weight (x j + t) M' : ℝ) : EReal) * v j))]
      exact Finset.sum_congr rfl fun c _ => by rw [mul_comm ((weight (x c.val + t) M' : ℝ) : EReal), mul_assoc]
    rw [pull, wtd, tot, ← mul_assoc, ← EReal.coe_mul, mul_inv, mul_assoc, mul_comm _ (Real.exp _), ← mul_assoc,
      inv_mul_cancel₀ (Real.exp_ne_zero _), one_mul, mul_comm]

end Cert.Softmax

end
-- ==== Proof.Fox.Spec.lean ====
/-
  The forgetting attention of a whole batch of sequences as one function of its arrays, and the few facts about
  constants and masks that both programs need.
-/
module

public import proofs.«01_k».proof.Proof.Projection.Spec
public import proofs.«01_k».proof.Proof.Fox.Softmax

@[expose] public section

noncomputable section

open Idealize.ShloMosaic Idealize.ShloMosaic.Tactic

namespace Cert.Fox

open Cert.Softmax Cert.Projection Cert.Regrouping

/-- The scale of the logits. -/
abbrev scale : EReal := Ideal.ofBits .f32 0x3DB504F3#32
/-- The smallest denominator. -/
abbrev least : EReal := Ideal.ofBits .f32 0x0DA24260#32

theorem neg_inf : Ideal.ofBits .f32 0xFF800000#32 = ⊥ := by simp [Ideal.ofBits, Ideal.ieee]
theorem pos_inf : Ideal.ofBits .f32 0x7F800000#32 = ⊤ := by simp [Ideal.ofBits, Ideal.ieee]

theorem least_pos : 0 < least := by
  simp [least, Ideal.ofBits, Ideal.ieee]
  rw [← EReal.coe_mul, EReal.coe_pos]
  positivity

theorem least_le_one : least ≤ 1 := by
  simp [least, Ideal.ofBits, Ideal.ieee]
  rw [← EReal.coe_mul, ← EReal.coe_one, EReal.coe_le_coe_iff]
  norm_num

/-- A mask of two positions compared as words chooses as the positions do. -/
theorem select_le {α : Type} {c r : ℕ} (hc : c < 4096) (hr : r < 4096) (t f : α) :
    Scalar.select (IntOp.cmpi .sle (BitVec.ofNat 32 c) (BitVec.ofNat 32 r)) t f = if c ≤ r then t else f := by
  have e : (BitVec.ofNat 32 c).sle (BitVec.ofNat 32 r) = decide (c ≤ r) := by
    rw [BitVec.sle_eq_decide, BitVec.toInt_ofNat', BitVec.toInt_ofNat']
    rw [Int.bmod_eq_of_le (by omega) (by omega), Int.bmod_eq_of_le (by omega) (by omega)]
    simp
  unfold IntOp.cmpi Scalar.select
  dsimp only
  rw [e]
  by_cases h : c ≤ r <;> simp [h]

/-- The gate `z · sigmoid(z)`. -/
def silu (z : EReal) : EReal := z * Ideal.div 1 (1 + Ideal.exp (0 - z))

/-- The column of a head's entry. -/
abbrev col {H : ℕ} (h : Fin H) (e : Fin 128) : Fin (H * 128) := ⟨h.val * 128 + e.val, by omega⟩
/-- The row of a sequence's position. -/
abbrev row (b : Fin 2) (s : Fin 4096) : Fin 8192 := ⟨b.val * 4096 + s.val, by omega⟩

/-- The logit of a key for a query: the scaled product, moved by the forgetting between the two; `⊥` for later keys. -/
def fullLogit (q : Mat 8192 1024) (kv : Mat 8192 2048) (d : (⟨3, ![16, 1, 4096]⟩ : Shape).Idx → EReal) (b : Fin 2) (h : Fin 8) (s c : Fin 4096) : EReal :=
  if c.val ≤ s.val then
    ((∑ e : Fin 128, q (ix2 (row b s) (col h e)) * kv (ix2 (row b c) (⟨h.val * 128 + e.val, by omega⟩ : Fin 2048))) * scale
      + d (ix3 (n0 := 16) (n1 := 1) (n2 := 4096) ⟨b.val * 8 + h.val, by omega⟩ 0 s)) - d (ix3 (n0 := 16) (n1 := 1) (n2 := 4096) ⟨b.val * 8 + h.val, by omega⟩ 0 c)
  else ⊥

/-- The attention of one query, gated. -/
def attentionAt (q : Mat 8192 1024) (kv : Mat 8192 2048) (d : (⟨3, ![16, 1, 4096]⟩ : Shape).Idx → EReal) (z : Mat 8192 1024) (b : Fin 2) (h : Fin 8) (s : Fin 4096) (e : Fin 128) : EReal :=
  attend least (fullLogit q kv d b h s) (fun c => kv (ix2 (row b c) (⟨(8 + h.val) * 128 + e.val, by omega⟩ : Fin 2048))) * silu (z (ix2 (row b s) (col h e)))

/-- The attention of every query. -/
def attention (q : Mat 8192 1024) (kv : Mat 8192 2048) (d : (⟨3, ![16, 1, 4096]⟩ : Shape).Idx → EReal) (z : Mat 8192 1024) : Mat 8192 1024 := fun i =>
  have h0 : (i 0).val < 8192 := (i 0).isLt
  have h1 : (i 1).val < 1024 := (i 1).isLt
  attentionAt q kv d z ⟨(i 0).val / 4096, by omega⟩ ⟨(i 1).val / 128, by omega⟩ ⟨(i 0).val % 4096, by omega⟩ ⟨(i 1).val % 128, by omega⟩

/-- The array at a row and column, by sequence, token, head and lane. -/
theorem attention_at (q : Mat 8192 1024) (kv : Mat 8192 2048) (d : (⟨3, ![16, 1, 4096]⟩ : Shape).Idx → EReal) (z : Mat 8192 1024) (b : Fin 2) (h : Fin 8) (s : Fin 4096) (e : Fin 128)
    (i : (⟨2, ![8192, 1024]⟩ : Shape).Idx) (h0 : (i 0).val = b.val * 4096 + s.val) (h1 : (i 1).val = h.val * 128 + e.val) :
    attention q kv d z i = attentionAt q kv d z b h s e := by
  have hb : (i 0).val / 4096 = b.val := by omega
  have hs : (i 0).val % 4096 = s.val := by omega
  have hh : (i 1).val / 128 = h.val := by omega
  have he : (i 1).val % 128 = e.val := by omega
  unfold attention
  simp only [hb, hs, hh, he]

end Cert.Fox
-- ==== Proof.Fox.Reference.lean ====
/-
  The plain forgetting attention, stage by stage, is the one function of the arrays.
-/
module

public import proofs.«01_k».proof.Proof.Gen.FoxReferenceIdeal.Read
public import proofs.«01_k».proof.Proof.Fox.Spec

@[expose] public section

set_option maxRecDepth 16384

noncomputable section

open Idealize.ShloMosaic Idealize.ShloMosaic.Tactic

namespace Cert.FoxReferenceIdeal.Hand

open Cert.FoxReferenceIdeal Cert.FoxReferenceIdeal.Read Cert.FoxReferenceIdeal.Gen Cert.Fox Cert.Softmax Cert.Projection Cert.Regrouping

variable (q : Mat 8192 1024) (kv : Mat 8192 2048) (d : (⟨3, ![16, 1, 4096]⟩ : Shape).Idx → EReal) (z : Mat 8192 1024)

theorem keys_at (b : Fin 2) (c : Fin 4096) (h : Fin 8) (e : Fin 128) :
    val_main_v7 (F := Ideal) kv (ix4 b c h e) = kv (ix2 (row b c) (⟨h.val * 128 + e.val, by omega⟩ : Fin 2048)) := by
  unfold val_main_v7 val_main_v1 val_main_v0
  pointwise

theorem values_at (b : Fin 2) (c : Fin 4096) (h : Fin 8) (e : Fin 128) :
    val_main_v8 (F := Ideal) kv (ix4 b c h e) = kv (ix2 (row b c) (⟨(8 + h.val) * 128 + e.val, by omega⟩ : Fin 2048)) := by
  unfold val_main_v8 val_main_v1 val_main_v0
  pointwise

theorem queries_at (b : Fin 2) (s : Fin 4096) (h : Fin 8) (e : Fin 128) :
    val_main_v6 (F := Ideal) q (ix4 b s h e) = q (ix2 (row b s) (col h e)) := by
  unfold val_main_v6 val_main_v5
  pointwise

theorem forget_at (b : Fin 2) (s : Fin 4096) (h : Fin 8) :
    val_main_v3 (F := Ideal) d (ix3 b s h) = d (ix3 (n0 := 16) (n1 := 1) (n2 := 4096) ⟨b.val * 8 + h.val, by omega⟩ 0 s) := by
  unfold val_main_v3 val_main_v2
  pointwise

theorem logits_at (b : Fin 2) (h : Fin 8) (s c : Fin 4096) :
    val_main_v25 (F := Ideal) q kv d (ix4 b h s c) = fullLogit q kv d b h s c := by
  have e1 := keys_at kv
  have e2 := queries_at q
  have e3 := forget_at d
  unfold val_main_v25 val_main_v19 val_main_v18 val_main_v17 val_main_v16 val_main_v15 val_main_v14 val_main_v13 val_main_v12 val_main_v11 val_main_v10 val_main_v9
    val_main_call0_v1 val_main_call0_v2 val_main_call0_v0 val_main_v24 val_main_v23 val_main_v22 val_main_v21 val_main_v20 val_main_v4 val_main_cst val_main_cst_0 fullLogit
  generalize val_main_v7 (F := Ideal) kv = K at e1 ⊢
  generalize val_main_v6 (F := Ideal) q = Q at e2 ⊢
  generalize val_main_v3 (F := Ideal) d = D at e3 ⊢
  pointwise
  simp only [e1, e2, e3]
  rw [select_le c.isLt s.isLt]
  exact if_congr Iff.rfl rfl neg_inf

theorem top_at (b : Fin 2) (h : Fin 8) (s : Fin 4096) :
    val_main_v26 (F := Ideal) q kv d (ix3 b h s) = top (fullLogit q kv d b h s) := by
  have e1 := logits_at q kv d b h s
  unfold val_main_v26 top
  generalize val_main_v25 (F := Ideal) q kv d = x at e1 ⊢
  rw [Host.reduce_eq_fold_single (FloatOps.maximumf (F := Ideal) (φ := .f32)) x _ reducesTo_S2x8x4096x4096_S2x8x4096_d3 (by decide) h_S_]
  refine congrArg₂ (fun (a : EReal) (f : Fin 4096 → EReal) => Finset.univ.fold max a f) neg_inf (funext fun c => ?_)
  rw [← e1 c]
  exact congrArg x (funext fun a => Fin.ext (by match a with | ⟨0, _⟩ => rfl | ⟨1, _⟩ => rfl | ⟨2, _⟩ => rfl | ⟨3, _⟩ => rfl))

theorem safe_at (b : Fin 2) (h : Fin 8) (s : Fin 4096) :
    val_main_v30 (F := Ideal) q kv d (ix4 b h s 0) = safe (top (fullLogit q kv d b h s)) := by
  have e : val_main_v27 (F := Ideal) q kv d (ix4 b h s 0) = top (fullLogit q kv d b h s) := by
    rw [val_main_v27_apply, ← top_at q kv d b h s]
    exact congrArg (val_main_v26 (F := Ideal) q kv d) (funext fun a => Fin.ext (by match a with | ⟨0, _⟩ => rfl | ⟨1, _⟩ => rfl | ⟨2, _⟩ => rfl))
  have e1 : val_main_v28 (F := Ideal) (ix4 b h s 0) = ⊥ := by
    rw [val_main_v28_apply]
    exact neg_inf
  have e2 : val_main_call1_v1 (F := Ideal) (ix4 b h s 0) = 0 := by
    rw [val_main_call1_v1_apply]
    exact Ideal.ofBits_zero_f32
  rw [val_main_v30_apply, val_main_v29_apply, e, e1, e2]
  unfold safe
  generalize top (fullLogit q kv d b h s) = M
  show Scalar.select (BitVec.ofBool (decide (M = ⊥))) 0 M = _
  unfold Scalar.select
  by_cases h : M = ⊥ <;> simp [h]

theorem weights_at (b : Fin 2) (h : Fin 8) (s c : Fin 4096) :
    val_main_v33 (F := Ideal) q kv d (ix4 b h s c) = Ideal.exp (fullLogit q kv d b h s c - safe (top (fullLogit q kv d b h s))) := by
  have e : val_main_v31 (F := Ideal) q kv d (ix4 b h s c) = safe (top (fullLogit q kv d b h s)) := by
    rw [val_main_v31_apply, ← safe_at q kv d b h s]
    exact congrArg (val_main_v30 (F := Ideal) q kv d) (funext fun a => Fin.ext (by match a with | ⟨0, _⟩ => rfl | ⟨1, _⟩ => rfl | ⟨2, _⟩ => rfl | ⟨3, _⟩ => rfl))
  rw [val_main_v33_apply, val_main_v32_apply, e, logits_at]
  rfl

theorem total_at (b : Fin 2) (h : Fin 8) (s : Fin 4096) :
    val_main_v34 (F := Ideal) q kv d (ix3 b h s) = ∑ c, Ideal.exp (fullLogit q kv d b h s c - safe (top (fullLogit q kv d b h s))) := by
  rw [val_main_v34_apply]
  refine (congrArg₂ (fun p q : EReal => p + q) Ideal.ofBits_zero_f32 (Finset.sum_congr rfl fun c _ => ?_)).trans (zero_add _)
  rw [← weights_at q kv d b h s c]
  exact congrArg (val_main_v33 (F := Ideal) q kv d) (funext fun a => Fin.ext (by match a with | ⟨0, _⟩ => rfl | ⟨1, _⟩ => rfl | ⟨2, _⟩ => rfl | ⟨3, _⟩ => rfl))

theorem shares_at (b : Fin 2) (h : Fin 8) (s c : Fin 4096) :
    val_main_v39 (F := Ideal) q kv d (ix4 b h s c) = Ideal.div (Ideal.exp (fullLogit q kv d b h s c - safe (top (fullLogit q kv d b h s))))
      (max (∑ c', Ideal.exp (fullLogit q kv d b h s c' - safe (top (fullLogit q kv d b h s)))) least) := by
  have e1 := weights_at q kv d
  have e2 := total_at q kv d
  unfold val_main_v39 val_main_v38 val_main_v37 val_main_v36 val_main_v35 val_main_cst_5
  generalize val_main_v34 (F := Ideal) q kv d = l at e2 ⊢
  generalize val_main_v33 (F := Ideal) q kv d = w at e1 ⊢
  pointwise
  simp only [e1, e2]

/-- A place of a sequence is where its row and column say. -/
theorem result_at (b : Fin 2) (h : Fin 8) (s : Fin 4096) (e : Fin 128) :
    val_main_v45 (F := Ideal) q kv d z (ix2 (row b s) (col h e)) = attentionAt q kv d z b h s e := by
  have e1 := shares_at q kv d
  have e2 := values_at kv
  unfold val_main_v45 val_main_v44 val_main_v43 val_main_v42 val_main_v41 val_main_v40 val_main_call2_v5 val_main_call2_v4 val_main_call2_v3 val_main_call2_v2 val_main_call2_v1 val_main_call2_v0
    val_main_call2_cst val_main_call2_cst_0 attentionAt attend silu
  generalize val_main_v39 (F := Ideal) q kv d = p at e1 ⊢
  generalize val_main_v8 (F := Ideal) kv = v at e2 ⊢
  pointwise
  have hb : (⟨(b.val * 4096 + s.val) / 4096, by omega⟩ : Fin 2) = b := Fin.ext (by show (b.val * 4096 + s.val) / 4096 = b.val; omega)
  have hs : (⟨(b.val * 4096 + s.val) % 4096, by omega⟩ : Fin 4096) = s := Fin.ext (by show (b.val * 4096 + s.val) % 4096 = s.val; omega)
  have hh : (⟨(h.val * 128 + e.val) / 128, by omega⟩ : Fin 8) = h := Fin.ext (by show (h.val * 128 + e.val) / 128 = h.val; omega)
  have he : (⟨(h.val * 128 + e.val) % 128, by omega⟩ : Fin 128) = e := Fin.ext (by show (h.val * 128 + e.val) % 128 = e.val; omega)
  rw [hb, hs, hh, he]
  simp only [e1, e2, zero_sub]
  refine congrArg (fun p : EReal => p * _) (Finset.sum_congr rfl fun x _ => mul_comm _ _)

/-- The reference's result is the attention of every query. -/
theorem result_eq : val_main_v45 (F := Ideal) q kv d z = attention q kv d z := by
  refine funext (fun i => ?_)
  have h0 : (i 0).val < 8192 := (i 0).isLt
  have h1 : (i 1).val < 1024 := (i 1).isLt
  have e := result_at q kv d z ⟨(i 0).val / 4096, by omega⟩ ⟨(i 1).val / 128, by omega⟩ ⟨(i 0).val % 4096, by omega⟩ ⟨(i 1).val % 128, by omega⟩
  refine Eq.trans (congrArg (val_main_v45 (F := Ideal) q kv d z) (ext2 ?_ ?_)) e
  · show (i 0).val = (i 0).val / 4096 * 4096 + (i 0).val % 4096
    omega
  · show (i 1).val = (i 1).val / 128 * 128 + (i 1).val % 128
    omega

end Cert.FoxReferenceIdeal.Hand
-- ==== Proof.Fox.Trip.lean ====
/-
  The loop over the blocks of keys of one grid point: a trip updates three scratch arrays, and the trip over the last
  block is the one with the causal mask. What the point writes to its output block is stated as a function of the
  blocks it reads.
-/
module

public import proofs.«01_k».proof.Proof.Gen.FoxIdeal.Value
public import proofs.«01_k».proof.Proof.Projection.Spec
public import proofs.«01_k».proof.Proof.Fox.Softmax
public import Idealize.ShloMosaic.Lib.VecWindow

@[expose] public section

set_option maxRecDepth 16384

noncomputable section

open Idealize.ShloMosaic Idealize.ShloMosaic.TcCoe Idealize.ShloMosaic.Tactic Idealize.SL.Sem

namespace Cert.FoxIdeal.Hand

open Cert.FoxIdeal Cert.FoxIdeal.Gen

variable (c : Dev nD) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x1x4096 .f32) (harg6 : arg6.IsWhole) (arg7 : Memref sig .tc .vmem S512x128 .f32) (harg7 : arg7.IsWhole) (arg8 : Memref sig .tc .vmem S512x128 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x128 .f32) (harg11 : arg11.IsWhole)
    (x0 : Vec Ideal S512x128 .bf16) (x1 : Vec Ideal S4096x128 .bf16) (x2 : Vec Ideal S4096x128 .bf16) (x3 : Vec Ideal S1x1x4096 .f32) (x4 : Vec Ideal S512x128 .f32)

/-- Rows `512k …` of a sequence. -/
def rowsAt (x : Vec Ideal S4096x128 .bf16) (k : ℕ) : Vec Ideal S512x128 .bf16 := fun j =>
  x (ix2 (n0 := 4096) (n1 := 128) ⟨(k * 512 + (j 0).val) % 4096, Nat.mod_lt _ (by omega)⟩ (j 1))

/-- Lanes `512k …` of a sequence's row. -/
def lanesAt (x : Vec Ideal S1x1x4096 .f32) (k : ℕ) : Vec Ideal S1x1x512 .f32 := fun j =>
  x (ix3 (n0 := 1) (n1 := 1) (n2 := 4096) 0 0 ⟨(k * 512 + (j 2).val) % 4096, Nat.mod_lt _ (by omega)⟩)

/-- The three scratch arrays: running maximum, running sum, running weighted sum. -/
abbrev Scratch : Type := Vec Ideal S512x1 .f32 × Vec Ideal S512x1 .f32 × Vec Ideal S512x128 .f32

/-- What a trip stores. -/
def stepped (q kt : Vec Ideal S512x128 .bf16) (dt : Vec Ideal S1x1x512 .f32) (vt : Vec Ideal S512x128 .bf16) (s : Scratch) : Scratch :=
  (k0_pay23 (k0_pay4 q kt dt s.1), k0_pay8 q kt dt s.1 s.2.1, k0_pay22 vt (k0_pay9 q kt dt s.1 s.2.2) (k0_pay10 q kt dt s.1))

/-- The scratch arrays after `k` trips. -/
def after (q : Vec Ideal S512x128 .bf16) (x1 x2 : Vec Ideal S4096x128 .bf16) (x3 : Vec Ideal S1x1x4096 .f32) : ℕ → Scratch
  | 0 => (k0_pay19 (F := Ideal), k0_pay20 (F := Ideal), k0_pay21 (F := Ideal))
  | k + 1 => stepped q (rowsAt x1 k) (lanesAt x3 k) (rowsAt x2 k) (after q x1 x2 x3 k)

/-- The first loop runs over the blocks of keys before the point's own. -/
theorem trips1 : (k0_t1_loop i).trips = (i 2).val :=
  (by decide +kernel : ∀ n : Fin 8, Scf.trips (0#32) (Scalar.addi 0#32 (Scalar.muli (Scalar.divsi (Scalar.subi (BitVec.ofNat 32 n.val) 0#32) 1#32) 1#32)) 1#32 = n.val) (i 2)

theorem trips2 : (k0_t2_loop i).trips = 0 :=
  (by decide +kernel : ∀ n : Fin 8, Scf.trips (Scalar.addi 0#32 (Scalar.muli (Scalar.divsi (Scalar.subi (BitVec.ofNat 32 n.val) 0#32) 1#32) 1#32))
    (Scalar.addi 0#32 (Scalar.subi (BitVec.ofNat 32 n.val) 0#32)) 1#32 = 0) (i 2)

/-- The first key of a trip. -/
theorem trip_place : ∀ k : Fin 8, (Scalar.indexCast (Scalar.muli (Scf.iv 0#32 1#32 k.val) 512#32)).toNat = k.val * 512 := by decide +kernel

/-- A trip's window of the keys and of the values. -/
theorem off1 (k : Fin (k0_t1_loop i).trips) : k0_off1 i k = ![k.val * 512, 0] := by
  have hk : k.val < 8 := by have hi : k.val < (i 2).val := lt_of_lt_of_eq k.isLt (trips1 i); have : (i 2).val < 8 := (i 2).isLt; omega
  have e := trip_place ⟨k.val, hk⟩
  funext a
  match a with
  | ⟨0, _⟩ => exact e
  | ⟨1, _⟩ => rfl

/-- A trip's window of the sums of forget logarithms. -/
theorem off2 (k : Fin (k0_t1_loop i).trips) : k0_off2 i k = ![0, 0, k.val * 512] := by
  have hk : k.val < 8 := by have hi : k.val < (i 2).val := lt_of_lt_of_eq k.isLt (trips1 i); have : (i 2).val < 8 := (i 2).isLt; omega
  have e := trip_place ⟨k.val, hk⟩
  funext a
  match a with
  | ⟨0, _⟩ => rfl
  | ⟨1, _⟩ => rfl
  | ⟨2, _⟩ => exact e

/-- The first key of the point's own block. -/
theorem last_place : ∀ n : Fin 8, (Scalar.indexCast (Scalar.muli (BitVec.ofNat 32 n.val) 512#32)).toNat = n.val * 512 := by decide +kernel

/-- The last block's window of the keys and of the values. -/
theorem off5 : k0_off5 i = ![(i 2).val * 512, 0] := by
  have e := last_place (i 2)
  funext a
  match a with
  | ⟨0, _⟩ => exact e
  | ⟨1, _⟩ => rfl

/-- The last block's window of the sums of forget logarithms. -/
theorem off6 : k0_off6 i = ![0, 0, (i 2).val * 512] := by
  have e := last_place (i 2)
  funext a
  match a with
  | ⟨0, _⟩ => rfl
  | ⟨1, _⟩ => rfl
  | ⟨2, _⟩ => exact e

/-- Loading such a window of rows. -/
theorem read_rows (a : Memref sig .tc .vmem S4096x128 .bf16) (h : a.IsWhole) (x : Vec Ideal S4096x128 .bf16) (k : ℕ) (hk : k < 8)
    (off : Fin 2 → ℕ) (inb : ∀ b, off b + S512x128.size b ≤ S4096x128.size b) (e : off = ![k * 512, 0]) :
    View.readAt (Elt Ideal) a.view (Rect.unit (s := S4096x128) off S512x128.size inb).toLoadRect (h.unread x) = rowsAt x k := by
  subst e
  funext j
  rw [View.readAt_apply, h.read_unread]
  refine congrArg x (Cert.Projection.ext2 ?_ ?_)
  · show k * 512 + 1 * (j 0).val = (k * 512 + (j 0).val) % 4096
    have : (j 0).val < 512 := (j 0).isLt
    omega
  · show 0 + 1 * (j 1).val = (j 1).val
    omega

/-- Loading such a window of lanes. -/
theorem read_lanes (a : Memref sig .tc .vmem S1x1x4096 .f32) (h : a.IsWhole) (x : Vec Ideal S1x1x4096 .f32) (k : ℕ) (hk : k < 8)
    (off : Fin 3 → ℕ) (inb : ∀ b, off b + S1x1x512.size b ≤ S1x1x4096.size b) (e : off = ![0, 0, k * 512]) :
    View.readAt (Elt Ideal) a.view (Rect.unit (s := S1x1x4096) off S1x1x512.size inb).toLoadRect (h.unread x) = lanesAt x k := by
  subst e
  funext j
  rw [View.readAt_apply, h.read_unread]
  have h0 : (j 0).val < 1 := (j 0).isLt
  have h1 : (j 1).val < 1 := (j 1).isLt
  have h2 : (j 2).val < 512 := (j 2).isLt
  refine congrArg x (Cert.Projection.ext3 ?_ ?_ ?_)
  · show 0 + 1 * (j 0).val = 0
    omega
  · show 0 + 1 * (j 1).val = 0
    omega
  · show k * 512 + 1 * (j 2).val = (k * 512 + (j 2).val) % 4096
    omega

/-- One trip is one update of the scratch arrays. -/
theorem trip_eq (q : Vec Ideal S512x128 .bf16) (k : Fin (k0_t1_loop i).trips) (s : Scratch)
    (f9 : BufTy.Contents (Elt Ideal) arg9.view.ty) (f10 : BufTy.Contents (Elt Ideal) arg10.view.ty) (f11 : BufTy.Contents (Elt Ideal) arg11.view.ty)
    (e9 : View.readAt (Elt Ideal) arg9.view (Rect.unit ![0, 0] S512x1.size inb_S512x1_S512x1_0_0).toLoadRect f9 = s.1)
    (e10 : View.readAt (Elt Ideal) arg10.view (Rect.unit ![0, 0] S512x1.size inb_S512x1_S512x1_0_0).toLoadRect f10 = s.2.1)
    (e11 : View.readAt (Elt Ideal) arg11.view (Rect.unit ![0, 0] S512x128.size inb_S512x128_S512x128_0_0).toLoadRect f11 = s.2.2) :
    tripL_k0_t1 (F := Ideal) Variants.none c none i arg3 harg3 arg4 harg4 arg5 harg5 arg6 harg6 arg7 harg7 arg8 harg8 arg9 harg9 arg10 harg10 arg11 harg11 q (harg4.unread x1) (harg5.unread x2) (harg6.unread x3) k f9 f10 f11
      = ([⟨Rect.unit ![0, 0] S512x1.size inb_S512x1_S512x1_0_0, (stepped q (rowsAt x1 k.val) (lanesAt x3 k.val) (rowsAt x2 k.val) s).1⟩],
         [⟨Rect.unit ![0, 0] S512x1.size inb_S512x1_S512x1_0_0, (stepped q (rowsAt x1 k.val) (lanesAt x3 k.val) (rowsAt x2 k.val) s).2.1⟩],
         [⟨Rect.unit ![0, 0] S512x128.size inb_S512x128_S512x128_0_0, (stepped q (rowsAt x1 k.val) (lanesAt x3 k.val) (rowsAt x2 k.val) s).2.2⟩]) := by
  have hk : k.val < 8 := by have hi : k.val < (i 2).val := lt_of_lt_of_eq k.isLt (trips1 i); have : (i 2).val < 8 := (i 2).isLt; omega
  have r4 := read_rows arg4 harg4 x1 k.val hk (k0_off1 i k) (k0_off1_inb i k) (off1 i k)
  have r5 := read_rows arg5 harg5 x2 k.val hk (k0_off1 i k) (k0_off1_inb i k) (off1 i k)
  have r6 := read_lanes arg6 harg6 x3 k.val hk (k0_off2 i k) (k0_off2_inb i k) (off2 i k)
  unfold tripL_k0_t1 trip_k0_t1
  dsimp only
  unfold trip_k0_t1.sl.r trip_k0_t1.sl.r_1 trip_k0_t1.sl.r_2 trip_k0_t1.sl.r_3
  rw [e9, e10, e11]
  rw [r4, r5, r6]
  rfl

/-- The first loop leaves the scratch arrays after that many updates. -/
theorem loop1 (q : Vec Ideal S512x128 .bf16) (G9 : BufTy.Contents (Elt Ideal) arg9.view.ty) (G10 : BufTy.Contents (Elt Ideal) arg10.view.ty) (G11 : BufTy.Contents (Elt Ideal) arg11.view.ty)
    (h9 : View.readAt (Elt Ideal) arg9.view (Rect.unit ![0, 0] S512x1.size inb_S512x1_S512x1_0_0).toLoadRect G9 = k0_pay19 (F := Ideal))
    (h10 : View.readAt (Elt Ideal) arg10.view (Rect.unit ![0, 0] S512x1.size inb_S512x1_S512x1_0_0).toLoadRect G10 = k0_pay20 (F := Ideal))
    (h11 : View.readAt (Elt Ideal) arg11.view (Rect.unit ![0, 0] S512x128.size inb_S512x128_S512x128_0_0).toLoadRect G11 = k0_pay21 (F := Ideal))
    (k : ℕ) (hk : k ≤ (k0_t1_loop i).trips) :
    View.readAt (Elt Ideal) arg9.view (Rect.unit ![0, 0] S512x1.size inb_S512x1_S512x1_0_0).toLoadRect (arg9.view.writes (Elt Ideal) G9
        (pb_k0_t1 (F := Ideal) Variants.none c none i arg3 harg3 arg4 harg4 arg5 harg5 arg6 harg6 arg7 harg7 arg8 harg8 arg9 harg9 arg10 harg10 arg11 harg11 q (harg4.unread x1) (harg5.unread x2) (harg6.unread x3) G9 G10 G11 k).1)
      = (after q x1 x2 x3 k).1
    ∧ View.readAt (Elt Ideal) arg10.view (Rect.unit ![0, 0] S512x1.size inb_S512x1_S512x1_0_0).toLoadRect (arg10.view.writes (Elt Ideal) G10
        (pb_k0_t1 (F := Ideal) Variants.none c none i arg3 harg3 arg4 harg4 arg5 harg5 arg6 harg6 arg7 harg7 arg8 harg8 arg9 harg9 arg10 harg10 arg11 harg11 q (harg4.unread x1) (harg5.unread x2) (harg6.unread x3) G9 G10 G11 k).2.1)
      = (after q x1 x2 x3 k).2.1
    ∧ View.readAt (Elt Ideal) arg11.view (Rect.unit ![0, 0] S512x128.size inb_S512x128_S512x128_0_0).toLoadRect (arg11.view.writes (Elt Ideal) G11
        (pb_k0_t1 (F := Ideal) Variants.none c none i arg3 harg3 arg4 harg4 arg5 harg5 arg6 harg6 arg7 harg7 arg8 harg8 arg9 harg9 arg10 harg10 arg11 harg11 q (harg4.unread x1) (harg5.unread x2) (harg6.unread x3) G9 G10 G11 k).2.2)
      = (after q x1 x2 x3 k).2.2 := by
  induction k with
  | zero => exact ⟨h9, h10, h11⟩
  | succ k ih =>
    obtain ⟨e9, e10, e11⟩ := ih (by omega)
    have hs := pb_k0_t1_succ (F := Ideal) Variants.none c none i arg3 harg3 arg4 harg4 arg5 harg5 arg6 harg6 arg7 harg7 arg8 harg8 arg9 harg9 arg10 harg10 arg11 harg11 q (harg4.unread x1) (harg5.unread x2) (harg6.unread x3) G9 G10 G11 ⟨k, hk⟩
    rw [trip_eq c i arg3 harg3 arg4 harg4 arg5 harg5 arg6 harg6 arg7 harg7 arg8 harg8 arg9 harg9 arg10 harg10 arg11 harg11 x1 x2 x3 q ⟨k, hk⟩ (after q x1 x2 x3 k) _ _ _ e9 e10 e11] at hs
    rw [hs]
    exact ⟨View.readAt_writes_full arg9.view _ _ _ _ _, View.readAt_writes_full arg10.view _ _ _ _ _, View.readAt_writes_full arg11.view _ _ _ _ _⟩

/-- Loading the whole block of queries. -/
theorem read_q (a : Memref sig .tc .vmem S512x128 .bf16) (h : a.IsWhole) (x : Vec Ideal S512x128 .bf16) :
    View.readAt (Elt Ideal) a.view (Rect.unit (s := S512x128) ![0, 0] S512x128.size inb_S512x128_S512x128_0_0).toLoadRect (h.unread x) = x :=
  (View.readAt_full a.view _ _).trans (h.read_unread x)

/-- What the call leaves in its output block, over the state after the full tiles. -/
def blockOf (n : ℕ) (x0 : Vec Ideal S512x128 .bf16) (x1 x2 : Vec Ideal S4096x128 .bf16) (x3 : Vec Ideal S1x1x4096 .f32) (x4 : Vec Ideal S512x128 .f32) : Vec Ideal S512x128 .bf16 :=
  let s := k0_pay26 (F := Ideal) x0 (rowsAt x1 n) (lanesAt x3 n)
  k0_pay2 (k0_pay33 s (rowsAt x2 n) (after x0 x1 x2 x3 n).1 (after x0 x1 x2 x3 n).2.2)
    (k0_pay32 s (after x0 x1 x2 x3 n).1 (after x0 x1 x2 x3 n).2.1) x4

/-- The second loop makes no trip. -/
theorem second (q : Vec Ideal S512x128 .bf16) (v17 : BitVec 32) (G9 : BufTy.Contents (Elt Ideal) arg9.view.ty) (G10 : BufTy.Contents (Elt Ideal) arg10.view.ty) (G11 : BufTy.Contents (Elt Ideal) arg11.view.ty) :
    pb_k0_t2 (F := Ideal) Variants.none c none i arg3 harg3 arg4 harg4 arg5 harg5 arg6 harg6 arg7 harg7 arg8 harg8 arg9 harg9 arg10 harg10 arg11 harg11 q v17 (harg4.unread x1) (harg5.unread x2) (harg6.unread x3) G9 G10 G11
      (Scf.trips (k0_t2_loop i).lb (k0_t2_loop i).ub (k0_t2_loop i).st) = ([], [], []) := by
  rw [show Scf.trips (k0_t2_loop i).lb (k0_t2_loop i).ub (k0_t2_loop i).st = 0 from trips2 i]
  rfl

/-- Loading after two groups of stores is loading after the later ones, over what the earlier ones left. -/
theorem read_after {κ : Kind} {sp : Space} {s : Shape} {e : EltTy} (v : View sig κ sp s e) (L L' : List (View.Piece (Elt Ideal) s e)) (B : LoadRect s) :
    v.readCov (Val := Elt Ideal) (L ++ L') B = v.readAt (Elt Ideal) B (v.writes (Elt Ideal) (v.writes (Elt Ideal) v.junk L') L) := by
  show v.readAt (Elt Ideal) B (v.writes (Elt Ideal) v.junk (L ++ L')) = _
  rw [View.writes_append]

/-- A grid point's output block, of the blocks it reads. -/
theorem out_eq : out0_A_5 (F := Ideal) c i arg3 harg3 arg4 harg4 arg5 harg5 arg6 harg6 arg7 harg7 arg8 harg8 arg9 harg9 arg10 harg10 arg11 harg11 x0 x1 x2 x3 x4 = blockOf (i 2).val x0 x1 x2 x3 x4 := by
  obtain ⟨m1, m2, m3⟩ := loop1 c i arg3 harg3 arg4 harg4 arg5 harg5 arg6 harg6 arg7 harg7 arg8 harg8 arg9 harg9 arg10 harg10 arg11 harg11 x1 x2 x3 x0 (arg9.view.writes (Elt Ideal) arg9.view.junk kernelRun0_A.sl.HS0_1)
    (arg10.view.writes (Elt Ideal) arg10.view.junk kernelRun0_A.sl.HS1_1) (arg11.view.writes (Elt Ideal) arg11.view.junk kernelRun0_A.sl.HS2_1)
    (View.readAt_writes_full arg9.view _ _ _ _ _) (View.readAt_writes_full arg10.view _ _ _ _ _) (View.readAt_writes_full arg11.view _ _ _ _ _)
    (k0_t1_loop i).trips le_rfl
  rw [trips1 i] at m1 m2 m3
  have hn : (i 2).val < 8 := (i 2).isLt
  have r4 := read_rows arg4 harg4 x1 (i 2).val hn (k0_off5 i) (k0_off5_inb i) (off5 i)
  have r5 := read_rows arg5 harg5 x2 (i 2).val hn (k0_off5 i) (k0_off5_inb i) (off5 i)
  have r6 := read_lanes arg6 harg6 x3 (i 2).val hn (k0_off6 i) (k0_off6_inb i) (off6 i)
  have r3 := read_q arg3 harg3 x0
  have r7 := (View.readAt_full arg7.view (harg7.unread x4) inb_S512x128_S512x128_0_0).trans (harg7.read_unread x4)
  unfold out0_A_5 kernelRun0_A
  dsimp only
  unfold kernelRun0_A.sl.v70 kernelRun0_A.sl.v71
  unfold kernelRun0_A.sl.HS2_1_1 kernelRun0_A.sl.HS1_1_1
  simp only [View.readCov_full (s := S512x128), View.readCov_full (s := S512x1)]
  unfold kernelRun0_A.sl.v37 kernelRun0_A.sl.r kernelRun0_A.sl.v50 kernelRun0_A.sl.v58
  rw [View.read_writes_full]
  rw [r4, r5, r6, r7, r3, second]
  rw [show Scf.trips (k0_t1_loop i).lb (k0_t1_loop i).ub (k0_t1_loop i).st = (i 2).val from trips1 i]
  rw [List.nil_append, List.nil_append, List.nil_append, read_after, read_after, read_after, m1, m2, m3]
  rfl

end Cert.FoxIdeal.Hand
-- ==== Proof.Fox.Block.lean ====
/-
  The block of the forgetting attention read row by row.
-/
module

public import proofs.«01_k».proof.Proof.Fox.Trip
public import proofs.«01_k».proof.Proof.Fox.Spec

@[expose] public section

set_option maxRecDepth 16384

noncomputable section

open Idealize.ShloMosaic Idealize.ShloMosaic.TcCoe Idealize.ShloMosaic.Tactic Idealize.SL.Sem

namespace Cert.FoxIdeal.Hand

open Cert.FoxIdeal Cert.FoxIdeal.Gen Cert.Softmax Cert.Fox

/-- A tile's logits before masking. -/
def tileLogit (q kt : Vec Ideal S512x128 .bf16) (dt : Vec Ideal S1x1x512 .f32) (r c : Fin 512) : EReal :=
  (∑ d : Fin 128, q (ix2 (n0 := 512) (n1 := 128) r d) * kt (ix2 (n0 := 512) (n1 := 128) c d)) * scale - dt (ix3 (n0 := 1) (n1 := 1) (n2 := 512) 0 0 c)

/-- The scratch arrays, row by row, before the first tile. -/
theorem start_at (r : Fin 512) (e : Fin 128) : k0_pay19 (F := Ideal) (ix2 r 0) = ⊥ ∧ k0_pay20 (F := Ideal) (ix2 r 0) = 0 ∧ k0_pay21 (F := Ideal) (ix2 r e) = 0 := by
  refine ⟨?_, ?_, ?_⟩
  · unfold k0_pay19
    pointwise
    exact neg_inf
  · unfold k0_pay20
    pointwise
  · unfold k0_pay21
    pointwise

theorem pay3_at (q kt : Vec Ideal S512x128 .bf16) (dt : Vec Ideal S1x1x512 .f32) (r c : Fin 512) :
    k0_pay3 (F := Ideal) q kt dt (ix2 r c) = tileLogit q kt dt r c := by
  unfold k0_pay3 tileLogit
  pointwise

theorem pay4_at (q kt : Vec Ideal S512x128 .bf16) (dt : Vec Ideal S1x1x512 .f32) (m : Vec Ideal S512x1 .f32) (r : Fin 512) :
    k0_pay4 (F := Ideal) q kt dt m (ix2 r 0) = newMax (m (ix2 r 0)) (fun c : Fin 512 => tileLogit q kt dt r c) := by
  have e := pay3_at q kt dt
  unfold k0_pay4 newMax top
  generalize k0_pay3 (F := Ideal) q kt dt = s at e ⊢
  pointwise
  simp only [e, neg_inf]

theorem pay23_at (q kt : Vec Ideal S512x128 .bf16) (dt : Vec Ideal S1x1x512 .f32) (m : Vec Ideal S512x1 .f32) (r : Fin 512) :
    k0_pay23 (F := Ideal) (k0_pay4 q kt dt m) (ix2 r 0) = newMax (m (ix2 r 0)) (fun c : Fin 512 => tileLogit q kt dt r c) := by
  have e := pay4_at q kt dt m r
  unfold k0_pay23
  generalize k0_pay4 (F := Ideal) q kt dt m = M at e ⊢
  pointwise
  exact e

theorem pay8_at (q kt : Vec Ideal S512x128 .bf16) (dt : Vec Ideal S1x1x512 .f32) (m l : Vec Ideal S512x1 .f32) (r : Fin 512) :
    k0_pay8 (F := Ideal) q kt dt m l (ix2 r 0) = newTotal (m (ix2 r 0)) (fun c : Fin 512 => tileLogit q kt dt r c) (l (ix2 r 0)) := by
  have e := pay3_at q kt dt
  have e' := pay4_at q kt dt m
  unfold k0_pay8 k0_pay7 k0_pay6 k0_pay5 newTotal safe
  generalize k0_pay3 (F := Ideal) q kt dt = s at e ⊢
  generalize k0_pay4 (F := Ideal) q kt dt m = M at e' ⊢
  pointwise
  simp only [e, e', neg_inf]

theorem pay22_at (q kt vt : Vec Ideal S512x128 .bf16) (dt : Vec Ideal S1x1x512 .f32) (m : Vec Ideal S512x1 .f32) (a : Vec Ideal S512x128 .f32) (r : Fin 512) (e : Fin 128) :
    k0_pay22 (F := Ideal) vt (k0_pay9 q kt dt m a) (k0_pay10 q kt dt m) (ix2 r e)
      = newSum (m (ix2 r 0)) (fun c : Fin 512 => tileLogit q kt dt r c) (fun c => vt (ix2 c e)) (a (ix2 r e)) := by
  have e1 := pay3_at q kt dt
  have e' := pay4_at q kt dt m
  unfold k0_pay22 k0_pay10 k0_pay9 k0_pay7 k0_pay6 k0_pay5 newSum safe
  generalize k0_pay3 (F := Ideal) q kt dt = s at e1 ⊢
  generalize k0_pay4 (F := Ideal) q kt dt m = M at e' ⊢
  pointwise
  simp only [e1, e', neg_inf]

/-- The last tile's logits, masked above the diagonal. -/
def lastLogit (q kt : Vec Ideal S512x128 .bf16) (dt : Vec Ideal S1x1x512 .f32) (r c : Fin 512) : EReal :=
  if c.val ≤ r.val then tileLogit q kt dt r c else ⊥

theorem pay27_at (q kt : Vec Ideal S512x128 .bf16) (dt : Vec Ideal S1x1x512 .f32) (r c : Fin 512) :
    k0_pay27 (F := Ideal) (k0_pay26 q kt dt) (ix2 r c) = lastLogit q kt dt r c := by
  have e : k0_pay26 (F := Ideal) q kt dt (ix2 r c) = tileLogit q kt dt r c := by
    unfold k0_pay26 tileLogit
    pointwise
  unfold k0_pay27 lastLogit
  generalize k0_pay26 (F := Ideal) q kt dt = s at e ⊢
  pointwise
  simp only [e, neg_inf]
  exact select_le (by omega) (by omega) _ _

theorem pay28_at (q kt : Vec Ideal S512x128 .bf16) (dt : Vec Ideal S1x1x512 .f32) (m : Vec Ideal S512x1 .f32) (r : Fin 512) :
    k0_pay28 (F := Ideal) (k0_pay26 q kt dt) m (ix2 r 0) = newMax (m (ix2 r 0)) (fun c : Fin 512 => lastLogit q kt dt r c) := by
  have e := pay27_at q kt dt
  unfold k0_pay28 newMax top
  generalize k0_pay27 (F := Ideal) (k0_pay26 q kt dt) = s at e ⊢
  pointwise
  simp only [e, neg_inf]

theorem pay32_at (q kt : Vec Ideal S512x128 .bf16) (dt : Vec Ideal S1x1x512 .f32) (m l : Vec Ideal S512x1 .f32) (r : Fin 512) :
    k0_pay32 (F := Ideal) (k0_pay26 q kt dt) m l (ix2 r 0) = newTotal (m (ix2 r 0)) (fun c : Fin 512 => lastLogit q kt dt r c) (l (ix2 r 0)) := by
  have e := pay27_at q kt dt
  have e' := pay28_at q kt dt m
  unfold k0_pay32 k0_pay31 k0_pay30 k0_pay29 newTotal safe
  generalize k0_pay28 (F := Ideal) (k0_pay26 q kt dt) m = M at e' ⊢
  generalize k0_pay27 (F := Ideal) (k0_pay26 q kt dt) = s at e ⊢
  pointwise
  simp only [e, e', neg_inf]

theorem pay33_at (q kt vt : Vec Ideal S512x128 .bf16) (dt : Vec Ideal S1x1x512 .f32) (m : Vec Ideal S512x1 .f32) (a : Vec Ideal S512x128 .f32) (r : Fin 512) (e : Fin 128) :
    k0_pay33 (F := Ideal) (k0_pay26 q kt dt) vt m a (ix2 r e)
      = newSum (m (ix2 r 0)) (fun c : Fin 512 => lastLogit q kt dt r c) (fun c => vt (ix2 c e)) (a (ix2 r e)) := by
  have e1 := pay27_at q kt dt
  have e' := pay28_at q kt dt m
  unfold k0_pay33 k0_pay31 k0_pay30 k0_pay29 newSum safe
  generalize k0_pay28 (F := Ideal) (k0_pay26 q kt dt) m = M at e' ⊢
  generalize k0_pay27 (F := Ideal) (k0_pay26 q kt dt) = s at e1 ⊢
  pointwise
  simp only [e1, e', neg_inf]

theorem pay2_at (a z : Vec Ideal S512x128 .f32) (l : Vec Ideal S512x1 .f32) (r : Fin 512) (e : Fin 128) :
    k0_pay2 (F := Ideal) a l z (ix2 r e) = Ideal.div (a (ix2 r e)) (max (l (ix2 r 0)) least) * silu (z (ix2 r e)) := by
  unfold k0_pay2 silu
  pointwise

/-- The logits of a row of the `n`-th block against every key, before the row's own forgetting is added. -/
def rowLogit (x0 : Vec Ideal S512x128 .bf16) (x1 : Vec Ideal S4096x128 .bf16) (x3 : Vec Ideal S1x1x4096 .f32) (n : ℕ) (r : Fin 512) (j : ℕ) : EReal :=
  if j ≤ n * 512 + r.val then
    (∑ d : Fin 128, x0 (ix2 (n0 := 512) (n1 := 128) r d) * x1 (ix2 (n0 := 4096) (n1 := 128) ⟨j % 4096, Nat.mod_lt _ (by omega)⟩ d)) * scale
      - x3 (ix3 (n0 := 1) (n1 := 1) (n2 := 4096) 0 0 ⟨j % 4096, Nat.mod_lt _ (by omega)⟩)
  else ⊥

/-- A column of the values. -/
def rowValue (x2 : Vec Ideal S4096x128 .bf16) (e : Fin 128) (j : ℕ) : EReal := x2 (ix2 (n0 := 4096) (n1 := 128) ⟨j % 4096, Nat.mod_lt _ (by omega)⟩ e)

variable (x0 : Vec Ideal S512x128 .bf16) (x1 x2 : Vec Ideal S4096x128 .bf16) (x3 : Vec Ideal S1x1x4096 .f32) (x4 : Vec Ideal S512x128 .f32)

theorem tile_full (n k : ℕ) (hk : k < n) (r c : Fin 512) :
    tileLogit x0 (rowsAt x1 k) (lanesAt x3 k) r c = rowLogit x0 x1 x3 n r (k * 512 + c.val) := by
  unfold rowLogit
  rw [if_pos (by omega)]
  rfl

theorem tile_last (n : ℕ) (r c : Fin 512) :
    lastLogit x0 (rowsAt x1 n) (lanesAt x3 n) r c = rowLogit x0 x1 x3 n r (n * 512 + c.val) := by
  unfold rowLogit lastLogit
  by_cases h : c.val ≤ r.val
  · rw [if_pos h, if_pos (by omega)]
    rfl
  · rw [if_neg h, if_neg (by omega)]

/-- The scratch arrays after `k` full tiles hold, row by row, the running softmax of the keys so far. -/
theorem after_running (n : ℕ) (r : Fin 512) (e : Fin 128) (k : ℕ) (hk : k ≤ n) :
    Running (rowLogit x0 x1 x3 n r) (rowValue x2 e) (k * 512) ((after x0 x1 x2 x3 k).1 (ix2 r 0)) ((after x0 x1 x2 x3 k).2.1 (ix2 r 0)) ((after x0 x1 x2 x3 k).2.2 (ix2 r e)) := by
  induction k with
  | zero =>
    obtain ⟨a, b, c⟩ := start_at r e
    exact Or.inl ⟨a, fun j h => absurd h (by omega), b, c⟩
  | succ k ih =>
    have h := running_step _ _ (by omega : 0 < 512) (ih (by omega))
    rw [show (k + 1) * 512 = k * 512 + 512 by omega]
    have p1 := pay23_at x0 (rowsAt x1 k) (lanesAt x3 k) (after x0 x1 x2 x3 k).1 r
    have p2 := pay8_at x0 (rowsAt x1 k) (lanesAt x3 k) (after x0 x1 x2 x3 k).1 (after x0 x1 x2 x3 k).2.1 r
    have p3 := pay22_at x0 (rowsAt x1 k) (rowsAt x2 k) (lanesAt x3 k) (after x0 x1 x2 x3 k).1 (after x0 x1 x2 x3 k).2.2 r e
    simp only [tile_full x0 x1 x3 n k (by omega) r] at p1 p2 p3
    unfold after stepped
    dsimp only
    rw [p1, p2, p3]
    exact h

/-- One entry of the block the call leaves: the softmax of the row's logits, moved by any real number, applied to the
values and gated. -/
theorem block_at (n : ℕ) (hn : n < 8) (r : Fin 512) (e : Fin 128) (t : ℝ) :
    blockOf n x0 x1 x2 x3 x4 (ix2 r e)
      = attend least (fun c : Fin 4096 => rowLogit x0 x1 x3 n r c.val + t) (fun c => rowValue x2 e c.val) * silu (x4 (ix2 r e)) := by
  have h := running_step _ _ (by omega : 0 < 512) (after_running x0 x1 x2 x3 n r e n le_rfl)
  have p2 := pay32_at x0 (rowsAt x1 n) (lanesAt x3 n) (after x0 x1 x2 x3 n).1 (after x0 x1 x2 x3 n).2.1 r
  have p3 := pay33_at x0 (rowsAt x1 n) (rowsAt x2 n) (lanesAt x3 n) (after x0 x1 x2 x3 n).1 (after x0 x1 x2 x3 n).2.2 r e
  simp only [tile_last x0 x1 x3 n r] at p2 p3
  have q := running_result (rowLogit x0 x1 x3 n r) (rowValue x2 e) t least_pos least_le_one (N := 4096) (by omega : 0 < n * 512 + 512) (by omega)
    (fun j hj => if_neg (by omega)) h
  unfold blockOf
  rw [pay2_at, p2, p3]
  exact congrArg (fun p : EReal => p * _) q

end Cert.FoxIdeal.Hand
-- ==== Proof.Fox.Value.lean ====
/-
  The forgetting attention as a whole: the blocks of the grid's 128 points tile the kernel's array, which is one function
  of the arguments wherever the sums of forget logarithms are finite.
-/
module

public import proofs.«01_k».proof.Proof.Fox.Block
public import proofs.«01_k».proof.Proof.Projection.Blocks
public import proofs.«01_k».proof.Pre_finite_forget

@[expose] public section

set_option maxRecDepth 16384

noncomputable section

open Idealize.ShloMosaic Idealize.ShloMosaic.TcCoe Idealize.ShloMosaic.Tactic Idealize.SL.Sem
open Cert.Projection Cert.Fox Cert.Softmax

namespace Cert.FoxIdeal.Hand

open Cert.FoxIdeal Cert.FoxIdeal.Gen

variable (m : (ℓ : Loc nD τ sig) → Buf (Elt Ideal) ℓ)

/-- The grid runs over sequence, head and block of queries, the block fastest. -/
theorem index_at : ∀ t : Fin cfg0.N, ((grid0.coords t) 2).val = t.val % 8
      ∧ win0_0.index t 0 = t.val / 64 * 8 + t.val % 8 ∧ win0_0.index t 1 = t.val / 8 % 8
      ∧ win0_1.index t 0 = t.val / 64 ∧ win0_1.index t 1 = t.val / 8 % 8
      ∧ win0_2.index t 0 = t.val / 64 ∧ win0_2.index t 1 = 8 + t.val / 8 % 8
      ∧ win0_3.index t 0 = t.val / 8 ∧ win0_3.index t 1 = 0 ∧ win0_3.index t 2 = 0
      ∧ win0_4.index t 0 = t.val / 64 * 8 + t.val % 8 ∧ win0_4.index t 1 = t.val / 8 % 8
      ∧ win0_5.index t 0 = t.val / 64 * 8 + t.val % 8 ∧ win0_5.index t 1 = t.val / 8 % 8 :=
  (by decide +kernel : ∀ t : Fin grid0.N, ((grid0.coords t) 2).val = t.val % 8
      ∧ win0_0.index t 0 = t.val / 64 * 8 + t.val % 8 ∧ win0_0.index t 1 = t.val / 8 % 8
      ∧ win0_1.index t 0 = t.val / 64 ∧ win0_1.index t 1 = t.val / 8 % 8
      ∧ win0_2.index t 0 = t.val / 64 ∧ win0_2.index t 1 = 8 + t.val / 8 % 8
      ∧ win0_3.index t 0 = t.val / 8 ∧ win0_3.index t 1 = 0 ∧ win0_3.index t 2 = 0
      ∧ win0_4.index t 0 = t.val / 64 * 8 + t.val % 8 ∧ win0_4.index t 1 = t.val / 8 % 8
      ∧ win0_5.index t 0 = t.val / 64 * 8 + t.val % 8 ∧ win0_5.index t 1 = t.val / 8 % 8)

/-- A grid point's block, of the blocks it reads, is its part of the whole array. -/
theorem attended_block (c : Dev nD) (hd : ∀ i, ∃ a : ℝ, V m c main_arg2 i = ((a : ℝ) : EReal)) (t : Fin cfg0.N) (r : Fin 512) (e : Fin 128) :
    blockOf (t.val % 8) (iblk m c 0 t) (iblk m c 1 t) (iblk m c 2 t) (iblk m c 3 t) (iblk m c 4 t) (ix2 r e)
      = attention (V m c main_arg0) (V m c main_arg1) (V m c main_arg2) (V m c main_arg3) ((win0_5.rect t).emb (ix2 r e)) := by
  obtain ⟨-, a0, a1, b0, b1, c0, c1, d0, d1, d2, e0, e1, f0, f1⟩ := index_at t
  have ht : t.val < 128 := lt_of_lt_of_eq t.isLt N_0
  have hr := r.isLt
  have he := e.isLt
  let b : Fin 2 := ⟨t.val / 64, by omega⟩
  let h : Fin 8 := ⟨t.val / 8 % 8, by omega⟩
  let s : Fin 4096 := ⟨t.val % 8 * 512 + r.val, by omega⟩
  obtain ⟨a, ha⟩ := hd (ix3 (n0 := 16) (n1 := 1) (n2 := 4096) ⟨b.val * 8 + h.val, by omega⟩ 0 s)
  have hq (x : Fin 128) : iblk m c 0 t (ix2 (n0 := 512) (n1 := 128) r x) = V m c main_arg0 (ix2 (row b s) (col h x)) := by
    refine congrArg (V m c main_arg0) (ext2 ?_ ?_)
    · show win0_0.index t 0 * 512 + 1 * r.val = t.val / 64 * 4096 + (t.val % 8 * 512 + r.val)
      rw [a0]; omega
    · show win0_0.index t 1 * 128 + 1 * x.val = t.val / 8 % 8 * 128 + x.val
      rw [a1]; omega
  have hz : iblk m c 4 t (ix2 (n0 := 512) (n1 := 128) r e) = V m c main_arg3 (ix2 (row b s) (col h e)) := by
    refine congrArg (V m c main_arg3) (ext2 ?_ ?_)
    · show win0_4.index t 0 * 512 + 1 * r.val = t.val / 64 * 4096 + (t.val % 8 * 512 + r.val)
      rw [e0]; omega
    · show win0_4.index t 1 * 128 + 1 * e.val = t.val / 8 % 8 * 128 + e.val
      rw [e1]; omega
  have hk (j : Fin 4096) (x : Fin 128) : iblk m c 1 t (ix2 (n0 := 4096) (n1 := 128) ⟨j.val % 4096, by omega⟩ x)
      = V m c main_arg1 (ix2 (row b j) (⟨h.val * 128 + x.val, by omega⟩ : Fin 2048)) := by
    refine congrArg (V m c main_arg1) (ext2 ?_ ?_)
    · show win0_1.index t 0 * 4096 + 1 * (j.val % 4096) = t.val / 64 * 4096 + j.val
      rw [b0]; omega
    · show win0_1.index t 1 * 128 + 1 * x.val = t.val / 8 % 8 * 128 + x.val
      rw [b1]; omega
  have hv (j : Fin 4096) (x : Fin 128) : iblk m c 2 t (ix2 (n0 := 4096) (n1 := 128) ⟨j.val % 4096, by omega⟩ x)
      = V m c main_arg1 (ix2 (row b j) (⟨(8 + h.val) * 128 + x.val, by omega⟩ : Fin 2048)) := by
    refine congrArg (V m c main_arg1) (ext2 ?_ ?_)
    · show win0_2.index t 0 * 4096 + 1 * (j.val % 4096) = t.val / 64 * 4096 + j.val
      rw [c0]; omega
    · show win0_2.index t 1 * 128 + 1 * x.val = (8 + t.val / 8 % 8) * 128 + x.val
      rw [c1]; omega
  have hg (j : Fin 4096) : iblk m c 3 t (ix3 (n0 := 1) (n1 := 1) (n2 := 4096) 0 0 ⟨j.val % 4096, by omega⟩)
      = V m c main_arg2 (ix3 (n0 := 16) (n1 := 1) (n2 := 4096) ⟨b.val * 8 + h.val, by omega⟩ 0 j) := by
    refine congrArg (V m c main_arg2) (ext3 ?_ ?_ ?_)
    · show win0_3.index t 0 * 1 + 1 * 0 = t.val / 64 * 8 + t.val / 8 % 8
      rw [d0]; omega
    · show win0_3.index t 1 * 1 + 1 * 0 = 0
      rw [d1]
    · show win0_3.index t 2 * 4096 + 1 * (j.val % 4096) = j.val
      rw [d2]; omega
  rw [block_at _ _ _ _ _ (t.val % 8) (by omega) r e a, attention_at _ _ _ _ b h s e _
    (by show win0_5.index t 0 * 512 + 1 * r.val = t.val / 64 * 4096 + (t.val % 8 * 512 + r.val); rw [f0]; omega)
    (by show win0_5.index t 1 * 128 + 1 * e.val = t.val / 8 % 8 * 128 + e.val; rw [f1]; omega)]
  unfold attentionAt
  refine congrArg₂ (fun p q : EReal => p * q) (congrArg₂ (attend least) (funext fun j => ?_) (funext fun j => hv j e)) (congrArg silu hz)
  unfold rowLogit fullLogit
  by_cases hj : j.val ≤ t.val % 8 * 512 + r.val
  · rw [if_pos hj, if_pos (show j.val ≤ s.val from hj), hg j, ha]
    simp only [hq, hk j]
    rw [sub_eq_add_neg, sub_eq_add_neg, add_right_comm]
  · rw [if_neg hj, if_neg (show ¬ j.val ≤ s.val from hj), EReal.bot_add]

/-- What a grid point writes is its part of the whole array. -/
theorem flushed_eq (c : Dev nD) (hd : ∀ i, ∃ a : ℝ, V m c main_arg2 i = ((a : ℝ) : EReal)) (t : Fin cfg0.N) : (dats m 0 c).flushed 5 t
    = (win0_5.blk t).view.read (Elt Ideal) (attention (V m c main_arg0) (V m c main_arg1) (V m c main_arg2) (V m c main_arg3)) := by
  rw [Cert.FoxIdeal.Value.flushed5_A, out_eq, (index_at t).1]
  refine funext (fun j => ?_)
  have e := attended_block m c hd t (j 0) (j 1)
  have hj : j = ix2 (n0 := 512) (n1 := 128) (j 0) (j 1) := ext2 rfl rfl
  rw [← hj] at e
  exact e

/-- The result's blocks tile its array. -/
theorem cover (i : S8192x1024.Idx) : ∃ t : Fin cfg0.N, (cfg0.win 5).flush t = true ∧ i ∈ ((cfg0.win 5).blk t).view.set := by
  have h0 : (i 0).val < 8192 := (i 0).isLt
  have h1 : (i 1).val < 1024 := (i 1).isLt
  have ht : (i 0).val / 4096 * 64 + (i 1).val / 128 * 8 + (i 0).val / 512 % 8 < cfg0.N := by show _ < grid0.N; rw [N_0]; omega
  refine ⟨⟨_, ht⟩, flush0_5 _, ?_⟩
  show i ∈ ((View.whole main_v0).slice (win0_5.rect ⟨(i 0).val / 4096 * 64 + (i 1).val / 128 * 8 + (i 0).val / 512 % 8, ht⟩)).set
  rw [View.set_slice_whole, Rect.mem_set_unit]
  obtain ⟨-, -, -, -, -, -, -, -, -, -, -, -, e0, e1⟩ := index_at ⟨(i 0).val / 4096 * 64 + (i 1).val / 128 * 8 + (i 0).val / 512 % 8, ht⟩
  intro a
  match a with
  | ⟨0, _⟩ => exact in_tile (Nat.succ_pos _) (e0.trans (by show _ = (i 0).val / 512; simp only []; omega))
  | ⟨1, _⟩ => exact in_tile (Nat.succ_pos _) (e1.trans (by show _ = (i 1).val / 128; simp only []; omega))

/-- Where the precondition holds, every sum of forget logarithms is a real number. -/
theorem finite_of_pre [Cert.Pre_finite_forget.Facts] (q : Mat 8192 1024) (kv : Mat 8192 2048) (d : (⟨3, ![16, 1, 4096]⟩ : Shape).Idx → EReal) (z : Mat 8192 1024)
    (h : Cert.Pre_finite_forget.fn (F := Ideal) q kv d z = fun _ => 1#1) (i : (⟨3, ![16, 1, 4096]⟩ : Shape).Idx) : ∃ a : ℝ, d i = ((a : ℝ) : EReal) := by
  have e : BitVec.ofBool (decide (max (d i) (-(d i)) < Ideal.ofBits .f32 0x7F800000#32)) = 1#1 := congrFun h i
  rw [pos_inf] at e
  generalize d i = x at e ⊢
  induction x using EReal.rec with
  | bot => simp at e
  | coe a => exact ⟨a, rfl⟩
  | top => simp at e

/-- The kernel's array, of the arguments. -/
theorem final (c : Dev nD) (hd : ∀ i, ∃ a : ℝ, V m c main_arg2 i = ((a : ℝ) : EReal)) : (dats m 0 c).arrAt 5 cfg0.N
    = attention (m ((c : Thread nD τ).loc main_arg0)) (m ((c : Thread nD τ).loc main_arg1)) (m ((c : Thread nD τ).loc main_arg2)) (m ((c : Thread nD τ).loc main_arg3)) := by
  rw [(dats m 0 c).arrAt_eq_of_cover 5 _ (fun t _ => flushed_eq m c hd t) cover]

end Cert.FoxIdeal.Hand

end
-- ==== Proof.Fox.Claims.lean ====
/-
  The claims about the forgetting attention of the prompt: the printed program and its idealization run and leave the
  four arguments, so does the reference, and at the ideal instance the results agree wherever the sums of the forget
  logarithms are finite.
-/
module

public import proofs.«01_k».proof.Defs
public import proofs.«01_k».proof.Proof.Gen.Fox.Frame
public import proofs.«01_k».proof.Proof.Gen.FoxReferenceIdeal.Run
public import proofs.«01_k».proof.Proof.Fox.Reference
public import proofs.«01_k».proof.Proof.Fox.Value
public import Idealize.ShloMosaic.Lib.Quiescent

@[expose] public section

set_option maxRecDepth 16384

noncomputable section

open Idealize.ShloMosaic Idealize.ShloMosaic.TcCoe Idealize.SL.Sem

namespace Cert.FoxIdeal.Claims

/-- The precondition broadcasts a scalar. -/
theorem finite_facts : Cert.Pre_finite_forget.Facts := { bcast_S_S16x1x4096 := by decide }

theorem frame : Cert.quiescent_Fox := fun m ρ _ => Cert.Fox.Gen.frame m ρ
theorem frame_ideal : Cert.quiescent_FoxIdeal := fun m ρ _ => Cert.FoxIdeal.Gen.frame m ρ
theorem frame_ideal_finite [Cert.Pre_finite_forget.Facts] : Cert.quiescent_FoxIdeal_pre_finite_forget := fun m ρ _ => Cert.FoxIdeal.Gen.frame m ρ
/-- The reference is host operations only: it declares no semaphore. -/
theorem frame_reference : Cert.quiescent_FoxReferenceIdeal := fun m ρ _ =>
  (θ_run Cert.FoxReferenceIdeal.defs _ _).mono
    (fun r h => ⟨fun c => (h c).2, sem_eq_zero_of_no_sems (by decide) r.2⟩)
    (Cert.FoxReferenceIdeal.Value.run m ρ)
theorem frame_reference_finite [Cert.Pre_finite_forget.Facts] : Cert.quiescent_FoxReferenceIdeal_pre_finite_forget := fun m ρ _ =>
  frame_reference m ρ trivial

theorem preserves : Cert.preserves_Fox_FoxIdeal := trivial

open Cert.FoxReferenceIdeal.Read Cert.FoxIdeal.Hand in
/-- At the ideal instance both end with the forgetting attention of arguments that agree. -/
theorem algebraic [Cert.Pre_finite_forget.Facts] : Cert.algebraic_FoxIdeal_FoxReferenceIdeal_pre_finite_forget := by
  intro m ρ m' ρ' hfin hagree
  refine ⟨fun c => Cert.Fox.attention (m ((c.tc : Thread _ _).loc Cert.FoxIdeal.main_arg0)) (m ((c.tc : Thread _ _).loc Cert.FoxIdeal.main_arg1))
    (m ((c.tc : Thread _ _).loc Cert.FoxIdeal.main_arg2)) (m ((c.tc : Thread _ _).loc Cert.FoxIdeal.main_arg3)), ?_, ?_⟩
  · exact (θ_run Cert.FoxIdeal.defs _ _).mono
      (fun _ h c => ⟨(h c).1.trans (final m c (finite_of_pre _ _ _ _ (hfin c))), (h c).2⟩)
      (Cert.FoxIdeal.Value.run_blocks m ρ)
  refine (θ_run Cert.FoxReferenceIdeal.defs _ _).mono (fun r h c => ?_) (Cert.FoxReferenceIdeal.Value.run m' ρ')
  refine ⟨(h c).1.trans ((val_main_v45_eq m' c).trans ((Cert.FoxReferenceIdeal.Hand.result_eq _ _ _ _).trans ?_)), (h c).2⟩
  obtain ⟨e0, e1, e2, e3⟩ := hagree c
  rw [e0, e1, e2, e3]

end Cert.FoxIdeal.Claims

end
-- ==== Proof.lean ====
/-
  The claim of this directory: the conjunction of the facts and claims about the programs of the test file, one group
  per program. Each is proved in the modules imported below.
-/
module

public import proofs.«01_k».proof.Defs
public import proofs.«01_k».proof.Proof.Gen.KeyValue
public import proofs.«01_k».proof.Proof.Gen.KeyValue.Skeleton
public import proofs.«01_k».proof.Proof.Gen.KeyValue.Launch
public import proofs.«01_k».proof.Proof.Gen.KeyValue.Points
public import proofs.«01_k».proof.Proof.Gen.KeyValue.Frame
public import proofs.«01_k».proof.Proof.Gen.KeyValueIdeal
public import proofs.«01_k».proof.Proof.Gen.KeyValueIdeal.Skeleton
public import proofs.«01_k».proof.Proof.Gen.KeyValueIdeal.Launch
public import proofs.«01_k».proof.Proof.Gen.KeyValueIdeal.Points
public import proofs.«01_k».proof.Proof.Gen.KeyValueIdeal.Frame
public import proofs.«01_k».proof.Proof.Gen.KeyValueIdeal.Value
public import proofs.«01_k».proof.Proof.Gen.KeyValueReferenceIdeal
public import proofs.«01_k».proof.Proof.Gen.KeyValueReferenceIdeal.Run
public import proofs.«01_k».proof.Proof.Gen.KeyValueReferenceIdeal.Read
public import proofs.«01_k».proof.Proof.Gen.Cumsum
public import proofs.«01_k».proof.Proof.Gen.Cumsum.Skeleton
public import proofs.«01_k».proof.Proof.Gen.Cumsum.Launch
public import proofs.«01_k».proof.Proof.Gen.Cumsum.Points
public import proofs.«01_k».proof.Proof.Gen.Cumsum.Frame
public import proofs.«01_k».proof.Proof.Gen.CumsumIdeal
public import proofs.«01_k».proof.Proof.Gen.CumsumIdeal.Skeleton
public import proofs.«01_k».proof.Proof.Gen.CumsumIdeal.Launch
public import proofs.«01_k».proof.Proof.Gen.CumsumIdeal.Points
public import proofs.«01_k».proof.Proof.Gen.CumsumIdeal.Frame
public import proofs.«01_k».proof.Proof.Gen.CumsumIdeal.Value
public import proofs.«01_k».proof.Proof.Gen.CumsumReferenceIdeal
public import proofs.«01_k».proof.Proof.Gen.CumsumReferenceIdeal.Run
public import proofs.«01_k».proof.Proof.Gen.CumsumReferenceIdeal.Read
public import proofs.«01_k».proof.Proof.Gen.Compress
public import proofs.«01_k».proof.Proof.Gen.Compress.Skeleton
public import proofs.«01_k».proof.Proof.Gen.Compress.Launch
public import proofs.«01_k».proof.Proof.Gen.Compress.Points
public import proofs.«01_k».proof.Proof.Gen.Compress.Frame
public import proofs.«01_k».proof.Proof.Gen.CompressIdeal
public import proofs.«01_k».proof.Proof.Gen.CompressIdeal.Skeleton
public import proofs.«01_k».proof.Proof.Gen.CompressIdeal.Launch
public import proofs.«01_k».proof.Proof.Gen.CompressIdeal.Points
public import proofs.«01_k».proof.Proof.Gen.CompressIdeal.Frame
public import proofs.«01_k».proof.Proof.Gen.CompressIdeal.Value
public import proofs.«01_k».proof.Proof.Gen.CompressReferenceIdeal
public import proofs.«01_k».proof.Proof.Gen.CompressReferenceIdeal.Run
public import proofs.«01_k».proof.Proof.Gen.CompressReferenceIdeal.Read
public import proofs.«01_k».proof.Proof.Gen.Fox
public import proofs.«01_k».proof.Proof.Gen.Fox.Skeleton
public import proofs.«01_k».proof.Proof.Gen.Fox.Launch
public import proofs.«01_k».proof.Proof.Gen.Fox.Points
public import proofs.«01_k».proof.Proof.Gen.Fox.Frame
public import proofs.«01_k».proof.Proof.Gen.FoxIdeal
public import proofs.«01_k».proof.Proof.Gen.FoxIdeal.Skeleton
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxIdeal.Value
public import proofs.«01_k».proof.Proof.Gen.FoxReferenceIdeal
public import proofs.«01_k».proof.Proof.Gen.FoxReferenceIdeal.Run
public import proofs.«01_k».proof.Proof.Gen.FoxReferenceIdeal.Read
public import proofs.«01_k».proof.Proof.Gen.Regroup
public import proofs.«01_k».proof.Proof.Gen.Regroup.Skeleton
public import proofs.«01_k».proof.Proof.Gen.Regroup.Launch
public import proofs.«01_k».proof.Proof.Gen.Regroup.Points
public import proofs.«01_k».proof.Proof.Gen.Regroup.Frame
public import proofs.«01_k».proof.Proof.Gen.RegroupIdeal
public import proofs.«01_k».proof.Proof.Gen.RegroupIdeal.Skeleton
public import proofs.«01_k».proof.Proof.Gen.RegroupIdeal.Launch
public import proofs.«01_k».proof.Proof.Gen.RegroupIdeal.Points
public import proofs.«01_k».proof.Proof.Gen.RegroupIdeal.Frame
public import proofs.«01_k».proof.Proof.Gen.RegroupReferenceIdeal
public import proofs.«01_k».proof.Proof.Gen.RegroupReference
public import proofs.«01_k».proof.Proof.Gen.RegroupIdeal.Value
public import proofs.«01_k».proof.Proof.Gen.RegroupReferenceIdeal.Run
public import proofs.«01_k».proof.Proof.Gen.Sample
public import proofs.«01_k».proof.Proof.Gen.Sample.Skeleton
public import proofs.«01_k».proof.Proof.Gen.Sample.Launch
public import proofs.«01_k».proof.Proof.Gen.Sample.Points
public import proofs.«01_k».proof.Proof.Gen.Sample.Frame
public import proofs.«01_k».proof.Proof.Gen.SampleIdeal
public import proofs.«01_k».proof.Proof.Gen.SampleIdeal.Skeleton
public import proofs.«01_k».proof.Proof.Gen.SampleIdeal.Launch
public import proofs.«01_k».proof.Proof.Gen.SampleIdeal.Points
public import proofs.«01_k».proof.Proof.Gen.SampleIdeal.Frame
public import proofs.«01_k».proof.Proof.Gen.SampleReferenceIdeal
public import proofs.«01_k».proof.Proof.Gen.Prompt
public import proofs.«01_k».proof.Proof.Gen.Prompt.Skeleton
public import proofs.«01_k».proof.Proof.Gen.Prompt.Launch
public import proofs.«01_k».proof.Proof.Gen.Prompt.Points
public import proofs.«01_k».proof.Proof.Gen.Prompt.Frame
public import proofs.«01_k».proof.Proof.Gen.PromptIdeal
public import proofs.«01_k».proof.Proof.Gen.PromptIdeal.Skeleton
public import proofs.«01_k».proof.Proof.Gen.PromptIdeal.Launch
public import proofs.«01_k».proof.Proof.Gen.PromptIdeal.Points
public import proofs.«01_k».proof.Proof.Gen.PromptIdeal.Frame
public import proofs.«01_k».proof.Proof.Gen.PromptReferenceIdeal
public import proofs.«01_k».proof.Proof.Gen.SampleReferenceIdeal.Run
public import proofs.«01_k».proof.Proof.Gen.SampleReferenceIdeal.Read
public import proofs.«01_k».proof.Proof.Gen.PromptReferenceIdeal.Run
public import proofs.«01_k».proof.Proof.Gen.PromptReferenceIdeal.Read
public import proofs.«01_k».proof.Proof.Gen.MergePrompt
public import proofs.«01_k».proof.Proof.Gen.MergePrompt.Skeleton
public import proofs.«01_k».proof.Proof.Gen.MergePrompt.Launch
public import proofs.«01_k».proof.Proof.Gen.MergePrompt.Points
public import proofs.«01_k».proof.Proof.Gen.MergePrompt.Frame
public import proofs.«01_k».proof.Proof.Gen.MergePromptIdeal
public import proofs.«01_k».proof.Proof.Gen.MergePromptIdeal.Skeleton
public import proofs.«01_k».proof.Proof.Gen.MergePromptIdeal.Launch
public import proofs.«01_k».proof.Proof.Gen.MergePromptIdeal.Points
public import proofs.«01_k».proof.Proof.Gen.MergePromptIdeal.Frame
public import proofs.«01_k».proof.Proof.Gen.MergePromptIdeal.Value
public import proofs.«01_k».proof.Proof.Gen.MergePromptReferenceIdeal
public import proofs.«01_k».proof.Proof.Gen.MergePromptReferenceIdeal.Run
public import proofs.«01_k».proof.Proof.Gen.MergePromptReferenceIdeal.Read
public import proofs.«01_k».proof.Proof.Gen.MergeSample
public import proofs.«01_k».proof.Proof.Gen.MergeSample.Skeleton
public import proofs.«01_k».proof.Proof.Gen.MergeSample.Launch
public import proofs.«01_k».proof.Proof.Gen.MergeSample.Points
public import proofs.«01_k».proof.Proof.Gen.MergeSample.Frame
public import proofs.«01_k».proof.Proof.Gen.MergeSampleIdeal
public import proofs.«01_k».proof.Proof.Gen.MergeSampleIdeal.Skeleton
public import proofs.«01_k».proof.Proof.Gen.MergeSampleIdeal.Launch
public import proofs.«01_k».proof.Proof.Gen.MergeSampleIdeal.Points
public import proofs.«01_k».proof.Proof.Gen.MergeSampleIdeal.Frame
public import proofs.«01_k».proof.Proof.Gen.MergeSampleIdeal.Value
public import proofs.«01_k».proof.Proof.Gen.MergeSampleReferenceIdeal
public import proofs.«01_k».proof.Proof.Gen.MergeSampleReferenceIdeal.Run
public import proofs.«01_k».proof.Proof.Gen.MergeSampleReferenceIdeal.Read
public import proofs.«01_k».proof.Proof.Regroup.Claims
public import proofs.«01_k».proof.Proof.Sample.Claims
public import proofs.«01_k».proof.Proof.Prompt.Claims
public import proofs.«01_k».proof.Proof.Merge.Claims
public import proofs.«01_k».proof.Proof.KeyValue.Claims
public import proofs.«01_k».proof.Proof.Cumsum.Claims
public import proofs.«01_k».proof.Proof.Compress.Claims
public import proofs.«01_k».proof.Proof.Fox.Claims
public import Idealize.ShloMosaic.Adequacy
public import Idealize.ShloMosaic.Init

@[expose] public section

noncomputable section

namespace Cert.Proof

open Idealize.ShloMosaic Idealize.SL.Sem Cert.Regroup

/-- Everything claimed, in the order of the test file. -/
theorem claim : Cert.Claim := ⟨Cert.Regroup.Gen.facts, Cert.RegroupIdeal.Gen.facts, Cert.RegroupReferenceIdeal.Gen.facts, Cert.RegroupReference.Gen.facts,
  Cert.Sample.Gen.facts, Cert.SampleIdeal.Gen.facts, Cert.SampleReferenceIdeal.Gen.facts,
  Cert.Prompt.Gen.facts, Cert.PromptIdeal.Gen.facts, Cert.PromptReferenceIdeal.Gen.facts,
  Cert.MergePrompt.Gen.facts, Cert.MergePromptIdeal.Gen.facts, Cert.MergePromptReferenceIdeal.Gen.facts,
  Cert.MergeSample.Gen.facts, Cert.MergeSampleIdeal.Gen.facts, Cert.MergeSampleReferenceIdeal.Gen.facts,
  Cert.KeyValue.Gen.facts, Cert.KeyValueIdeal.Gen.facts, Cert.KeyValueReferenceIdeal.Gen.facts,
  Cert.Cumsum.Gen.facts, Cert.CumsumIdeal.Gen.facts, Cert.CumsumReferenceIdeal.Gen.facts,
  Cert.Compress.Gen.facts, Cert.CompressIdeal.Gen.facts, Cert.CompressReferenceIdeal.Gen.facts,
  Cert.Fox.Gen.facts, Cert.FoxIdeal.Gen.facts, Cert.FoxReferenceIdeal.Gen.facts, Cert.FoxIdeal.Claims.finite_facts,
  Cert.Regrouping.frame, Cert.Regrouping.frame_ideal, Cert.Regrouping.frame_reference, Cert.Regrouping.frame_reference_bits,
  Cert.Sampling.frame, Cert.Sampling.frame_ideal, Cert.Sampling.frame_reference,
  Cert.Prompting.frame, Cert.Prompting.frame_ideal, Cert.Prompting.frame_reference,
  Cert.MergePromptIdeal.Claims.frame, Cert.MergePromptIdeal.Claims.frame_ideal, Cert.MergePromptIdeal.Claims.frame_reference,
  Cert.MergeSampleIdeal.Claims.frame, Cert.MergeSampleIdeal.Claims.frame_ideal, Cert.MergeSampleIdeal.Claims.frame_reference,
  Cert.KeyValueIdeal.Claims.frame, Cert.KeyValueIdeal.Claims.frame_ideal, Cert.KeyValueIdeal.Claims.frame_reference,
  Cert.CumsumIdeal.Claims.frame, Cert.CumsumIdeal.Claims.frame_ideal, Cert.CumsumIdeal.Claims.frame_reference,
  Cert.CompressIdeal.Claims.frame, Cert.CompressIdeal.Claims.frame_ideal, Cert.CompressIdeal.Claims.frame_reference,
  Cert.FoxIdeal.Claims.frame, Cert.FoxIdeal.Claims.frame_ideal, @Cert.FoxIdeal.Claims.frame_ideal_finite Cert.FoxIdeal.Claims.finite_facts,
  Cert.FoxIdeal.Claims.frame_reference, @Cert.FoxIdeal.Claims.frame_reference_finite Cert.FoxIdeal.Claims.finite_facts,
  Cert.Regrouping.preserves, Cert.Regrouping.algebraic, Cert.Regrouping.bitexact,
  Cert.Sampling.preserves, Cert.Sampling.algebraic, Cert.Prompting.preserves, Cert.Prompting.algebraic,
  Cert.MergePromptIdeal.Claims.preserves, Cert.MergePromptIdeal.Claims.algebraic,
  Cert.MergeSampleIdeal.Claims.preserves, Cert.MergeSampleIdeal.Claims.algebraic,
  Cert.KeyValueIdeal.Claims.preserves, Cert.KeyValueIdeal.Claims.algebraic,
  Cert.CumsumIdeal.Claims.preserves, Cert.CumsumIdeal.Claims.algebraic,
  Cert.CompressIdeal.Claims.preserves, Cert.CompressIdeal.Claims.algebraic,
  Cert.FoxIdeal.Claims.preserves, @Cert.FoxIdeal.Claims.algebraic Cert.FoxIdeal.Claims.finite_facts⟩

end Cert.Proof

end
